-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9)
      ∧ r.2.mem ((c.tc : Thread Cert.Kernel3.nD Cert.Kernel3.τ).loc Cert.Kernel3.main_arg10) = m ((c.tc : Thread Cert.Kernel3.nD Cert.Kernel3.τ).loc Cert.Kernel3.main_arg10))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
      ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9)
      ∧ r.2.mem ((c.tc : Thread Cert.Reference3Ideal.nD Cert.Reference3Ideal.τ).loc Cert.Reference3Ideal.main_arg10) = m ((c.tc : Thread Cert.Reference3Ideal.nD Cert.Reference3Ideal.τ).loc Cert.Reference3Ideal.main_arg10))
      ∧ r.2.sem = fun _ => 0)

def preserves_Kernel_KernelIdeal : Prop :=
  IdealRules.named_const.Statement Cert.KernelIdeal.κ "log2_e" .f32 0x3FB8AA3B#32 (((Real.log 2)⁻¹ : ℝ) : EReal)
  ∧ IdealRules.named_const.Statement Cert.KernelIdeal.κ "masked" .f32 0xF149F2CA#32 ⊥
  ∧ IdealRules.named_const.Statement Cert.KernelIdeal.κ "underflow" .f32 0x43160A50#32 ⊤

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v2_0)) (v1 : (c : Dev Cert.Kernel2Ideal.nD) → Buf (Elt Ideal) ((c.tc : Thread Cert.Kernel2Ideal.nD Cert.Kernel2Ideal.τ).loc Cert.Kernel2Ideal.main_v2_1)) (v2 : (c : Dev Cert.Kernel2Ideal.nD) → Buf (Elt Ideal) ((c.tc : Thread Cert.Kernel2Ideal.nD Cert.Kernel2Ideal.τ).loc Cert.Kernel2Ideal.main_v2_2)) (v3 : (c : Dev Cert.Kernel2Ideal.nD) → Buf (Elt Ideal) ((c.tc : Thread Cert.Kernel2Ideal.nD Cert.Kernel2Ideal.τ).loc Cert.Kernel2Ideal.main_v2_3)) (v4 : (c : Dev Cert.Kernel2Ideal.nD) → Buf (Elt Ideal) ((c.tc : Thread Cert.Kernel2Ideal.nD Cert.Kernel2Ideal.τ).loc Cert.Kernel2Ideal.main_v2_4)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v2_0) = v0 c
          ∧ r.2.mem ((c.tc : Thread Cert.Kernel2Ideal.nD Cert.Kernel2Ideal.τ).loc Cert.Kernel2Ideal.main_v2_1) = v1 c
          ∧ r.2.mem ((c.tc : Thread Cert.Kernel2Ideal.nD Cert.Kernel2Ideal.τ).loc Cert.Kernel2Ideal.main_v2_2) = v2 c
          ∧ r.2.mem ((c.tc : Thread Cert.Kernel2Ideal.nD Cert.Kernel2Ideal.τ).loc Cert.Kernel2Ideal.main_v2_3) = v3 c
          ∧ r.2.mem ((c.tc : Thread Cert.Kernel2Ideal.nD Cert.Kernel2Ideal.τ).loc Cert.Kernel2Ideal.main_v2_4) = v4 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v22) = v0 c
          ∧ r.2.mem ((c.tc : Thread Cert.Reference2Ideal.nD Cert.Reference2Ideal.τ).loc Cert.Reference2Ideal.main_v23) = v1 c
          ∧ r.2.mem ((c.tc : Thread Cert.Reference2Ideal.nD Cert.Reference2Ideal.τ).loc Cert.Reference2Ideal.main_v24) = v2 c
          ∧ r.2.mem ((c.tc : Thread Cert.Reference2Ideal.nD Cert.Reference2Ideal.τ).loc Cert.Reference2Ideal.main_v18) = v3 c
          ∧ r.2.mem ((c.tc : Thread Cert.Reference2Ideal.nD Cert.Reference2Ideal.τ).loc Cert.Reference2Ideal.main_v19) = v4 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)
      ∧ m' ((c.tc : Thread Cert.Reference3Ideal.nD Cert.Reference3Ideal.τ).loc Cert.Reference3Ideal.main_arg10) = m ((c.tc : Thread Cert.Kernel3Ideal.nD Cert.Kernel3Ideal.τ).loc Cert.Kernel3Ideal.main_arg10)) →
    ∃ (v0 : (c : Dev Cert.Kernel3Ideal.nD) → Buf (Elt Ideal) ((c.tc : Thread Cert.Kernel3Ideal.nD Cert.Kernel3Ideal.τ).loc Cert.Kernel3Ideal.main_v24_0)) (v1 : (c : Dev Cert.Kernel3Ideal.nD) → Buf (Elt Ideal) ((c.tc : Thread Cert.Kernel3Ideal.nD Cert.Kernel3Ideal.τ).loc Cert.Kernel3Ideal.main_v24_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v24_0) = v0 c
          ∧ r.2.mem ((c.tc : Thread Cert.Kernel3Ideal.nD Cert.Kernel3Ideal.τ).loc Cert.Kernel3Ideal.main_v24_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
          ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v42) = v0 c
          ∧ r.2.mem ((c.tc : Thread Cert.Reference3Ideal.nD Cert.Reference3Ideal.τ).loc Cert.Reference3Ideal.main_v44) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9)
          ∧ r.2.mem ((c.tc : Thread Cert.Reference3Ideal.nD Cert.Reference3Ideal.τ).loc Cert.Reference3Ideal.main_arg10) = m' ((c.tc : Thread Cert.Reference3Ideal.nD Cert.Reference3Ideal.τ).loc Cert.Reference3Ideal.main_arg10))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
-- ==== Kernel.lean ====
abbrev S2x8192x512 : Shape := ⟨3, ![2, 8192, 512]⟩
abbrev S16384x512 : Shape := ⟨2, ![16384, 512]⟩
abbrev S_ : Shape := ⟨0, ![]⟩
abbrev S8192x128 : Shape := ⟨2, ![8192, 128]⟩
abbrev S128x256 : Shape := ⟨2, ![128, 256]⟩
abbrev S3x128x256 : Shape := ⟨3, ![3, 128, 256]⟩
abbrev S3x128x128 : Shape := ⟨3, ![3, 128, 128]⟩
abbrev S24x128x128 : Shape := ⟨3, ![24, 128, 128]⟩
abbrev S1x128 : Shape := ⟨2, ![1, 128]⟩
abbrev S64x128 : Shape := ⟨2, ![64, 128]⟩
abbrev S128x128 : Shape := ⟨2, ![128, 128]⟩
abbrev S256x128 : Shape := ⟨2, ![256, 128]⟩
abbrev S1x128x256 : Shape := ⟨3, ![1, 128, 256]⟩
abbrev S1x128x128 : Shape := ⟨3, ![1, 128, 128]⟩
abbrev S1 : Shape := ⟨1, ![1]⟩
abbrev S1x1x1 : Shape := ⟨3, ![1, 1, 1]⟩

abbrev nBuf : Space → Nat
  | .hbm => 13
  | .vmem => 14
  | .smem => 0
  | _ => 0

abbrev bufTy : (tb : Table) → Fin (tcTables nBuf tb) → BufTy
  | .hbm, ⟨0, _⟩ => ⟨S2x8192x512, .f32⟩
  | .hbm, ⟨1, _⟩ => ⟨S2x8192x512, .f32⟩
  | .hbm, ⟨2, _⟩ => ⟨S2x8192x512, .f32⟩
  | .hbm, ⟨3, _⟩ => ⟨S16384x512, .f32⟩
  | .hbm, ⟨4, _⟩ => ⟨S_, .f32⟩
  | .hbm, ⟨5, _⟩ => ⟨S16384x512, .f32⟩
  | .hbm, ⟨6, _⟩ => ⟨S16384x512, .f32⟩
  | .hbm, ⟨7, _⟩ => ⟨S16384x512, .bf16⟩
  | .hbm, ⟨8, _⟩ => ⟨S16384x512, .f32⟩
  | .hbm, ⟨9, _⟩ => ⟨S16384x512, .bf16⟩
  | .hbm, ⟨10, _⟩ => ⟨S16384x512, .f32⟩
  | .hbm, ⟨11, _⟩ => ⟨S16384x512, .bf16⟩
  | .hbm, ⟨12, _⟩ => ⟨S16384x512, .f32⟩
  | .local _ .vmem, ⟨0, _⟩ => ⟨S8192x128, .bf16⟩
  | .local _ .vmem, ⟨1, _⟩ => ⟨S8192x128, .bf16⟩
  | .local _ .vmem, ⟨2, _⟩ => ⟨S8192x128, .bf16⟩
  | .local _ .vmem, ⟨3, _⟩ => ⟨S8192x128, .bf16⟩
  | .local _ .vmem, ⟨4, _⟩ => ⟨S8192x128, .bf16⟩
  | .local _ .vmem, ⟨5, _⟩ => ⟨S8192x128, .bf16⟩
  | .local _ .vmem, ⟨6, _⟩ => ⟨S8192x128, .f32⟩
  | .local _ .vmem, ⟨7, _⟩ => ⟨S8192x128, .f32⟩
  | .local _ .vmem, ⟨8, _⟩ => ⟨S128x256, .bf16⟩
  | .local _ .vmem, ⟨9, _⟩ => ⟨S3x128x256, .f32⟩
  | .local _ .vmem, ⟨10, _⟩ => ⟨S3x128x256, .f32⟩
  | .local _ .vmem, ⟨11, _⟩ => ⟨S3x128x128, .f32⟩
  | .local _ .vmem, ⟨12, _⟩ => ⟨S24x128x128, .f32⟩
  | .local _ .vmem, ⟨13, _⟩ => ⟨S24x128x128, .f32⟩
  | _, _ => ⟨S2x8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_scratch3 : Ref sig .tc := ⟨.vmem, 11, rfl⟩
abbrev cc0_scratch4 : Ref sig .tc := ⟨.vmem, 12, rfl⟩
abbrev cc0_scratch5 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 4], ![false, false]⟩

def k0_mult1 (arg12 : BitVec 32) : BitVec 32 :=
  let c0_i32_501 : BitVec 32 := 0#32
  let v933 : BitVec 32 := Scalar.maxsi arg12 c0_i32_501
  v933

def k0_off1 (arg12 : BitVec 32) : Fin 2 → Nat :=
  let c0_i32_501 : BitVec 32 := 0#32
  let v933 : BitVec 32 := Scalar.maxsi arg12 c0_i32_501
  let v934 : BitVec 32 := v933
  let v935 : Index := Scalar.indexCast v934
  let c0_502 : Index := 0#32
  ![v935.toNat, 0]

def k0_chk1 (arg12 : BitVec 32) : Prop :=
  (64 ∣ (k0_mult1 arg12).toNat) ∧
  (∀ a, (k0_off1 arg12) a + S128x128.size a ≤ S8192x128.size a)
theorem k0_mult1_dvd : ∀ (arg12 : BitVec 32) (k0_hw1 : k0_chk1 arg12), 64 ∣ (k0_mult1 arg12).toNat := fun arg12 k0_hw1 => k0_hw1.1
theorem k0_off1_inb : ∀ (arg12 : BitVec 32) (k0_hw1 : k0_chk1 arg12), ∀ a, (k0_off1 arg12) a + S128x128.size a ≤ S8192x128.size a := fun arg12 k0_hw1 => k0_hw1.2

def k0_mult2 (arg12 : BitVec 32) : BitVec 32 :=
  let c0_i32_501 : BitVec 32 := 0#32
  let v933 : BitVec 32 := Scalar.maxsi arg12 c0_i32_501
  v933

def k0_off2 (arg12 : BitVec 32) : Fin 2 → Nat :=
  let c0_i32_501 : BitVec 32 := 0#32
  let v933 : BitVec 32 := Scalar.maxsi arg12 c0_i32_501
  let v934 : BitVec 32 := v933
  let v935 : Index := Scalar.indexCast v934
  let c0_502 : Index := 0#32
  ![v935.toNat, 0]

def k0_chk2 (arg12 : BitVec 32) : Prop :=
  (64 ∣ (k0_mult2 arg12).toNat) ∧
  (∀ a, (k0_off2 arg12) a + S128x128.size a ≤ S8192x128.size a)
theorem k0_mult2_dvd : ∀ (arg12 : BitVec 32) (k0_hw2 : k0_chk2 arg12), 64 ∣ (k0_mult2 arg12).toNat := fun arg12 k0_hw2 => k0_hw2.1
theorem k0_off2_inb : ∀ (arg12 : BitVec 32) (k0_hw2 : k0_chk2 arg12), ∀ a, (k0_off2 arg12) a + S128x128.size a ≤ S8192x128.size a := fun arg12 k0_hw2 => k0_hw2.2

def k0_mult3 (arg12 : BitVec 32) : BitVec 32 :=
  let c0_i32_501 : BitVec 32 := 0#32
  let v933 : BitVec 32 := Scalar.maxsi arg12 c0_i32_501
  v933

def k0_off3 (arg12 : BitVec 32) : Fin 2 → Nat :=
  let c0_i32_501 : BitVec 32 := 0#32
  let v933 : BitVec 32 := Scalar.maxsi arg12 c0_i32_501
  let v934 : BitVec 32 := v933
  let v935 : Index := Scalar.indexCast v934
  let c0_502 : Index := 0#32
  ![v935.toNat, 0]

def k0_chk3 (arg12 : BitVec 32) : Prop :=
  (64 ∣ (k0_mult3 arg12).toNat) ∧
  (∀ a, (k0_off3 arg12) a + S128x128.size a ≤ S8192x128.size a)
theorem k0_mult3_dvd : ∀ (arg12 : BitVec 32) (k0_hw3 : k0_chk3 arg12), 64 ∣ (k0_mult3 arg12).toNat := fun arg12 k0_hw3 => k0_hw3.1
theorem k0_off3_inb : ∀ (arg12 : BitVec 32) (k0_hw3 : k0_chk3 arg12), ∀ a, (k0_off3 arg12) a + S128x128.size a ≤ S8192x128.size a := fun arg12 k0_hw3 => k0_hw3.2

def k0_mult4 (arg12 : BitVec 32) : BitVec 32 :=
  let c0_i32_501 : BitVec 32 := 0#32
  let v933 : BitVec 32 := Scalar.maxsi arg12 c0_i32_501
  v933

def k0_off4 (arg12 : BitVec 32) : Fin 2 → Nat :=
  let c0_i32_501 : BitVec 32 := 0#32
  let v933 : BitVec 32 := Scalar.maxsi arg12 c0_i32_501
  let v934 : BitVec 32 := v933
  let v935 : Index := Scalar.indexCast v934
  let c0_502 : Index := 0#32
  ![v935.toNat, 0]

def k0_chk4 (arg12 : BitVec 32) : Prop :=
  (64 ∣ (k0_mult4 arg12).toNat) ∧
  (∀ a, (k0_off4 arg12) a + S128x128.size a ≤ S8192x128.size a)
theorem k0_mult4_dvd : ∀ (arg12 : BitVec 32) (k0_hw4 : k0_chk4 arg12), 64 ∣ (k0_mult4 arg12).toNat := fun arg12 k0_hw4 => k0_hw4.1
theorem k0_off4_inb : ∀ (arg12 : BitVec 32) (k0_hw4 : k0_chk4 arg12), ∀ a, (k0_off4 arg12) a + S128x128.size a ≤ S8192x128.size a := fun arg12 k0_hw4 => k0_hw4.2

@[reducible] def k0_t1_loop : Scf.Loop 32 :=
  let c0_i32_368 : BitVec 32 := 0#32
  let c5_i32 : BitVec 32 := 5#32
  let v713 : BitVec 32 := Scalar.addi c0_i32_368 c5_i32
  let c1_i32 : BitVec 32 := 1#32
  ⟨c0_i32_368, v713, c1_i32⟩
def k0_mult5 (k0_t1 : Fin k0_t1_loop.trips) : BitVec 32 :=
  let c8_i32 : BitVec 32 := 8#32
  let c24_i32 : BitVec 32 := 24#32
  let c0_i32_368 : BitVec 32 := 0#32
  let c1_i32 : BitVec 32 := 1#32
  let arg12 : BitVec 32 := Scf.iv c0_i32_368 c1_i32 k0_t1
  let v933 : BitVec 32 := Scalar.muli c24_i32 arg12
  let v934 : BitVec 32 := Scalar.addi c8_i32 v933
  let c0_i32_501 : BitVec 32 := 0#32
  let v935 : BitVec 32 := Scalar.addi v934 c0_i32_501
  let c4_i32 : BitVec 32 := 4#32
  let v936 : BitVec 32 := Scalar.subi v935 c4_i32
  let c64_i32_502 : BitVec 32 := 64#32
  let v937 : BitVec 32 := Scalar.muli v936 c64_i32_502
  let c192_i32_503 : BitVec 32 := 192#32
  let v938 : BitVec 32 := Scalar.subi v937 c192_i32_503
  v938
def k0_off5 (k0_t1 : Fin k0_t1_loop.trips) (c0_i32_501 : BitVec 32) : Fin 2 → Nat :=
  let c8_i32 : BitVec 32 := 8#32
  let c24_i32 : BitVec 32 := 24#32
  let c0_i32_368 : BitVec 32 := 0#32
  let c1_i32 : BitVec 32 := 1#32
  let arg12 : BitVec 32 := Scf.iv c0_i32_368 c1_i32 k0_t1
  let v933 : BitVec 32 := Scalar.muli c24_i32 arg12
  let v934 : BitVec 32 := Scalar.addi c8_i32 v933
  let v935 : BitVec 32 := Scalar.addi v934 c0_i32_501
  let c4_i32 : BitVec 32 := 4#32
  let v936 : BitVec 32 := Scalar.subi v935 c4_i32
  let c64_i32_502 : BitVec 32 := 64#32
  let v937 : BitVec 32 := Scalar.muli v936 c64_i32_502
  let c192_i32_503 : BitVec 32 := 192#32
  let v938 : BitVec 32 := Scalar.subi v937 c192_i32_503
  let v939 : BitVec 32 := v938
  let v940 : Index := Scalar.indexCast v939
  let c0_504 : Index := 0#32
  ![v940.toNat, 0]
def k0_mult6 (k0_t1 : Fin k0_t1_loop.trips) : BitVec 32 :=
  let c8_i32 : BitVec 32 := 8#32
  let c24_i32 : BitVec 32 := 24#32
  let c0_i32_368 : BitVec 32 := 0#32
  let c1_i32 : BitVec 32 := 1#32
  let arg12 : BitVec 32 := Scf.iv c0_i32_368 c1_i32 k0_t1
  let v933 : BitVec 32 := Scalar.muli c24_i32 arg12
  let v934 : BitVec 32 := Scalar.addi c8_i32 v933
  let c0_i32_547 : BitVec 32 := 0#32
  let v1015 : BitVec 32 := Scalar.addi v934 c0_i32_547
  let c64_i32_548 : BitVec 32 := 64#32
  let v1016 : BitVec 32 := Scalar.muli v1015 c64_i32_548
  let c192_i32_549 : BitVec 32 := 192#32
  let v1017 : BitVec 32 := Scalar.subi v1016 c192_i32_549
  v1017
def k0_off6 (k0_t1 : Fin k0_t1_loop.trips) (c0_i32_547 : BitVec 32) : Fin 2 → Nat :=
  let c8_i32 : BitVec 32 := 8#32
  let c24_i32 : BitVec 32 := 24#32
  let c0_i32_368 : BitVec 32 := 0#32
  let c1_i32 : BitVec 32 := 1#32
  let arg12 : BitVec 32 := Scf.iv c0_i32_368 c1_i32 k0_t1
  let v933 : BitVec 32 := Scalar.muli c24_i32 arg12
  let v934 : BitVec 32 := Scalar.addi c8_i32 v933
  let v1015 : BitVec 32 := Scalar.addi v934 c0_i32_547
  let c64_i32_548 : BitVec 32 := 64#32
  let v1016 : BitVec 32 := Scalar.muli v1015 c64_i32_548
  let c192_i32_549 : BitVec 32 := 192#32
  let v1017 : BitVec 32 := Scalar.subi v1016 c192_i32_549
  let v1018 : BitVec 32 := v1017
  let v1019 : Index := Scalar.indexCast v1018
  let c0_550 : Index := 0#32
  ![v1019.toNat, 0]
def k0_off7 (k0_t1 : Fin k0_t1_loop.trips) (c0_i32_547 : BitVec 32) : Fin 2 → Nat :=
  let c8_i32 : BitVec 32 := 8#32
  let c24_i32 : BitVec 32 := 24#32
  let c0_i32_368 : BitVec 32 := 0#32
  let c1_i32 : BitVec 32 := 1#32
  let arg12 : BitVec 32 := Scf.iv c0_i32_368 c1_i32 k0_t1
  let v933 : BitVec 32 := Scalar.muli c24_i32 arg12
  let v934 : BitVec 32 := Scalar.addi c8_i32 v933
  let v1015 : BitVec 32 := Scalar.addi v934 c0_i32_547
  let c64_i32_551 : BitVec 32 := 64#32
  let v1022 : BitVec 32 := Scalar.muli v1015 c64_i32_551
  let v1023 : Index := Scalar.indexCast v1022
  let c0_552 : Index := 0#32
  ![v1023.toNat, 0]
def k0_mult7 (k0_t1 : Fin k0_t1_loop.trips) : BitVec 32 :=
  let c8_i32 : BitVec 32 := 8#32
  let c24_i32 : BitVec 32 := 24#32
  let c0_i32_368 : BitVec 32 := 0#32
  let c1_i32 : BitVec 32 := 1#32
  let arg12 : BitVec 32 := Scf.iv c0_i32_368 c1_i32 k0_t1
  let v933 : BitVec 32 := Scalar.muli c24_i32 arg12
  let v934 : BitVec 32 := Scalar.addi c8_i32 v933
  let c1_i32_564 : BitVec 32 := 1#32
  let v1051 : BitVec 32 := Scalar.addi v934 c1_i32_564
  let c4_i32_565 : BitVec 32 := 4#32
  let v1052 : BitVec 32 := Scalar.subi v1051 c4_i32_565
  let c64_i32_566 : BitVec 32 := 64#32
  let v1053 : BitVec 32 := Scalar.muli v1052 c64_i32_566
  let c192_i32_567 : BitVec 32 := 192#32
  let v1054 : BitVec 32 := Scalar.subi v1053 c192_i32_567
  v1054
def k0_mult8 (k0_t1 : Fin k0_t1_loop.trips) : BitVec 32 :=
  let c8_i32 : BitVec 32 := 8#32
  let c24_i32 : BitVec 32 := 24#32
  let c0_i32_368 : BitVec 32 := 0#32
  let c1_i32 : BitVec 32 := 1#32
  let arg12 : BitVec 32 := Scf.iv c0_i32_368 c1_i32 k0_t1
  let v933 : BitVec 32 := Scalar.muli c24_i32 arg12
  let v934 : BitVec 32 := Scalar.addi c8_i32 v933
  let c1_i32_611 : BitVec 32 := 1#32
  let v1131 : BitVec 32 := Scalar.addi v934 c1_i32_611
  let c64_i32_612 : BitVec 32 := 64#32
  let v1132 : BitVec 32 := Scalar.muli v1131 c64_i32_612
  let c192_i32_613 : BitVec 32 := 192#32
  let v1133 : BitVec 32 := Scalar.subi v1132 c192_i32_613
  v1133
def k0_mult9 (k0_t1 : Fin k0_t1_loop.trips) : BitVec 32 :=
  let c8_i32 : BitVec 32 := 8#32
  let c24_i32 : BitVec 32 := 24#32
  let c0_i32_368 : BitVec 32 := 0#32
  let c1_i32 : BitVec 32 := 1#32
  let arg12 : BitVec 32 := Scf.iv c0_i32_368 c1_i32 k0_t1
  let v933 : BitVec 32 := Scalar.muli c24_i32 arg12
  let v934 : BitVec 32 := Scalar.addi c8_i32 v933
  let c2_i32 : BitVec 32 := 2#32
  let v1167 : BitVec 32 := Scalar.addi v934 c2_i32
  let c4_i32_628 : BitVec 32 := 4#32
  let v1168 : BitVec 32 := Scalar.subi v1167 c4_i32_628
  let c64_i32_629 : BitVec 32 := 64#32
  let v1169 : BitVec 32 := Scalar.muli v1168 c64_i32_629
  let c192_i32_630 : BitVec 32 := 192#32
  let v1170 : BitVec 32 := Scalar.subi v1169 c192_i32_630
  v1170
def k0_mult10 (k0_t1 : Fin k0_t1_loop.trips) : BitVec 32 :=
  let c8_i32 : BitVec 32 := 8#32
  let c24_i32 : BitVec 32 := 24#32
  let c0_i32_368 : BitVec 32 := 0#32
  let c1_i32 : BitVec 32 := 1#32
  let arg12 : BitVec 32 := Scf.iv c0_i32_368 c1_i32 k0_t1
  let v933 : BitVec 32 := Scalar.muli c24_i32 arg12
  let v934 : BitVec 32 := Scalar.addi c8_i32 v933
  let c2_i32_674 : BitVec 32 := 2#32
  let v1247 : BitVec 32 := Scalar.addi v934 c2_i32_674
  let c64_i32_675 : BitVec 32 := 64#32
  let v1248 : BitVec 32 := Scalar.muli v1247 c64_i32_675
  let c192_i32_676 : BitVec 32 := 192#32
  let v1249 : BitVec 32 := Scalar.subi v1248 c192_i32_676
  v1249
def k0_mult11 (k0_t1 : Fin k0_t1_loop.trips) : BitVec 32 :=
  let c8_i32 : BitVec 32 := 8#32
  let c24_i32 : BitVec 32 := 24#32
  let c0_i32_368 : BitVec 32 := 0#32
  let c1_i32 : BitVec 32 := 1#32
  let arg12 : BitVec 32 := Scf.iv c0_i32_368 c1_i32 k0_t1
  let v933 : BitVec 32 := Scalar.muli c24_i32 arg12
  let v934 : BitVec 32 := Scalar.addi c8_i32 v933
  let c3_i32 : BitVec 32 := 3#32
  let v1283 : BitVec 32 := Scalar.addi v934 c3_i32
  let c4_i32_691 : BitVec 32 := 4#32
  let v1284 : BitVec 32 := Scalar.subi v1283 c4_i32_691
  let c64_i32_692 : BitVec 32 := 64#32
  let v1285 : BitVec 32 := Scalar.muli v1284 c64_i32_692
  let c192_i32_693 : BitVec 32 := 192#32
  let v1286 : BitVec 32 := Scalar.subi v1285 c192_i32_693
  v1286
def k0_mult12 (k0_t1 : Fin k0_t1_loop.trips) : BitVec 32 :=
  let c8_i32 : BitVec 32 := 8#32
  let c24_i32 : BitVec 32 := 24#32
  let c0_i32_368 : BitVec 32 := 0#32
  let c1_i32 : BitVec 32 := 1#32
  let arg12 : BitVec 32 := Scf.iv c0_i32_368 c1_i32 k0_t1
  let v933 : BitVec 32 := Scalar.muli c24_i32 arg12
  let v934 : BitVec 32 := Scalar.addi c8_i32 v933
  let c3_i32_736 : BitVec 32 := 3#32
  let v1363 : BitVec 32 := Scalar.addi v934 c3_i32_736
  let c64_i32_737 : BitVec 32 := 64#32
  let v1364 : BitVec 32 := Scalar.muli v1363 c64_i32_737
  let c192_i32_738 : BitVec 32 := 192#32
  let v1365 : BitVec 32 := Scalar.subi v1364 c192_i32_738
  v1365
def k0_mult13 (k0_t1 : Fin k0_t1_loop.trips) : BitVec 32 :=
  let c8_i32 : BitVec 32 := 8#32
  let c24_i32 : BitVec 32 := 24#32
  let c0_i32_368 : BitVec 32 := 0#32
  let c1_i32 : BitVec 32 := 1#32
  let arg12 : BitVec 32 := Scf.iv c0_i32_368 c1_i32 k0_t1
  let v933 : BitVec 32 := Scalar.muli c24_i32 arg12
  let v934 : BitVec 32 := Scalar.addi c8_i32 v933
  let c4_i32_753 : BitVec 32 := 4#32
  let v1399 : BitVec 32 := Scalar.addi v934 c4_i32_753
  let c4_i32_754 : BitVec 32 := 4#32
  let v1400 : BitVec 32 := Scalar.subi v1399 c4_i32_754
  let c64_i32_755 : BitVec 32 := 64#32
  let v1401 : BitVec 32 := Scalar.muli v1400 c64_i32_755
  let c192_i32_756 : BitVec 32 := 192#32
  let v1402 : BitVec 32 := Scalar.subi v1401 c192_i32_756
  v1402
def k0_mult14 (k0_t1 : Fin k0_t1_loop.trips) : BitVec 32 :=
  let c8_i32 : BitVec 32 := 8#32
  let c24_i32 : BitVec 32 := 24#32
  let c0_i32_368 : BitVec 32 := 0#32
  let c1_i32 : BitVec 32 := 1#32
  let arg12 : BitVec 32 := Scf.iv c0_i32_368 c1_i32 k0_t1
  let v933 : BitVec 32 := Scalar.muli c24_i32 arg12
  let v934 : BitVec 32 := Scalar.addi c8_i32 v933
  let c4_i32_799 : BitVec 32 := 4#32
  let v1479 : BitVec 32 := Scalar.addi v934 c4_i32_799
  let c64_i32_800 : BitVec 32 := 64#32
  let v1480 : BitVec 32 := Scalar.muli v1479 c64_i32_800
  let c192_i32_801 : BitVec 32 := 192#32
  let v1481 : BitVec 32 := Scalar.subi v1480 c192_i32_801
  v1481
def k0_mult15 (k0_t1 : Fin k0_t1_loop.trips) : BitVec 32 :=
  let c8_i32 : BitVec 32 := 8#32
  let c24_i32 : BitVec 32 := 24#32
  let c0_i32_368 : BitVec 32 := 0#32
  let c1_i32 : BitVec 32 := 1#32
  let arg12 : BitVec 32 := Scf.iv c0_i32_368 c1_i32 k0_t1
  let v933 : BitVec 32 := Scalar.muli c24_i32 arg12
  let v934 : BitVec 32 := Scalar.addi c8_i32 v933
  let c5_i32_816 : BitVec 32 := 5#32
  let v1515 : BitVec 32 := Scalar.addi v934 c5_i32_816
  let c4_i32_817 : BitVec 32 := 4#32
  let v1516 : BitVec 32 := Scalar.subi v1515 c4_i32_817
  let c64_i32_818 : BitVec 32 := 64#32
  let v1517 : BitVec 32 := Scalar.muli v1516 c64_i32_818
  let c192_i32_819 : BitVec 32 := 192#32
  let v1518 : BitVec 32 := Scalar.subi v1517 c192_i32_819
  v1518
def k0_mult16 (k0_t1 : Fin k0_t1_loop.trips) : BitVec 32 :=
  let c8_i32 : BitVec 32 := 8#32
  let c24_i32 : BitVec 32 := 24#32
  let c0_i32_368 : BitVec 32 := 0#32
  let c1_i32 : BitVec 32 := 1#32
  let arg12 : BitVec 32 := Scf.iv c0_i32_368 c1_i32 k0_t1
  let v933 : BitVec 32 := Scalar.muli c24_i32 arg12
  let v934 : BitVec 32 := Scalar.addi c8_i32 v933
  let c5_i32_862 : BitVec 32 := 5#32
  let v1595 : BitVec 32 := Scalar.addi v934 c5_i32_862
  let c64_i32_863 : BitVec 32 := 64#32
  let v1596 : BitVec 32 := Scalar.muli v1595 c64_i32_863
  let c192_i32_864 : BitVec 32 := 192#32
  let v1597 : BitVec 32 := Scalar.subi v1596 c192_i32_864
  v1597
def k0_mult17 (k0_t1 : Fin k0_t1_loop.trips) : BitVec 32 :=
  let c8_i32 : BitVec 32 := 8#32
  let c24_i32 : BitVec 32 := 24#32
  let c0_i32_368 : BitVec 32 := 0#32
  let c1_i32 : BitVec 32 := 1#32
  let arg12 : BitVec 32 := Scf.iv c0_i32_368 c1_i32 k0_t1
  let v933 : BitVec 32 := Scalar.muli c24_i32 arg12
  let v934 : BitVec 32 := Scalar.addi c8_i32 v933
  let c6_i32 : BitVec 32 := 6#32
  let v1631 : BitVec 32 := Scalar.addi v934 c6_i32
  let c4_i32_879 : BitVec 32 := 4#32
  let v1632 : BitVec 32 := Scalar.subi v1631 c4_i32_879
  let c64_i32_880 : BitVec 32 := 64#32
  let v1633 : BitVec 32 := Scalar.muli v1632 c64_i32_880
  let c192_i32_881 : BitVec 32 := 192#32
  let v1634 : BitVec 32 := Scalar.subi v1633 c192_i32_881
  v1634
def k0_mult18 (k0_t1 : Fin k0_t1_loop.trips) : BitVec 32 :=
  let c8_i32 : BitVec 32 := 8#32
  let c24_i32 : BitVec 32 := 24#32
  let c0_i32_368 : BitVec 32 := 0#32
  let c1_i32 : BitVec 32 := 1#32
  let arg12 : BitVec 32 := Scf.iv c0_i32_368 c1_i32 k0_t1
  let v933 : BitVec 32 := Scalar.muli c24_i32 arg12
  let v934 : BitVec 32 := Scalar.addi c8_i32 v933
  let c6_i32_924 : BitVec 32 := 6#32
  let v1711 : BitVec 32 := Scalar.addi v934 c6_i32_924
  let c64_i32_925 : BitVec 32 := 64#32
  let v1712 : BitVec 32 := Scalar.muli v1711 c64_i32_925
  let c192_i32_926 : BitVec 32 := 192#32
  let v1713 : BitVec 32 := Scalar.subi v1712 c192_i32_926
  v1713
def k0_mult19 (k0_t1 : Fin k0_t1_loop.trips) : BitVec 32 :=
  let c8_i32 : BitVec 32 := 8#32
  let c24_i32 : BitVec 32 := 24#32
  let c0_i32_368 : BitVec 32 := 0#32
  let c1_i32 : BitVec 32 := 1#32
  let arg12 : BitVec 32 := Scf.iv c0_i32_368 c1_i32 k0_t1
  let v933 : BitVec 32 := Scalar.muli c24_i32 arg12
  let v934 : BitVec 32 := Scalar.addi c8_i32 v933
  let c7_i32 : BitVec 32 := 7#32
  let v1747 : BitVec 32 := Scalar.addi v934 c7_i32
  let c4_i32_941 : BitVec 32 := 4#32
  let v1748 : BitVec 32 := Scalar.subi v1747 c4_i32_941
  let c64_i32_942 : BitVec 32 := 64#32
  let v1749 : BitVec 32 := Scalar.muli v1748 c64_i32_942
  let c192_i32_943 : BitVec 32 := 192#32
  let v1750 : BitVec 32 := Scalar.subi v1749 c192_i32_943
  v1750
def k0_mult20 (k0_t1 : Fin k0_t1_loop.trips) : BitVec 32 :=
  let c8_i32 : BitVec 32 := 8#32
  let c24_i32 : BitVec 32 := 24#32
  let c0_i32_368 : BitVec 32 := 0#32
  let c1_i32 : BitVec 32 := 1#32
  let arg12 : BitVec 32 := Scf.iv c0_i32_368 c1_i32 k0_t1
  let v933 : BitVec 32 := Scalar.muli c24_i32 arg12
  let v934 : BitVec 32 := Scalar.addi c8_i32 v933
  let c7_i32_986 : BitVec 32 := 7#32
  let v1827 : BitVec 32 := Scalar.addi v934 c7_i32_986
  let c64_i32_987 : BitVec 32 := 64#32
  let v1828 : BitVec 32 := Scalar.muli v1827 c64_i32_987
  let c192_i32_988 : BitVec 32 := 192#32
  let v1829 : BitVec 32 := Scalar.subi v1828 c192_i32_988
  v1829
def k0_mult21 (k0_t1 : Fin k0_t1_loop.trips) : BitVec 32 :=
  let c8_i32 : BitVec 32 := 8#32
  let c24_i32 : BitVec 32 := 24#32
  let c0_i32_368 : BitVec 32 := 0#32
  let c1_i32 : BitVec 32 := 1#32
  let arg12 : BitVec 32 := Scf.iv c0_i32_368 c1_i32 k0_t1
  let v933 : BitVec 32 := Scalar.muli c24_i32 arg12
  let v934 : BitVec 32 := Scalar.addi c8_i32 v933
  let c8_i32_1003 : BitVec 32 := 8#32
  let v1863 : BitVec 32 := Scalar.addi v934 c8_i32_1003
  let c4_i32_1004 : BitVec 32 := 4#32
  let v1864 : BitVec 32 := Scalar.subi v1863 c4_i32_1004
  let c64_i32_1005 : BitVec 32 := 64#32
  let v1865 : BitVec 32 := Scalar.muli v1864 c64_i32_1005
  let c192_i32_1006 : BitVec 32 := 192#32
  let v1866 : BitVec 32 := Scalar.subi v1865 c192_i32_1006
  v1866
def k0_mult22 (k0_t1 : Fin k0_t1_loop.trips) : BitVec 32 :=
  let c8_i32 : BitVec 32 := 8#32
  let c24_i32 : BitVec 32 := 24#32
  let c0_i32_368 : BitVec 32 := 0#32
  let c1_i32 : BitVec 32 := 1#32
  let arg12 : BitVec 32 := Scf.iv c0_i32_368 c1_i32 k0_t1
  let v933 : BitVec 32 := Scalar.muli c24_i32 arg12
  let v934 : BitVec 32 := Scalar.addi c8_i32 v933
  let c8_i32_1049 : BitVec 32 := 8#32
  let v1943 : BitVec 32 := Scalar.addi v934 c8_i32_1049
  let c64_i32_1050 : BitVec 32 := 64#32
  let v1944 : BitVec 32 := Scalar.muli v1943 c64_i32_1050
  let c192_i32_1051 : BitVec 32 := 192#32
  let v1945 : BitVec 32 := Scalar.subi v1944 c192_i32_1051
  v1945
def k0_mult23 (k0_t1 : Fin k0_t1_loop.trips) : BitVec 32 :=
  let c8_i32 : BitVec 32 := 8#32
  let c24_i32 : BitVec 32 := 24#32
  let c0_i32_368 : BitVec 32 := 0#32
  let c1_i32 : BitVec 32 := 1#32
  let arg12 : BitVec 32 := Scf.iv c0_i32_368 c1_i32 k0_t1
  let v933 : BitVec 32 := Scalar.muli c24_i32 arg12
  let v934 : BitVec 32 := Scalar.addi c8_i32 v933
  let c9_i32 : BitVec 32 := 9#32
  let v1979 : BitVec 32 := Scalar.addi v934 c9_i32
  let c4_i32_1066 : BitVec 32 := 4#32
  let v1980 : BitVec 32 := Scalar.subi v1979 c4_i32_1066
  let c64_i32_1067 : BitVec 32 := 64#32
  let v1981 : BitVec 32 := Scalar.muli v1980 c64_i32_1067
  let c192_i32_1068 : BitVec 32 := 192#32
  let v1982 : BitVec 32 := Scalar.subi v1981 c192_i32_1068
  v1982
def k0_mult24 (k0_t1 : Fin k0_t1_loop.trips) : BitVec 32 :=
  let c8_i32 : BitVec 32 := 8#32
  let c24_i32 : BitVec 32 := 24#32
  let c0_i32_368 : BitVec 32 := 0#32
  let c1_i32 : BitVec 32 := 1#32
  let arg12 : BitVec 32 := Scf.iv c0_i32_368 c1_i32 k0_t1
  let v933 : BitVec 32 := Scalar.muli c24_i32 arg12
  let v934 : BitVec 32 := Scalar.addi c8_i32 v933
  let c9_i32_1111 : BitVec 32 := 9#32
  let v2059 : BitVec 32 := Scalar.addi v934 c9_i32_1111
  let c64_i32_1112 : BitVec 32 := 64#32
  let v2060 : BitVec 32 := Scalar.muli v2059 c64_i32_1112
  let c192_i32_1113 : BitVec 32 := 192#32
  let v2061 : BitVec 32 := Scalar.subi v2060 c192_i32_1113
  v2061
def k0_mult25 (k0_t1 : Fin k0_t1_loop.trips) : BitVec 32 :=
  let c8_i32 : BitVec 32 := 8#32
  let c24_i32 : BitVec 32 := 24#32
  let c0_i32_368 : BitVec 32 := 0#32
  let c1_i32 : BitVec 32 := 1#32
  let arg12 : BitVec 32 := Scf.iv c0_i32_368 c1_i32 k0_t1
  let v933 : BitVec 32 := Scalar.muli c24_i32 arg12
  let v934 : BitVec 32 := Scalar.addi c8_i32 v933
  let c10_i32 : BitVec 32 := 10#32
  let v2095 : BitVec 32 := Scalar.addi v934 c10_i32
  let c4_i32_1128 : BitVec 32 := 4#32
  let v2096 : BitVec 32 := Scalar.subi v2095 c4_i32_1128
  let c64_i32_1129 : BitVec 32 := 64#32
  let v2097 : BitVec 32 := Scalar.muli v2096 c64_i32_1129
  let c192_i32_1130 : BitVec 32 := 192#32
  let v2098 : BitVec 32 := Scalar.subi v2097 c192_i32_1130
  v2098
def k0_mult26 (k0_t1 : Fin k0_t1_loop.trips) : BitVec 32 :=
  let c8_i32 : BitVec 32 := 8#32
  let c24_i32 : BitVec 32 := 24#32
  let c0_i32_368 : BitVec 32 := 0#32
  let c1_i32 : BitVec 32 := 1#32
  let arg12 : BitVec 32 := Scf.iv c0_i32_368 c1_i32 k0_t1
  let v933 : BitVec 32 := Scalar.muli c24_i32 arg12
  let v934 : BitVec 32 := Scalar.addi c8_i32 v933
  let c10_i32_1173 : BitVec 32 := 10#32
  let v2175 : BitVec 32 := Scalar.addi v934 c10_i32_1173
  let c64_i32_1174 : BitVec 32 := 64#32
  let v2176 : BitVec 32 := Scalar.muli v2175 c64_i32_1174
  let c192_i32_1175 : BitVec 32 := 192#32
  let v2177 : BitVec 32 := Scalar.subi v2176 c192_i32_1175
  v2177
def k0_mult27 (k0_t1 : Fin k0_t1_loop.trips) : BitVec 32 :=
  let c8_i32 : BitVec 32 := 8#32
  let c24_i32 : BitVec 32 := 24#32
  let c0_i32_368 : BitVec 32 := 0#32
  let c1_i32 : BitVec 32 := 1#32
  let arg12 : BitVec 32 := Scf.iv c0_i32_368 c1_i32 k0_t1
  let v933 : BitVec 32 := Scalar.muli c24_i32 arg12
  let v934 : BitVec 32 := Scalar.addi c8_i32 v933
  let c11_i32 : BitVec 32 := 11#32
  let v2211 : BitVec 32 := Scalar.addi v934 c11_i32
  let c4_i32_1190 : BitVec 32 := 4#32
  let v2212 : BitVec 32 := Scalar.subi v2211 c4_i32_1190
  let c64_i32_1191 : BitVec 32 := 64#32
  let v2213 : BitVec 32 := Scalar.muli v2212 c64_i32_1191
  let c192_i32_1192 : BitVec 32 := 192#32
  let v2214 : BitVec 32 := Scalar.subi v2213 c192_i32_1192
  v2214
def k0_mult28 (k0_t1 : Fin k0_t1_loop.trips) : BitVec 32 :=
  let c8_i32 : BitVec 32 := 8#32
  let c24_i32 : BitVec 32 := 24#32
  let c0_i32_368 : BitVec 32 := 0#32
  let c1_i32 : BitVec 32 := 1#32
  let arg12 : BitVec 32 := Scf.iv c0_i32_368 c1_i32 k0_t1
  let v933 : BitVec 32 := Scalar.muli c24_i32 arg12
  let v934 : BitVec 32 := Scalar.addi c8_i32 v933
  let c11_i32_1235 : BitVec 32 := 11#32
  let v2291 : BitVec 32 := Scalar.addi v934 c11_i32_1235
  let c64_i32_1236 : BitVec 32 := 64#32
  let v2292 : BitVec 32 := Scalar.muli v2291 c64_i32_1236
  let c192_i32_1237 : BitVec 32 := 192#32
  let v2293 : BitVec 32 := Scalar.subi v2292 c192_i32_1237
  v2293
def k0_mult29 (k0_t1 : Fin k0_t1_loop.trips) : BitVec 32 :=
  let c8_i32 : BitVec 32 := 8#32
  let c24_i32 : BitVec 32 := 24#32
  let c0_i32_368 : BitVec 32 := 0#32
  let c1_i32 : BitVec 32 := 1#32
  let arg12 : BitVec 32 := Scf.iv c0_i32_368 c1_i32 k0_t1
  let v933 : BitVec 32 := Scalar.muli c24_i32 arg12
  let v934 : BitVec 32 := Scalar.addi c8_i32 v933
  let c12_i32 : BitVec 32 := 12#32
  let v2327 : BitVec 32 := Scalar.addi v934 c12_i32
  let c4_i32_1252 : BitVec 32 := 4#32
  let v2328 : BitVec 32 := Scalar.subi v2327 c4_i32_1252
  let c64_i32_1253 : BitVec 32 := 64#32
  let v2329 : BitVec 32 := Scalar.muli v2328 c64_i32_1253
  let c192_i32_1254 : BitVec 32 := 192#32
  let v2330 : BitVec 32 := Scalar.subi v2329 c192_i32_1254
  v2330
def k0_mult30 (k0_t1 : Fin k0_t1_loop.trips) : BitVec 32 :=
  let c8_i32 : BitVec 32 := 8#32
  let c24_i32 : BitVec 32 := 24#32
  let c0_i32_368 : BitVec 32 := 0#32
  let c1_i32 : BitVec 32 := 1#32
  let arg12 : BitVec 32 := Scf.iv c0_i32_368 c1_i32 k0_t1
  let v933 : BitVec 32 := Scalar.muli c24_i32 arg12
  let v934 : BitVec 32 := Scalar.addi c8_i32 v933
  let c12_i32_1297 : BitVec 32 := 12#32
  let v2407 : BitVec 32 := Scalar.addi v934 c12_i32_1297
  let c64_i32_1298 : BitVec 32 := 64#32
  let v2408 : BitVec 32 := Scalar.muli v2407 c64_i32_1298
  let c192_i32_1299 : BitVec 32 := 192#32
  let v2409 : BitVec 32 := Scalar.subi v2408 c192_i32_1299
  v2409
def k0_mult31 (k0_t1 : Fin k0_t1_loop.trips) : BitVec 32 :=
  let c8_i32 : BitVec 32 := 8#32
  let c24_i32 : BitVec 32 := 24#32
  let c0_i32_368 : BitVec 32 := 0#32
  let c1_i32 : BitVec 32 := 1#32
  let arg12 : BitVec 32 := Scf.iv c0_i32_368 c1_i32 k0_t1
  let v933 : BitVec 32 := Scalar.muli c24_i32 arg12
  let v934 : BitVec 32 := Scalar.addi c8_i32 v933
  let c13_i32 : BitVec 32 := 13#32
  let v2443 : BitVec 32 := Scalar.addi v934 c13_i32
  let c4_i32_1314 : BitVec 32 := 4#32
  let v2444 : BitVec 32 := Scalar.subi v2443 c4_i32_1314
  let c64_i32_1315 : BitVec 32 := 64#32
  let v2445 : BitVec 32 := Scalar.muli v2444 c64_i32_1315
  let c192_i32_1316 : BitVec 32 := 192#32
  let v2446 : BitVec 32 := Scalar.subi v2445 c192_i32_1316
  v2446
def k0_mult32 (k0_t1 : Fin k0_t1_loop.trips) : BitVec 32 :=
  let c8_i32 : BitVec 32 := 8#32
  let c24_i32 : BitVec 32 := 24#32
  let c0_i32_368 : BitVec 32 := 0#32
  let c1_i32 : BitVec 32 := 1#32
  let arg12 : BitVec 32 := Scf.iv c0_i32_368 c1_i32 k0_t1
  let v933 : BitVec 32 := Scalar.muli c24_i32 arg12
  let v934 : BitVec 32 := Scalar.addi c8_i32 v933
  let c13_i32_1359 : BitVec 32 := 13#32
  let v2523 : BitVec 32 := Scalar.addi v934 c13_i32_1359
  let c64_i32_1360 : BitVec 32 := 64#32
  let v2524 : BitVec 32 := Scalar.muli v2523 c64_i32_1360
  let c192_i32_1361 : BitVec 32 := 192#32
  let v2525 : BitVec 32 := Scalar.subi v2524 c192_i32_1361
  v2525
def k0_mult33 (k0_t1 : Fin k0_t1_loop.trips) : BitVec 32 :=
  let c8_i32 : BitVec 32 := 8#32
  let c24_i32 : BitVec 32 := 24#32
  let c0_i32_368 : BitVec 32 := 0#32
  let c1_i32 : BitVec 32 := 1#32
  let arg12 : BitVec 32 := Scf.iv c0_i32_368 c1_i32 k0_t1
  let v933 : BitVec 32 := Scalar.muli c24_i32 arg12
  let v934 : BitVec 32 := Scalar.addi c8_i32 v933
  let c14_i32 : BitVec 32 := 14#32
  let v2559 : BitVec 32 := Scalar.addi v934 c14_i32
  let c4_i32_1376 : BitVec 32 := 4#32
  let v2560 : BitVec 32 := Scalar.subi v2559 c4_i32_1376
  let c64_i32_1377 : BitVec 32 := 64#32
  let v2561 : BitVec 32 := Scalar.muli v2560 c64_i32_1377
  let c192_i32_1378 : BitVec 32 := 192#32
  let v2562 : BitVec 32 := Scalar.subi v2561 c192_i32_1378
  v2562
def k0_mult34 (k0_t1 : Fin k0_t1_loop.trips) : BitVec 32 :=
  let c8_i32 : BitVec 32 := 8#32
  let c24_i32 : BitVec 32 := 24#32
  let c0_i32_368 : BitVec 32 := 0#32
  let c1_i32 : BitVec 32 := 1#32
  let arg12 : BitVec 32 := Scf.iv c0_i32_368 c1_i32 k0_t1
  let v933 : BitVec 32 := Scalar.muli c24_i32 arg12
  let v934 : BitVec 32 := Scalar.addi c8_i32 v933
  let c14_i32_1421 : BitVec 32 := 14#32
  let v2639 : BitVec 32 := Scalar.addi v934 c14_i32_1421
  let c64_i32_1422 : BitVec 32 := 64#32
  let v2640 : BitVec 32 := Scalar.muli v2639 c64_i32_1422
  let c192_i32_1423 : BitVec 32 := 192#32
  let v2641 : BitVec 32 := Scalar.subi v2640 c192_i32_1423
  v2641
def k0_mult35 (k0_t1 : Fin k0_t1_loop.trips) : BitVec 32 :=
  let c8_i32 : BitVec 32 := 8#32
  let c24_i32 : BitVec 32 := 24#32
  let c0_i32_368 : BitVec 32 := 0#32
  let c1_i32 : BitVec 32 := 1#32
  let arg12 : BitVec 32 := Scf.iv c0_i32_368 c1_i32 k0_t1
  let v933 : BitVec 32 := Scalar.muli c24_i32 arg12
  let v934 : BitVec 32 := Scalar.addi c8_i32 v933
  let c15_i32 : BitVec 32 := 15#32
  let v2675 : BitVec 32 := Scalar.addi v934 c15_i32
  let c4_i32_1438 : BitVec 32 := 4#32
  let v2676 : BitVec 32 := Scalar.subi v2675 c4_i32_1438
  let c64_i32_1439 : BitVec 32 := 64#32
  let v2677 : BitVec 32 := Scalar.muli v2676 c64_i32_1439
  let c192_i32_1440 : BitVec 32 := 192#32
  let v2678 : BitVec 32 := Scalar.subi v2677 c192_i32_1440
  v2678
def k0_mult36 (k0_t1 : Fin k0_t1_loop.trips) : BitVec 32 :=
  let c8_i32 : BitVec 32 := 8#32
  let c24_i32 : BitVec 32 := 24#32
  let c0_i32_368 : BitVec 32 := 0#32
  let c1_i32 : BitVec 32 := 1#32
  let arg12 : BitVec 32 := Scf.iv c0_i32_368 c1_i32 k0_t1
  let v933 : BitVec 32 := Scalar.muli c24_i32 arg12
  let v934 : BitVec 32 := Scalar.addi c8_i32 v933
  let c15_i32_1483 : BitVec 32 := 15#32
  let v2755 : BitVec 32 := Scalar.addi v934 c15_i32_1483
  let c64_i32_1484 : BitVec 32 := 64#32
  let v2756 : BitVec 32 := Scalar.muli v2755 c64_i32_1484
  let c192_i32_1485 : BitVec 32 := 192#32
  let v2757 : BitVec 32 := Scalar.subi v2756 c192_i32_1485
  v2757
def k0_mult37 (k0_t1 : Fin k0_t1_loop.trips) : BitVec 32 :=
  let c8_i32 : BitVec 32 := 8#32
  let c24_i32 : BitVec 32 := 24#32
  let c0_i32_368 : BitVec 32 := 0#32
  let c1_i32 : BitVec 32 := 1#32
  let arg12 : BitVec 32 := Scf.iv c0_i32_368 c1_i32 k0_t1
  let v933 : BitVec 32 := Scalar.muli c24_i32 arg12
  let v934 : BitVec 32 := Scalar.addi c8_i32 v933
  let c16_i32 : BitVec 32 := 16#32
  let v2791 : BitVec 32 := Scalar.addi v934 c16_i32
  let c4_i32_1500 : BitVec 32 := 4#32
  let v2792 : BitVec 32 := Scalar.subi v2791 c4_i32_1500
  let c64_i32_1501 : BitVec 32 := 64#32
  let v2793 : BitVec 32 := Scalar.muli v2792 c64_i32_1501
  let c192_i32_1502 : BitVec 32 := 192#32
  let v2794 : BitVec 32 := Scalar.subi v2793 c192_i32_1502
  v2794
def k0_mult38 (k0_t1 : Fin k0_t1_loop.trips) : BitVec 32 :=
  let c8_i32 : BitVec 32 := 8#32
  let c24_i32 : BitVec 32 := 24#32
  let c0_i32_368 : BitVec 32 := 0#32
  let c1_i32 : BitVec 32 := 1#32
  let arg12 : BitVec 32 := Scf.iv c0_i32_368 c1_i32 k0_t1
  let v933 : BitVec 32 := Scalar.muli c24_i32 arg12
  let v934 : BitVec 32 := Scalar.addi c8_i32 v933
  let c16_i32_1545 : BitVec 32 := 16#32
  let v2871 : BitVec 32 := Scalar.addi v934 c16_i32_1545
  let c64_i32_1546 : BitVec 32 := 64#32
  let v2872 : BitVec 32 := Scalar.muli v2871 c64_i32_1546
  let c192_i32_1547 : BitVec 32 := 192#32
  let v2873 : BitVec 32 := Scalar.subi v2872 c192_i32_1547
  v2873
def k0_mult39 (k0_t1 : Fin k0_t1_loop.trips) : BitVec 32 :=
  let c8_i32 : BitVec 32 := 8#32
  let c24_i32 : BitVec 32 := 24#32
  let c0_i32_368 : BitVec 32 := 0#32
  let c1_i32 : BitVec 32 := 1#32
  let arg12 : BitVec 32 := Scf.iv c0_i32_368 c1_i32 k0_t1
  let v933 : BitVec 32 := Scalar.muli c24_i32 arg12
  let v934 : BitVec 32 := Scalar.addi c8_i32 v933
  let c17_i32 : BitVec 32 := 17#32
  let v2907 : BitVec 32 := Scalar.addi v934 c17_i32
  let c4_i32_1562 : BitVec 32 := 4#32
  let v2908 : BitVec 32 := Scalar.subi v2907 c4_i32_1562
  let c64_i32_1563 : BitVec 32 := 64#32
  let v2909 : BitVec 32 := Scalar.muli v2908 c64_i32_1563
  let c192_i32_1564 : BitVec 32 := 192#32
  let v2910 : BitVec 32 := Scalar.subi v2909 c192_i32_1564
  v2910
def k0_mult40 (k0_t1 : Fin k0_t1_loop.trips) : BitVec 32 :=
  let c8_i32 : BitVec 32 := 8#32
  let c24_i32 : BitVec 32 := 24#32
  let c0_i32_368 : BitVec 32 := 0#32
  let c1_i32 : BitVec 32 := 1#32
  let arg12 : BitVec 32 := Scf.iv c0_i32_368 c1_i32 k0_t1
  let v933 : BitVec 32 := Scalar.muli c24_i32 arg12
  let v934 : BitVec 32 := Scalar.addi c8_i32 v933
  let c17_i32_1607 : BitVec 32 := 17#32
  let v2987 : BitVec 32 := Scalar.addi v934 c17_i32_1607
  let c64_i32_1608 : BitVec 32 := 64#32
  let v2988 : BitVec 32 := Scalar.muli v2987 c64_i32_1608
  let c192_i32_1609 : BitVec 32 := 192#32
  let v2989 : BitVec 32 := Scalar.subi v2988 c192_i32_1609
  v2989
def k0_mult41 (k0_t1 : Fin k0_t1_loop.trips) : BitVec 32 :=
  let c8_i32 : BitVec 32 := 8#32
  let c24_i32 : BitVec 32 := 24#32
  let c0_i32_368 : BitVec 32 := 0#32
  let c1_i32 : BitVec 32 := 1#32
  let arg12 : BitVec 32 := Scf.iv c0_i32_368 c1_i32 k0_t1
  let v933 : BitVec 32 := Scalar.muli c24_i32 arg12
  let v934 : BitVec 32 := Scalar.addi c8_i32 v933
  let c18_i32 : BitVec 32 := 18#32
  let v3023 : BitVec 32 := Scalar.addi v934 c18_i32
  let c4_i32_1624 : BitVec 32 := 4#32
  let v3024 : BitVec 32 := Scalar.subi v3023 c4_i32_1624
  let c64_i32_1625 : BitVec 32 := 64#32
  let v3025 : BitVec 32 := Scalar.muli v3024 c64_i32_1625
  let c192_i32_1626 : BitVec 32 := 192#32
  let v3026 : BitVec 32 := Scalar.subi v3025 c192_i32_1626
  v3026
def k0_mult42 (k0_t1 : Fin k0_t1_loop.trips) : BitVec 32 :=
  let c8_i32 : BitVec 32 := 8#32
  let c24_i32 : BitVec 32 := 24#32
  let c0_i32_368 : BitVec 32 := 0#32
  let c1_i32 : BitVec 32 := 1#32
  let arg12 : BitVec 32 := Scf.iv c0_i32_368 c1_i32 k0_t1
  let v933 : BitVec 32 := Scalar.muli c24_i32 arg12
  let v934 : BitVec 32 := Scalar.addi c8_i32 v933
  let c18_i32_1669 : BitVec 32 := 18#32
  let v3103 : BitVec 32 := Scalar.addi v934 c18_i32_1669
  let c64_i32_1670 : BitVec 32 := 64#32
  let v3104 : BitVec 32 := Scalar.muli v3103 c64_i32_1670
  let c192_i32_1671 : BitVec 32 := 192#32
  let v3105 : BitVec 32 := Scalar.subi v3104 c192_i32_1671
  v3105
def k0_mult43 (k0_t1 : Fin k0_t1_loop.trips) : BitVec 32 :=
  let c8_i32 : BitVec 32 := 8#32
  let c24_i32 : BitVec 32 := 24#32
  let c0_i32_368 : BitVec 32 := 0#32
  let c1_i32 : BitVec 32 := 1#32
  let arg12 : BitVec 32 := Scf.iv c0_i32_368 c1_i32 k0_t1
  let v933 : BitVec 32 := Scalar.muli c24_i32 arg12
  let v934 : BitVec 32 := Scalar.addi c8_i32 v933
  let c19_i32 : BitVec 32 := 19#32
  let v3139 : BitVec 32 := Scalar.addi v934 c19_i32
  let c4_i32_1686 : BitVec 32 := 4#32
  let v3140 : BitVec 32 := Scalar.subi v3139 c4_i32_1686
  let c64_i32_1687 : BitVec 32 := 64#32
  let v3141 : BitVec 32 := Scalar.muli v3140 c64_i32_1687
  let c192_i32_1688 : BitVec 32 := 192#32
  let v3142 : BitVec 32 := Scalar.subi v3141 c192_i32_1688
  v3142
def k0_mult44 (k0_t1 : Fin k0_t1_loop.trips) : BitVec 32 :=
  let c8_i32 : BitVec 32 := 8#32
  let c24_i32 : BitVec 32 := 24#32
  let c0_i32_368 : BitVec 32 := 0#32
  let c1_i32 : BitVec 32 := 1#32
  let arg12 : BitVec 32 := Scf.iv c0_i32_368 c1_i32 k0_t1
  let v933 : BitVec 32 := Scalar.muli c24_i32 arg12
  let v934 : BitVec 32 := Scalar.addi c8_i32 v933
  let c19_i32_1731 : BitVec 32 := 19#32
  let v3219 : BitVec 32 := Scalar.addi v934 c19_i32_1731
  let c64_i32_1732 : BitVec 32 := 64#32
  let v3220 : BitVec 32 := Scalar.muli v3219 c64_i32_1732
  let c192_i32_1733 : BitVec 32 := 192#32
  let v3221 : BitVec 32 := Scalar.subi v3220 c192_i32_1733
  v3221
def k0_mult45 (k0_t1 : Fin k0_t1_loop.trips) : BitVec 32 :=
  let c8_i32 : BitVec 32 := 8#32
  let c24_i32 : BitVec 32 := 24#32
  let c0_i32_368 : BitVec 32 := 0#32
  let c1_i32 : BitVec 32 := 1#32
  let arg12 : BitVec 32 := Scf.iv c0_i32_368 c1_i32 k0_t1
  let v933 : BitVec 32 := Scalar.muli c24_i32 arg12
  let v934 : BitVec 32 := Scalar.addi c8_i32 v933
  let c20_i32 : BitVec 32 := 20#32
  let v3255 : BitVec 32 := Scalar.addi v934 c20_i32
  let c4_i32_1748 : BitVec 32 := 4#32
  let v3256 : BitVec 32 := Scalar.subi v3255 c4_i32_1748
  let c64_i32_1749 : BitVec 32 := 64#32
  let v3257 : BitVec 32 := Scalar.muli v3256 c64_i32_1749
  let c192_i32_1750 : BitVec 32 := 192#32
  let v3258 : BitVec 32 := Scalar.subi v3257 c192_i32_1750
  v3258
def k0_mult46 (k0_t1 : Fin k0_t1_loop.trips) : BitVec 32 :=
  let c8_i32 : BitVec 32 := 8#32
  let c24_i32 : BitVec 32 := 24#32
  let c0_i32_368 : BitVec 32 := 0#32
  let c1_i32 : BitVec 32 := 1#32
  let arg12 : BitVec 32 := Scf.iv c0_i32_368 c1_i32 k0_t1
  let v933 : BitVec 32 := Scalar.muli c24_i32 arg12
  let v934 : BitVec 32 := Scalar.addi c8_i32 v933
  let c20_i32_1793 : BitVec 32 := 20#32
  let v3335 : BitVec 32 := Scalar.addi v934 c20_i32_1793
  let c64_i32_1794 : BitVec 32 := 64#32
  let v3336 : BitVec 32 := Scalar.muli v3335 c64_i32_1794
  let c192_i32_1795 : BitVec 32 := 192#32
  let v3337 : BitVec 32 := Scalar.subi v3336 c192_i32_1795
  v3337
def k0_mult47 (k0_t1 : Fin k0_t1_loop.trips) : BitVec 32 :=
  let c8_i32 : BitVec 32 := 8#32
  let c24_i32 : BitVec 32 := 24#32
  let c0_i32_368 : BitVec 32 := 0#32
  let c1_i32 : BitVec 32 := 1#32
  let arg12 : BitVec 32 := Scf.iv c0_i32_368 c1_i32 k0_t1
  let v933 : BitVec 32 := Scalar.muli c24_i32 arg12
  let v934 : BitVec 32 := Scalar.addi c8_i32 v933
  let c21_i32 : BitVec 32 := 21#32
  let v3371 : BitVec 32 := Scalar.addi v934 c21_i32
  let c4_i32_1810 : BitVec 32 := 4#32
  let v3372 : BitVec 32 := Scalar.subi v3371 c4_i32_1810
  let c64_i32_1811 : BitVec 32 := 64#32
  let v3373 : BitVec 32 := Scalar.muli v3372 c64_i32_1811
  let c192_i32_1812 : BitVec 32 := 192#32
  let v3374 : BitVec 32 := Scalar.subi v3373 c192_i32_1812
  v3374
def k0_mult48 (k0_t1 : Fin k0_t1_loop.trips) : BitVec 32 :=
  let c8_i32 : BitVec 32 := 8#32
  let c24_i32 : BitVec 32 := 24#32
  let c0_i32_368 : BitVec 32 := 0#32
  let c1_i32 : BitVec 32 := 1#32
  let arg12 : BitVec 32 := Scf.iv c0_i32_368 c1_i32 k0_t1
  let v933 : BitVec 32 := Scalar.muli c24_i32 arg12
  let v934 : BitVec 32 := Scalar.addi c8_i32 v933
  let c21_i32_1855 : BitVec 32 := 21#32
  let v3451 : BitVec 32 := Scalar.addi v934 c21_i32_1855
  let c64_i32_1856 : BitVec 32 := 64#32
  let v3452 : BitVec 32 := Scalar.muli v3451 c64_i32_1856
  let c192_i32_1857 : BitVec 32 := 192#32
  let v3453 : BitVec 32 := Scalar.subi v3452 c192_i32_1857
  v3453
def k0_mult49 (k0_t1 : Fin k0_t1_loop.trips) : BitVec 32 :=
  let c8_i32 : BitVec 32 := 8#32
  let c24_i32 : BitVec 32 := 24#32
  let c0_i32_368 : BitVec 32 := 0#32
  let c1_i32 : BitVec 32 := 1#32
  let arg12 : BitVec 32 := Scf.iv c0_i32_368 c1_i32 k0_t1
  let v933 : BitVec 32 := Scalar.muli c24_i32 arg12
  let v934 : BitVec 32 := Scalar.addi c8_i32 v933
  let c22_i32 : BitVec 32 := 22#32
  let v3487 : BitVec 32 := Scalar.addi v934 c22_i32
  let c4_i32_1872 : BitVec 32 := 4#32
  let v3488 : BitVec 32 := Scalar.subi v3487 c4_i32_1872
  let c64_i32_1873 : BitVec 32 := 64#32
  let v3489 : BitVec 32 := Scalar.muli v3488 c64_i32_1873
  let c192_i32_1874 : BitVec 32 := 192#32
  let v3490 : BitVec 32 := Scalar.subi v3489 c192_i32_1874
  v3490
def k0_mult50 (k0_t1 : Fin k0_t1_loop.trips) : BitVec 32 :=
  let c8_i32 : BitVec 32 := 8#32
  let c24_i32 : BitVec 32 := 24#32
  let c0_i32_368 : BitVec 32 := 0#32
  let c1_i32 : BitVec 32 := 1#32
  let arg12 : BitVec 32 := Scf.iv c0_i32_368 c1_i32 k0_t1
  let v933 : BitVec 32 := Scalar.muli c24_i32 arg12
  let v934 : BitVec 32 := Scalar.addi c8_i32 v933
  let c22_i32_1917 : BitVec 32 := 22#32
  let v3567 : BitVec 32 := Scalar.addi v934 c22_i32_1917
  let c64_i32_1918 : BitVec 32 := 64#32
  let v3568 : BitVec 32 := Scalar.muli v3567 c64_i32_1918
  let c192_i32_1919 : BitVec 32 := 192#32
  let v3569 : BitVec 32 := Scalar.subi v3568 c192_i32_1919
  v3569
def k0_mult51 (k0_t1 : Fin k0_t1_loop.trips) : BitVec 32 :=
  let c8_i32 : BitVec 32 := 8#32
  let c24_i32 : BitVec 32 := 24#32
  let c0_i32_368 : BitVec 32 := 0#32
  let c1_i32 : BitVec 32 := 1#32
  let arg12 : BitVec 32 := Scf.iv c0_i32_368 c1_i32 k0_t1
  let v933 : BitVec 32 := Scalar.muli c24_i32 arg12
  let v934 : BitVec 32 := Scalar.addi c8_i32 v933
  let c23_i32 : BitVec 32 := 23#32
  let v3603 : BitVec 32 := Scalar.addi v934 c23_i32
  let c4_i32_1934 : BitVec 32 := 4#32
  let v3604 : BitVec 32 := Scalar.subi v3603 c4_i32_1934
  let c64_i32_1935 : BitVec 32 := 64#32
  let v3605 : BitVec 32 := Scalar.muli v3604 c64_i32_1935
  let c192_i32_1936 : BitVec 32 := 192#32
  let v3606 : BitVec 32 := Scalar.subi v3605 c192_i32_1936
  v3606
def k0_mult52 (k0_t1 : Fin k0_t1_loop.trips) : BitVec 32 :=
  let c8_i32 : BitVec 32 := 8#32
  let c24_i32 : BitVec 32 := 24#32
  let c0_i32_368 : BitVec 32 := 0#32
  let c1_i32 : BitVec 32 := 1#32
  let arg12 : BitVec 32 := Scf.iv c0_i32_368 c1_i32 k0_t1
  let v933 : BitVec 32 := Scalar.muli c24_i32 arg12
  let v934 : BitVec 32 := Scalar.addi c8_i32 v933
  let c23_i32_1979 : BitVec 32 := 23#32
  let v3683 : BitVec 32 := Scalar.addi v934 c23_i32_1979
  let c64_i32_1980 : BitVec 32 := 64#32
  let v3684 : BitVec 32 := Scalar.muli v3683 c64_i32_1980
  let c192_i32_1981 : BitVec 32 := 192#32
  let v3685 : BitVec 32 := Scalar.subi v3684 c192_i32_1981
  v3685
def k0_mult53 (k0_t1 : Fin k0_t1_loop.trips) : BitVec 32 :=
  let c8_i32 : BitVec 32 := 8#32
  let c24_i32 : BitVec 32 := 24#32
  let c0_i32_368 : BitVec 32 := 0#32
  let c1_i32 : BitVec 32 := 1#32
  let arg12 : BitVec 32 := Scf.iv c0_i32_368 c1_i32 k0_t1
  let v933 : BitVec 32 := Scalar.muli c24_i32 arg12
  let v934 : BitVec 32 := Scalar.addi c8_i32 v933
  let c0_i32_518 : BitVec 32 := 0#32
  let v956 : BitVec 32 := Scalar.addi v934 c0_i32_518
  let c4_i32_519 : BitVec 32 := 4#32
  let v957 : BitVec 32 := Scalar.subi v956 c4_i32_519
  let c64_i32_1996 : BitVec 32 := 64#32
  let v3719 : BitVec 32 := Scalar.muli v957 c64_i32_1996
  let c192_i32_1997 : BitVec 32 := 192#32
  let v3720 : BitVec 32 := Scalar.subi v3719 c192_i32_1997
  v3720
def k0_mult54 (arg15 : BitVec 32) : BitVec 32 :=
  let c0_i32_2212 : BitVec 32 := 0#32
  let v4127 : BitVec 32 := Scalar.maxsi arg15 c0_i32_2212
  v4127

def k0_off8 (arg15 : BitVec 32) : Fin 2 → Nat :=
  let c0_i32_2212 : BitVec 32 := 0#32
  let v4127 : BitVec 32 := Scalar.maxsi arg15 c0_i32_2212
  let v4128 : BitVec 32 := v4127
  let v4129 : Index := Scalar.indexCast v4128
  let c0_2213 : Index := 0#32
  ![v4129.toNat, 0]

def k0_chk5 (arg15 : BitVec 32) : Prop :=
  (64 ∣ (k0_mult54 arg15).toNat) ∧
  (∀ a, (k0_off8 arg15) a + S128x128.size a ≤ S8192x128.size a)
theorem k0_mult54_dvd : ∀ (arg15 : BitVec 32) (k0_hw5 : k0_chk5 arg15), 64 ∣ (k0_mult54 arg15).toNat := fun arg15 k0_hw5 => k0_hw5.1
theorem k0_off8_inb : ∀ (arg15 : BitVec 32) (k0_hw5 : k0_chk5 arg15), ∀ a, (k0_off8 arg15) a + S128x128.size a ≤ S8192x128.size a := fun arg15 k0_hw5 => k0_hw5.2

def k0_off9 (k0_t1 : Fin k0_t1_loop.trips) : Fin 2 → Nat :=
  let c8_i32 : BitVec 32 := 8#32
  let c24_i32 : BitVec 32 := 24#32
  let c0_i32_368 : BitVec 32 := 0#32
  let c1_i32 : BitVec 32 := 1#32
  let arg12 : BitVec 32 := Scf.iv c0_i32_368 c1_i32 k0_t1
  let v933 : BitVec 32 := Scalar.muli c24_i32 arg12
  let v934 : BitVec 32 := Scalar.addi c8_i32 v933
  let c0_i32_518 : BitVec 32 := 0#32
  let v956 : BitVec 32 := Scalar.addi v934 c0_i32_518
  let c4_i32_519 : BitVec 32 := 4#32
  let v957 : BitVec 32 := Scalar.subi v956 c4_i32_519
  let c64_i32_2216 : BitVec 32 := 64#32
  let v4140 : BitVec 32 := Scalar.muli v957 c64_i32_2216
  let v4141 : Index := Scalar.indexCast v4140
  let c0_2217 : Index := 0#32
  ![v4141.toNat, 0]
def k0_off10 (k0_t1 : Fin k0_t1_loop.trips) (c0_i32_518 : BitVec 32) : Fin 2 → Nat :=
  let c8_i32 : BitVec 32 := 8#32
  let c24_i32 : BitVec 32 := 24#32
  let c0_i32_368 : BitVec 32 := 0#32
  let c1_i32 : BitVec 32 := 1#32
  let arg12 : BitVec 32 := Scf.iv c0_i32_368 c1_i32 k0_t1
  let v933 : BitVec 32 := Scalar.muli c24_i32 arg12
  let v934 : BitVec 32 := Scalar.addi c8_i32 v933
  let v956 : BitVec 32 := Scalar.addi v934 c0_i32_518
  let c4_i32_519 : BitVec 32 := 4#32
  let v957 : BitVec 32 := Scalar.subi v956 c4_i32_519
  let c64_i32_2003 : BitVec 32 := 64#32
  let v3733 : BitVec 32 := Scalar.muli v957 c64_i32_2003
  let v3734 : Index := Scalar.indexCast v3733
  let c0_2004 : Index := 0#32
  ![v3734.toNat, 0]
def k0_mult55 (k0_t1 : Fin k0_t1_loop.trips) : BitVec 32 :=
  let c8_i32 : BitVec 32 := 8#32
  let c24_i32 : BitVec 32 := 24#32
  let c0_i32_368 : BitVec 32 := 0#32
  let c1_i32 : BitVec 32 := 1#32
  let arg12 : BitVec 32 := Scf.iv c0_i32_368 c1_i32 k0_t1
  let v933 : BitVec 32 := Scalar.muli c24_i32 arg12
  let v934 : BitVec 32 := Scalar.addi c8_i32 v933
  let c1_i32_582 : BitVec 32 := 1#32
  let v1072 : BitVec 32 := Scalar.addi v934 c1_i32_582
  let c4_i32_583 : BitVec 32 := 4#32
  let v1073 : BitVec 32 := Scalar.subi v1072 c4_i32_583
  let c64_i32_2005 : BitVec 32 := 64#32
  let v3736 : BitVec 32 := Scalar.muli v1073 c64_i32_2005
  let c192_i32_2006 : BitVec 32 := 192#32
  let v3737 : BitVec 32 := Scalar.subi v3736 c192_i32_2006
  v3737
def k0_mult56 (arg15 : BitVec 32) : BitVec 32 :=
  let c0_i32_2212 : BitVec 32 := 0#32
  let v4127 : BitVec 32 := Scalar.maxsi arg15 c0_i32_2212
  v4127

def k0_off11 (arg15 : BitVec 32) : Fin 2 → Nat :=
  let c0_i32_2212 : BitVec 32 := 0#32
  let v4127 : BitVec 32 := Scalar.maxsi arg15 c0_i32_2212
  let v4128 : BitVec 32 := v4127
  let v4129 : Index := Scalar.indexCast v4128
  let c0_2213 : Index := 0#32
  ![v4129.toNat, 0]

def k0_chk6 (arg15 : BitVec 32) : Prop :=
  (64 ∣ (k0_mult56 arg15).toNat) ∧
  (∀ a, (k0_off11 arg15) a + S128x128.size a ≤ S8192x128.size a)
theorem k0_mult56_dvd : ∀ (arg15 : BitVec 32) (k0_hw6 : k0_chk6 arg15), 64 ∣ (k0_mult56 arg15).toNat := fun arg15 k0_hw6 => k0_hw6.1
theorem k0_off11_inb : ∀ (arg15 : BitVec 32) (k0_hw6 : k0_chk6 arg15), ∀ a, (k0_off11 arg15) a + S128x128.size a ≤ S8192x128.size a := fun arg15 k0_hw6 => k0_hw6.2

def k0_off12 (k0_t1 : Fin k0_t1_loop.trips) : Fin 2 → Nat :=
  let c8_i32 : BitVec 32 := 8#32
  let c24_i32 : BitVec 32 := 24#32
  let c0_i32_368 : BitVec 32 := 0#32
  let c1_i32 : BitVec 32 := 1#32
  let arg12 : BitVec 32 := Scf.iv c0_i32_368 c1_i32 k0_t1
  let v933 : BitVec 32 := Scalar.muli c24_i32 arg12
  let v934 : BitVec 32 := Scalar.addi c8_i32 v933
  let c1_i32_582 : BitVec 32 := 1#32
  let v1072 : BitVec 32 := Scalar.addi v934 c1_i32_582
  let c4_i32_583 : BitVec 32 := 4#32
  let v1073 : BitVec 32 := Scalar.subi v1072 c4_i32_583
  let c64_i32_2216 : BitVec 32 := 64#32
  let v4140 : BitVec 32 := Scalar.muli v1073 c64_i32_2216
  let v4141 : Index := Scalar.indexCast v4140
  let c0_2217 : Index := 0#32
  ![v4141.toNat, 0]
def k0_mult57 (k0_t1 : Fin k0_t1_loop.trips) : BitVec 32 :=
  let c8_i32 : BitVec 32 := 8#32
  let c24_i32 : BitVec 32 := 24#32
  let c0_i32_368 : BitVec 32 := 0#32
  let c1_i32 : BitVec 32 := 1#32
  let arg12 : BitVec 32 := Scf.iv c0_i32_368 c1_i32 k0_t1
  let v933 : BitVec 32 := Scalar.muli c24_i32 arg12
  let v934 : BitVec 32 := Scalar.addi c8_i32 v933
  let c2_i32_645 : BitVec 32 := 2#32
  let v1188 : BitVec 32 := Scalar.addi v934 c2_i32_645
  let c4_i32_646 : BitVec 32 := 4#32
  let v1189 : BitVec 32 := Scalar.subi v1188 c4_i32_646
  let c64_i32_2014 : BitVec 32 := 64#32
  let v3753 : BitVec 32 := Scalar.muli v1189 c64_i32_2014
  let c192_i32_2015 : BitVec 32 := 192#32
  let v3754 : BitVec 32 := Scalar.subi v3753 c192_i32_2015
  v3754
def k0_mult58 (arg15 : BitVec 32) : BitVec 32 :=
  let c0_i32_2212 : BitVec 32 := 0#32
  let v4127 : BitVec 32 := Scalar.maxsi arg15 c0_i32_2212
  v4127

def k0_off13 (arg15 : BitVec 32) : Fin 2 → Nat :=
  let c0_i32_2212 : BitVec 32 := 0#32
  let v4127 : BitVec 32 := Scalar.maxsi arg15 c0_i32_2212
  let v4128 : BitVec 32 := v4127
  let v4129 : Index := Scalar.indexCast v4128
  let c0_2213 : Index := 0#32
  ![v4129.toNat, 0]

def k0_chk7 (arg15 : BitVec 32) : Prop :=
  (64 ∣ (k0_mult58 arg15).toNat) ∧
  (∀ a, (k0_off13 arg15) a + S128x128.size a ≤ S8192x128.size a)
theorem k0_mult58_dvd : ∀ (arg15 : BitVec 32) (k0_hw7 : k0_chk7 arg15), 64 ∣ (k0_mult58 arg15).toNat := fun arg15 k0_hw7 => k0_hw7.1
theorem k0_off13_inb : ∀ (arg15 : BitVec 32) (k0_hw7 : k0_chk7 arg15), ∀ a, (k0_off13 arg15) a + S128x128.size a ≤ S8192x128.size a := fun arg15 k0_hw7 => k0_hw7.2

def k0_off14 (k0_t1 : Fin k0_t1_loop.trips) : Fin 2 → Nat :=
  let c8_i32 : BitVec 32 := 8#32
  let c24_i32 : BitVec 32 := 24#32
  let c0_i32_368 : BitVec 32 := 0#32
  let c1_i32 : BitVec 32 := 1#32
  let arg12 : BitVec 32 := Scf.iv c0_i32_368 c1_i32 k0_t1
  let v933 : BitVec 32 := Scalar.muli c24_i32 arg12
  let v934 : BitVec 32 := Scalar.addi c8_i32 v933
  let c2_i32_645 : BitVec 32 := 2#32
  let v1188 : BitVec 32 := Scalar.addi v934 c2_i32_645
  let c4_i32_646 : BitVec 32 := 4#32
  let v1189 : BitVec 32 := Scalar.subi v1188 c4_i32_646
  let c64_i32_2216 : BitVec 32 := 64#32
  let v4140 : BitVec 32 := Scalar.muli v1189 c64_i32_2216
  let v4141 : Index := Scalar.indexCast v4140
  let c0_2217 : Index := 0#32
  ![v4141.toNat, 0]
def k0_mult59 (k0_t1 : Fin k0_t1_loop.trips) : BitVec 32 :=
  let c8_i32 : BitVec 32 := 8#32
  let c24_i32 : BitVec 32 := 24#32
  let c0_i32_368 : BitVec 32 := 0#32
  let c1_i32 : BitVec 32 := 1#32
  let arg12 : BitVec 32 := Scf.iv c0_i32_368 c1_i32 k0_t1
  let v933 : BitVec 32 := Scalar.muli c24_i32 arg12
  let v934 : BitVec 32 := Scalar.addi c8_i32 v933
  let c3_i32_707 : BitVec 32 := 3#32
  let v1304 : BitVec 32 := Scalar.addi v934 c3_i32_707
  let c4_i32_708 : BitVec 32 := 4#32
  let v1305 : BitVec 32 := Scalar.subi v1304 c4_i32_708
  let c64_i32_2023 : BitVec 32 := 64#32
  let v3770 : BitVec 32 := Scalar.muli v1305 c64_i32_2023
  let c192_i32_2024 : BitVec 32 := 192#32
  let v3771 : BitVec 32 := Scalar.subi v3770 c192_i32_2024
  v3771
def k0_mult60 (arg15 : BitVec 32) : BitVec 32 :=
  let c0_i32_2212 : BitVec 32 := 0#32
  let v4127 : BitVec 32 := Scalar.maxsi arg15 c0_i32_2212
  v4127

def k0_off15 (arg15 : BitVec 32) : Fin 2 → Nat :=
  let c0_i32_2212 : BitVec 32 := 0#32
  let v4127 : BitVec 32 := Scalar.maxsi arg15 c0_i32_2212
  let v4128 : BitVec 32 := v4127
  let v4129 : Index := Scalar.indexCast v4128
  let c0_2213 : Index := 0#32
  ![v4129.toNat, 0]

def k0_chk8 (arg15 : BitVec 32) : Prop :=
  (64 ∣ (k0_mult60 arg15).toNat) ∧
  (∀ a, (k0_off15 arg15) a + S128x128.size a ≤ S8192x128.size a)
theorem k0_mult60_dvd : ∀ (arg15 : BitVec 32) (k0_hw8 : k0_chk8 arg15), 64 ∣ (k0_mult60 arg15).toNat := fun arg15 k0_hw8 => k0_hw8.1
theorem k0_off15_inb : ∀ (arg15 : BitVec 32) (k0_hw8 : k0_chk8 arg15), ∀ a, (k0_off15 arg15) a + S128x128.size a ≤ S8192x128.size a := fun arg15 k0_hw8 => k0_hw8.2

def k0_off16 (k0_t1 : Fin k0_t1_loop.trips) : Fin 2 → Nat :=
  let c8_i32 : BitVec 32 := 8#32
  let c24_i32 : BitVec 32 := 24#32
  let c0_i32_368 : BitVec 32 := 0#32
  let c1_i32 : BitVec 32 := 1#32
  let arg12 : BitVec 32 := Scf.iv c0_i32_368 c1_i32 k0_t1
  let v933 : BitVec 32 := Scalar.muli c24_i32 arg12
  let v934 : BitVec 32 := Scalar.addi c8_i32 v933
  let c3_i32_707 : BitVec 32 := 3#32
  let v1304 : BitVec 32 := Scalar.addi v934 c3_i32_707
  let c4_i32_708 : BitVec 32 := 4#32
  let v1305 : BitVec 32 := Scalar.subi v1304 c4_i32_708
  let c64_i32_2216 : BitVec 32 := 64#32
  let v4140 : BitVec 32 := Scalar.muli v1305 c64_i32_2216
  let v4141 : Index := Scalar.indexCast v4140
  let c0_2217 : Index := 0#32
  ![v4141.toNat, 0]
def k0_mult61 (k0_t1 : Fin k0_t1_loop.trips) : BitVec 32 :=
  let c8_i32 : BitVec 32 := 8#32
  let c24_i32 : BitVec 32 := 24#32
  let c0_i32_368 : BitVec 32 := 0#32
  let c1_i32 : BitVec 32 := 1#32
  let arg12 : BitVec 32 := Scf.iv c0_i32_368 c1_i32 k0_t1
  let v933 : BitVec 32 := Scalar.muli c24_i32 arg12
  let v934 : BitVec 32 := Scalar.addi c8_i32 v933
  let c4_i32_770 : BitVec 32 := 4#32
  let v1420 : BitVec 32 := Scalar.addi v934 c4_i32_770
  let c4_i32_771 : BitVec 32 := 4#32
  let v1421 : BitVec 32 := Scalar.subi v1420 c4_i32_771
  let c64_i32_2032 : BitVec 32 := 64#32
  let v3787 : BitVec 32 := Scalar.muli v1421 c64_i32_2032
  let c192_i32_2033 : BitVec 32 := 192#32
  let v3788 : BitVec 32 := Scalar.subi v3787 c192_i32_2033
  v3788
def k0_mult62 (arg15 : BitVec 32) : BitVec 32 :=
  let c0_i32_2212 : BitVec 32 := 0#32
  let v4127 : BitVec 32 := Scalar.maxsi arg15 c0_i32_2212
  v4127

def k0_off17 (arg15 : BitVec 32) : Fin 2 → Nat :=
  let c0_i32_2212 : BitVec 32 := 0#32
  let v4127 : BitVec 32 := Scalar.maxsi arg15 c0_i32_2212
  let v4128 : BitVec 32 := v4127
  let v4129 : Index := Scalar.indexCast v4128
  let c0_2213 : Index := 0#32
  ![v4129.toNat, 0]

def k0_chk9 (arg15 : BitVec 32) : Prop :=
  (64 ∣ (k0_mult62 arg15).toNat) ∧
  (∀ a, (k0_off17 arg15) a + S128x128.size a ≤ S8192x128.size a)
theorem k0_mult62_dvd : ∀ (arg15 : BitVec 32) (k0_hw9 : k0_chk9 arg15), 64 ∣ (k0_mult62 arg15).toNat := fun arg15 k0_hw9 => k0_hw9.1
theorem k0_off17_inb : ∀ (arg15 : BitVec 32) (k0_hw9 : k0_chk9 arg15), ∀ a, (k0_off17 arg15) a + S128x128.size a ≤ S8192x128.size a := fun arg15 k0_hw9 => k0_hw9.2

def k0_off18 (k0_t1 : Fin k0_t1_loop.trips) : Fin 2 → Nat :=
  let c8_i32 : BitVec 32 := 8#32
  let c24_i32 : BitVec 32 := 24#32
  let c0_i32_368 : BitVec 32 := 0#32
  let c1_i32 : BitVec 32 := 1#32
  let arg12 : BitVec 32 := Scf.iv c0_i32_368 c1_i32 k0_t1
  let v933 : BitVec 32 := Scalar.muli c24_i32 arg12
  let v934 : BitVec 32 := Scalar.addi c8_i32 v933
  let c4_i32_770 : BitVec 32 := 4#32
  let v1420 : BitVec 32 := Scalar.addi v934 c4_i32_770
  let c4_i32_771 : BitVec 32 := 4#32
  let v1421 : BitVec 32 := Scalar.subi v1420 c4_i32_771
  let c64_i32_2216 : BitVec 32 := 64#32
  let v4140 : BitVec 32 := Scalar.muli v1421 c64_i32_2216
  let v4141 : Index := Scalar.indexCast v4140
  let c0_2217 : Index := 0#32
  ![v4141.toNat, 0]
def k0_mult63 (k0_t1 : Fin k0_t1_loop.trips) : BitVec 32 :=
  let c8_i32 : BitVec 32 := 8#32
  let c24_i32 : BitVec 32 := 24#32
  let c0_i32_368 : BitVec 32 := 0#32
  let c1_i32 : BitVec 32 := 1#32
  let arg12 : BitVec 32 := Scf.iv c0_i32_368 c1_i32 k0_t1
  let v933 : BitVec 32 := Scalar.muli c24_i32 arg12
  let v934 : BitVec 32 := Scalar.addi c8_i32 v933
  let c5_i32_833 : BitVec 32 := 5#32
  let v1536 : BitVec 32 := Scalar.addi v934 c5_i32_833
  let c4_i32_834 : BitVec 32 := 4#32
  let v1537 : BitVec 32 := Scalar.subi v1536 c4_i32_834
  let c64_i32_2041 : BitVec 32 := 64#32
  let v3804 : BitVec 32 := Scalar.muli v1537 c64_i32_2041
  let c192_i32_2042 : BitVec 32 := 192#32
  let v3805 : BitVec 32 := Scalar.subi v3804 c192_i32_2042
  v3805
def k0_mult64 (arg15 : BitVec 32) : BitVec 32 :=
  let c0_i32_2212 : BitVec 32 := 0#32
  let v4127 : BitVec 32 := Scalar.maxsi arg15 c0_i32_2212
  v4127

def k0_off19 (arg15 : BitVec 32) : Fin 2 → Nat :=
  let c0_i32_2212 : BitVec 32 := 0#32
  let v4127 : BitVec 32 := Scalar.maxsi arg15 c0_i32_2212
  let v4128 : BitVec 32 := v4127
  let v4129 : Index := Scalar.indexCast v4128
  let c0_2213 : Index := 0#32
  ![v4129.toNat, 0]

def k0_chk10 (arg15 : BitVec 32) : Prop :=
  (64 ∣ (k0_mult64 arg15).toNat) ∧
  (∀ a, (k0_off19 arg15) a + S128x128.size a ≤ S8192x128.size a)
theorem k0_mult64_dvd : ∀ (arg15 : BitVec 32) (k0_hw10 : k0_chk10 arg15), 64 ∣ (k0_mult64 arg15).toNat := fun arg15 k0_hw10 => k0_hw10.1
theorem k0_off19_inb : ∀ (arg15 : BitVec 32) (k0_hw10 : k0_chk10 arg15), ∀ a, (k0_off19 arg15) a + S128x128.size a ≤ S8192x128.size a := fun arg15 k0_hw10 => k0_hw10.2

def k0_off20 (k0_t1 : Fin k0_t1_loop.trips) : Fin 2 → Nat :=
  let c8_i32 : BitVec 32 := 8#32
  let c24_i32 : BitVec 32 := 24#32
  let c0_i32_368 : BitVec 32 := 0#32
  let c1_i32 : BitVec 32 := 1#32
  let arg12 : BitVec 32 := Scf.iv c0_i32_368 c1_i32 k0_t1
  let v933 : BitVec 32 := Scalar.muli c24_i32 arg12
  let v934 : BitVec 32 := Scalar.addi c8_i32 v933
  let c5_i32_833 : BitVec 32 := 5#32
  let v1536 : BitVec 32 := Scalar.addi v934 c5_i32_833
  let c4_i32_834 : BitVec 32 := 4#32
  let v1537 : BitVec 32 := Scalar.subi v1536 c4_i32_834
  let c64_i32_2216 : BitVec 32 := 64#32
  let v4140 : BitVec 32 := Scalar.muli v1537 c64_i32_2216
  let v4141 : Index := Scalar.indexCast v4140
  let c0_2217 : Index := 0#32
  ![v4141.toNat, 0]
def k0_mult65 (k0_t1 : Fin k0_t1_loop.trips) : BitVec 32 :=
  let c8_i32 : BitVec 32 := 8#32
  let c24_i32 : BitVec 32 := 24#32
  let c0_i32_368 : BitVec 32 := 0#32
  let c1_i32 : BitVec 32 := 1#32
  let arg12 : BitVec 32 := Scf.iv c0_i32_368 c1_i32 k0_t1
  let v933 : BitVec 32 := Scalar.muli c24_i32 arg12
  let v934 : BitVec 32 := Scalar.addi c8_i32 v933
  let c6_i32_895 : BitVec 32 := 6#32
  let v1652 : BitVec 32 := Scalar.addi v934 c6_i32_895
  let c4_i32_896 : BitVec 32 := 4#32
  let v1653 : BitVec 32 := Scalar.subi v1652 c4_i32_896
  let c64_i32_2050 : BitVec 32 := 64#32
  let v3821 : BitVec 32 := Scalar.muli v1653 c64_i32_2050
  let c192_i32_2051 : BitVec 32 := 192#32
  let v3822 : BitVec 32 := Scalar.subi v3821 c192_i32_2051
  v3822
def k0_mult66 (arg15 : BitVec 32) : BitVec 32 :=
  let c0_i32_2212 : BitVec 32 := 0#32
  let v4127 : BitVec 32 := Scalar.maxsi arg15 c0_i32_2212
  v4127

def k0_off21 (arg15 : BitVec 32) : Fin 2 → Nat :=
  let c0_i32_2212 : BitVec 32 := 0#32
  let v4127 : BitVec 32 := Scalar.maxsi arg15 c0_i32_2212
  let v4128 : BitVec 32 := v4127
  let v4129 : Index := Scalar.indexCast v4128
  let c0_2213 : Index := 0#32
  ![v4129.toNat, 0]

def k0_chk11 (arg15 : BitVec 32) : Prop :=
  (64 ∣ (k0_mult66 arg15).toNat) ∧
  (∀ a, (k0_off21 arg15) a + S128x128.size a ≤ S8192x128.size a)
theorem k0_mult66_dvd : ∀ (arg15 : BitVec 32) (k0_hw11 : k0_chk11 arg15), 64 ∣ (k0_mult66 arg15).toNat := fun arg15 k0_hw11 => k0_hw11.1
theorem k0_off21_inb : ∀ (arg15 : BitVec 32) (k0_hw11 : k0_chk11 arg15), ∀ a, (k0_off21 arg15) a + S128x128.size a ≤ S8192x128.size a := fun arg15 k0_hw11 => k0_hw11.2

def k0_off22 (k0_t1 : Fin k0_t1_loop.trips) : Fin 2 → Nat :=
  let c8_i32 : BitVec 32 := 8#32
  let c24_i32 : BitVec 32 := 24#32
  let c0_i32_368 : BitVec 32 := 0#32
  let c1_i32 : BitVec 32 := 1#32
  let arg12 : BitVec 32 := Scf.iv c0_i32_368 c1_i32 k0_t1
  let v933 : BitVec 32 := Scalar.muli c24_i32 arg12
  let v934 : BitVec 32 := Scalar.addi c8_i32 v933
  let c6_i32_895 : BitVec 32 := 6#32
  let v1652 : BitVec 32 := Scalar.addi v934 c6_i32_895
  let c4_i32_896 : BitVec 32 := 4#32
  let v1653 : BitVec 32 := Scalar.subi v1652 c4_i32_896
  let c64_i32_2216 : BitVec 32 := 64#32
  let v4140 : BitVec 32 := Scalar.muli v1653 c64_i32_2216
  let v4141 : Index := Scalar.indexCast v4140
  let c0_2217 : Index := 0#32
  ![v4141.toNat, 0]
def k0_mult67 (k0_t1 : Fin k0_t1_loop.trips) : BitVec 32 :=
  let c8_i32 : BitVec 32 := 8#32
  let c24_i32 : BitVec 32 := 24#32
  let c0_i32_368 : BitVec 32 := 0#32
  let c1_i32 : BitVec 32 := 1#32
  let arg12 : BitVec 32 := Scf.iv c0_i32_368 c1_i32 k0_t1
  let v933 : BitVec 32 := Scalar.muli c24_i32 arg12
  let v934 : BitVec 32 := Scalar.addi c8_i32 v933
  let c7_i32_957 : BitVec 32 := 7#32
  let v1768 : BitVec 32 := Scalar.addi v934 c7_i32_957
  let c4_i32_958 : BitVec 32 := 4#32
  let v1769 : BitVec 32 := Scalar.subi v1768 c4_i32_958
  let c64_i32_2059 : BitVec 32 := 64#32
  let v3838 : BitVec 32 := Scalar.muli v1769 c64_i32_2059
  let c192_i32_2060 : BitVec 32 := 192#32
  let v3839 : BitVec 32 := Scalar.subi v3838 c192_i32_2060
  v3839
def k0_mult68 (arg15 : BitVec 32) : BitVec 32 :=
  let c0_i32_2212 : BitVec 32 := 0#32
  let v4127 : BitVec 32 := Scalar.maxsi arg15 c0_i32_2212
  v4127

def k0_off23 (arg15 : BitVec 32) : Fin 2 → Nat :=
  let c0_i32_2212 : BitVec 32 := 0#32
  let v4127 : BitVec 32 := Scalar.maxsi arg15 c0_i32_2212
  let v4128 : BitVec 32 := v4127
  let v4129 : Index := Scalar.indexCast v4128
  let c0_2213 : Index := 0#32
  ![v4129.toNat, 0]

def k0_chk12 (arg15 : BitVec 32) : Prop :=
  (64 ∣ (k0_mult68 arg15).toNat) ∧
  (∀ a, (k0_off23 arg15) a + S128x128.size a ≤ S8192x128.size a)
theorem k0_mult68_dvd : ∀ (arg15 : BitVec 32) (k0_hw12 : k0_chk12 arg15), 64 ∣ (k0_mult68 arg15).toNat := fun arg15 k0_hw12 => k0_hw12.1
theorem k0_off23_inb : ∀ (arg15 : BitVec 32) (k0_hw12 : k0_chk12 arg15), ∀ a, (k0_off23 arg15) a + S128x128.size a ≤ S8192x128.size a := fun arg15 k0_hw12 => k0_hw12.2

def k0_off24 (k0_t1 : Fin k0_t1_loop.trips) : Fin 2 → Nat :=
  let c8_i32 : BitVec 32 := 8#32
  let c24_i32 : BitVec 32 := 24#32
  let c0_i32_368 : BitVec 32 := 0#32
  let c1_i32 : BitVec 32 := 1#32
  let arg12 : BitVec 32 := Scf.iv c0_i32_368 c1_i32 k0_t1
  let v933 : BitVec 32 := Scalar.muli c24_i32 arg12
  let v934 : BitVec 32 := Scalar.addi c8_i32 v933
  let c7_i32_957 : BitVec 32 := 7#32
  let v1768 : BitVec 32 := Scalar.addi v934 c7_i32_957
  let c4_i32_958 : BitVec 32 := 4#32
  let v1769 : BitVec 32 := Scalar.subi v1768 c4_i32_958
  let c64_i32_2216 : BitVec 32 := 64#32
  let v4140 : BitVec 32 := Scalar.muli v1769 c64_i32_2216
  let v4141 : Index := Scalar.indexCast v4140
  let c0_2217 : Index := 0#32
  ![v4141.toNat, 0]
def k0_mult69 (k0_t1 : Fin k0_t1_loop.trips) : BitVec 32 :=
  let c8_i32 : BitVec 32 := 8#32
  let c24_i32 : BitVec 32 := 24#32
  let c0_i32_368 : BitVec 32 := 0#32
  let c1_i32 : BitVec 32 := 1#32
  let arg12 : BitVec 32 := Scf.iv c0_i32_368 c1_i32 k0_t1
  let v933 : BitVec 32 := Scalar.muli c24_i32 arg12
  let v934 : BitVec 32 := Scalar.addi c8_i32 v933
  let c8_i32_1020 : BitVec 32 := 8#32
  let v1884 : BitVec 32 := Scalar.addi v934 c8_i32_1020
  let c4_i32_1021 : BitVec 32 := 4#32
  let v1885 : BitVec 32 := Scalar.subi v1884 c4_i32_1021
  let c64_i32_2068 : BitVec 32 := 64#32
  let v3855 : BitVec 32 := Scalar.muli v1885 c64_i32_2068
  let c192_i32_2069 : BitVec 32 := 192#32
  let v3856 : BitVec 32 := Scalar.subi v3855 c192_i32_2069
  v3856
def k0_mult70 (arg15 : BitVec 32) : BitVec 32 :=
  let c0_i32_2212 : BitVec 32 := 0#32
  let v4127 : BitVec 32 := Scalar.maxsi arg15 c0_i32_2212
  v4127

def k0_off25 (arg15 : BitVec 32) : Fin 2 → Nat :=
  let c0_i32_2212 : BitVec 32 := 0#32
  let v4127 : BitVec 32 := Scalar.maxsi arg15 c0_i32_2212
  let v4128 : BitVec 32 := v4127
  let v4129 : Index := Scalar.indexCast v4128
  let c0_2213 : Index := 0#32
  ![v4129.toNat, 0]

def k0_chk13 (arg15 : BitVec 32) : Prop :=
  (64 ∣ (k0_mult70 arg15).toNat) ∧
  (∀ a, (k0_off25 arg15) a + S128x128.size a ≤ S8192x128.size a)
theorem k0_mult70_dvd : ∀ (arg15 : BitVec 32) (k0_hw13 : k0_chk13 arg15), 64 ∣ (k0_mult70 arg15).toNat := fun arg15 k0_hw13 => k0_hw13.1
theorem k0_off25_inb : ∀ (arg15 : BitVec 32) (k0_hw13 : k0_chk13 arg15), ∀ a, (k0_off25 arg15) a + S128x128.size a ≤ S8192x128.size a := fun arg15 k0_hw13 => k0_hw13.2

def k0_off26 (k0_t1 : Fin k0_t1_loop.trips) : Fin 2 → Nat :=
  let c8_i32 : BitVec 32 := 8#32
  let c24_i32 : BitVec 32 := 24#32
  let c0_i32_368 : BitVec 32 := 0#32
  let c1_i32 : BitVec 32 := 1#32
  let arg12 : BitVec 32 := Scf.iv c0_i32_368 c1_i32 k0_t1
  let v933 : BitVec 32 := Scalar.muli c24_i32 arg12
  let v934 : BitVec 32 := Scalar.addi c8_i32 v933
  let c8_i32_1020 : BitVec 32 := 8#32
  let v1884 : BitVec 32 := Scalar.addi v934 c8_i32_1020
  let c4_i32_1021 : BitVec 32 := 4#32
  let v1885 : BitVec 32 := Scalar.subi v1884 c4_i32_1021
  let c64_i32_2216 : BitVec 32 := 64#32
  let v4140 : BitVec 32 := Scalar.muli v1885 c64_i32_2216
  let v4141 : Index := Scalar.indexCast v4140
  let c0_2217 : Index := 0#32
  ![v4141.toNat, 0]
def k0_mult71 (k0_t1 : Fin k0_t1_loop.trips) : BitVec 32 :=
  let c8_i32 : BitVec 32 := 8#32
  let c24_i32 : BitVec 32 := 24#32
  let c0_i32_368 : BitVec 32 := 0#32
  let c1_i32 : BitVec 32 := 1#32
  let arg12 : BitVec 32 := Scf.iv c0_i32_368 c1_i32 k0_t1
  let v933 : BitVec 32 := Scalar.muli c24_i32 arg12
  let v934 : BitVec 32 := Scalar.addi c8_i32 v933
  let c9_i32_1082 : BitVec 32 := 9#32
  let v2000 : BitVec 32 := Scalar.addi v934 c9_i32_1082
  let c4_i32_1083 : BitVec 32 := 4#32
  let v2001 : BitVec 32 := Scalar.subi v2000 c4_i32_1083
  let c64_i32_2077 : BitVec 32 := 64#32
  let v3872 : BitVec 32 := Scalar.muli v2001 c64_i32_2077
  let c192_i32_2078 : BitVec 32 := 192#32
  let v3873 : BitVec 32 := Scalar.subi v3872 c192_i32_2078
  v3873
def k0_mult72 (arg15 : BitVec 32) : BitVec 32 :=
  let c0_i32_2212 : BitVec 32 := 0#32
  let v4127 : BitVec 32 := Scalar.maxsi arg15 c0_i32_2212
  v4127

def k0_off27 (arg15 : BitVec 32) : Fin 2 → Nat :=
  let c0_i32_2212 : BitVec 32 := 0#32
  let v4127 : BitVec 32 := Scalar.maxsi arg15 c0_i32_2212
  let v4128 : BitVec 32 := v4127
  let v4129 : Index := Scalar.indexCast v4128
  let c0_2213 : Index := 0#32
  ![v4129.toNat, 0]

def k0_chk14 (arg15 : BitVec 32) : Prop :=
  (64 ∣ (k0_mult72 arg15).toNat) ∧
  (∀ a, (k0_off27 arg15) a + S128x128.size a ≤ S8192x128.size a)
theorem k0_mult72_dvd : ∀ (arg15 : BitVec 32) (k0_hw14 : k0_chk14 arg15), 64 ∣ (k0_mult72 arg15).toNat := fun arg15 k0_hw14 => k0_hw14.1
theorem k0_off27_inb : ∀ (arg15 : BitVec 32) (k0_hw14 : k0_chk14 arg15), ∀ a, (k0_off27 arg15) a + S128x128.size a ≤ S8192x128.size a := fun arg15 k0_hw14 => k0_hw14.2

def k0_off28 (k0_t1 : Fin k0_t1_loop.trips) : Fin 2 → Nat :=
  let c8_i32 : BitVec 32 := 8#32
  let c24_i32 : BitVec 32 := 24#32
  let c0_i32_368 : BitVec 32 := 0#32
  let c1_i32 : BitVec 32 := 1#32
  let arg12 : BitVec 32 := Scf.iv c0_i32_368 c1_i32 k0_t1
  let v933 : BitVec 32 := Scalar.muli c24_i32 arg12
  let v934 : BitVec 32 := Scalar.addi c8_i32 v933
  let c9_i32_1082 : BitVec 32 := 9#32
  let v2000 : BitVec 32 := Scalar.addi v934 c9_i32_1082
  let c4_i32_1083 : BitVec 32 := 4#32
  let v2001 : BitVec 32 := Scalar.subi v2000 c4_i32_1083
  let c64_i32_2216 : BitVec 32 := 64#32
  let v4140 : BitVec 32 := Scalar.muli v2001 c64_i32_2216
  let v4141 : Index := Scalar.indexCast v4140
  let c0_2217 : Index := 0#32
  ![v4141.toNat, 0]
def k0_mult73 (k0_t1 : Fin k0_t1_loop.trips) : BitVec 32 :=
  let c8_i32 : BitVec 32 := 8#32
  let c24_i32 : BitVec 32 := 24#32
  let c0_i32_368 : BitVec 32 := 0#32
  let c1_i32 : BitVec 32 := 1#32
  let arg12 : BitVec 32 := Scf.iv c0_i32_368 c1_i32 k0_t1
  let v933 : BitVec 32 := Scalar.muli c24_i32 arg12
  let v934 : BitVec 32 := Scalar.addi c8_i32 v933
  let c10_i32_1144 : BitVec 32 := 10#32
  let v2116 : BitVec 32 := Scalar.addi v934 c10_i32_1144
  let c4_i32_1145 : BitVec 32 := 4#32
  let v2117 : BitVec 32 := Scalar.subi v2116 c4_i32_1145
  let c64_i32_2086 : BitVec 32 := 64#32
  let v3889 : BitVec 32 := Scalar.muli v2117 c64_i32_2086
  let c192_i32_2087 : BitVec 32 := 192#32
  let v3890 : BitVec 32 := Scalar.subi v3889 c192_i32_2087
  v3890
def k0_mult74 (arg15 : BitVec 32) : BitVec 32 :=
  let c0_i32_2212 : BitVec 32 := 0#32
  let v4127 : BitVec 32 := Scalar.maxsi arg15 c0_i32_2212
  v4127

def k0_off29 (arg15 : BitVec 32) : Fin 2 → Nat :=
  let c0_i32_2212 : BitVec 32 := 0#32
  let v4127 : BitVec 32 := Scalar.maxsi arg15 c0_i32_2212
  let v4128 : BitVec 32 := v4127
  let v4129 : Index := Scalar.indexCast v4128
  let c0_2213 : Index := 0#32
  ![v4129.toNat, 0]

def k0_chk15 (arg15 : BitVec 32) : Prop :=
  (64 ∣ (k0_mult74 arg15).toNat) ∧
  (∀ a, (k0_off29 arg15) a + S128x128.size a ≤ S8192x128.size a)
theorem k0_mult74_dvd : ∀ (arg15 : BitVec 32) (k0_hw15 : k0_chk15 arg15), 64 ∣ (k0_mult74 arg15).toNat := fun arg15 k0_hw15 => k0_hw15.1
theorem k0_off29_inb : ∀ (arg15 : BitVec 32) (k0_hw15 : k0_chk15 arg15), ∀ a, (k0_off29 arg15) a + S128x128.size a ≤ S8192x128.size a := fun arg15 k0_hw15 => k0_hw15.2

def k0_off30 (k0_t1 : Fin k0_t1_loop.trips) : Fin 2 → Nat :=
  let c8_i32 : BitVec 32 := 8#32
  let c24_i32 : BitVec 32 := 24#32
  let c0_i32_368 : BitVec 32 := 0#32
  let c1_i32 : BitVec 32 := 1#32
  let arg12 : BitVec 32 := Scf.iv c0_i32_368 c1_i32 k0_t1
  let v933 : BitVec 32 := Scalar.muli c24_i32 arg12
  let v934 : BitVec 32 := Scalar.addi c8_i32 v933
  let c10_i32_1144 : BitVec 32 := 10#32
  let v2116 : BitVec 32 := Scalar.addi v934 c10_i32_1144
  let c4_i32_1145 : BitVec 32 := 4#32
  let v2117 : BitVec 32 := Scalar.subi v2116 c4_i32_1145
  let c64_i32_2216 : BitVec 32 := 64#32
  let v4140 : BitVec 32 := Scalar.muli v2117 c64_i32_2216
  let v4141 : Index := Scalar.indexCast v4140
  let c0_2217 : Index := 0#32
  ![v4141.toNat, 0]
def k0_mult75 (k0_t1 : Fin k0_t1_loop.trips) : BitVec 32 :=
  let c8_i32 : BitVec 32 := 8#32
  let c24_i32 : BitVec 32 := 24#32
  let c0_i32_368 : BitVec 32 := 0#32
  let c1_i32 : BitVec 32 := 1#32
  let arg12 : BitVec 32 := Scf.iv c0_i32_368 c1_i32 k0_t1
  let v933 : BitVec 32 := Scalar.muli c24_i32 arg12
  let v934 : BitVec 32 := Scalar.addi c8_i32 v933
  let c11_i32_1206 : BitVec 32 := 11#32
  let v2232 : BitVec 32 := Scalar.addi v934 c11_i32_1206
  let c4_i32_1207 : BitVec 32 := 4#32
  let v2233 : BitVec 32 := Scalar.subi v2232 c4_i32_1207
  let c64_i32_2095 : BitVec 32 := 64#32
  let v3906 : BitVec 32 := Scalar.muli v2233 c64_i32_2095
  let c192_i32_2096 : BitVec 32 := 192#32
  let v3907 : BitVec 32 := Scalar.subi v3906 c192_i32_2096
  v3907
def k0_mult76 (arg15 : BitVec 32) : BitVec 32 :=
  let c0_i32_2212 : BitVec 32 := 0#32
  let v4127 : BitVec 32 := Scalar.maxsi arg15 c0_i32_2212
  v4127

def k0_off31 (arg15 : BitVec 32) : Fin 2 → Nat :=
  let c0_i32_2212 : BitVec 32 := 0#32
  let v4127 : BitVec 32 := Scalar.maxsi arg15 c0_i32_2212
  let v4128 : BitVec 32 := v4127
  let v4129 : Index := Scalar.indexCast v4128
  let c0_2213 : Index := 0#32
  ![v4129.toNat, 0]

def k0_chk16 (arg15 : BitVec 32) : Prop :=
  (64 ∣ (k0_mult76 arg15).toNat) ∧
  (∀ a, (k0_off31 arg15) a + S128x128.size a ≤ S8192x128.size a)
theorem k0_mult76_dvd : ∀ (arg15 : BitVec 32) (k0_hw16 : k0_chk16 arg15), 64 ∣ (k0_mult76 arg15).toNat := fun arg15 k0_hw16 => k0_hw16.1
theorem k0_off31_inb : ∀ (arg15 : BitVec 32) (k0_hw16 : k0_chk16 arg15), ∀ a, (k0_off31 arg15) a + S128x128.size a ≤ S8192x128.size a := fun arg15 k0_hw16 => k0_hw16.2

def k0_off32 (k0_t1 : Fin k0_t1_loop.trips) : Fin 2 → Nat :=
  let c8_i32 : BitVec 32 := 8#32
  let c24_i32 : BitVec 32 := 24#32
  let c0_i32_368 : BitVec 32 := 0#32
  let c1_i32 : BitVec 32 := 1#32
  let arg12 : BitVec 32 := Scf.iv c0_i32_368 c1_i32 k0_t1
  let v933 : BitVec 32 := Scalar.muli c24_i32 arg12
  let v934 : BitVec 32 := Scalar.addi c8_i32 v933
  let c11_i32_1206 : BitVec 32 := 11#32
  let v2232 : BitVec 32 := Scalar.addi v934 c11_i32_1206
  let c4_i32_1207 : BitVec 32 := 4#32
  let v2233 : BitVec 32 := Scalar.subi v2232 c4_i32_1207
  let c64_i32_2216 : BitVec 32 := 64#32
  let v4140 : BitVec 32 := Scalar.muli v2233 c64_i32_2216
  let v4141 : Index := Scalar.indexCast v4140
  let c0_2217 : Index := 0#32
  ![v4141.toNat, 0]
def k0_mult77 (k0_t1 : Fin k0_t1_loop.trips) : BitVec 32 :=
  let c8_i32 : BitVec 32 := 8#32
  let c24_i32 : BitVec 32 := 24#32
  let c0_i32_368 : BitVec 32 := 0#32
  let c1_i32 : BitVec 32 := 1#32
  let arg12 : BitVec 32 := Scf.iv c0_i32_368 c1_i32 k0_t1
  let v933 : BitVec 32 := Scalar.muli c24_i32 arg12
  let v934 : BitVec 32 := Scalar.addi c8_i32 v933
  let c12_i32_1268 : BitVec 32 := 12#32
  let v2348 : BitVec 32 := Scalar.addi v934 c12_i32_1268
  let c4_i32_1269 : BitVec 32 := 4#32
  let v2349 : BitVec 32 := Scalar.subi v2348 c4_i32_1269
  let c64_i32_2104 : BitVec 32 := 64#32
  let v3923 : BitVec 32 := Scalar.muli v2349 c64_i32_2104
  let c192_i32_2105 : BitVec 32 := 192#32
  let v3924 : BitVec 32 := Scalar.subi v3923 c192_i32_2105
  v3924
def k0_mult78 (arg15 : BitVec 32) : BitVec 32 :=
  let c0_i32_2212 : BitVec 32 := 0#32
  let v4127 : BitVec 32 := Scalar.maxsi arg15 c0_i32_2212
  v4127

def k0_off33 (arg15 : BitVec 32) : Fin 2 → Nat :=
  let c0_i32_2212 : BitVec 32 := 0#32
  let v4127 : BitVec 32 := Scalar.maxsi arg15 c0_i32_2212
  let v4128 : BitVec 32 := v4127
  let v4129 : Index := Scalar.indexCast v4128
  let c0_2213 : Index := 0#32
  ![v4129.toNat, 0]

def k0_chk17 (arg15 : BitVec 32) : Prop :=
  (64 ∣ (k0_mult78 arg15).toNat) ∧
  (∀ a, (k0_off33 arg15) a + S128x128.size a ≤ S8192x128.size a)
theorem k0_mult78_dvd : ∀ (arg15 : BitVec 32) (k0_hw17 : k0_chk17 arg15), 64 ∣ (k0_mult78 arg15).toNat := fun arg15 k0_hw17 => k0_hw17.1
theorem k0_off33_inb : ∀ (arg15 : BitVec 32) (k0_hw17 : k0_chk17 arg15), ∀ a, (k0_off33 arg15) a + S128x128.size a ≤ S8192x128.size a := fun arg15 k0_hw17 => k0_hw17.2

def k0_off34 (k0_t1 : Fin k0_t1_loop.trips) : Fin 2 → Nat :=
  let c8_i32 : BitVec 32 := 8#32
  let c24_i32 : BitVec 32 := 24#32
  let c0_i32_368 : BitVec 32 := 0#32
  let c1_i32 : BitVec 32 := 1#32
  let arg12 : BitVec 32 := Scf.iv c0_i32_368 c1_i32 k0_t1
  let v933 : BitVec 32 := Scalar.muli c24_i32 arg12
  let v934 : BitVec 32 := Scalar.addi c8_i32 v933
  let c12_i32_1268 : BitVec 32 := 12#32
  let v2348 : BitVec 32 := Scalar.addi v934 c12_i32_1268
  let c4_i32_1269 : BitVec 32 := 4#32
  let v2349 : BitVec 32 := Scalar.subi v2348 c4_i32_1269
  let c64_i32_2216 : BitVec 32 := 64#32
  let v4140 : BitVec 32 := Scalar.muli v2349 c64_i32_2216
  let v4141 : Index := Scalar.indexCast v4140
  let c0_2217 : Index := 0#32
  ![v4141.toNat, 0]
def k0_mult79 (k0_t1 : Fin k0_t1_loop.trips) : BitVec 32 :=
  let c8_i32 : BitVec 32 := 8#32
  let c24_i32 : BitVec 32 := 24#32
  let c0_i32_368 : BitVec 32 := 0#32
  let c1_i32 : BitVec 32 := 1#32
  let arg12 : BitVec 32 := Scf.iv c0_i32_368 c1_i32 k0_t1
  let v933 : BitVec 32 := Scalar.muli c24_i32 arg12
  let v934 : BitVec 32 := Scalar.addi c8_i32 v933
  let c13_i32_1330 : BitVec 32 := 13#32
  let v2464 : BitVec 32 := Scalar.addi v934 c13_i32_1330
  let c4_i32_1331 : BitVec 32 := 4#32
  let v2465 : BitVec 32 := Scalar.subi v2464 c4_i32_1331
  let c64_i32_2113 : BitVec 32 := 64#32
  let v3940 : BitVec 32 := Scalar.muli v2465 c64_i32_2113
  let c192_i32_2114 : BitVec 32 := 192#32
  let v3941 : BitVec 32 := Scalar.subi v3940 c192_i32_2114
  v3941
def k0_mult80 (arg15 : BitVec 32) : BitVec 32 :=
  let c0_i32_2212 : BitVec 32 := 0#32
  let v4127 : BitVec 32 := Scalar.maxsi arg15 c0_i32_2212
  v4127

def k0_off35 (arg15 : BitVec 32) : Fin 2 → Nat :=
  let c0_i32_2212 : BitVec 32 := 0#32
  let v4127 : BitVec 32 := Scalar.maxsi arg15 c0_i32_2212
  let v4128 : BitVec 32 := v4127
  let v4129 : Index := Scalar.indexCast v4128
  let c0_2213 : Index := 0#32
  ![v4129.toNat, 0]

def k0_chk18 (arg15 : BitVec 32) : Prop :=
  (64 ∣ (k0_mult80 arg15).toNat) ∧
  (∀ a, (k0_off35 arg15) a + S128x128.size a ≤ S8192x128.size a)
theorem k0_mult80_dvd : ∀ (arg15 : BitVec 32) (k0_hw18 : k0_chk18 arg15), 64 ∣ (k0_mult80 arg15).toNat := fun arg15 k0_hw18 => k0_hw18.1
theorem k0_off35_inb : ∀ (arg15 : BitVec 32) (k0_hw18 : k0_chk18 arg15), ∀ a, (k0_off35 arg15) a + S128x128.size a ≤ S8192x128.size a := fun arg15 k0_hw18 => k0_hw18.2

def k0_off36 (k0_t1 : Fin k0_t1_loop.trips) : Fin 2 → Nat :=
  let c8_i32 : BitVec 32 := 8#32
  let c24_i32 : BitVec 32 := 24#32
  let c0_i32_368 : BitVec 32 := 0#32
  let c1_i32 : BitVec 32 := 1#32
  let arg12 : BitVec 32 := Scf.iv c0_i32_368 c1_i32 k0_t1
  let v933 : BitVec 32 := Scalar.muli c24_i32 arg12
  let v934 : BitVec 32 := Scalar.addi c8_i32 v933
  let c13_i32_1330 : BitVec 32 := 13#32
  let v2464 : BitVec 32 := Scalar.addi v934 c13_i32_1330
  let c4_i32_1331 : BitVec 32 := 4#32
  let v2465 : BitVec 32 := Scalar.subi v2464 c4_i32_1331
  let c64_i32_2216 : BitVec 32 := 64#32
  let v4140 : BitVec 32 := Scalar.muli v2465 c64_i32_2216
  let v4141 : Index := Scalar.indexCast v4140
  let c0_2217 : Index := 0#32
  ![v4141.toNat, 0]
def k0_mult81 (k0_t1 : Fin k0_t1_loop.trips) : BitVec 32 :=
  let c8_i32 : BitVec 32 := 8#32
  let c24_i32 : BitVec 32 := 24#32
  let c0_i32_368 : BitVec 32 := 0#32
  let c1_i32 : BitVec 32 := 1#32
  let arg12 : BitVec 32 := Scf.iv c0_i32_368 c1_i32 k0_t1
  let v933 : BitVec 32 := Scalar.muli c24_i32 arg12
  let v934 : BitVec 32 := Scalar.addi c8_i32 v933
  let c14_i32_1392 : BitVec 32 := 14#32
  let v2580 : BitVec 32 := Scalar.addi v934 c14_i32_1392
  let c4_i32_1393 : BitVec 32 := 4#32
  let v2581 : BitVec 32 := Scalar.subi v2580 c4_i32_1393
  let c64_i32_2122 : BitVec 32 := 64#32
  let v3957 : BitVec 32 := Scalar.muli v2581 c64_i32_2122
  let c192_i32_2123 : BitVec 32 := 192#32
  let v3958 : BitVec 32 := Scalar.subi v3957 c192_i32_2123
  v3958
def k0_mult82 (arg15 : BitVec 32) : BitVec 32 :=
  let c0_i32_2212 : BitVec 32 := 0#32
  let v4127 : BitVec 32 := Scalar.maxsi arg15 c0_i32_2212
  v4127

def k0_off37 (arg15 : BitVec 32) : Fin 2 → Nat :=
  let c0_i32_2212 : BitVec 32 := 0#32
  let v4127 : BitVec 32 := Scalar.maxsi arg15 c0_i32_2212
  let v4128 : BitVec 32 := v4127
  let v4129 : Index := Scalar.indexCast v4128
  let c0_2213 : Index := 0#32
  ![v4129.toNat, 0]

def k0_chk19 (arg15 : BitVec 32) : Prop :=
  (64 ∣ (k0_mult82 arg15).toNat) ∧
  (∀ a, (k0_off37 arg15) a + S128x128.size a ≤ S8192x128.size a)
theorem k0_mult82_dvd : ∀ (arg15 : BitVec 32) (k0_hw19 : k0_chk19 arg15), 64 ∣ (k0_mult82 arg15).toNat := fun arg15 k0_hw19 => k0_hw19.1
theorem k0_off37_inb : ∀ (arg15 : BitVec 32) (k0_hw19 : k0_chk19 arg15), ∀ a, (k0_off37 arg15) a + S128x128.size a ≤ S8192x128.size a := fun arg15 k0_hw19 => k0_hw19.2

def k0_off38 (k0_t1 : Fin k0_t1_loop.trips) : Fin 2 → Nat :=
  let c8_i32 : BitVec 32 := 8#32
  let c24_i32 : BitVec 32 := 24#32
  let c0_i32_368 : BitVec 32 := 0#32
  let c1_i32 : BitVec 32 := 1#32
  let arg12 : BitVec 32 := Scf.iv c0_i32_368 c1_i32 k0_t1
  let v933 : BitVec 32 := Scalar.muli c24_i32 arg12
  let v934 : BitVec 32 := Scalar.addi c8_i32 v933
  let c14_i32_1392 : BitVec 32 := 14#32
  let v2580 : BitVec 32 := Scalar.addi v934 c14_i32_1392
  let c4_i32_1393 : BitVec 32 := 4#32
  let v2581 : BitVec 32 := Scalar.subi v2580 c4_i32_1393
  let c64_i32_2216 : BitVec 32 := 64#32
  let v4140 : BitVec 32 := Scalar.muli v2581 c64_i32_2216
  let v4141 : Index := Scalar.indexCast v4140
  let c0_2217 : Index := 0#32
  ![v4141.toNat, 0]
def k0_mult83 (k0_t1 : Fin k0_t1_loop.trips) : BitVec 32 :=
  let c8_i32 : BitVec 32 := 8#32
  let c24_i32 : BitVec 32 := 24#32
  let c0_i32_368 : BitVec 32 := 0#32
  let c1_i32 : BitVec 32 := 1#32
  let arg12 : BitVec 32 := Scf.iv c0_i32_368 c1_i32 k0_t1
  let v933 : BitVec 32 := Scalar.muli c24_i32 arg12
  let v934 : BitVec 32 := Scalar.addi c8_i32 v933
  let c15_i32_1454 : BitVec 32 := 15#32
  let v2696 : BitVec 32 := Scalar.addi v934 c15_i32_1454
  let c4_i32_1455 : BitVec 32 := 4#32
  let v2697 : BitVec 32 := Scalar.subi v2696 c4_i32_1455
  let c64_i32_2131 : BitVec 32 := 64#32
  let v3974 : BitVec 32 := Scalar.muli v2697 c64_i32_2131
  let c192_i32_2132 : BitVec 32 := 192#32
  let v3975 : BitVec 32 := Scalar.subi v3974 c192_i32_2132
  v3975
def k0_mult84 (arg15 : BitVec 32) : BitVec 32 :=
  let c0_i32_2212 : BitVec 32 := 0#32
  let v4127 : BitVec 32 := Scalar.maxsi arg15 c0_i32_2212
  v4127

def k0_off39 (arg15 : BitVec 32) : Fin 2 → Nat :=
  let c0_i32_2212 : BitVec 32 := 0#32
  let v4127 : BitVec 32 := Scalar.maxsi arg15 c0_i32_2212
  let v4128 : BitVec 32 := v4127
  let v4129 : Index := Scalar.indexCast v4128
  let c0_2213 : Index := 0#32
  ![v4129.toNat, 0]

def k0_chk20 (arg15 : BitVec 32) : Prop :=
  (64 ∣ (k0_mult84 arg15).toNat) ∧
  (∀ a, (k0_off39 arg15) a + S128x128.size a ≤ S8192x128.size a)
theorem k0_mult84_dvd : ∀ (arg15 : BitVec 32) (k0_hw20 : k0_chk20 arg15), 64 ∣ (k0_mult84 arg15).toNat := fun arg15 k0_hw20 => k0_hw20.1
theorem k0_off39_inb : ∀ (arg15 : BitVec 32) (k0_hw20 : k0_chk20 arg15), ∀ a, (k0_off39 arg15) a + S128x128.size a ≤ S8192x128.size a := fun arg15 k0_hw20 => k0_hw20.2

def k0_off40 (k0_t1 : Fin k0_t1_loop.trips) : Fin 2 → Nat :=
  let c8_i32 : BitVec 32 := 8#32
  let c24_i32 : BitVec 32 := 24#32
  let c0_i32_368 : BitVec 32 := 0#32
  let c1_i32 : BitVec 32 := 1#32
  let arg12 : BitVec 32 := Scf.iv c0_i32_368 c1_i32 k0_t1
  let v933 : BitVec 32 := Scalar.muli c24_i32 arg12
  let v934 : BitVec 32 := Scalar.addi c8_i32 v933
  let c15_i32_1454 : BitVec 32 := 15#32
  let v2696 : BitVec 32 := Scalar.addi v934 c15_i32_1454
  let c4_i32_1455 : BitVec 32 := 4#32
  let v2697 : BitVec 32 := Scalar.subi v2696 c4_i32_1455
  let c64_i32_2216 : BitVec 32 := 64#32
  let v4140 : BitVec 32 := Scalar.muli v2697 c64_i32_2216
  let v4141 : Index := Scalar.indexCast v4140
  let c0_2217 : Index := 0#32
  ![v4141.toNat, 0]
def k0_mult85 (k0_t1 : Fin k0_t1_loop.trips) : BitVec 32 :=
  let c8_i32 : BitVec 32 := 8#32
  let c24_i32 : BitVec 32 := 24#32
  let c0_i32_368 : BitVec 32 := 0#32
  let c1_i32 : BitVec 32 := 1#32
  let arg12 : BitVec 32 := Scf.iv c0_i32_368 c1_i32 k0_t1
  let v933 : BitVec 32 := Scalar.muli c24_i32 arg12
  let v934 : BitVec 32 := Scalar.addi c8_i32 v933
  let c16_i32_1516 : BitVec 32 := 16#32
  let v2812 : BitVec 32 := Scalar.addi v934 c16_i32_1516
  let c4_i32_1517 : BitVec 32 := 4#32
  let v2813 : BitVec 32 := Scalar.subi v2812 c4_i32_1517
  let c64_i32_2140 : BitVec 32 := 64#32
  let v3991 : BitVec 32 := Scalar.muli v2813 c64_i32_2140
  let c192_i32_2141 : BitVec 32 := 192#32
  let v3992 : BitVec 32 := Scalar.subi v3991 c192_i32_2141
  v3992
def k0_mult86 (arg15 : BitVec 32) : BitVec 32 :=
  let c0_i32_2212 : BitVec 32 := 0#32
  let v4127 : BitVec 32 := Scalar.maxsi arg15 c0_i32_2212
  v4127

def k0_off41 (arg15 : BitVec 32) : Fin 2 → Nat :=
  let c0_i32_2212 : BitVec 32 := 0#32
  let v4127 : BitVec 32 := Scalar.maxsi arg15 c0_i32_2212
  let v4128 : BitVec 32 := v4127
  let v4129 : Index := Scalar.indexCast v4128
  let c0_2213 : Index := 0#32
  ![v4129.toNat, 0]

def k0_chk21 (arg15 : BitVec 32) : Prop :=
  (64 ∣ (k0_mult86 arg15).toNat) ∧
  (∀ a, (k0_off41 arg15) a + S128x128.size a ≤ S8192x128.size a)
theorem k0_mult86_dvd : ∀ (arg15 : BitVec 32) (k0_hw21 : k0_chk21 arg15), 64 ∣ (k0_mult86 arg15).toNat := fun arg15 k0_hw21 => k0_hw21.1
theorem k0_off41_inb : ∀ (arg15 : BitVec 32) (k0_hw21 : k0_chk21 arg15), ∀ a, (k0_off41 arg15) a + S128x128.size a ≤ S8192x128.size a := fun arg15 k0_hw21 => k0_hw21.2

def k0_off42 (k0_t1 : Fin k0_t1_loop.trips) : Fin 2 → Nat :=
  let c8_i32 : BitVec 32 := 8#32
  let c24_i32 : BitVec 32 := 24#32
  let c0_i32_368 : BitVec 32 := 0#32
  let c1_i32 : BitVec 32 := 1#32
  let arg12 : BitVec 32 := Scf.iv c0_i32_368 c1_i32 k0_t1
  let v933 : BitVec 32 := Scalar.muli c24_i32 arg12
  let v934 : BitVec 32 := Scalar.addi c8_i32 v933
  let c16_i32_1516 : BitVec 32 := 16#32
  let v2812 : BitVec 32 := Scalar.addi v934 c16_i32_1516
  let c4_i32_1517 : BitVec 32 := 4#32
  let v2813 : BitVec 32 := Scalar.subi v2812 c4_i32_1517
  let c64_i32_2216 : BitVec 32 := 64#32
  let v4140 : BitVec 32 := Scalar.muli v2813 c64_i32_2216
  let v4141 : Index := Scalar.indexCast v4140
  let c0_2217 : Index := 0#32
  ![v4141.toNat, 0]
def k0_mult87 (k0_t1 : Fin k0_t1_loop.trips) : BitVec 32 :=
  let c8_i32 : BitVec 32 := 8#32
  let c24_i32 : BitVec 32 := 24#32
  let c0_i32_368 : BitVec 32 := 0#32
  let c1_i32 : BitVec 32 := 1#32
  let arg12 : BitVec 32 := Scf.iv c0_i32_368 c1_i32 k0_t1
  let v933 : BitVec 32 := Scalar.muli c24_i32 arg12
  let v934 : BitVec 32 := Scalar.addi c8_i32 v933
  let c17_i32_1578 : BitVec 32 := 17#32
  let v2928 : BitVec 32 := Scalar.addi v934 c17_i32_1578
  let c4_i32_1579 : BitVec 32 := 4#32
  let v2929 : BitVec 32 := Scalar.subi v2928 c4_i32_1579
  let c64_i32_2149 : BitVec 32 := 64#32
  let v4008 : BitVec 32 := Scalar.muli v2929 c64_i32_2149
  let c192_i32_2150 : BitVec 32 := 192#32
  let v4009 : BitVec 32 := Scalar.subi v4008 c192_i32_2150
  v4009
def k0_mult88 (arg15 : BitVec 32) : BitVec 32 :=
  let c0_i32_2212 : BitVec 32 := 0#32
  let v4127 : BitVec 32 := Scalar.maxsi arg15 c0_i32_2212
  v4127

def k0_off43 (arg15 : BitVec 32) : Fin 2 → Nat :=
  let c0_i32_2212 : BitVec 32 := 0#32
  let v4127 : BitVec 32 := Scalar.maxsi arg15 c0_i32_2212
  let v4128 : BitVec 32 := v4127
  let v4129 : Index := Scalar.indexCast v4128
  let c0_2213 : Index := 0#32
  ![v4129.toNat, 0]

def k0_chk22 (arg15 : BitVec 32) : Prop :=
  (64 ∣ (k0_mult88 arg15).toNat) ∧
  (∀ a, (k0_off43 arg15) a + S128x128.size a ≤ S8192x128.size a)
theorem k0_mult88_dvd : ∀ (arg15 : BitVec 32) (k0_hw22 : k0_chk22 arg15), 64 ∣ (k0_mult88 arg15).toNat := fun arg15 k0_hw22 => k0_hw22.1
theorem k0_off43_inb : ∀ (arg15 : BitVec 32) (k0_hw22 : k0_chk22 arg15), ∀ a, (k0_off43 arg15) a + S128x128.size a ≤ S8192x128.size a := fun arg15 k0_hw22 => k0_hw22.2

def k0_off44 (k0_t1 : Fin k0_t1_loop.trips) : Fin 2 → Nat :=
  let c8_i32 : BitVec 32 := 8#32
  let c24_i32 : BitVec 32 := 24#32
  let c0_i32_368 : BitVec 32 := 0#32
  let c1_i32 : BitVec 32 := 1#32
  let arg12 : BitVec 32 := Scf.iv c0_i32_368 c1_i32 k0_t1
  let v933 : BitVec 32 := Scalar.muli c24_i32 arg12
  let v934 : BitVec 32 := Scalar.addi c8_i32 v933
  let c17_i32_1578 : BitVec 32 := 17#32
  let v2928 : BitVec 32 := Scalar.addi v934 c17_i32_1578
  let c4_i32_1579 : BitVec 32 := 4#32
  let v2929 : BitVec 32 := Scalar.subi v2928 c4_i32_1579
  let c64_i32_2216 : BitVec 32 := 64#32
  let v4140 : BitVec 32 := Scalar.muli v2929 c64_i32_2216
  let v4141 : Index := Scalar.indexCast v4140
  let c0_2217 : Index := 0#32
  ![v4141.toNat, 0]
def k0_mult89 (k0_t1 : Fin k0_t1_loop.trips) : BitVec 32 :=
  let c8_i32 : BitVec 32 := 8#32
  let c24_i32 : BitVec 32 := 24#32
  let c0_i32_368 : BitVec 32 := 0#32
  let c1_i32 : BitVec 32 := 1#32
  let arg12 : BitVec 32 := Scf.iv c0_i32_368 c1_i32 k0_t1
  let v933 : BitVec 32 := Scalar.muli c24_i32 arg12
  let v934 : BitVec 32 := Scalar.addi c8_i32 v933
  let c18_i32_1640 : BitVec 32 := 18#32
  let v3044 : BitVec 32 := Scalar.addi v934 c18_i32_1640
  let c4_i32_1641 : BitVec 32 := 4#32
  let v3045 : BitVec 32 := Scalar.subi v3044 c4_i32_1641
  let c64_i32_2158 : BitVec 32 := 64#32
  let v4025 : BitVec 32 := Scalar.muli v3045 c64_i32_2158
  let c192_i32_2159 : BitVec 32 := 192#32
  let v4026 : BitVec 32 := Scalar.subi v4025 c192_i32_2159
  v4026
def k0_mult90 (arg15 : BitVec 32) : BitVec 32 :=
  let c0_i32_2212 : BitVec 32 := 0#32
  let v4127 : BitVec 32 := Scalar.maxsi arg15 c0_i32_2212
  v4127

def k0_off45 (arg15 : BitVec 32) : Fin 2 → Nat :=
  let c0_i32_2212 : BitVec 32 := 0#32
  let v4127 : BitVec 32 := Scalar.maxsi arg15 c0_i32_2212
  let v4128 : BitVec 32 := v4127
  let v4129 : Index := Scalar.indexCast v4128
  let c0_2213 : Index := 0#32
  ![v4129.toNat, 0]

def k0_chk23 (arg15 : BitVec 32) : Prop :=
  (64 ∣ (k0_mult90 arg15).toNat) ∧
  (∀ a, (k0_off45 arg15) a + S128x128.size a ≤ S8192x128.size a)
theorem k0_mult90_dvd : ∀ (arg15 : BitVec 32) (k0_hw23 : k0_chk23 arg15), 64 ∣ (k0_mult90 arg15).toNat := fun arg15 k0_hw23 => k0_hw23.1
theorem k0_off45_inb : ∀ (arg15 : BitVec 32) (k0_hw23 : k0_chk23 arg15), ∀ a, (k0_off45 arg15) a + S128x128.size a ≤ S8192x128.size a := fun arg15 k0_hw23 => k0_hw23.2

def k0_off46 (k0_t1 : Fin k0_t1_loop.trips) : Fin 2 → Nat :=
  let c8_i32 : BitVec 32 := 8#32
  let c24_i32 : BitVec 32 := 24#32
  let c0_i32_368 : BitVec 32 := 0#32
  let c1_i32 : BitVec 32 := 1#32
  let arg12 : BitVec 32 := Scf.iv c0_i32_368 c1_i32 k0_t1
  let v933 : BitVec 32 := Scalar.muli c24_i32 arg12
  let v934 : BitVec 32 := Scalar.addi c8_i32 v933
  let c18_i32_1640 : BitVec 32 := 18#32
  let v3044 : BitVec 32 := Scalar.addi v934 c18_i32_1640
  let c4_i32_1641 : BitVec 32 := 4#32
  let v3045 : BitVec 32 := Scalar.subi v3044 c4_i32_1641
  let c64_i32_2216 : BitVec 32 := 64#32
  let v4140 : BitVec 32 := Scalar.muli v3045 c64_i32_2216
  let v4141 : Index := Scalar.indexCast v4140
  let c0_2217 : Index := 0#32
  ![v4141.toNat, 0]
def k0_mult91 (k0_t1 : Fin k0_t1_loop.trips) : BitVec 32 :=
  let c8_i32 : BitVec 32 := 8#32
  let c24_i32 : BitVec 32 := 24#32
  let c0_i32_368 : BitVec 32 := 0#32
  let c1_i32 : BitVec 32 := 1#32
  let arg12 : BitVec 32 := Scf.iv c0_i32_368 c1_i32 k0_t1
  let v933 : BitVec 32 := Scalar.muli c24_i32 arg12
  let v934 : BitVec 32 := Scalar.addi c8_i32 v933
  let c19_i32_1702 : BitVec 32 := 19#32
  let v3160 : BitVec 32 := Scalar.addi v934 c19_i32_1702
  let c4_i32_1703 : BitVec 32 := 4#32
  let v3161 : BitVec 32 := Scalar.subi v3160 c4_i32_1703
  let c64_i32_2167 : BitVec 32 := 64#32
  let v4042 : BitVec 32 := Scalar.muli v3161 c64_i32_2167
  let c192_i32_2168 : BitVec 32 := 192#32
  let v4043 : BitVec 32 := Scalar.subi v4042 c192_i32_2168
  v4043
def k0_mult92 (arg15 : BitVec 32) : BitVec 32 :=
  let c0_i32_2212 : BitVec 32 := 0#32
  let v4127 : BitVec 32 := Scalar.maxsi arg15 c0_i32_2212
  v4127

def k0_off47 (arg15 : BitVec 32) : Fin 2 → Nat :=
  let c0_i32_2212 : BitVec 32 := 0#32
  let v4127 : BitVec 32 := Scalar.maxsi arg15 c0_i32_2212
  let v4128 : BitVec 32 := v4127
  let v4129 : Index := Scalar.indexCast v4128
  let c0_2213 : Index := 0#32
  ![v4129.toNat, 0]

def k0_chk24 (arg15 : BitVec 32) : Prop :=
  (64 ∣ (k0_mult92 arg15).toNat) ∧
  (∀ a, (k0_off47 arg15) a + S128x128.size a ≤ S8192x128.size a)
theorem k0_mult92_dvd : ∀ (arg15 : BitVec 32) (k0_hw24 : k0_chk24 arg15), 64 ∣ (k0_mult92 arg15).toNat := fun arg15 k0_hw24 => k0_hw24.1
theorem k0_off47_inb : ∀ (arg15 : BitVec 32) (k0_hw24 : k0_chk24 arg15), ∀ a, (k0_off47 arg15) a + S128x128.size a ≤ S8192x128.size a := fun arg15 k0_hw24 => k0_hw24.2

def k0_off48 (k0_t1 : Fin k0_t1_loop.trips) : Fin 2 → Nat :=
  let c8_i32 : BitVec 32 := 8#32
  let c24_i32 : BitVec 32 := 24#32
  let c0_i32_368 : BitVec 32 := 0#32
  let c1_i32 : BitVec 32 := 1#32
  let arg12 : BitVec 32 := Scf.iv c0_i32_368 c1_i32 k0_t1
  let v933 : BitVec 32 := Scalar.muli c24_i32 arg12
  let v934 : BitVec 32 := Scalar.addi c8_i32 v933
  let c19_i32_1702 : BitVec 32 := 19#32
  let v3160 : BitVec 32 := Scalar.addi v934 c19_i32_1702
  let c4_i32_1703 : BitVec 32 := 4#32
  let v3161 : BitVec 32 := Scalar.subi v3160 c4_i32_1703
  let c64_i32_2216 : BitVec 32 := 64#32
  let v4140 : BitVec 32 := Scalar.muli v3161 c64_i32_2216
  let v4141 : Index := Scalar.indexCast v4140
  let c0_2217 : Index := 0#32
  ![v4141.toNat, 0]
def k0_mult93 (k0_t1 : Fin k0_t1_loop.trips) : BitVec 32 :=
  let c8_i32 : BitVec 32 := 8#32
  let c24_i32 : BitVec 32 := 24#32
  let c0_i32_368 : BitVec 32 := 0#32
  let c1_i32 : BitVec 32 := 1#32
  let arg12 : BitVec 32 := Scf.iv c0_i32_368 c1_i32 k0_t1
  let v933 : BitVec 32 := Scalar.muli c24_i32 arg12
  let v934 : BitVec 32 := Scalar.addi c8_i32 v933
  let c20_i32_1764 : BitVec 32 := 20#32
  let v3276 : BitVec 32 := Scalar.addi v934 c20_i32_1764
  let c4_i32_1765 : BitVec 32 := 4#32
  let v3277 : BitVec 32 := Scalar.subi v3276 c4_i32_1765
  let c64_i32_2176 : BitVec 32 := 64#32
  let v4059 : BitVec 32 := Scalar.muli v3277 c64_i32_2176
  let c192_i32_2177 : BitVec 32 := 192#32
  let v4060 : BitVec 32 := Scalar.subi v4059 c192_i32_2177
  v4060
def k0_mult94 (arg15 : BitVec 32) : BitVec 32 :=
  let c0_i32_2212 : BitVec 32 := 0#32
  let v4127 : BitVec 32 := Scalar.maxsi arg15 c0_i32_2212
  v4127

def k0_off49 (arg15 : BitVec 32) : Fin 2 → Nat :=
  let c0_i32_2212 : BitVec 32 := 0#32
  let v4127 : BitVec 32 := Scalar.maxsi arg15 c0_i32_2212
  let v4128 : BitVec 32 := v4127
  let v4129 : Index := Scalar.indexCast v4128
  let c0_2213 : Index := 0#32
  ![v4129.toNat, 0]

def k0_chk25 (arg15 : BitVec 32) : Prop :=
  (64 ∣ (k0_mult94 arg15).toNat) ∧
  (∀ a, (k0_off49 arg15) a + S128x128.size a ≤ S8192x128.size a)
theorem k0_mult94_dvd : ∀ (arg15 : BitVec 32) (k0_hw25 : k0_chk25 arg15), 64 ∣ (k0_mult94 arg15).toNat := fun arg15 k0_hw25 => k0_hw25.1
theorem k0_off49_inb : ∀ (arg15 : BitVec 32) (k0_hw25 : k0_chk25 arg15), ∀ a, (k0_off49 arg15) a + S128x128.size a ≤ S8192x128.size a := fun arg15 k0_hw25 => k0_hw25.2

def k0_off50 (k0_t1 : Fin k0_t1_loop.trips) : Fin 2 → Nat :=
  let c8_i32 : BitVec 32 := 8#32
  let c24_i32 : BitVec 32 := 24#32
  let c0_i32_368 : BitVec 32 := 0#32
  let c1_i32 : BitVec 32 := 1#32
  let arg12 : BitVec 32 := Scf.iv c0_i32_368 c1_i32 k0_t1
  let v933 : BitVec 32 := Scalar.muli c24_i32 arg12
  let v934 : BitVec 32 := Scalar.addi c8_i32 v933
  let c20_i32_1764 : BitVec 32 := 20#32
  let v3276 : BitVec 32 := Scalar.addi v934 c20_i32_1764
  let c4_i32_1765 : BitVec 32 := 4#32
  let v3277 : BitVec 32 := Scalar.subi v3276 c4_i32_1765
  let c64_i32_2216 : BitVec 32 := 64#32
  let v4140 : BitVec 32 := Scalar.muli v3277 c64_i32_2216
  let v4141 : Index := Scalar.indexCast v4140
  let c0_2217 : Index := 0#32
  ![v4141.toNat, 0]
def k0_mult95 (k0_t1 : Fin k0_t1_loop.trips) : BitVec 32 :=
  let c8_i32 : BitVec 32 := 8#32
  let c24_i32 : BitVec 32 := 24#32
  let c0_i32_368 : BitVec 32 := 0#32
  let c1_i32 : BitVec 32 := 1#32
  let arg12 : BitVec 32 := Scf.iv c0_i32_368 c1_i32 k0_t1
  let v933 : BitVec 32 := Scalar.muli c24_i32 arg12
  let v934 : BitVec 32 := Scalar.addi c8_i32 v933
  let c21_i32_1826 : BitVec 32 := 21#32
  let v3392 : BitVec 32 := Scalar.addi v934 c21_i32_1826
  let c4_i32_1827 : BitVec 32 := 4#32
  let v3393 : BitVec 32 := Scalar.subi v3392 c4_i32_1827
  let c64_i32_2185 : BitVec 32 := 64#32
  let v4076 : BitVec 32 := Scalar.muli v3393 c64_i32_2185
  let c192_i32_2186 : BitVec 32 := 192#32
  let v4077 : BitVec 32 := Scalar.subi v4076 c192_i32_2186
  v4077
def k0_mult96 (arg15 : BitVec 32) : BitVec 32 :=
  let c0_i32_2212 : BitVec 32 := 0#32
  let v4127 : BitVec 32 := Scalar.maxsi arg15 c0_i32_2212
  v4127

def k0_off51 (arg15 : BitVec 32) : Fin 2 → Nat :=
  let c0_i32_2212 : BitVec 32 := 0#32
  let v4127 : BitVec 32 := Scalar.maxsi arg15 c0_i32_2212
  let v4128 : BitVec 32 := v4127
  let v4129 : Index := Scalar.indexCast v4128
  let c0_2213 : Index := 0#32
  ![v4129.toNat, 0]

def k0_chk26 (arg15 : BitVec 32) : Prop :=
  (64 ∣ (k0_mult96 arg15).toNat) ∧
  (∀ a, (k0_off51 arg15) a + S128x128.size a ≤ S8192x128.size a)
theorem k0_mult96_dvd : ∀ (arg15 : BitVec 32) (k0_hw26 : k0_chk26 arg15), 64 ∣ (k0_mult96 arg15).toNat := fun arg15 k0_hw26 => k0_hw26.1
theorem k0_off51_inb : ∀ (arg15 : BitVec 32) (k0_hw26 : k0_chk26 arg15), ∀ a, (k0_off51 arg15) a + S128x128.size a ≤ S8192x128.size a := fun arg15 k0_hw26 => k0_hw26.2

def k0_off52 (k0_t1 : Fin k0_t1_loop.trips) : Fin 2 → Nat :=
  let c8_i32 : BitVec 32 := 8#32
  let c24_i32 : BitVec 32 := 24#32
  let c0_i32_368 : BitVec 32 := 0#32
  let c1_i32 : BitVec 32 := 1#32
  let arg12 : BitVec 32 := Scf.iv c0_i32_368 c1_i32 k0_t1
  let v933 : BitVec 32 := Scalar.muli c24_i32 arg12
  let v934 : BitVec 32 := Scalar.addi c8_i32 v933
  let c21_i32_1826 : BitVec 32 := 21#32
  let v3392 : BitVec 32 := Scalar.addi v934 c21_i32_1826
  let c4_i32_1827 : BitVec 32 := 4#32
  let v3393 : BitVec 32 := Scalar.subi v3392 c4_i32_1827
  let c64_i32_2216 : BitVec 32 := 64#32
  let v4140 : BitVec 32 := Scalar.muli v3393 c64_i32_2216
  let v4141 : Index := Scalar.indexCast v4140
  let c0_2217 : Index := 0#32
  ![v4141.toNat, 0]
def k0_mult97 (k0_t1 : Fin k0_t1_loop.trips) : BitVec 32 :=
  let c8_i32 : BitVec 32 := 8#32
  let c24_i32 : BitVec 32 := 24#32
  let c0_i32_368 : BitVec 32 := 0#32
  let c1_i32 : BitVec 32 := 1#32
  let arg12 : BitVec 32 := Scf.iv c0_i32_368 c1_i32 k0_t1
  let v933 : BitVec 32 := Scalar.muli c24_i32 arg12
  let v934 : BitVec 32 := Scalar.addi c8_i32 v933
  let c22_i32_1888 : BitVec 32 := 22#32
  let v3508 : BitVec 32 := Scalar.addi v934 c22_i32_1888
  let c4_i32_1889 : BitVec 32 := 4#32
  let v3509 : BitVec 32 := Scalar.subi v3508 c4_i32_1889
  let c64_i32_2194 : BitVec 32 := 64#32
  let v4093 : BitVec 32 := Scalar.muli v3509 c64_i32_2194
  let c192_i32_2195 : BitVec 32 := 192#32
  let v4094 : BitVec 32 := Scalar.subi v4093 c192_i32_2195
  v4094
def k0_mult98 (arg15 : BitVec 32) : BitVec 32 :=
  let c0_i32_2212 : BitVec 32 := 0#32
  let v4127 : BitVec 32 := Scalar.maxsi arg15 c0_i32_2212
  v4127

def k0_off53 (arg15 : BitVec 32) : Fin 2 → Nat :=
  let c0_i32_2212 : BitVec 32 := 0#32
  let v4127 : BitVec 32 := Scalar.maxsi arg15 c0_i32_2212
  let v4128 : BitVec 32 := v4127
  let v4129 : Index := Scalar.indexCast v4128
  let c0_2213 : Index := 0#32
  ![v4129.toNat, 0]

def k0_chk27 (arg15 : BitVec 32) : Prop :=
  (64 ∣ (k0_mult98 arg15).toNat) ∧
  (∀ a, (k0_off53 arg15) a + S128x128.size a ≤ S8192x128.size a)
theorem k0_mult98_dvd : ∀ (arg15 : BitVec 32) (k0_hw27 : k0_chk27 arg15), 64 ∣ (k0_mult98 arg15).toNat := fun arg15 k0_hw27 => k0_hw27.1
theorem k0_off53_inb : ∀ (arg15 : BitVec 32) (k0_hw27 : k0_chk27 arg15), ∀ a, (k0_off53 arg15) a + S128x128.size a ≤ S8192x128.size a := fun arg15 k0_hw27 => k0_hw27.2

def k0_off54 (k0_t1 : Fin k0_t1_loop.trips) : Fin 2 → Nat :=
  let c8_i32 : BitVec 32 := 8#32
  let c24_i32 : BitVec 32 := 24#32
  let c0_i32_368 : BitVec 32 := 0#32
  let c1_i32 : BitVec 32 := 1#32
  let arg12 : BitVec 32 := Scf.iv c0_i32_368 c1_i32 k0_t1
  let v933 : BitVec 32 := Scalar.muli c24_i32 arg12
  let v934 : BitVec 32 := Scalar.addi c8_i32 v933
  let c22_i32_1888 : BitVec 32 := 22#32
  let v3508 : BitVec 32 := Scalar.addi v934 c22_i32_1888
  let c4_i32_1889 : BitVec 32 := 4#32
  let v3509 : BitVec 32 := Scalar.subi v3508 c4_i32_1889
  let c64_i32_2216 : BitVec 32 := 64#32
  let v4140 : BitVec 32 := Scalar.muli v3509 c64_i32_2216
  let v4141 : Index := Scalar.indexCast v4140
  let c0_2217 : Index := 0#32
  ![v4141.toNat, 0]
def k0_mult99 (k0_t1 : Fin k0_t1_loop.trips) : BitVec 32 :=
  let c8_i32 : BitVec 32 := 8#32
  let c24_i32 : BitVec 32 := 24#32
  let c0_i32_368 : BitVec 32 := 0#32
  let c1_i32 : BitVec 32 := 1#32
  let arg12 : BitVec 32 := Scf.iv c0_i32_368 c1_i32 k0_t1
  let v933 : BitVec 32 := Scalar.muli c24_i32 arg12
  let v934 : BitVec 32 := Scalar.addi c8_i32 v933
  let c23_i32_1950 : BitVec 32 := 23#32
  let v3624 : BitVec 32 := Scalar.addi v934 c23_i32_1950
  let c4_i32_1951 : BitVec 32 := 4#32
  let v3625 : BitVec 32 := Scalar.subi v3624 c4_i32_1951
  let c64_i32_2203 : BitVec 32 := 64#32
  let v4110 : BitVec 32 := Scalar.muli v3625 c64_i32_2203
  let c192_i32_2204 : BitVec 32 := 192#32
  let v4111 : BitVec 32 := Scalar.subi v4110 c192_i32_2204
  v4111
def k0_mult100 (arg15 : BitVec 32) : BitVec 32 :=
  let c0_i32_2212 : BitVec 32 := 0#32
  let v4127 : BitVec 32 := Scalar.maxsi arg15 c0_i32_2212
  v4127

def k0_off55 (arg15 : BitVec 32) : Fin 2 → Nat :=
  let c0_i32_2212 : BitVec 32 := 0#32
  let v4127 : BitVec 32 := Scalar.maxsi arg15 c0_i32_2212
  let v4128 : BitVec 32 := v4127
  let v4129 : Index := Scalar.indexCast v4128
  let c0_2213 : Index := 0#32
  ![v4129.toNat, 0]

def k0_chk28 (arg15 : BitVec 32) : Prop :=
  (64 ∣ (k0_mult100 arg15).toNat) ∧
  (∀ a, (k0_off55 arg15) a + S128x128.size a ≤ S8192x128.size a)
theorem k0_mult100_dvd : ∀ (arg15 : BitVec 32) (k0_hw28 : k0_chk28 arg15), 64 ∣ (k0_mult100 arg15).toNat := fun arg15 k0_hw28 => k0_hw28.1
theorem k0_off55_inb : ∀ (arg15 : BitVec 32) (k0_hw28 : k0_chk28 arg15), ∀ a, (k0_off55 arg15) a + S128x128.size a ≤ S8192x128.size a := fun arg15 k0_hw28 => k0_hw28.2

def k0_off56 (k0_t1 : Fin k0_t1_loop.trips) : Fin 2 → Nat :=
  let c8_i32 : BitVec 32 := 8#32
  let c24_i32 : BitVec 32 := 24#32
  let c0_i32_368 : BitVec 32 := 0#32
  let c1_i32 : BitVec 32 := 1#32
  let arg12 : BitVec 32 := Scf.iv c0_i32_368 c1_i32 k0_t1
  let v933 : BitVec 32 := Scalar.muli c24_i32 arg12
  let v934 : BitVec 32 := Scalar.addi c8_i32 v933
  let c23_i32_1950 : BitVec 32 := 23#32
  let v3624 : BitVec 32 := Scalar.addi v934 c23_i32_1950
  let c4_i32_1951 : BitVec 32 := 4#32
  let v3625 : BitVec 32 := Scalar.subi v3624 c4_i32_1951
  let c64_i32_2216 : BitVec 32 := 64#32
  let v4140 : BitVec 32 := Scalar.muli v3625 c64_i32_2216
  let v4141 : Index := Scalar.indexCast v4140
  let c0_2217 : Index := 0#32
  ![v4141.toNat, 0]
def k0_mult101 (arg12 : BitVec 32) : BitVec 32 :=
  let c0_i32_501 : BitVec 32 := 0#32
  let v933 : BitVec 32 := Scalar.maxsi arg12 c0_i32_501
  v933

def k0_off57 (arg12 : BitVec 32) : Fin 2 → Nat :=
  let c0_i32_501 : BitVec 32 := 0#32
  let v933 : BitVec 32 := Scalar.maxsi arg12 c0_i32_501
  let v934 : BitVec 32 := v933
  let v935 : Index := Scalar.indexCast v934
  let c0_502 : Index := 0#32
  ![v935.toNat, 0]

def k0_chk29 (arg12 : BitVec 32) : Prop :=
  (64 ∣ (k0_mult101 arg12).toNat) ∧
  (∀ a, (k0_off57 arg12) a + S128x128.size a ≤ S8192x128.size a)
theorem k0_mult101_dvd : ∀ (arg12 : BitVec 32) (k0_hw29 : k0_chk29 arg12), 64 ∣ (k0_mult101 arg12).toNat := fun arg12 k0_hw29 => k0_hw29.1
theorem k0_off57_inb : ∀ (arg12 : BitVec 32) (k0_hw29 : k0_chk29 arg12), ∀ a, (k0_off57 arg12) a + S128x128.size a ≤ S8192x128.size a := fun arg12 k0_hw29 => k0_hw29.2

def k0_mult102 (arg12 : BitVec 32) : BitVec 32 :=
  let c0_i32_501 : BitVec 32 := 0#32
  let v933 : BitVec 32 := Scalar.maxsi arg12 c0_i32_501
  v933

def k0_off58 (arg12 : BitVec 32) : Fin 2 → Nat :=
  let c0_i32_501 : BitVec 32 := 0#32
  let v933 : BitVec 32 := Scalar.maxsi arg12 c0_i32_501
  let v934 : BitVec 32 := v933
  let v935 : Index := Scalar.indexCast v934
  let c0_502 : Index := 0#32
  ![v935.toNat, 0]

def k0_chk30 (arg12 : BitVec 32) : Prop :=
  (64 ∣ (k0_mult102 arg12).toNat) ∧
  (∀ a, (k0_off58 arg12) a + S128x128.size a ≤ S8192x128.size a)
theorem k0_mult102_dvd : ∀ (arg12 : BitVec 32) (k0_hw30 : k0_chk30 arg12), 64 ∣ (k0_mult102 arg12).toNat := fun arg12 k0_hw30 => k0_hw30.1
theorem k0_off58_inb : ∀ (arg12 : BitVec 32) (k0_hw30 : k0_chk30 arg12), ∀ a, (k0_off58 arg12) a + S128x128.size a ≤ S8192x128.size a := fun arg12 k0_hw30 => k0_hw30.2

def k0_mult103 (arg12 : BitVec 32) : BitVec 32 :=
  let c0_i32_501 : BitVec 32 := 0#32
  let v933 : BitVec 32 := Scalar.maxsi arg12 c0_i32_501
  v933

def k0_off59 (arg12 : BitVec 32) : Fin 2 → Nat :=
  let c0_i32_501 : BitVec 32 := 0#32
  let v933 : BitVec 32 := Scalar.maxsi arg12 c0_i32_501
  let v934 : BitVec 32 := v933
  let v935 : Index := Scalar.indexCast v934
  let c0_502 : Index := 0#32
  ![v935.toNat, 0]

def k0_chk31 (arg12 : BitVec 32) : Prop :=
  (64 ∣ (k0_mult103 arg12).toNat) ∧
  (∀ a, (k0_off59 arg12) a + S128x128.size a ≤ S8192x128.size a)
theorem k0_mult103_dvd : ∀ (arg12 : BitVec 32) (k0_hw31 : k0_chk31 arg12), 64 ∣ (k0_mult103 arg12).toNat := fun arg12 k0_hw31 => k0_hw31.1
theorem k0_off59_inb : ∀ (arg12 : BitVec 32) (k0_hw31 : k0_chk31 arg12), ∀ a, (k0_off59 arg12) a + S128x128.size a ≤ S8192x128.size a := fun arg12 k0_hw31 => k0_hw31.2

def k0_mult104 (arg12 : BitVec 32) : BitVec 32 :=
  let c0_i32_501 : BitVec 32 := 0#32
  let v933 : BitVec 32 := Scalar.maxsi arg12 c0_i32_501
  v933

def k0_off60 (arg12 : BitVec 32) : Fin 2 → Nat :=
  let c0_i32_501 : BitVec 32 := 0#32
  let v933 : BitVec 32 := Scalar.maxsi arg12 c0_i32_501
  let v934 : BitVec 32 := v933
  let v935 : Index := Scalar.indexCast v934
  let c0_502 : Index := 0#32
  ![v935.toNat, 0]

def k0_chk32 (arg12 : BitVec 32) : Prop :=
  (64 ∣ (k0_mult104 arg12).toNat) ∧
  (∀ a, (k0_off60 arg12) a + S128x128.size a ≤ S8192x128.size a)
theorem k0_mult104_dvd : ∀ (arg12 : BitVec 32) (k0_hw32 : k0_chk32 arg12), 64 ∣ (k0_mult104 arg12).toNat := fun arg12 k0_hw32 => k0_hw32.1
theorem k0_off60_inb : ∀ (arg12 : BitVec 32) (k0_hw32 : k0_chk32 arg12), ∀ a, (k0_off60 arg12) a + S128x128.size a ≤ S8192x128.size a := fun arg12 k0_hw32 => k0_hw32.2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S8192x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8192x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8192x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S8192x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== KernelIdeal.lean ====
variable {F : FTy → Type} [FloatOps F] [Named F]
def κ : String → Option EReal := fun
  | "log2_e" => some (((Real.log 2)⁻¹ : ℝ) : EReal)
  | "masked" => some ⊥
  | "underflow" => some ⊤
  | _ => none
-- ==== ReferenceIdeal.lean ====
abbrev S2x8192x512 : Shape := ⟨3, ![2, 8192, 512]⟩
abbrev S2x8192x8x64 : Shape := ⟨4, ![2, 8192, 8, 64]⟩
abbrev S2x8x8192x64 : Shape := ⟨4, ![2, 8, 8192, 64]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S2x8x8192x8192 : Shape := ⟨4, ![2, 8, 8192, 8192]⟩
abbrev S_ : Shape := ⟨0, ![]⟩
abbrev S16384x512 : Shape := ⟨2, ![16384, 512]⟩

abbrev nBuf : Space → Nat
  | .hbm => 56
  | .vmem => 0
  | .smem => 0
  | _ => 0

abbrev bufTy : (tb : Table) → Fin (tcTables nBuf tb) → BufTy
  | .hbm, ⟨0, _⟩ => ⟨S2x8192x512, .f32⟩
  | .hbm, ⟨1, _⟩ => ⟨S2x8192x512, .f32⟩
  | .hbm, ⟨2, _⟩ => ⟨S2x8192x512, .f32⟩
  | .hbm, ⟨3, _⟩ => ⟨S2x8192x8x64, .f32⟩
  | .hbm, ⟨4, _⟩ => ⟨S2x8x8192x64, .f32⟩
  | .hbm, ⟨5, _⟩ => ⟨S2x8192x8x64, .f32⟩
  | .hbm, ⟨6, _⟩ => ⟨S2x8x8192x64, .f32⟩
  | .hbm, ⟨7, _⟩ => ⟨S2x8192x8x64, .f32⟩
  | .hbm, ⟨8, _⟩ => ⟨S2x8x8192x64, .f32⟩
  | .hbm, ⟨9, _⟩ => ⟨S8192, .i32⟩
  | .hbm, ⟨10, _⟩ => ⟨S1x8192, .i32⟩
  | .hbm, ⟨11, _⟩ => ⟨S8192x1, .i32⟩
  | .hbm, ⟨12, _⟩ => ⟨S8192x8192, .i32⟩
  | .hbm, ⟨13, _⟩ => ⟨S8192x8192, .i32⟩
  | .hbm, ⟨14, _⟩ => ⟨S8192x8192, .i1⟩
  | .hbm, ⟨15, _⟩ => ⟨S2x8x8192x8192, .f32⟩
  | .hbm, ⟨16, _⟩ => ⟨S_, .f32⟩
  | .hbm, ⟨17, _⟩ => ⟨S2x8x8192x8192, .f32⟩
  | .hbm, ⟨18, _⟩ => ⟨S2x8x8192x8192, .f32⟩
  | .hbm, ⟨19, _⟩ => ⟨S2x8x8192x8192, .f32⟩
  | .hbm, ⟨20, _⟩ => ⟨S2x8x8192x8192, .f32⟩
  | .hbm, ⟨21, _⟩ => ⟨S_, .f32⟩
  | .hbm, ⟨22, _⟩ => ⟨S2x8x8192x8192, .f32⟩
  | .hbm, ⟨23, _⟩ => ⟨S2x8x8192x8192, .f32⟩
  | .hbm, ⟨24, _⟩ => ⟨S2x8x8192x8192, .f32⟩
  | .hbm, ⟨25, _⟩ => ⟨S2x8x8192x8192, .f32⟩
  | .hbm, ⟨26, _⟩ => ⟨S2x8x8192x8192, .i1⟩
  | .hbm, ⟨27, _⟩ => ⟨S2x8x8192x8192, .f32⟩
  | .hbm, ⟨28, _⟩ => ⟨S2x8x8192x8192, .f32⟩
  | .hbm, ⟨29, _⟩ => ⟨S2x8x8192x8192, .f32⟩
  | .hbm, ⟨30, _⟩ => ⟨S2x8x8192x8192, .f32⟩
  | .hbm, ⟨31, _⟩ => ⟨S2x8x8192x8192, .f32⟩
  | .hbm, ⟨32, _⟩ => ⟨S2x8x8192x8192, .f32⟩
  | .hbm, ⟨33, _⟩ => ⟨S2x8x8192x8192, .f32⟩
  | .hbm, ⟨34, _⟩ => ⟨S2x8x8192x8192, .f32⟩
  | .hbm, ⟨35, _⟩ => ⟨S2x8x8192x8192, .f32⟩
  | .hbm, ⟨36, _⟩ => ⟨S2x8x8192x8192, .f32⟩
  | .hbm, ⟨37, _⟩ => ⟨S_, .f32⟩
  | .hbm, ⟨38, _⟩ => ⟨S_, .f32⟩
  | .hbm, ⟨39, _⟩ => ⟨S2x8x8192x8192, .i1⟩
  | .hbm, ⟨40, _⟩ => ⟨S2x8x8192x8192, .f32⟩
  | .hbm, ⟨41, _⟩ => ⟨S2x8x8192x8192, .f32⟩
  | .hbm, ⟨42, _⟩ => ⟨S_, .f32⟩
  | .hbm, ⟨43, _⟩ => ⟨S_, .f32⟩
  | .hbm, ⟨44, _⟩ => ⟨S2x8x8192x8192, .f32⟩
  | .hbm, ⟨45, _⟩ => ⟨S2x8x8192x8192, .f32⟩
  | .hbm, ⟨46, _⟩ => ⟨S2x8x8192x8192, .f32⟩
  | .hbm, ⟨47, _⟩ => ⟨S2x8x8192x8192, .f32⟩
  | .hbm, ⟨48, _⟩ => ⟨S_, .f32⟩
  | .hbm, ⟨49, _⟩ => ⟨S_, .f32⟩
  | .hbm, ⟨50, _⟩ => ⟨S2x8x8192x8192, .i1⟩
  | .hbm, ⟨51, _⟩ => ⟨S2x8x8192x8192, .f32⟩
  | .hbm, ⟨52, _⟩ => ⟨S2x8x8192x8192, .f32⟩
  | .hbm, ⟨53, _⟩ => ⟨S2x8x8192x64, .f32⟩
  | .hbm, ⟨54, _⟩ => ⟨S2x8192x8x64, .f32⟩
  | .hbm, ⟨55, _⟩ => ⟨S16384x512, .f32⟩
  | _, _ => ⟨S2x8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_cst : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_call0_v0 : Ref sig .tc := ⟨.hbm, 20, rfl⟩
abbrev main_call0_call0_cst : Ref sig .tc := ⟨.hbm, 21, rfl⟩
abbrev main_call0_call0_v0 : Ref sig .tc := ⟨.hbm, 22, rfl⟩
abbrev main_call0_call0_v1 : Ref sig .tc := ⟨.hbm, 23, rfl⟩
abbrev main_call0_call0_v2 : Ref sig .tc := ⟨.hbm, 24, rfl⟩
abbrev main_call0_call0_v3 : Ref sig .tc := ⟨.hbm, 25, rfl⟩
abbrev main_call0_call0_v4 : Ref sig .tc := ⟨.hbm, 26, rfl⟩
abbrev main_call0_call0_v5 : Ref sig .tc := ⟨.hbm, 27, rfl⟩
abbrev main_call0_call0_v6 : Ref sig .tc := ⟨.hbm, 28, rfl⟩
abbrev main_call0_call0_v7 : Ref sig .tc := ⟨.hbm, 29, rfl⟩
abbrev main_call0_call0_v8 : Ref sig .tc := ⟨.hbm, 30, rfl⟩
abbrev main_call0_call0_v9 : Ref sig .tc := ⟨.hbm, 31, rfl⟩
abbrev main_call0_call0_v10 : Ref sig .tc := ⟨.hbm, 32, rfl⟩
abbrev main_call0_call0_v11 : Ref sig .tc := ⟨.hbm, 33, rfl⟩
abbrev main_call0_v1 : Ref sig .tc := ⟨.hbm, 34, rfl⟩
abbrev main_v16 : Ref sig .tc := ⟨.hbm, 35, rfl⟩
abbrev main_v17 : Ref sig .tc := ⟨.hbm, 36, rfl⟩
abbrev main_cst_0 : Ref sig .tc := ⟨.hbm, 37, rfl⟩
abbrev main_call1_v0 : Ref sig .tc := ⟨.hbm, 38, rfl⟩
abbrev main_call1_v1 : Ref sig .tc := ⟨.hbm, 39, rfl⟩
abbrev main_call1_v2 : Ref sig .tc := ⟨.hbm, 40, rfl⟩
abbrev main_v18 : Ref sig .tc := ⟨.hbm, 41, rfl⟩
abbrev main_call2_cst : Ref sig .tc := ⟨.hbm, 42, rfl⟩
abbrev main_call2_v0 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_cst_1 : Ref sig .tc := ⟨.hbm, 48, rfl⟩
abbrev main_call3_v0 : Ref sig .tc := ⟨.hbm, 49, rfl⟩
abbrev main_call3_v1 : Ref sig .tc := ⟨.hbm, 50, rfl⟩
abbrev main_call3_v2 : Ref sig .tc := ⟨.hbm, 51, rfl⟩
abbrev main_v23 : Ref sig .tc := ⟨.hbm, 52, rfl⟩
abbrev main_v24 : Ref sig .tc := ⟨.hbm, 53, rfl⟩
abbrev main_v25 : Ref sig .tc := ⟨.hbm, 54, rfl⟩
abbrev main_v26 : Ref sig .tc := ⟨.hbm, 55, rfl⟩

abbrev nD : Nat := 1
abbrev τ : Topo := Topo.v7x

variable {F : FTy → Type} [FloatOps F]
-- ==== Kernel2.lean ====
abbrev S2x8192x1024 : Shape := ⟨3, ![2, 8192, 1024]⟩
abbrev S1024 : Shape := ⟨1, ![1024]⟩
abbrev S1024x2560 : Shape := ⟨2, ![1024, 2560]⟩
abbrev S16384x1024 : Shape := ⟨2, ![16384, 1024]⟩
abbrev S1x1024 : Shape := ⟨2, ![1, 1024]⟩
abbrev S16384x512 : Shape := ⟨2, ![16384, 512]⟩
abbrev S1024x1024 : Shape := ⟨2, ![1024, 1024]⟩
abbrev S1024x512 : Shape := ⟨2, ![1024, 512]⟩
abbrev S1024x1 : Shape := ⟨2, ![1024, 1]⟩

abbrev nBuf : Space → Nat
  | .hbm => 10
  | .vmem => 15
  | .smem => 0
  | _ => 0

abbrev bufTy : (tb : Table) → Fin (tcTables nBuf tb) → BufTy
  | .hbm, ⟨0, _⟩ => ⟨S2x8192x1024, .f32⟩
  | .hbm, ⟨1, _⟩ => ⟨S1024, .f32⟩
  | .hbm, ⟨2, _⟩ => ⟨S1024x2560, .f32⟩
  | .hbm, ⟨3, _⟩ => ⟨S16384x1024, .f32⟩
  | .hbm, ⟨4, _⟩ => ⟨S1x1024, .f32⟩
  | .hbm, ⟨5, _⟩ => ⟨S16384x512, .bf16⟩
  | .hbm, ⟨6, _⟩ => ⟨S16384x512, .bf16⟩
  | .hbm, ⟨7, _⟩ => ⟨S16384x512, .bf16⟩
  | .hbm, ⟨8, _⟩ => ⟨S16384x512, .f32⟩
  | .hbm, ⟨9, _⟩ => ⟨S16384x512, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x2560, .f32⟩
  | .local _ .vmem, ⟨4, _⟩ => ⟨S1024x512, .bf16⟩
  | .local _ .vmem, ⟨5, _⟩ => ⟨S1024x512, .bf16⟩
  | .local _ .vmem, ⟨6, _⟩ => ⟨S1024x512, .bf16⟩
  | .local _ .vmem, ⟨7, _⟩ => ⟨S1024x512, .bf16⟩
  | .local _ .vmem, ⟨8, _⟩ => ⟨S1024x512, .bf16⟩
  | .local _ .vmem, ⟨9, _⟩ => ⟨S1024x512, .bf16⟩
  | .local _ .vmem, ⟨10, _⟩ => ⟨S1024x512, .f32⟩
  | .local _ .vmem, ⟨11, _⟩ => ⟨S1024x512, .f32⟩
  | .local _ .vmem, ⟨12, _⟩ => ⟨S1024x512, .f32⟩
  | .local _ .vmem, ⟨13, _⟩ => ⟨S1024x512, .f32⟩
  | .local _ .vmem, ⟨14, _⟩ => ⟨S1024x2560, .bf16⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev main_v2_2 : Ref sig .tc := ⟨.hbm, 7, rfl⟩
abbrev main_v2_3 : Ref sig .tc := ⟨.hbm, 8, rfl⟩
abbrev main_v2_4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2560 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1024x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference2Ideal.lean ====
abbrev S2x8192x1024 : Shape := ⟨3, ![2, 8192, 1024]⟩
abbrev S1024 : Shape := ⟨1, ![1024]⟩
abbrev S1024x2560 : Shape := ⟨2, ![1024, 2560]⟩
abbrev S_ : Shape := ⟨0, ![]⟩
abbrev S2x8192 : Shape := ⟨2, ![2, 8192]⟩
abbrev S2x8192x1 : Shape := ⟨3, ![2, 8192, 1]⟩
abbrev S1x1x1024 : Shape := ⟨3, ![1, 1, 1024]⟩
abbrev S2x8192x2560 : Shape := ⟨3, ![2, 8192, 2560]⟩
abbrev S16384x2560 : Shape := ⟨2, ![16384, 2560]⟩
abbrev S16384x512 : Shape := ⟨2, ![16384, 512]⟩

abbrev nBuf : Space → Nat
  | .hbm => 32
  | .vmem => 0
  | .smem => 0
  | _ => 0

abbrev bufTy : (tb : Table) → Fin (tcTables nBuf tb) → BufTy
  | .hbm, ⟨0, _⟩ => ⟨S2x8192x1024, .f32⟩
  | .hbm, ⟨1, _⟩ => ⟨S1024, .f32⟩
  | .hbm, ⟨2, _⟩ => ⟨S1024x2560, .f32⟩
  | .hbm, ⟨3, _⟩ => ⟨S2x8192x1024, .f32⟩
  | .hbm, ⟨4, _⟩ => ⟨S_, .f32⟩
  | .hbm, ⟨5, _⟩ => ⟨S2x8192, .f32⟩
  | .hbm, ⟨6, _⟩ => ⟨S2x8192x1, .f32⟩
  | .hbm, ⟨7, _⟩ => ⟨S_, .f32⟩
  | .hbm, ⟨8, _⟩ => ⟨S2x8192x1, .f32⟩
  | .hbm, ⟨9, _⟩ => ⟨S2x8192x1, .f32⟩
  | .hbm, ⟨10, _⟩ => ⟨S_, .f32⟩
  | .hbm, ⟨11, _⟩ => ⟨S2x8192x1, .f32⟩
  | .hbm, ⟨12, _⟩ => ⟨S2x8192x1, .f32⟩
  | .hbm, ⟨13, _⟩ => ⟨S2x8192x1, .f32⟩
  | .hbm, ⟨14, _⟩ => ⟨S2x8192x1024, .f32⟩
  | .hbm, ⟨15, _⟩ => ⟨S2x8192x1024, .f32⟩
  | .hbm, ⟨16, _⟩ => ⟨S1x1x1024, .f32⟩
  | .hbm, ⟨17, _⟩ => ⟨S2x8192x1024, .f32⟩
  | .hbm, ⟨18, _⟩ => ⟨S2x8192x1024, .f32⟩
  | .hbm, ⟨19, _⟩ => ⟨S2x8192x2560, .f32⟩
  | .hbm, ⟨20, _⟩ => ⟨S16384x2560, .f32⟩
  | .hbm, ⟨21, _⟩ => ⟨S16384x512, .f32⟩
  | .hbm, ⟨22, _⟩ => ⟨S16384x512, .f32⟩
  | .hbm, ⟨23, _⟩ => ⟨S16384x512, .f32⟩
  | .hbm, ⟨24, _⟩ => ⟨S16384x512, .f32⟩
  | .hbm, ⟨25, _⟩ => ⟨S16384x512, .f32⟩
  | .hbm, ⟨26, _⟩ => ⟨S_, .f32⟩
  | .hbm, ⟨27, _⟩ => ⟨S16384x512, .f32⟩
  | .hbm, ⟨28, _⟩ => ⟨S16384x512, .f32⟩
  | .hbm, ⟨29, _⟩ => ⟨S16384x512, .bf16⟩
  | .hbm, ⟨30, _⟩ => ⟨S16384x512, .bf16⟩
  | .hbm, ⟨31, _⟩ => ⟨S16384x512, .bf16⟩
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_cst_2 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩

abbrev nD : Nat := 1
abbrev τ : Topo := Topo.v7x

variable {F : FTy → Type} [FloatOps F]
-- ==== Kernel3.lean ====
abbrev S2x8192x512 : Shape := ⟨3, ![2, 8192, 512]⟩
abbrev S2x8192x1024 : Shape := ⟨3, ![2, 8192, 1024]⟩
abbrev S512 : Shape := ⟨1, ![512]⟩
abbrev S1024x1024 : Shape := ⟨2, ![1024, 1024]⟩
abbrev S1024 : Shape := ⟨1, ![1024]⟩
abbrev S1024x4 : Shape := ⟨2, ![1024, 4]⟩
abbrev S4 : Shape := ⟨1, ![4]⟩
abbrev S1024x32 : Shape := ⟨2, ![1024, 32]⟩
abbrev S32 : Shape := ⟨1, ![32]⟩
abbrev S16384x512 : Shape := ⟨2, ![16384, 512]⟩
abbrev S16384x128 : Shape := ⟨2, ![16384, 128]⟩
abbrev S4x1024 : Shape := ⟨2, ![4, 1024]⟩
abbrev S_ : Shape := ⟨0, ![]⟩
abbrev S32x1024 : Shape := ⟨2, ![32, 1024]⟩
abbrev S8x1024 : Shape := ⟨2, ![8, 1024]⟩
abbrev S48x1024 : Shape := ⟨2, ![48, 1024]⟩
abbrev S8 : Shape := ⟨1, ![8]⟩
abbrev S48 : Shape := ⟨1, ![48]⟩
abbrev S96x1024 : Shape := ⟨2, ![96, 1024]⟩
abbrev S48x1 : Shape := ⟨2, ![48, 1]⟩
abbrev S16384x1024 : Shape := ⟨2, ![16384, 1024]⟩
abbrev S1x512 : Shape := ⟨2, ![1, 512]⟩
abbrev S1x1024 : Shape := ⟨2, ![1, 1024]⟩
abbrev S8x16384 : Shape := ⟨2, ![8, 16384]⟩
abbrev S32x128 : Shape := ⟨2, ![32, 128]⟩
abbrev S1024x512 : Shape := ⟨2, ![1024, 512]⟩
abbrev S1024x128 : Shape := ⟨2, ![1024, 128]⟩
abbrev S512x512 : Shape := ⟨2, ![512, 512]⟩
abbrev S1024x1 : Shape := ⟨2, ![1024, 1]⟩
abbrev S512x1024 : Shape := ⟨2, ![512, 1024]⟩
abbrev S96x512 : Shape := ⟨2, ![96, 512]⟩
abbrev S48x512 : Shape := ⟨2, ![48, 512]⟩
abbrev S8x512 : Shape := ⟨2, ![8, 512]⟩
abbrev S32x512 : Shape := ⟨2, ![32, 512]⟩
abbrev S64x512 : Shape := ⟨2, ![64, 512]⟩
abbrev S32x1 : Shape := ⟨2, ![32, 1]⟩
abbrev S32x32 : Shape := ⟨2, ![32, 32]⟩
abbrev S4x512 : Shape := ⟨2, ![4, 512]⟩
abbrev S124x512 : Shape := ⟨2, ![124, 512]⟩
abbrev S128x512 : Shape := ⟨2, ![128, 512]⟩
abbrev S512x128 : Shape := ⟨2, ![512, 128]⟩

abbrev nBuf : Space → Nat
  | .hbm => 44
  | .vmem => 30
  | .smem => 0
  | _ => 0

abbrev bufTy : (tb : Table) → Fin (tcTables nBuf tb) → BufTy
  | .hbm, ⟨0, _⟩ => ⟨S2x8192x512, .f32⟩
  | .hbm, ⟨1, _⟩ => ⟨S2x8192x512, .f32⟩
  | .hbm, ⟨2, _⟩ => ⟨S2x8192x1024, .f32⟩
  | .hbm, ⟨3, _⟩ => ⟨S512, .f32⟩
  | .hbm, ⟨4, _⟩ => ⟨S512, .f32⟩
  | .hbm, ⟨5, _⟩ => ⟨S1024x1024, .f32⟩
  | .hbm, ⟨6, _⟩ => ⟨S1024, .f32⟩
  | .hbm, ⟨7, _⟩ => ⟨S1024x4, .f32⟩
  | .hbm, ⟨8, _⟩ => ⟨S4, .f32⟩
  | .hbm, ⟨9, _⟩ => ⟨S1024x32, .f32⟩
  | .hbm, ⟨10, _⟩ => ⟨S32, .f32⟩
  | .hbm, ⟨11, _⟩ => ⟨S16384x512, .f32⟩
  | .hbm, ⟨12, _⟩ => ⟨S16384x128, .f32⟩
  | .hbm, ⟨13, _⟩ => ⟨S16384x128, .f32⟩
  | .hbm, ⟨14, _⟩ => ⟨S16384x128, .f32⟩
  | .hbm, ⟨15, _⟩ => ⟨S16384x128, .f32⟩
  | .hbm, ⟨16, _⟩ => ⟨S4x1024, .f32⟩
  | .hbm, ⟨17, _⟩ => ⟨S_, .f32⟩
  | .hbm, ⟨18, _⟩ => ⟨S4x1024, .f32⟩
  | .hbm, ⟨19, _⟩ => ⟨S32x1024, .f32⟩
  | .hbm, ⟨20, _⟩ => ⟨S_, .f32⟩
  | .hbm, ⟨21, _⟩ => ⟨S8x1024, .f32⟩
  | .hbm, ⟨22, _⟩ => ⟨S48x1024, .f32⟩
  | .hbm, ⟨23, _⟩ => ⟨S_, .f32⟩
  | .hbm, ⟨24, _⟩ => ⟨S4, .f32⟩
  | .hbm, ⟨25, _⟩ => ⟨S_, .f32⟩
  | .hbm, ⟨26, _⟩ => ⟨S8, .f32⟩
  | .hbm, ⟨27, _⟩ => ⟨S48, .f32⟩
  | .hbm, ⟨28, _⟩ => ⟨S48x1024, .bf16⟩
  | .hbm, ⟨29, _⟩ => ⟨S48x1024, .f32⟩
  | .hbm, ⟨30, _⟩ => ⟨S48x1024, .f32⟩
  | .hbm, ⟨31, _⟩ => ⟨S48x1024, .bf16⟩
  | .hbm, ⟨32, _⟩ => ⟨S96x1024, .bf16⟩
  | .hbm, ⟨33, _⟩ => ⟨S48x1, .f32⟩
  | .hbm, ⟨34, _⟩ => ⟨S16384x512, .f32⟩
  | .hbm, ⟨35, _⟩ => ⟨S16384x1024, .f32⟩
  | .hbm, ⟨36, _⟩ => ⟨S1x512, .f32⟩
  | .hbm, ⟨37, _⟩ => ⟨S1x512, .f32⟩
  | .hbm, ⟨38, _⟩ => ⟨S1x1024, .f32⟩
  | .hbm, ⟨39, _⟩ => ⟨S16384x1024, .f32⟩
  | .hbm, ⟨40, _⟩ => ⟨S16384x1024, .bf16⟩
  | .hbm, ⟨41, _⟩ => ⟨S8x16384, .i32⟩
  | .hbm, ⟨42, _⟩ => ⟨S16384x128, .f32⟩
  | .hbm, ⟨43, _⟩ => ⟨S32x128, .i32⟩
  | .local _ .vmem, ⟨0, _⟩ => ⟨S1024x512, .f32⟩
  | .local _ .vmem, ⟨1, _⟩ => ⟨S1024x512, .f32⟩
  | .local _ .vmem, ⟨2, _⟩ => ⟨S1024x128, .f32⟩
  | .local _ .vmem, ⟨3, _⟩ => ⟨S1024x128, .f32⟩
  | .local _ .vmem, ⟨4, _⟩ => ⟨S1024x128, .f32⟩
  | .local _ .vmem, ⟨5, _⟩ => ⟨S1024x128, .f32⟩
  | .local _ .vmem, ⟨6, _⟩ => ⟨S1024x128, .f32⟩
  | .local _ .vmem, ⟨7, _⟩ => ⟨S1024x128, .f32⟩
  | .local _ .vmem, ⟨8, _⟩ => ⟨S1024x128, .f32⟩
  | .local _ .vmem, ⟨9, _⟩ => ⟨S1024x128, .f32⟩
  | .local _ .vmem, ⟨10, _⟩ => ⟨S1024x1024, .f32⟩
  | .local _ .vmem, ⟨11, _⟩ => ⟨S1024x1024, .f32⟩
  | .local _ .vmem, ⟨12, _⟩ => ⟨S1x512, .f32⟩
  | .local _ .vmem, ⟨13, _⟩ => ⟨S1x512, .f32⟩
  | .local _ .vmem, ⟨14, _⟩ => ⟨S1024x1024, .f32⟩
  | .local _ .vmem, ⟨15, _⟩ => ⟨S1x1024, .f32⟩
  | .local _ .vmem, ⟨16, _⟩ => ⟨S96x1024, .bf16⟩
  | .local _ .vmem, ⟨17, _⟩ => ⟨S48x1, .f32⟩
  | .local _ .vmem, ⟨18, _⟩ => ⟨S1024x1024, .f32⟩
  | .local _ .vmem, ⟨19, _⟩ => ⟨S1024x1024, .f32⟩
  | .local _ .vmem, ⟨20, _⟩ => ⟨S1024x1024, .bf16⟩
  | .local _ .vmem, ⟨21, _⟩ => ⟨S1024x1024, .bf16⟩
  | .local _ .vmem, ⟨22, _⟩ => ⟨S8x1024, .i32⟩
  | .local _ .vmem, ⟨23, _⟩ => ⟨S8x1024, .i32⟩
  | .local _ .vmem, ⟨24, _⟩ => ⟨S1024x128, .f32⟩
  | .local _ .vmem, ⟨25, _⟩ => ⟨S1024x128, .f32⟩
  | .local _ .vmem, ⟨26, _⟩ => ⟨S32x128, .i32⟩
  | .local _ .vmem, ⟨27, _⟩ => ⟨S512x512, .bf16⟩
  | .local _ .vmem, ⟨28, _⟩ => ⟨S1024x1024, .f32⟩
  | .local _ .vmem, ⟨29, _⟩ => ⟨S1024x1024, .bf16⟩
  | _, _ => ⟨S2x8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_cst : Ref sig .tc := ⟨.hbm, 17, rfl⟩
abbrev main_v6 : Ref sig .tc := ⟨.hbm, 18, rfl⟩
abbrev main_v7 : Ref sig .tc := ⟨.hbm, 19, rfl⟩
abbrev main_cst_0 : Ref sig .tc := ⟨.hbm, 20, rfl⟩
abbrev main_v8 : Ref sig .tc := ⟨.hbm, 21, rfl⟩
abbrev main_v9 : Ref sig .tc := ⟨.hbm, 22, rfl⟩
abbrev main_cst_1 : Ref sig .tc := ⟨.hbm, 23, rfl⟩
abbrev main_v10 : Ref sig .tc := ⟨.hbm, 24, rfl⟩
abbrev main_cst_2 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24_0 : Ref sig .tc := ⟨.hbm, 39, rfl⟩
abbrev main_v24_1 : Ref sig .tc := ⟨.hbm, 40, rfl⟩
abbrev main_v24_2 : Ref sig .tc := ⟨.hbm, 41, rfl⟩
abbrev main_v24_3 : Ref sig .tc := ⟨.hbm, 42, rfl⟩
abbrev main_v24_4 : Ref sig .tc := ⟨.hbm, 43, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg13_1 : Ref sig .tc := ⟨.vmem, 21, rfl⟩
abbrev cc0_stg14_0 : Ref sig .tc := ⟨.vmem, 22, rfl⟩
abbrev cc0_stg14_1 : Ref sig .tc := ⟨.vmem, 23, rfl⟩
abbrev cc0_stg15_0 : Ref sig .tc := ⟨.vmem, 24, rfl⟩
abbrev cc0_stg15_1 : Ref sig .tc := ⟨.vmem, 25, rfl⟩
abbrev cc0_stg16_0 : Ref sig .tc := ⟨.vmem, 26, rfl⟩
abbrev cc0_scratch0 : Ref sig .tc := ⟨.vmem, 27, rfl⟩
abbrev cc0_scratch1 : Ref sig .tc := ⟨.vmem, 28, rfl⟩
abbrev cc0_scratch2 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem12_0 : DmaSem sig := 18
abbrev cc0_sem12_1 : DmaSem sig := 19
abbrev cc0_sem13_0 : DmaSem sig := 20
abbrev cc0_sem13_1 : DmaSem sig := 21
abbrev cc0_sem14_0 : DmaSem sig := 22
abbrev cc0_sem14_1 : DmaSem sig := 23
abbrev cc0_sem15_0 : DmaSem sig := 24
abbrev cc0_sem15_1 : DmaSem sig := 25
abbrev cc0_sem16_0 : DmaSem sig := 26

abbrev nD : Nat := 1
abbrev τ : Topo := Topo.v7x

variable {F : FTy → Type} [FloatOps F]

abbrev grid0 : Pipeline.Grid := ⟨1, ![17], ![false]⟩

def cc0_transform_0 (i : grid0.Coords) : Fin 2 → Nat :=
  let arg0 : BitVec 32 := BitVec.ofNat 32 (i 0).val
  let c15_i32 : BitVec 32 := 15#32
  let v0 : BitVec 32 := Scalar.minsi arg0 c15_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c15_i32 : BitVec 32 := 15#32
  let v0 : BitVec 32 := Scalar.minsi arg0 c15_i32
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c15_i32 : BitVec 32 := 15#32
  let v0 : BitVec 32 := Scalar.minsi arg0 c15_i32
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c15_i32 : BitVec 32 := 15#32
  let v0 : BitVec 32 := Scalar.minsi arg0 c15_i32
  let c0_i32 : BitVec 32 := 0#32
  let c0_i32_0 : BitVec 32 := 0#32
  ![v0.toNat, c0_i32.toNat]

def cc0_transform_4 (i : grid0.Coords) : Fin 2 → Nat :=
  let arg0 : BitVec 32 := BitVec.ofNat 32 (i 0).val
  let c15_i32 : BitVec 32 := 15#32
  let v0 : BitVec 32 := Scalar.minsi arg0 c15_i32
  let c0_i32 : BitVec 32 := 0#32
  let c0_i32_0 : BitVec 32 := 0#32
  ![v0.toNat, c0_i32.toNat]

def cc0_transform_5 (i : grid0.Coords) : Fin 2 → Nat :=
  let arg0 : BitVec 32 := BitVec.ofNat 32 (i 0).val
  let c15_i32 : BitVec 32 := 15#32
  let v0 : BitVec 32 := Scalar.minsi arg0 c15_i32
  let c0_i32 : BitVec 32 := 0#32
  let c0_i32_0 : BitVec 32 := 0#32
  ![v0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c15_i32 : BitVec 32 := 15#32
  let v0 : BitVec 32 := Scalar.minsi arg0 c15_i32
  let c0_i32 : BitVec 32 := 0#32
  let c0_i32_0 : BitVec 32 := 0#32
  ![v0.toNat, c0_i32.toNat]

def cc0_transform_13 (i : grid0.Coords) : Fin 2 → Nat :=
  let arg0 : BitVec 32 := BitVec.ofNat 32 (i 0).val
  let c15_i32 : BitVec 32 := 15#32
  let v0 : BitVec 32 := Scalar.minsi arg0 c15_i32
  let c0_i32 : BitVec 32 := 0#32
  let c0_i32_0 : BitVec 32 := 0#32
  ![v0.toNat, c0_i32.toNat]

def cc0_transform_14 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![c0_i32_0.toNat, v1.toNat]

def cc0_transform_15 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S96x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S48x1 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S1024x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1024x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S8x1024 .i32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S1024x128 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 1 → Memref sig .tc .vmem S32x128 .i32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]
-- ==== Reference3Ideal.lean ====
abbrev S2x8192x512 : Shape := ⟨3, ![2, 8192, 512]⟩
abbrev S2x8192x1024 : Shape := ⟨3, ![2, 8192, 1024]⟩
abbrev S512 : Shape := ⟨1, ![512]⟩
abbrev S1024x1024 : Shape := ⟨2, ![1024, 1024]⟩
abbrev S1024 : Shape := ⟨1, ![1024]⟩
abbrev S1024x4 : Shape := ⟨2, ![1024, 4]⟩
abbrev S4 : Shape := ⟨1, ![4]⟩
abbrev S1024x32 : Shape := ⟨2, ![1024, 32]⟩
abbrev S32 : Shape := ⟨1, ![32]⟩
abbrev S_ : Shape := ⟨0, ![]⟩
abbrev S2x8192 : Shape := ⟨2, ![2, 8192]⟩
abbrev S2x8192x1 : Shape := ⟨3, ![2, 8192, 1]⟩
abbrev S1x1x512 : Shape := ⟨3, ![1, 1, 512]⟩
abbrev S1x1x1024 : Shape := ⟨3, ![1, 1, 1024]⟩
abbrev S16384x1024 : Shape := ⟨2, ![16384, 1024]⟩

abbrev nBuf : Space → Nat
  | .hbm => 65
  | .vmem => 0
  | .smem => 0
  | _ => 0

abbrev bufTy : (tb : Table) → Fin (tcTables nBuf tb) → BufTy
  | .hbm, ⟨0, _⟩ => ⟨S2x8192x512, .f32⟩
  | .hbm, ⟨1, _⟩ => ⟨S2x8192x512, .f32⟩
  | .hbm, ⟨2, _⟩ => ⟨S2x8192x1024, .f32⟩
  | .hbm, ⟨3, _⟩ => ⟨S512, .f32⟩
  | .hbm, ⟨4, _⟩ => ⟨S512, .f32⟩
  | .hbm, ⟨5, _⟩ => ⟨S1024x1024, .f32⟩
  | .hbm, ⟨6, _⟩ => ⟨S1024, .f32⟩
  | .hbm, ⟨7, _⟩ => ⟨S1024x4, .f32⟩
  | .hbm, ⟨8, _⟩ => ⟨S4, .f32⟩
  | .hbm, ⟨9, _⟩ => ⟨S1024x32, .f32⟩
  | .hbm, ⟨10, _⟩ => ⟨S32, .f32⟩
  | .hbm, ⟨11, _⟩ => ⟨S2x8192x512, .f32⟩
  | .hbm, ⟨12, _⟩ => ⟨S_, .f32⟩
  | .hbm, ⟨13, _⟩ => ⟨S2x8192, .f32⟩
  | .hbm, ⟨14, _⟩ => ⟨S2x8192x1, .f32⟩
  | .hbm, ⟨15, _⟩ => ⟨S_, .f32⟩
  | .hbm, ⟨16, _⟩ => ⟨S2x8192x1, .f32⟩
  | .hbm, ⟨17, _⟩ => ⟨S2x8192x1, .f32⟩
  | .hbm, ⟨18, _⟩ => ⟨S_, .f32⟩
  | .hbm, ⟨19, _⟩ => ⟨S2x8192x1, .f32⟩
  | .hbm, ⟨20, _⟩ => ⟨S2x8192x1, .f32⟩
  | .hbm, ⟨21, _⟩ => ⟨S2x8192x1, .f32⟩
  | .hbm, ⟨22, _⟩ => ⟨S2x8192x512, .f32⟩
  | .hbm, ⟨23, _⟩ => ⟨S2x8192x512, .f32⟩
  | .hbm, ⟨24, _⟩ => ⟨S1x1x512, .f32⟩
  | .hbm, ⟨25, _⟩ => ⟨S2x8192x512, .f32⟩
  | .hbm, ⟨26, _⟩ => ⟨S2x8192x512, .f32⟩
  | .hbm, ⟨27, _⟩ => ⟨S2x8192x512, .f32⟩
  | .hbm, ⟨28, _⟩ => ⟨S_, .f32⟩
  | .hbm, ⟨29, _⟩ => ⟨S2x8192, .f32⟩
  | .hbm, ⟨30, _⟩ => ⟨S2x8192x1, .f32⟩
  | .hbm, ⟨31, _⟩ => ⟨S_, .f32⟩
  | .hbm, ⟨32, _⟩ => ⟨S2x8192x1, .f32⟩
  | .hbm, ⟨33, _⟩ => ⟨S2x8192x1, .f32⟩
  | .hbm, ⟨34, _⟩ => ⟨S_, .f32⟩
  | .hbm, ⟨35, _⟩ => ⟨S2x8192x1, .f32⟩
  | .hbm, ⟨36, _⟩ => ⟨S2x8192x1, .f32⟩
  | .hbm, ⟨37, _⟩ => ⟨S2x8192x1, .f32⟩
  | .hbm, ⟨38, _⟩ => ⟨S2x8192x512, .f32⟩
  | .hbm, ⟨39, _⟩ => ⟨S2x8192x512, .f32⟩
  | .hbm, ⟨40, _⟩ => ⟨S1x1x512, .f32⟩
  | .hbm, ⟨41, _⟩ => ⟨S2x8192x512, .f32⟩
  | .hbm, ⟨42, _⟩ => ⟨S2x8192x512, .f32⟩
  | .hbm, ⟨43, _⟩ => ⟨S2x8192x1024, .f32⟩
  | .hbm, ⟨44, _⟩ => ⟨S2x8192x1024, .f32⟩
  | .hbm, ⟨45, _⟩ => ⟨S2x8192x1024, .f32⟩
  | .hbm, ⟨46, _⟩ => ⟨S2x8192x1024, .f32⟩
  | .hbm, ⟨47, _⟩ => ⟨S_, .f32⟩
  | .hbm, ⟨48, _⟩ => ⟨S2x8192, .f32⟩
  | .hbm, ⟨49, _⟩ => ⟨S2x8192x1, .f32⟩
  | .hbm, ⟨50, _⟩ => ⟨S_, .f32⟩
  | .hbm, ⟨51, _⟩ => ⟨S2x8192x1, .f32⟩
  | .hbm, ⟨52, _⟩ => ⟨S2x8192x1, .f32⟩
  | .hbm, ⟨53, _⟩ => ⟨S_, .f32⟩
  | .hbm, ⟨54, _⟩ => ⟨S2x8192x1, .f32⟩
  | .hbm, ⟨55, _⟩ => ⟨S2x8192x1, .f32⟩
  | .hbm, ⟨56, _⟩ => ⟨S2x8192x1, .f32⟩
  | .hbm, ⟨57, _⟩ => ⟨S2x8192x1024, .f32⟩
  | .hbm, ⟨58, _⟩ => ⟨S2x8192x1024, .f32⟩
  | .hbm, ⟨59, _⟩ => ⟨S1x1x1024, .f32⟩
  | .hbm, ⟨60, _⟩ => ⟨S2x8192x1024, .f32⟩
  | .hbm, ⟨61, _⟩ => ⟨S2x8192x1024, .f32⟩
  | .hbm, ⟨62, _⟩ => ⟨S16384x1024, .f32⟩
  | .hbm, ⟨63, _⟩ => ⟨S16384x1024, .f32⟩
  | .hbm, ⟨64, _⟩ => ⟨S16384x1024, .bf16⟩
  | _, _ => ⟨S2x8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_cst : Ref sig .tc := ⟨.hbm, 12, rfl⟩
abbrev main_v1 : Ref sig .tc := ⟨.hbm, 13, rfl⟩
abbrev main_v2 : Ref sig .tc := ⟨.hbm, 14, rfl⟩
abbrev main_cst_0 : Ref sig .tc := ⟨.hbm, 15, rfl⟩
abbrev main_v3 : Ref sig .tc := ⟨.hbm, 16, rfl⟩
abbrev main_v4 : Ref sig .tc := ⟨.hbm, 17, rfl⟩
abbrev main_cst_1 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_2 : Ref sig .tc := ⟨.hbm, 28, rfl⟩
abbrev main_v14 : Ref sig .tc := ⟨.hbm, 29, rfl⟩
abbrev main_v15 : Ref sig .tc := ⟨.hbm, 30, rfl⟩
abbrev main_cst_3 : Ref sig .tc := ⟨.hbm, 31, rfl⟩
abbrev main_v16 : Ref sig .tc := ⟨.hbm, 32, rfl⟩
abbrev main_v17 : Ref sig .tc := ⟨.hbm, 33, rfl⟩
abbrev main_cst_4 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_cst_5 : Ref sig .tc := ⟨.hbm, 47, rfl⟩
abbrev main_v30 : Ref sig .tc := ⟨.hbm, 48, rfl⟩
abbrev main_v31 : Ref sig .tc := ⟨.hbm, 49, rfl⟩
abbrev main_cst_6 : Ref sig .tc := ⟨.hbm, 50, rfl⟩
abbrev main_v32 : Ref sig .tc := ⟨.hbm, 51, rfl⟩
abbrev main_v33 : Ref sig .tc := ⟨.hbm, 52, rfl⟩
abbrev main_cst_7 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩

abbrev nD : Nat := 1
abbrev τ : Topo := Topo.v7x

variable {F : FTy → Type} [FloatOps F]
-- ==== Proof.Ref.lean ====
/- The plain mathematics as a program of the host: it leaves its arguments as they were and every counter at zero. -/
module

public import proofs.«01_k».proof.Proof.Gen.ReferenceIdeal
public import proofs.«01_k».proof.Proof.Gen.ReferenceIdeal.Run
public import proofs.«01_k».proof.Proof.Gen.ReferenceIdeal.Read
public import Idealize.ShloMosaic.Lib.Quiescent

@[expose] public section

noncomputable section

namespace Cert.Proof.Ref

open Idealize.ShloMosaic Idealize.SL.Sem Cert.ReferenceIdeal

variable {F : FTy → Type} [FloatOps F]

/-- The program keeps its three arguments and ends with all counters at zero. -/
theorem keeps (m : (ℓ : Loc nD τ sig) → Buf (Elt F) ℓ) (ρ : Dev nD → PrngReg) :
    θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run (defs (F := F)) _ _).mono (fun r h => ⟨fun c => (h c).2, sem_eq_zero_of_no_sems (by decide) r.2⟩)
    (Cert.ReferenceIdeal.Value.run m ρ)

end Cert.Proof.Ref

end
-- ==== Proof.Stages.lean ====
/- The attention kernel's body, written a second time as a short program: one function for each of the
   kernel's stages (scores, exponents, output, the loop over older keys, the store), then the
   order in which the body runs them. `Match.lean` shows that the printed body is this program. -/
module

public import proofs.«01_k».proof.Proof.Gen.KernelIdeal

@[expose] public section

noncomputable section

namespace Cert.Proof.Attn

open Cert.KernelIdeal Cert.KernelIdeal.Gen
open Idealize.ShloMosaic Idealize.ShloMosaic.TcCoe
open Idealize.SL.Sem

variable {F : FTy → Type} [FloatOps F] [Named F]

/-- The programs of the kernel's body. -/
abbrev P (F : FTy → Type) (α : Type) : Type 1 := Prog (TpuEff nD τ sig (Elt F) (Λ₀ F) .tc) α

/-- The ten buffers that the body is called with: queries, keys, values, result; the triangle of ones,
    scores, exponents, window totals; the running sums and the running carries. -/
structure Bufs where
  q : Memref sig .tc .vmem S8192x128 .bf16
  hq : q.IsWhole
  k : Memref sig .tc .vmem S8192x128 .bf16
  hk : k.IsWhole
  v : Memref sig .tc .vmem S8192x128 .bf16
  hv : v.IsWhole
  o : Memref sig .tc .vmem S8192x128 .f32
  ho : o.IsWhole
  tri : Memref sig .tc .vmem S128x256 .bf16
  htri : tri.IsWhole
  z : Memref sig .tc .vmem S3x128x256 .f32
  hz : z.IsWhole
  arg : Memref sig .tc .vmem S3x128x256 .f32
  harg : arg.IsWhole
  tot : Memref sig .tc .vmem S3x128x128 .f32
  htot : tot.IsWhole
  acc : Memref sig .tc .vmem S24x128x128 .f32
  hacc : acc.IsWhole
  car : Memref sig .tc .vmem S24x128x128 .f32
  hcar : car.IsWhole

/-! ## The values of the stages -/

/-- The lane numbers. -/
def lanes : IVec S1x128 32 := iota .tc S1x128 32 [1] iota_S1x128_d1_w32

/-- Key position less query position inside a block, once for each of the two heads. -/
def relPos : IVec S128x128 32 :=
  concatenate S128x128 0
    [⟨S64x128, subi (iota .tc S64x128 32 [1] iota_S64x128_d1_w32) (iota .tc S64x128 32 [0] iota_S64x128_d0_w32)⟩,
     ⟨S64x128, subi (iota .tc S64x128 32 [1] iota_S64x128_d1_w32) (iota .tc S64x128 32 [0] iota_S64x128_d0_w32)⟩]
    concatenates_S64x128_S64x128_S128x128_d0

/-- The strict lower triangle of ones beside a square of ones. -/
def triVal : FVec F S128x256 .bf16 :=
  truncf .bf16
    (select (cmpi .sge (iota .tc S128x256 32 [1] iota_S128x256_d1_w32) (broadcast S128x256 128#32))
      (broadcast S128x256 (Scalar.ofBits .f32 0x3F800000#32))
      (select (cmpi .sgt (iota .tc S128x256 32 [0] iota_S128x256_d0_w32) (iota .tc S128x256 32 [1] iota_S128x256_d1_w32))
        (broadcast S128x256 (Scalar.ofBits .f32 0x3F800000#32)) (broadcast S128x256 (Scalar.ofBits .f32 0x00000000#32))))
    bitsLt_bf16_f32

/-- The lanes from `lo` to `hi` of sixty-four query rows, the other lanes zero. -/
def headRows (v0 : IVec S1x128 32) (lo hi : BitVec 32) (q : FVec F S64x128 .bf16) : FVec F S64x128 .bf16 :=
  select
    (broadcastTo S64x128
      (shapeCast S1x128 (andi (cmpi .sge v0 (broadcast S1x128 lo)) (cmpi .slt v0 (broadcast S1x128 hi))) shapeCasts_S1x128_S1x128)
      broadcasts_S1x128_S64x128)
    q (broadcast S64x128 (Scalar.ofBits .bf16 0x0000#16))

/-- Sixty-four query rows stacked twice, each copy with one head's lanes only. -/
def stackRows (v0 : IVec S1x128 32) (q : FVec F S64x128 .bf16) : FVec F S128x128 .bf16 :=
  concatenate S128x128 0 [⟨S64x128, headRows v0 0#32 64#32 q⟩, ⟨S64x128, headRows v0 64#32 128#32 q⟩]
    concatenates_S64x128_S64x128_S128x128_d0

/-- The base-two scores of stacked queries against a window of 256 keys. -/
def scoresVal (v0 : IVec S1x128 32) (q : Vec F S64x128 .bf16) (keys : Vec F S256x128 .bf16) : FVec F S128x256 .f32 :=
  mulf (broadcast S128x256 (Named.named κ "log2_e" 0x3FB8AA3B#32))
    (matmul dot_S128x128_S256x128_S128x256_1_1_0_0_n_n none
      (stackRows v0 (shapeCast S64x128 q shapeCasts_S64x128_S64x128))
      (shapeCast S256x128 keys shapeCasts_S256x128_S256x128) (constant S128x256 .f32 0x00000000#32))

/-- The base-two softplus, element by element. -/
def softplus (s : Shape) (z : FVec F s .f32) : FVec F s .f32 :=
  addf (maximumf z (broadcast s (Scalar.ofBits .f32 0x00000000#32)))
    (mulf
      (log (addf (broadcast s (Scalar.ofBits .f32 0x3F800000#32))
        (exp2 (subf (broadcast s (Scalar.ofBits .f32 0x00000000#32)) (absf z)))))
      (broadcast s (Named.named κ "log2_e" 0x3FB8AA3B#32)))

/-- Which of the keys of a half window lie before the query. -/
def validAt (v4 : IVec S128x128 32) (base delta : BitVec 32) : IVec S128x128 1 :=
  cmpi .slt (addi v4 (broadcast S128x128 base)) (broadcast S128x128 delta)

/-- A vector where a mask holds, zero elsewhere. -/
def orZero (m : IVec S128x128 1) (x : FVec F S128x128 .f32) : FVec F S128x128 .f32 :=
  select m x (broadcast S128x128 (Scalar.ofBits .f32 0x00000000#32))

/-- A vector where a mask holds, the masked constant elsewhere. -/
def orMasked (m : IVec S128x128 1) (x : FVec F S128x128 .f32) : FVec F S128x128 .f32 :=
  select m x (broadcast S128x128 (Named.named κ "masked" 0xF149F2CA#32))

/-- The left and the right half of a window. -/
def half0 {e : EltTy} (x : Vec F S128x256 e) : Vec F S128x128 e := extractStridedSlice S128x128 ![0, 0] x slices_S128x256_o0_0_S128x128
@[inherit_doc half0]
def half1 {e : EltTy} (x : Vec F S128x256 e) : Vec F S128x128 e := extractStridedSlice S128x128 ![0, 128] x slices_S128x256_o0_128_S128x128

/-- The product of a block of softplus values with the triangle: suffix sums on the left, totals on the right. -/
def suffix (nl : FVec F S128x128 .f32) (t : Vec F S128x256 .bf16) : FVec F S128x256 .f32 :=
  matmul dot_S128x128_S128x256_S128x256_1_0_0_1_n_n none (truncf .bf16 nl bitsLt_bf16_f32) t (constant S128x256 .f32 0x00000000#32)

/-- A slot of the window buffer as a matrix, a matrix as a slot, and the same for the square buffers. -/
def unslotW (x : Vec F S1x128x256 .f32) : FVec F S128x256 .f32 := shapeCast S128x256 x shapeCasts_S1x128x256_S128x256
@[inherit_doc unslotW]
def slotW (x : FVec F S128x256 .f32) : FVec F S1x128x256 .f32 := shapeCast S1x128x256 x shapeCasts_S128x256_S1x128x256
@[inherit_doc unslotW]
def unslot (x : Vec F S1x128x128 .f32) : FVec F S128x128 .f32 := shapeCast S128x128 x shapeCasts_S1x128x128_S128x128
@[inherit_doc unslotW]
def slot (x : FVec F S128x128 .f32) : FVec F S1x128x128 .f32 := shapeCast S1x128x128 x shapeCasts_S128x128_S1x128x128

/-- The least element of a square. -/
def leastOf (x : FVec F S128x128 .f32) : F .f32 :=
  extractAt ![0, 0, 0]
    (shapeCast S1x1x1 (multiReduction .minimumf [1, 2] S1 (slot x) 0x7F800000#32 reduces_S1x128x128_S1 (.inl rfl) rfl) shapeCasts_S1_S1x1x1)
    inpos_S1x1x1_p0_0_0

/-- The mask of a half window: from a width `delta`, or none (every key lies before the query). -/
def zeroed (m : Option (IVec S128x128 1)) (x : FVec F S128x128 .f32) : FVec F S128x128 .f32 := match m with
  | some m => orZero m x
  | none => x
@[inherit_doc zeroed]
def masked (m : Option (IVec S128x128 1)) (x : FVec F S128x128 .f32) : FVec F S128x128 .f32 := match m with
  | some m => orMasked m x
  | none => x

/-- The totals of the right half, of the left half, and of the window. -/
def tot1 (z : FVec F S128x256 .f32) (m1 : IVec S128x128 1) (t : Vec F S128x256 .bf16) : FVec F S128x128 .f32 :=
  half1 (e := .f32) (suffix (orZero m1 (half1 (e := .f32) (softplus S128x256 z))) t)
@[inherit_doc tot1]
def tot0 (z : FVec F S128x256 .f32) (m0 : Option (IVec S128x128 1)) (t : Vec F S128x256 .bf16) : FVec F S128x128 .f32 :=
  half1 (e := .f32) (suffix (zeroed m0 (half0 (e := .f32) (softplus S128x256 z))) t)

/-- The exponents of the right half of a window. -/
def exp1 (z : FVec F S128x256 .f32) (m1 : IVec S128x128 1) (t : Vec F S128x256 .bf16) : FVec F S128x128 .f32 :=
  orMasked m1 (subf (subf (half1 (e := .f32) z) (half1 (e := .f32) (softplus S128x256 z)))
    (half0 (e := .f32) (suffix (orZero m1 (half1 (e := .f32) (softplus S128x256 z))) t)))

/-- The exponents of the left half of a window. -/
def exp0 (z : FVec F S128x256 .f32) (m0 : Option (IVec S128x128 1)) (t1 : FVec F S128x128 .f32) (t' : Vec F S128x256 .bf16) : FVec F S128x128 .f32 :=
  masked m0 (subf (subf (subf (half0 (e := .f32) z) (half0 (e := .f32) (softplus S128x256 z)))
    (half0 (e := .f32) (suffix (zeroed m0 (half0 (e := .f32) (softplus S128x256 z))) t'))) t1)

/-- The weighted sum of a window's values. -/
def outVal (arg : Vec F S1x128x256 .f32) (vals : Vec F S256x128 .bf16) : FVec F S128x128 .f32 :=
  matmul dot_S128x256_S256x128_S128x128_1_0_0_1_n_n none (truncf .bf16 (exp2 (unslotW arg)) bitsLt_bf16_f32)
    (shapeCast S256x128 vals shapeCasts_S256x128_S256x128) (constant S128x128 .f32 0x00000000#32)

/-- The sixty-four rows of a result: the first head's lanes of the upper rows, the second's of the lower. -/
def rowsOut (v0 : IVec S1x128 32) (acc : FVec F S128x128 .f32) : FVec F S64x128 .f32 :=
  select
    (broadcastTo S64x128 (shapeCast S1x128 (cmpi .slt v0 (broadcast S1x128 64#32)) shapeCasts_S1x128_S1x128) broadcasts_S1x128_S64x128)
    (extractStridedSlice S64x128 ![0, 0] acc slices_S128x128_o0_0_S64x128)
    (extractStridedSlice S64x128 ![64, 0] acc slices_S128x128_o64_0_S64x128)

/-- The base-two scores of stacked queries against 128 older keys. -/
def oldScores (v0 : IVec S1x128 32) (q : Vec F S64x128 .bf16) (keys : Vec F S128x128 .bf16) : FVec F S128x128 .f32 :=
  mulf (broadcast S128x128 (Named.named κ "log2_e" 0x3FB8AA3B#32))
    (matmul dot_S128x128_S128x128_S128x128_1_1_0_0_n_n none
      (stackRows v0 (shapeCast S64x128 q shapeCasts_S64x128_S64x128))
      (shapeCast S128x128 keys shapeCasts_S128x128_S128x128) (constant S128x128 .f32 0x00000000#32))

/-- Which of 128 older keys have not been met before. -/
def freshAt (pos : BitVec 32) : IVec S128x128 1 :=
  broadcastTo S128x128
    (shapeCast S1x128
      (cmpi .slt (iota .tc S1x128 32 [1] iota_S1x128_d1_w32)
        (broadcast S1x128 (Scalar.subi (Scalar.addi pos 128#32) (Scalar.maxsi pos 0#32))))
      shapeCasts_S1x128_S1x128)
    broadcasts_S1x128_S128x128

/-- The suffix sums and totals of 128 older keys. -/
def oldSuffix (z : FVec F S128x128 .f32) (pos : BitVec 32) (t : Vec F S128x256 .bf16) : FVec F S128x256 .f32 :=
  suffix (orZero (freshAt pos) (softplus S128x128 z)) t

/-- The weights of 128 older keys. -/
def oldWeights (z : FVec F S128x128 .f32) (pos : BitVec 32) (t : Vec F S128x256 .bf16) (car : FVec F S128x128 .f32) : FVec F S128x128 .f32 :=
  orZero (freshAt pos)
    (exp2 (subf (subf (subf z (softplus S128x128 z)) (half0 (e := .f32) (oldSuffix z pos t))) car))

/-- The sums after 128 older keys. -/
def oldAcc (acc w : FVec F S128x128 .f32) (vals : Vec F S128x128 .bf16) : FVec F S128x128 .f32 :=
  addf acc (matmul dot_S128x128_S128x128_S128x128_1_0_0_1_n_n none (truncf .bf16 w bitsLt_bf16_f32)
    (shapeCast S128x128 vals shapeCasts_S128x128_S128x128) (constant S128x128 .f32 0x00000000#32))

/-! ## The stages -/

theorem inbW (p : Fin 3) : ∀ a, (![p.val, 0, 0] : Fin 3 → Nat) a + S1x128x256.size a ≤ S3x128x256.size a := by decide +revert
theorem inbH0 (p : Fin 3) : ∀ a, (![p.val, 0, 0] : Fin 3 → Nat) a + S1x128x128.size a ≤ S3x128x256.size a := by decide +revert
theorem inbH1 (p : Fin 3) : ∀ a, (![p.val, 0, 128] : Fin 3 → Nat) a + S1x128x128.size a ≤ S3x128x256.size a := by decide +revert
theorem inbT (p : Fin 3) : ∀ a, (![p.val, 0, 0] : Fin 3 → Nat) a + S1x128x128.size a ≤ S3x128x128.size a := by decide +revert
theorem inbS (s : Fin 24) : ∀ a, (![s.val, 0, 0] : Fin 3 → Nat) a + S1x128x128.size a ≤ S24x128x128.size a := by decide +revert

/-- An offset at which 256 rows fit in the sequence; at which sixty-four do. -/
abbrev Fits256 (off : Fin 2 → Nat) : Prop := ∀ a, off a + S256x128.size a ≤ S8192x128.size a
@[inherit_doc Fits256]
abbrev Fits64 (off : Fin 2 → Nat) : Prop := ∀ a, off a + S64x128.size a ≤ S8192x128.size a

variable (B : Bufs)

/-- The body's first store: the triangle. -/
def putTri : P F PUnit := do
  let _x : Vec F S128x256 .bf16 ← Prog.lift (.load B.tri (Rect.unit (s := S128x256) ![0, 0] S128x256.size inb_S128x256_S128x256_0_0).toLoadRect (View.loadsAt_vmem h_S128x256))
  Prog.lift (.store B.tri (Rect.unit (s := S128x256) ![0, 0] S128x256.size inb_S128x256_S128x256_0_0) (shapeCast S128x256 (triVal (F := F)) shapeCasts_S128x256_S128x256) Finset.univ (View.stores_vmem h_S128x256 (B.htri.storeExact_slice rfl _ packedbf16_S128x256_S128x256_0_0) (fun _ => rfl)) (.inl rfl))

/-- The scores of one block of queries against its window of keys, into slot `p`. -/
def stageScores (ok : Fin 2 → Nat) (hok : Fits256 ok) (oq : Fin 2 → Nat) (hoq : Fits64 oq) (p : Fin 3) : P F PUnit := do
  let keys : Vec F S256x128 .bf16 ← Prog.lift (.load B.k (Rect.unit (s := S8192x128) ok S256x128.size hok).toLoadRect (View.loadsAt_vmem h_S256x128))
  let q : Vec F S64x128 .bf16 ← Prog.lift (.load B.q (Rect.unit (s := S8192x128) oq S64x128.size hoq).toLoadRect (View.loadsAt_vmem h_S64x128))
  let _x : Vec F S1x128x256 .f32 ← Prog.lift (.load B.z (Rect.unit (s := S3x128x256) ![p.val, 0, 0] S1x128x256.size (inbW p)).toLoadRect (View.loadsAt_vmem h_S1x128x256))
  Prog.lift (.store B.z (Rect.unit (s := S3x128x256) ![p.val, 0, 0] S1x128x256.size (inbW p)) (slotW (scoresVal lanes q keys)) Finset.univ (View.stores_vmem_bits_univ h_S1x128x256 rfl) (.inl rfl))

/-- The second half of `stageExponents`, on the left half of the window; the least total of the window is returned. -/
def leftExponents (p : Fin 3) (z : FVec F S128x256 .f32) (m0 : Option (IVec S128x128 1)) (t1 : FVec F S128x128 .f32) : P F (F .f32) := do
  let t' : Vec F S128x256 .bf16 ← Prog.lift (.load B.tri (Rect.unit (s := S128x256) ![0, 0] S128x256.size inb_S128x256_S128x256_0_0).toLoadRect (View.loadsAt_vmem h_S128x256))
  let _x : Vec F S1x128x128 .f32 ← Prog.lift (.load B.arg (Rect.unit (s := S3x128x256) ![p.val, 0, 0] S1x128x128.size (inbH0 p)).toLoadRect (View.loadsAt_vmem h_S1x128x128))
  Prog.lift (.store B.arg (Rect.unit (s := S3x128x256) ![p.val, 0, 0] S1x128x128.size (inbH0 p)) (slot (exp0 z m0 t1 t')) Finset.univ (View.stores_vmem_bits_univ h_S1x128x128 rfl) (.inl rfl))
  let _x : Vec F S1x128x128 .f32 ← Prog.lift (.load B.tot (Rect.unit (s := S3x128x128) ![p.val, 0, 0] S1x128x128.size (inbT p)).toLoadRect (View.loadsAt_vmem h_S1x128x128))
  Prog.lift (.store B.tot (Rect.unit (s := S3x128x128) ![p.val, 0, 0] S1x128x128.size (inbT p)) (slot (addf t1 (tot0 z m0 t'))) Finset.univ (View.stores_vmem_bits_univ h_S1x128x128 rfl) (.inl rfl))
  pure (leastOf (addf t1 (tot0 z m0 t')))

/-- The exponents and the totals of the window in slot `p`; the least total is returned. -/
def stageExponents (p : Fin 3) (m1 : IVec S128x128 1) (m0 : Option (IVec S128x128 1)) : P F (F .f32) := do
  let z : Vec F S1x128x256 .f32 ← Prog.lift (.load B.z (Rect.unit (s := S3x128x256) ![p.val, 0, 0] S1x128x256.size (inbW p)).toLoadRect (View.loadsAt_vmem h_S1x128x256))
  let t : Vec F S128x256 .bf16 ← Prog.lift (.load B.tri (Rect.unit (s := S128x256) ![0, 0] S128x256.size inb_S128x256_S128x256_0_0).toLoadRect (View.loadsAt_vmem h_S128x256))
  let _x : Vec F S1x128x128 .f32 ← Prog.lift (.load B.arg (Rect.unit (s := S3x128x256) ![p.val, 0, 128] S1x128x128.size (inbH1 p)).toLoadRect (View.loadsAt_vmem h_S1x128x128))
  Prog.lift (.store B.arg (Rect.unit (s := S3x128x256) ![p.val, 0, 128] S1x128x128.size (inbH1 p)) (slot (exp1 (unslotW z) m1 t)) Finset.univ (View.stores_vmem_bits_univ h_S1x128x128 rfl) (.inl rfl))
  leftExponents B p (unslotW z) m0 (tot1 (unslotW z) m1 t)

/-- The weighted values of the window in slot `p` and its totals, into place `s` of the running sums and carries. -/
def stageOutput (ov : Fin 2 → Nat) (hov : Fits256 ov) (p : Fin 3) (s : Fin 24) : P F PUnit := do
  let vals : Vec F S256x128 .bf16 ← Prog.lift (.load B.v (Rect.unit (s := S8192x128) ov S256x128.size hov).toLoadRect (View.loadsAt_vmem h_S256x128))
  let a : Vec F S1x128x256 .f32 ← Prog.lift (.load B.arg (Rect.unit (s := S3x128x256) ![p.val, 0, 0] S1x128x256.size (inbW p)).toLoadRect (View.loadsAt_vmem h_S1x128x256))
  let _x : Vec F S1x128x128 .f32 ← Prog.lift (.load B.acc (Rect.unit (s := S24x128x128) ![s.val, 0, 0] S1x128x128.size (inbS s)).toLoadRect (View.loadsAt_vmem h_S1x128x128))
  Prog.lift (.store B.acc (Rect.unit (s := S24x128x128) ![s.val, 0, 0] S1x128x128.size (inbS s)) (slot (outVal a vals)) Finset.univ (View.stores_vmem_bits_univ h_S1x128x128 rfl) (.inl rfl))
  let t : Vec F S1x128x128 .f32 ← Prog.lift (.load B.tot (Rect.unit (s := S3x128x128) ![p.val, 0, 0] S1x128x128.size (inbT p)).toLoadRect (View.loadsAt_vmem h_S1x128x128))
  let _x : Vec F S1x128x128 .f32 ← Prog.lift (.load B.car (Rect.unit (s := S24x128x128) ![s.val, 0, 0] S1x128x128.size (inbS s)).toLoadRect (View.loadsAt_vmem h_S1x128x128))
  Prog.lift (.store B.car (Rect.unit (s := S24x128x128) ![s.val, 0, 0] S1x128x128.size (inbS s)) (slot (unslot t)) Finset.univ (View.stores_vmem_bits_univ h_S1x128x128 rfl) (.inl rfl))

/-- One turn of the loop over older keys, at key position `pos` (its lower rows may lie before the sequence): `next` is the turn after it. -/
def olderKeys (oq : Fin 2 → Nat) (hoq : Fits64 oq) (s : Fin 24) (next : BitVec 32 → F .f32 → P F (BitVec 32 × F .f32)) (pos : BitVec 32) (c : F .f32) : P F (BitVec 32 × F .f32) :=
  if Scalar.andi (Scalar.cmpi .sgt pos 4294967168#32) (Scalar.cmpf .ole c (Named.named κ "underflow" 0x43160A50#32)) = 1#1 then do
    have hw : k0_chk1 pos := (← Prog.lift (TpuEff.assume (k0_chk1 pos) (k0_chk1.dec pos))).down
    let keys : Vec F S128x128 .bf16 ← Prog.lift (.load B.k (Rect.unit (s := S8192x128) (k0_off1 pos) S128x128.size (k0_off1_inb pos hw)).toLoadRect (View.loadsAt_vmem h_S128x128))
    let vals : Vec F S128x128 .bf16 ← Prog.lift (.load B.v (Rect.unit (s := S8192x128) (k0_off1 pos) S128x128.size (k0_off1_inb pos hw)).toLoadRect (View.loadsAt_vmem h_S128x128))
    let q : Vec F S64x128 .bf16 ← Prog.lift (.load B.q (Rect.unit (s := S8192x128) oq S64x128.size hoq).toLoadRect (View.loadsAt_vmem h_S64x128))
    let t : Vec F S128x256 .bf16 ← Prog.lift (.load B.tri (Rect.unit (s := S128x256) ![0, 0] S128x256.size inb_S128x256_S128x256_0_0).toLoadRect (View.loadsAt_vmem h_S128x256))
    let car : Vec F S1x128x128 .f32 ← Prog.lift (.load B.car (Rect.unit (s := S24x128x128) ![s.val, 0, 0] S1x128x128.size (inbS s)).toLoadRect (View.loadsAt_vmem h_S1x128x128))
    let acc : Vec F S1x128x128 .f32 ← Prog.lift (.load B.acc (Rect.unit (s := S24x128x128) ![s.val, 0, 0] S1x128x128.size (inbS s)).toLoadRect (View.loadsAt_vmem h_S1x128x128))
    let _x : Vec F S1x128x128 .f32 ← Prog.lift (.load B.acc (Rect.unit (s := S24x128x128) ![s.val, 0, 0] S1x128x128.size (inbS s)).toLoadRect (View.loadsAt_vmem h_S1x128x128))
    Prog.lift (.store B.acc (Rect.unit (s := S24x128x128) ![s.val, 0, 0] S1x128x128.size (inbS s)) (slot (oldAcc (unslot acc) (oldWeights (oldScores lanes q keys) pos t (unslot car)) vals)) Finset.univ (View.stores_vmem_bits_univ h_S1x128x128 rfl) (.inl rfl))
    let _x : Vec F S1x128x128 .f32 ← Prog.lift (.load B.car (Rect.unit (s := S24x128x128) ![s.val, 0, 0] S1x128x128.size (inbS s)).toLoadRect (View.loadsAt_vmem h_S1x128x128))
    Prog.lift (.store B.car (Rect.unit (s := S24x128x128) ![s.val, 0, 0] S1x128x128.size (inbS s)) (slot (addf (unslot car) (half1 (e := .f32) (oldSuffix (oldScores lanes q keys) pos t)))) Finset.univ (View.stores_vmem_bits_univ h_S1x128x128 rfl) (.inl rfl))
    next (Scalar.subi pos 128#32) (leastOf (addf (unslot car) (half1 (e := .f32) (oldSuffix (oldScores lanes q keys) pos t))))
  else pure (pos, c)

/-- The end of a block: the loop over older keys, then the store of the block's rows. -/
def finish (oo : Fin 2 → Nat) (hoo : Fits64 oo) (s : Fin 24) (older : P F (BitVec 32 × F .f32)) : P F PUnit := do
  let _r ← older
  let acc : Vec F S1x128x128 .f32 ← Prog.lift (.load B.acc (Rect.unit (s := S24x128x128) ![s.val, 0, 0] S1x128x128.size (inbS s)).toLoadRect (View.loadsAt_vmem h_S1x128x128))
  let _x : Vec F S64x128 .f32 ← Prog.lift (.load B.o (Rect.unit (s := S8192x128) oo S64x128.size hoo).toLoadRect (View.loadsAt_vmem h_S64x128))
  Prog.lift (.store B.o (Rect.unit (s := S8192x128) oo S64x128.size hoo) (rowsOut lanes (unslot acc)) Finset.univ (View.stores_vmem_bits_univ h_S64x128 rfl) (.inl rfl))

end Cert.Proof.Attn

end
-- ==== Proof.Body.lean ====
/- The order in which the attention kernel's body runs its stages. -/
module

public import proofs.«01_k».proof.Proof.Stages

@[expose] public section

noncomputable section

namespace Cert.Proof.Attn

open Cert.KernelIdeal Cert.KernelIdeal.Gen
open Idealize.ShloMosaic Idealize.ShloMosaic.TcCoe
open Idealize.SL.Sem

variable {F : FTy → Type} [FloatOps F] [Named F]

/-- The loops over older keys: four before the main loop, twenty-four in each of its trips, four after it. -/
inductive Old where
  | fill (j : Fin 4)
  | steady (t : Fin k0_t1_loop.trips) (u : Fin 24)
  | tail (j : Fin 4)

/-- The place of the running sums that a loop uses. -/
def Old.place : Old → Fin 24
  | .fill _ => 0
  | .steady _ u => u
  | .tail _ => 0

/-- The offset of the query rows that a loop loads. -/
def Old.rows : Old → Fin 2 → Nat
  | .fill 0 => ![0, 0]
  | .fill 1 => ![64, 0]
  | .fill 2 => ![128, 0]
  | .fill 3 => ![192, 0]
  | .steady t u => (![k0_off9 t, k0_off12 t, k0_off14 t, k0_off16 t, k0_off18 t, k0_off20 t, k0_off22 t, k0_off24 t, k0_off26 t, k0_off28 t, k0_off30 t, k0_off32 t, k0_off34 t, k0_off36 t, k0_off38 t, k0_off40 t, k0_off42 t, k0_off44 t, k0_off46 t, k0_off48 t, k0_off50 t, k0_off52 t, k0_off54 t, k0_off56 t] : Fin 24 → Fin 2 → Nat) u
  | .tail 0 => ![7936, 0]
  | .tail 1 => ![8000, 0]
  | .tail 2 => ![8064, 0]
  | .tail 3 => ![8128, 0]

/-- What holds of twenty-four numbers one by one holds of them all. -/
theorem every24 {p : Fin 24 → Prop} (h0 : p 0) (h1 : p 1) (h2 : p 2) (h3 : p 3) (h4 : p 4) (h5 : p 5) (h6 : p 6) (h7 : p 7) (h8 : p 8) (h9 : p 9) (h10 : p 10) (h11 : p 11) (h12 : p 12) (h13 : p 13) (h14 : p 14) (h15 : p 15) (h16 : p 16) (h17 : p 17) (h18 : p 18) (h19 : p 19) (h20 : p 20) (h21 : p 21) (h22 : p 22) (h23 : p 23) (u : Fin 24) : p u := by
  fin_cases u <;> assumption

theorem Old.rows_fits : (w : Old) → Fits64 w.rows
  | .fill 0 => inb_S8192x128_S64x128_0_0
  | .fill 1 => inb_S8192x128_S64x128_64_0
  | .fill 2 => inb_S8192x128_S64x128_128_0
  | .fill 3 => inb_S8192x128_S64x128_192_0
  | .steady t u => every24 (p := fun u => Fits64 (Old.rows (.steady t u))) (k0_off9_inb t) (k0_off12_inb t) (k0_off14_inb t) (k0_off16_inb t) (k0_off18_inb t) (k0_off20_inb t) (k0_off22_inb t) (k0_off24_inb t) (k0_off26_inb t) (k0_off28_inb t) (k0_off30_inb t) (k0_off32_inb t) (k0_off34_inb t) (k0_off36_inb t) (k0_off38_inb t) (k0_off40_inb t) (k0_off42_inb t) (k0_off44_inb t) (k0_off46_inb t) (k0_off48_inb t) (k0_off50_inb t) (k0_off52_inb t) (k0_off54_inb t) (k0_off56_inb t) u
  | .tail 0 => inb_S8192x128_S64x128_7936_0
  | .tail 1 => inb_S8192x128_S64x128_8000_0
  | .tail 2 => inb_S8192x128_S64x128_8064_0
  | .tail 3 => inb_S8192x128_S64x128_8128_0

variable (B : Bufs) (i : grid0.Coords)

/-- The call of a loop over older keys. -/
def callOld : Old → BitVec 32 → F .f32 → P F (BitVec 32 × F .f32)
  | .fill 0, pos, c => Prog.lift (.call (1 : (Λ₀ F).Label) ⟨i, B.k, B.hk, B.v, B.hv, B.q, B.hq, lanes, B.tri, B.htri, B.car, B.hcar, B.acc, B.hacc, pos, c⟩)
  | .fill 1, pos, c => Prog.lift (.call (2 : (Λ₀ F).Label) ⟨i, B.k, B.hk, B.v, B.hv, B.q, B.hq, lanes, B.tri, B.htri, B.car, B.hcar, B.acc, B.hacc, pos, c⟩)
  | .fill 2, pos, c => Prog.lift (.call (3 : (Λ₀ F).Label) ⟨i, B.k, B.hk, B.v, B.hv, B.q, B.hq, lanes, B.tri, B.htri, B.car, B.hcar, B.acc, B.hacc, pos, c⟩)
  | .fill 3, pos, c => Prog.lift (.call (4 : (Λ₀ F).Label) ⟨i, B.k, B.hk, B.v, B.hv, B.q, B.hq, lanes, B.tri, B.htri, B.car, B.hcar, B.acc, B.hacc, pos, c⟩)
  | .steady t u, pos, c => (![
      Prog.lift (.call (5 : (Λ₀ F).Label) ⟨i, t, B.k, B.hk, B.v, B.hv, B.q, B.hq, lanes, B.tri, B.htri, B.car, B.hcar, B.acc, B.hacc, pos, c⟩),
      Prog.lift (.call (6 : (Λ₀ F).Label) ⟨i, t, B.k, B.hk, B.v, B.hv, B.q, B.hq, lanes, B.tri, B.htri, B.car, B.hcar, B.acc, B.hacc, pos, c⟩),
      Prog.lift (.call (7 : (Λ₀ F).Label) ⟨i, t, B.k, B.hk, B.v, B.hv, B.q, B.hq, lanes, B.tri, B.htri, B.car, B.hcar, B.acc, B.hacc, pos, c⟩),
      Prog.lift (.call (8 : (Λ₀ F).Label) ⟨i, t, B.k, B.hk, B.v, B.hv, B.q, B.hq, lanes, B.tri, B.htri, B.car, B.hcar, B.acc, B.hacc, pos, c⟩),
      Prog.lift (.call (9 : (Λ₀ F).Label) ⟨i, t, B.k, B.hk, B.v, B.hv, B.q, B.hq, lanes, B.tri, B.htri, B.car, B.hcar, B.acc, B.hacc, pos, c⟩),
      Prog.lift (.call (10 : (Λ₀ F).Label) ⟨i, t, B.k, B.hk, B.v, B.hv, B.q, B.hq, lanes, B.tri, B.htri, B.car, B.hcar, B.acc, B.hacc, pos, c⟩),
      Prog.lift (.call (11 : (Λ₀ F).Label) ⟨i, t, B.k, B.hk, B.v, B.hv, B.q, B.hq, lanes, B.tri, B.htri, B.car, B.hcar, B.acc, B.hacc, pos, c⟩),
      Prog.lift (.call (12 : (Λ₀ F).Label) ⟨i, t, B.k, B.hk, B.v, B.hv, B.q, B.hq, lanes, B.tri, B.htri, B.car, B.hcar, B.acc, B.hacc, pos, c⟩),
      Prog.lift (.call (13 : (Λ₀ F).Label) ⟨i, t, B.k, B.hk, B.v, B.hv, B.q, B.hq, lanes, B.tri, B.htri, B.car, B.hcar, B.acc, B.hacc, pos, c⟩),
      Prog.lift (.call (14 : (Λ₀ F).Label) ⟨i, t, B.k, B.hk, B.v, B.hv, B.q, B.hq, lanes, B.tri, B.htri, B.car, B.hcar, B.acc, B.hacc, pos, c⟩),
      Prog.lift (.call (15 : (Λ₀ F).Label) ⟨i, t, B.k, B.hk, B.v, B.hv, B.q, B.hq, lanes, B.tri, B.htri, B.car, B.hcar, B.acc, B.hacc, pos, c⟩),
      Prog.lift (.call (16 : (Λ₀ F).Label) ⟨i, t, B.k, B.hk, B.v, B.hv, B.q, B.hq, lanes, B.tri, B.htri, B.car, B.hcar, B.acc, B.hacc, pos, c⟩),
      Prog.lift (.call (17 : (Λ₀ F).Label) ⟨i, t, B.k, B.hk, B.v, B.hv, B.q, B.hq, lanes, B.tri, B.htri, B.car, B.hcar, B.acc, B.hacc, pos, c⟩),
      Prog.lift (.call (18 : (Λ₀ F).Label) ⟨i, t, B.k, B.hk, B.v, B.hv, B.q, B.hq, lanes, B.tri, B.htri, B.car, B.hcar, B.acc, B.hacc, pos, c⟩),
      Prog.lift (.call (19 : (Λ₀ F).Label) ⟨i, t, B.k, B.hk, B.v, B.hv, B.q, B.hq, lanes, B.tri, B.htri, B.car, B.hcar, B.acc, B.hacc, pos, c⟩),
      Prog.lift (.call (20 : (Λ₀ F).Label) ⟨i, t, B.k, B.hk, B.v, B.hv, B.q, B.hq, lanes, B.tri, B.htri, B.car, B.hcar, B.acc, B.hacc, pos, c⟩),
      Prog.lift (.call (21 : (Λ₀ F).Label) ⟨i, t, B.k, B.hk, B.v, B.hv, B.q, B.hq, lanes, B.tri, B.htri, B.car, B.hcar, B.acc, B.hacc, pos, c⟩),
      Prog.lift (.call (22 : (Λ₀ F).Label) ⟨i, t, B.k, B.hk, B.v, B.hv, B.q, B.hq, lanes, B.tri, B.htri, B.car, B.hcar, B.acc, B.hacc, pos, c⟩),
      Prog.lift (.call (23 : (Λ₀ F).Label) ⟨i, t, B.k, B.hk, B.v, B.hv, B.q, B.hq, lanes, B.tri, B.htri, B.car, B.hcar, B.acc, B.hacc, pos, c⟩),
      Prog.lift (.call (24 : (Λ₀ F).Label) ⟨i, t, B.k, B.hk, B.v, B.hv, B.q, B.hq, lanes, B.tri, B.htri, B.car, B.hcar, B.acc, B.hacc, pos, c⟩),
      Prog.lift (.call (25 : (Λ₀ F).Label) ⟨i, t, B.k, B.hk, B.v, B.hv, B.q, B.hq, lanes, B.tri, B.htri, B.car, B.hcar, B.acc, B.hacc, pos, c⟩),
      Prog.lift (.call (26 : (Λ₀ F).Label) ⟨i, t, B.k, B.hk, B.v, B.hv, B.q, B.hq, lanes, B.tri, B.htri, B.car, B.hcar, B.acc, B.hacc, pos, c⟩),
      Prog.lift (.call (27 : (Λ₀ F).Label) ⟨i, t, B.k, B.hk, B.v, B.hv, B.q, B.hq, lanes, B.tri, B.htri, B.car, B.hcar, B.acc, B.hacc, pos, c⟩),
      Prog.lift (.call (28 : (Λ₀ F).Label) ⟨i, t, B.k, B.hk, B.v, B.hv, B.q, B.hq, lanes, B.tri, B.htri, B.car, B.hcar, B.acc, B.hacc, pos, c⟩)] : Fin 24 → P F (BitVec 32 × F .f32)) u
  | .tail 0, pos, c => Prog.lift (.call (29 : (Λ₀ F).Label) ⟨i, B.k, B.hk, B.v, B.hv, B.q, B.hq, lanes, B.tri, B.htri, B.car, B.hcar, B.acc, B.hacc, pos, c⟩)
  | .tail 1, pos, c => Prog.lift (.call (30 : (Λ₀ F).Label) ⟨i, B.k, B.hk, B.v, B.hv, B.q, B.hq, lanes, B.tri, B.htri, B.car, B.hcar, B.acc, B.hacc, pos, c⟩)
  | .tail 2, pos, c => Prog.lift (.call (31 : (Λ₀ F).Label) ⟨i, B.k, B.hk, B.v, B.hv, B.q, B.hq, lanes, B.tri, B.htri, B.car, B.hcar, B.acc, B.hacc, pos, c⟩)
  | .tail 3, pos, c => Prog.lift (.call (32 : (Λ₀ F).Label) ⟨i, B.k, B.hk, B.v, B.hv, B.q, B.hq, lanes, B.tri, B.htri, B.car, B.hcar, B.acc, B.hacc, pos, c⟩)

/-- Key position less query position. -/
def maskAt (base delta : BitVec 32) : IVec S128x128 1 := validAt relPos base delta

/-- The number of a block in a trip of the main loop, as the kernel computes it. -/
def blkWord (t : Fin k0_t1_loop.trips) (u : Fin 24) : BitVec 32 :=
  Scalar.subi (Scalar.addi (Scalar.addi 8#32 (Scalar.muli 24#32 (Scf.iv 0#32 1#32 t))) (BitVec.ofNat 32 u.val)) 4#32

/-- The first position of older keys for a block in a trip of the main loop. -/
def posWord (t : Fin k0_t1_loop.trips) (u : Fin 24) : BitVec 32 :=
  Scalar.subi (Scalar.subi (Scalar.muli (blkWord t u) 64#32) 192#32) 128#32

/-- The place of a window in a trip: three windows take turns. -/
def turn (u : Nat) : Fin 3 := ⟨u % 3, Nat.mod_lt _ (by decide)⟩

/-- One step of a trip of the main loop: output of one block, exponents of the block two later, scores of the block four later. -/
def step (t : Fin k0_t1_loop.trips) (u : Fin 24) : P F (F .f32) := do
  stageOutput B (k0_off5 t (BitVec.ofNat 32 u.val)) (k0_off5_inb t u) (turn (u.val + 1)) u
  let c ← stageExponents B (turn u.val) (maskAt 128#32 192#32) none
  stageScores B (k0_off6 t (BitVec.ofNat 32 u.val)) (k0_off6_inb t u) (k0_off7 t (BitVec.ofNat 32 u.val)) (k0_off7_inb t u) (turn (u.val + 2))
  pure c

/-- The steps of a trip, collecting the least totals. -/
def steps (t : Fin k0_t1_loop.trips) : List (Fin 24) → List (F .f32) → P F (List (F .f32))
  | [], cs => pure cs
  | u :: us, cs => do
    let c ← step B t u
    steps t us (cs ++ [c])

/-- The ends of a trip's blocks. -/
def finishes (t : Fin k0_t1_loop.trips) : List (Fin 24) → List (F .f32) → P F PUnit
  | u :: us, c :: cs => do
    finish B (k0_off10 t (BitVec.ofNat 32 u.val)) (k0_off10_inb t u) u (callOld B i (.steady t u) (posWord t u) c)
    finishes t us cs
  | _, _ => pure ⟨⟩

/-- The numbers of a trip's steps, in order. -/
def all24 : List (Fin 24) := [0, 1, 2, 3, 4, 5, 6, 7, 8, 9, 10, 11, 12, 13, 14, 15, 16, 17, 18, 19, 20, 21, 22, 23]

/-- One trip of the main loop. -/
def trip (t : Fin k0_t1_loop.trips) (cs : F .f32 × F .f32) : P F (F .f32 × F .f32) := do
  let l ← steps B t all24 [cs.1, cs.2]
  finishes B i t all24 l
  pure (l.getD 24 cs.1, l.getD 25 cs.2)

/-- The blocks before the main loop. -/
def filling : P F (F .f32 × F .f32) := do
  putTri B
  stageScores B ![0, 0] inb_S8192x128_S256x128_0_0 ![0, 0] inb_S8192x128_S64x128_0_0 0
  stageScores B ![0, 0] inb_S8192x128_S256x128_0_0 ![64, 0] inb_S8192x128_S64x128_64_0 1
  stageScores B ![0, 0] inb_S8192x128_S256x128_0_0 ![128, 0] inb_S8192x128_S64x128_128_0 2
  let c0 ← stageExponents B 0 (maskAt 128#32 0#32) (some (maskAt 0#32 0#32))
  stageScores B ![0, 0] inb_S8192x128_S256x128_0_0 ![192, 0] inb_S8192x128_S64x128_192_0 0
  let c1 ← stageExponents B 1 (maskAt 128#32 64#32) (some (maskAt 0#32 64#32))
  stageScores B ![64, 0] inb_S8192x128_S256x128_64_0 ![256, 0] inb_S8192x128_S64x128_256_0 1
  let c2 ← stageExponents B 2 (maskAt 128#32 128#32) none
  stageOutput B ![0, 0] inb_S8192x128_S256x128_0_0 0 0
  finish B ![0, 0] inb_S8192x128_S64x128_0_0 0 (callOld B i (.fill 0) 4294967168#32 c0)
  stageScores B ![128, 0] inb_S8192x128_S256x128_128_0 ![320, 0] inb_S8192x128_S64x128_320_0 2
  let c3 ← stageExponents B 0 (maskAt 128#32 192#32) none
  stageOutput B ![0, 0] inb_S8192x128_S256x128_0_0 1 0
  finish B ![64, 0] inb_S8192x128_S64x128_64_0 0 (callOld B i (.fill 1) 4294967168#32 c1)
  stageScores B ![192, 0] inb_S8192x128_S256x128_192_0 ![384, 0] inb_S8192x128_S64x128_384_0 0
  let c4 ← stageExponents B 1 (maskAt 128#32 192#32) none
  stageOutput B ![0, 0] inb_S8192x128_S256x128_0_0 2 0
  finish B ![128, 0] inb_S8192x128_S64x128_128_0 0 (callOld B i (.fill 2) 4294967168#32 c2)
  stageScores B ![256, 0] inb_S8192x128_S256x128_256_0 ![448, 0] inb_S8192x128_S64x128_448_0 1
  let c5 ← stageExponents B 2 (maskAt 128#32 192#32) none
  stageOutput B ![0, 0] inb_S8192x128_S256x128_0_0 0 0
  finish B ![192, 0] inb_S8192x128_S64x128_192_0 0 (callOld B i (.fill 3) 4294967168#32 c3)
  pure (c4, c5)

/-- The blocks after the main loop. -/
def draining (cs : F .f32 × F .f32) : P F PUnit := do
  stageOutput B ![7744, 0] inb_S8192x128_S256x128_7744_0 1 0
  let c126 ← stageExponents B 0 (maskAt 128#32 192#32) none
  finish B ![7936, 0] inb_S8192x128_S64x128_7936_0 0 (callOld B i (.tail 0) 7616#32 cs.1)
  stageOutput B ![7808, 0] inb_S8192x128_S256x128_7808_0 2 0
  let c127 ← stageExponents B 1 (maskAt 128#32 192#32) none
  finish B ![8000, 0] inb_S8192x128_S64x128_8000_0 0 (callOld B i (.tail 1) 7680#32 cs.2)
  stageOutput B ![7872, 0] inb_S8192x128_S256x128_7872_0 0 0
  finish B ![8064, 0] inb_S8192x128_S64x128_8064_0 0 (callOld B i (.tail 2) 7744#32 c126)
  stageOutput B ![7936, 0] inb_S8192x128_S256x128_7936_0 1 0
  finish B ![8128, 0] inb_S8192x128_S64x128_8128_0 0 (callOld B i (.tail 3) 7808#32 c127)

/-- The whole body. -/
def body : P F PUnit := do
  let cs ← filling B i
  let cs ← Scf.Loop.for k0_t1_loop k0_t1_ok cs (trip B i)
  draining B i cs

end Cert.Proof.Attn

end
-- ==== Proof.Run.lean ====
/- Runs of the attention kernel's body over the contents of its ten buffers, and that a run is what the
   body does: whoever owns the ten buffers may run the body and owns them afterwards, changed as the run says. -/
module

public import proofs.«01_k».proof.Proof.Body
public import Idealize.ShloMosaic.Lib.Tactic
public import Idealize.ShloMosaic.Lib.Pipeline.Kit

@[expose] public section

noncomputable section

namespace Cert.Proof.Attn

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

/-- The names of the ten buffers. -/
inductive Bn where
  | q | k | v | o | tri | z | arg | tot | acc | car
  deriving DecidableEq

instance : Fintype Bn := ⟨{.q, .k, .v, .o, .tri, .z, .arg, .tot, .acc, .car}, fun x => by cases x <;> decide⟩

/-- The shape of a buffer. -/
abbrev Bn.sh : Bn → Shape
  | .q => S8192x128 | .k => S8192x128 | .v => S8192x128 | .o => S8192x128
  | .tri => S128x256 | .z => S3x128x256 | .arg => S3x128x256 | .tot => S3x128x128
  | .acc => S24x128x128 | .car => S24x128x128

/-- The element type of a buffer. -/
abbrev Bn.el : Bn → EltTy
  | .q => .bf16 | .k => .bf16 | .v => .bf16 | .o => .f32
  | .tri => .bf16 | .z => .f32 | .arg => .f32 | .tot => .f32
  | .acc => .f32 | .car => .f32

/-- The buffer of a name. -/
abbrev Bufs.mem (B : Bufs) : (x : Bn) → Memref sig .tc .vmem x.sh x.el
  | .q => B.q | .k => B.k | .v => B.v | .o => B.o
  | .tri => B.tri | .z => B.z | .arg => B.arg | .tot => B.tot
  | .acc => B.acc | .car => B.car

/-- The contents of the ten buffers. -/
abbrev St (F : FTy → Type) : Type := (x : Bn) → x.sh.Idx → Elt F x.el

/-- `Runs B n p s a s'`: from contents `s` the program `p` returns `a` and leaves contents `s'`, its calls nested less than `n` deep. -/
inductive Runs (B : Bufs) : {α : Type} → Nat → P F α → St F → α → St F → Prop
  | ret {α : Type} (n : Nat) (a : α) (s : St F) : Runs B n (.ret a) s a s
  | load {α : Type} {n : Nat} (x : Bn) (r : Rect x.sh) {hl : (B.mem x).view.LoadsAt r.toLoadRect}
      {k : (r.shape.Idx → Elt F x.el) → P F α} {s s' : St F} {a : α} :
      Runs B n (k (fun j => s x (r.emb j))) s a s' → Runs B n (.op (.load (B.mem x) r.toLoadRect hl) k) s a s'
  | store {α : Type} {n : Nat} (x : Bn) (r : Rect x.sh) {w : r.shape.Idx → Elt F x.el}
      {hx : ((B.mem x).access r).Stores Finset.univ} {hm : (Finset.univ : Finset r.shape.Idx) = Finset.univ ∨ ∀ a, r.stride a = 1}
      {k : PUnit → P F α} {s s' : St F} {a : α} :
      Runs B n (k ⟨⟩) (Function.update s x (r.overlay (s x) w)) a s' →
      Runs B n (.op (.store (B.mem x) r w Finset.univ hx hm) k) s a s'
  | side {α : Type} {n : Nat} {p : Prop} {d : Decidable p} {k : PLift p → P F α} {s s' : St F} {a : α} (h : p) :
      Runs B n (k ⟨h⟩) s a s' → Runs B n (.op (.assume p d) k) s a s'
  | call {α : Type} {n : Nat} (m : Nat) (hm : m < n) {ℓ : (Λ₀ F).Label} {g : (Λ₀ F).Args ℓ} {k : (Λ₀ F).Result ℓ → P F α}
      {s s₁ s' : St F} {b : (Λ₀ F).Result ℓ} {a : α} :
      Runs B m (defs₀ (F := F) .tc ℓ g) s b s₁ → Runs B n (k b) s₁ a s' → Runs B n (.op (.call ℓ g) k) s a s'

/-- One program after another. -/
theorem Runs.bind {B : Bufs} {α β : Type} {n : Nat} {p : P F α} {k : α → P F β} {s s₁ s' : St F} {a : α} {b : β}
    (h : Runs B n p s a s₁) (h' : Runs B n (k a) s₁ b s') : Runs B n (p >>= k) s b s' := by
  induction h with
  | ret => exact h'
  | load x r _ ih => exact .load x r (ih h')
  | store x r _ ih => exact .store x r (ih h')
  | side h _ ih => exact .side h (ih h')
  | call m hm h _ _ ih => exact .call m hm h (ih h')

/-- A run nested less deep is a run. -/
theorem Runs.mono {B : Bufs} {α : Type} {n n' : Nat} (hn : n ≤ n') {p : P F α} {s s' : St F} {a : α}
    (h : Runs B n p s a s') : Runs B n' p s a s' := by
  induction h with
  | ret => exact .ret _ _ _
  | load x r _ ih => exact .load x r (ih hn)
  | store x r _ ih => exact .store x r (ih hn)
  | side h _ ih => exact .side h (ih hn)
  | call m hm h _ _ ih => exact .call m (hm.trans_le hn) h (ih hn)

/-- The resource algebra of the pipeline. -/
abbrev UU (nD : Nat) (τ : Topo) : Type := UR sig nD τ

local notation "𝕄" => MT nD τ sig Unit (Elt F) ℕ (UU nD τ) ℕ

/-- Device `d` owns the ten buffers at contents `s`. -/
def held (B : Bufs) (d : Dev nD) (s : St F) : sProp 𝕄 :=
  bigSep Finset.univ fun x => owns (d : Thread nD τ) (B.mem x) fullShare (s x)

theorem held_take (B : Bufs) (d : Dev nD) (s : St F) (x : Bn) :
    (held B d s : sProp 𝕄) ⊢ iprop(owns (d : Thread nD τ) (B.mem x) fullShare (s x)
      ∗ bigSep (Finset.univ.erase x) fun y => owns (d : Thread nD τ) (B.mem y) fullShare (s y)) :=
  Entails.of_eq (BI.bigSep_erase (Finset.mem_univ x))

theorem held_put (B : Bufs) (d : Dev nD) (s : St F) (x : Bn) (w : x.sh.Idx → Elt F x.el) :
    iprop(owns (d : Thread nD τ) (B.mem x) fullShare w
      ∗ bigSep (Finset.univ.erase x) fun y => owns (d : Thread nD τ) (B.mem y) fullShare (s y)) ⊢ (held B d (Function.update s x w) : sProp 𝕄) := by
  unfold held
  rw [BI.bigSep_erase (Finset.mem_univ x), Function.update_self,
    BI.bigSep_congr (Φ := fun y => owns (d : Thread nD τ) (B.mem y) fullShare (s y))
      (Ψ := fun y => owns (d : Thread nD τ) (B.mem y) fullShare (Function.update s x w y))
      (fun y hy => by rw [Function.update_of_ne (Finset.ne_of_mem_erase hy)])]
  exact .rfl

/-- What a memref reads after a store through a rectangle of it. -/
theorem read_store {sp : Space} {sh : Shape} {e : EltTy} (m : Memref sig .tc sp sh e) (r : Rect sh) (f : m.view.ty.Contents (Elt F))
    (w : r.shape.Idx → Elt F e) :
    m.view.read (Elt F) ((m.access r).write (Elt F) f w Finset.univ) = r.overlay (m.view.read (Elt F) f) w := by
  funext j
  by_cases hj : j ∈ r.set
  · obtain ⟨i, rfl⟩ := r.exists_idx_of_mem hj
    refine Eq.trans ?_ (Rect.overlay_emb r _ w i).symm
    exact congrFun (View.read_write_univ (v := m.access r) f w) i
  · rw [Rect.overlay_of_not_mem _ _ _ hj, View.read_apply, View.read_apply]
    congr 1
    refine View.write_of_not_mem (v := m.access r) f w _ ?_
    rw [View.setOn_univ]
    show m.view.emb j ∉ (m.view.slice r).set
    rw [View.set_slice, Finset.mem_map' m.view.emb]; exact hj

/-- A run is what the program does. -/
theorem Runs.sound {B : Bufs} {α : Type} {n : Nat} {p : P F α} {s s' : St F} {a : α} (h : Runs B n p s a s') :
    ∀ (d : Dev nD) (bd : Option Nat) (Γ) (Q : α → sProp 𝕄), (∀ u ∈ bd, n ≤ u) →
      iprop(held B d s ∗ (held B d s' -∗ Q a)) ⊢ wp frame (wpE' defs₀ Variants.nat (d : Thread nD τ) bd Γ) Set.univ p Q := by
  induction h with
  | ret n a s =>
    intro d bd Γ Q _
    rw [wp_ret]
    iintro ⟨H, HQ⟩
    imodintro
    iapply HQ; iexact H
  | load x r _ ih =>
    rename_i hl k s s' a _
    intro d bd Γ Q hbd
    iintro ⟨H, HQ⟩
    ihave H' := held_take B d s x $$ H
    icases H' with ⟨Hx, Hr⟩
    ihave Hx' := (show (owns (d : Thread nD τ) (B.mem x) fullShare (s x) : sProp 𝕄) ⊢ iprop(∃ f, ⌜(B.mem x).view.read (Elt F) f = s x⌝ ∗ ((B.mem x).view.loc (d : Thread nD τ) ↦[(B.mem x).view.set]{fullShare} f)) from .rfl) $$ Hx
    icases Hx' with ⟨%f, %hf, Hx⟩
    iapply (wp_load_rect Variants.nat (d : Thread nD τ) bd Set.univ (m := B.mem x) (r := r) (hl := hl) (f := f) (q := fullShare)
      (S := (B.mem x).view.set) ((B.mem x).view.set_slice_subset r)) $$ Hx
    iintro Hx
    have e : ((B.mem x).access r).read (Elt F) f = fun j => s x (r.emb j) := by rw [← hf]; rfl
    rw [e]
    iapply (ih d bd Γ Q hbd)
    isplitr [HQ]
    · have e2 : (held B d s : sProp 𝕄) = held B d (Function.update s x (s x)) := by rw [Function.update_eq_self]
      rw [e2]
      iapply (held_put B d s x (s x))
      isplitl [Hx]
      · rw [← hf]; iapply (owns_intro (d : Thread nD τ) (B.mem x) fullShare f); iexact Hx
      · iexact Hr
    · iexact HQ
  | store x r _ ih =>
    rename_i w hx hm k s s' a _
    intro d bd Γ Q hbd
    iintro ⟨H, HQ⟩
    ihave H' := held_take B d s x $$ H
    icases H' with ⟨Hx, Hr⟩
    ihave Hx' := (show (owns (d : Thread nD τ) (B.mem x) fullShare (s x) : sProp 𝕄) ⊢ iprop(∃ f, ⌜(B.mem x).view.read (Elt F) f = s x⌝ ∗ ((B.mem x).view.loc (d : Thread nD τ) ↦[(B.mem x).view.set]{fullShare} f)) from .rfl) $$ Hx
    icases Hx' with ⟨%f, %hf, Hx⟩
    iapply (wp_store Variants.nat (d : Thread nD τ) bd Set.univ (m := B.mem x) (r := r) (w := w) (Mk := Finset.univ) (hx := hx) (hm := hm) (f := f)
      (S := (B.mem x).view.set) (by rw [View.setOn_univ]; exact (B.mem x).view.set_slice_subset r)) $$ Hx
    iintro Hx
    iapply (ih d bd Γ Q hbd)
    isplitr [HQ]
    · iapply (held_put B d s x _)
      isplitl [Hx]
      · rw [← hf, ← read_store]; iapply (owns_intro (d : Thread nD τ) (B.mem x) fullShare _); iexact Hx
      · iexact Hr
    · iexact HQ
  | side h _ ih =>
    intro d bd Γ Q hbd
    exact (ih d bd Γ Q hbd).trans (wp_assume (h := h) Variants.nat (d : Thread nD τ) bd Set.univ)
  | call m hm h h' ih ih' =>
    rename_i n ℓ g k s s₁ s' b a
    intro d bd Γ Q hbd
    iintro ⟨H, HQ⟩
    iapply (wp_call Variants.nat (d : Thread nD τ) bd Set.univ (Γ := Γ) (v := m) (fun u hu => lt_of_lt_of_le hm (hbd u hu)))
    iapply (ih d (some m) (Γ.descend none) _ (fun u hu => by cases hu; exact le_rfl))
    isplitl [H]; · iexact H
    iintro H
    iapply (ih' d bd Γ Q hbd)
    isplitl [H]; · iexact H
    iexact HQ

end Cert.Proof.Attn

end
-- ==== Proof.Values.lean ====
/- What the attention kernel's body computes, block of queries by block of queries: the functions of the
   query, key and value arrays that its buffers hold when a block is worked on, and its result. -/
module

public import proofs.«01_k».proof.Proof.Stages
public import Idealize.ShloMosaic.Lib.ValueLayout

@[expose] public section

noncomputable section

namespace Cert.Proof.Attn

open Cert.KernelIdeal Cert.KernelIdeal.Gen
open Idealize.ShloMosaic Idealize.ShloMosaic.TcCoe Idealize.ShloMosaic.ValueIdx

variable {F : FTy → Type} [FloatOps F] [Named F]

/-- An index of the sequence's arrays (taken modulo their sizes). -/
def seqAt (a b : Nat) : S8192x128.Idx := ix2 (⟨a % 8192, Nat.mod_lt _ (by decide)⟩ : Fin 8192) (⟨b % 128, Nat.mod_lt _ (by decide)⟩ : Fin 128)

/-- `n` rows from row `o` on. -/
def rowsFrom {α : Type} (n : Nat) (x : S8192x128.Idx → α) (o : Nat) : (⟨2, ![n, 128]⟩ : Shape).Idx → α :=
  fun j => x (seqAt (o + (j 0).val) (j 1).val)

/-- The two halves of a slot side by side. -/
def besides {α : Type} (l r : S1x128x128.Idx → α) : S1x128x256.Idx → α := fun j =>
  if h : (j 2).val < 128 then l (ix3 (j 0) (j 1) (⟨(j 2).val, h⟩ : Fin 128))
  else r (ix3 (j 0) (j 1) (⟨(j 2).val - 128, by have := (j 2).isLt; simp only [Matrix.cons_val] at this; omega⟩ : Fin 128))

/-- The triangle as the body stores it. -/
def triStored : FVec F S128x256 .bf16 := shapeCast S128x256 (triVal (F := F)) shapeCasts_S128x256_S128x256

variable (q k v : FVec F S8192x128 .bf16) (τ : Nat)

/-- The scores of block `τ`. -/
def zS : FVec F S1x128x256 .f32 := slotW (scoresVal lanes (rowsFrom 64 q (64 * τ)) (rowsFrom 256 k (64 * τ - 192)))

/-- The mask of the right half of block `τ`'s window, and of the left half (only the first two blocks have one). -/
def mask1 : IVec S128x128 1 := validAt relPos 128#32 (BitVec.ofNat 32 (min (64 * τ) 192))
@[inherit_doc mask1]
def mask0 : Option (IVec S128x128 1) := if τ < 2 then some (validAt relPos 0#32 (BitVec.ofNat 32 (64 * τ))) else none

/-- The totals of block `τ`'s window: its right half, and all of it. -/
def rightTot : FVec F S128x128 .f32 := tot1 (unslotW (zS q k τ)) (mask1 τ) triStored
@[inherit_doc rightTot]
def winTot : FVec F S128x128 .f32 := addf (rightTot q k τ) (tot0 (unslotW (zS q k τ)) (mask0 τ) triStored)

/-- The exponents of block `τ`'s window. -/
def argS : FVec F S1x128x256 .f32 :=
  besides (slot (exp0 (unslotW (zS q k τ)) (mask0 τ) (rightTot q k τ) triStored)) (slot (exp1 (unslotW (zS q k τ)) (mask1 τ) triStored))

/-- The stored totals of block `τ`. -/
def totS : FVec F S1x128x128 .f32 := slot (winTot q k τ)

/-- The least total of block `τ`. -/
def leastTot : F .f32 := leastOf (winTot q k τ)

/-- The sums of block `τ` over its window. -/
def accS : FVec F S1x128x128 .f32 := slot (outVal (argS q k τ) (rowsFrom 256 v (64 * τ - 192)))

/-- The totals of block `τ` as the carry starts. -/
def carS : FVec F S1x128x128 .f32 := slot (unslot (totS q k τ))

/-- The position word when `n` older keys are left. -/
def posLeft (n : Nat) : BitVec 32 := Scalar.subi (BitVec.ofNat 32 n) 128#32

/-- The scores of block `τ` against the last 128 of `n` older keys. -/
def oldZ (n : Nat) : FVec F S128x128 .f32 := oldScores lanes (rowsFrom 64 q (64 * τ)) (rowsFrom 128 k (n - 128))

/-- The carry and the sums after the last 128 of `n` older keys. -/
def nextCar (n : Nat) (car : FVec F S1x128x128 .f32) : FVec F S128x128 .f32 :=
  addf (unslot car) (half1 (e := .f32) (oldSuffix (oldZ q k τ n) (posLeft n) triStored))
@[inherit_doc nextCar]
def nextAcc (n : Nat) (car acc : FVec F S1x128x128 .f32) : FVec F S128x128 .f32 :=
  oldAcc (unslot acc) (oldWeights (oldZ q k τ n) (posLeft n) triStored (unslot car)) (rowsFrom 128 v (n - 128))

/-- Whether the loop over older keys goes on at least carry `c`. -/
def goesOn (c : F .f32) : Bool := Scalar.cmpf .ole c (Named.named κ "underflow" 0x43160A50#32) == 1#1

/-- The sums after the loop over `64 * m` older keys. -/
def oldEnd : Nat → F .f32 → FVec F S1x128x128 .f32 → FVec F S1x128x128 .f32 → FVec F S1x128x128 .f32
  | 0, _, _, acc => acc
  | 1, c, car, acc => bif goesOn c then slot (nextAcc q k v τ 64 car acc) else acc
  | m + 2, c, car, acc => bif goesOn c then
      oldEnd m (leastOf (nextCar q k τ (64 * (m + 2)) car)) (slot (nextCar q k τ (64 * (m + 2)) car)) (slot (nextAcc q k v τ (64 * (m + 2)) car acc))
    else acc

/-- The sums of block `τ` over every key before its queries. -/
def accEnd : FVec F S1x128x128 .f32 := oldEnd q k v τ (τ - 3) (leastTot q k τ) (carS q k τ) (accS q k v τ)

/-- The result's rows of block `τ`. -/
def outRows : FVec F S64x128 .f32 := rowsOut lanes (unslot (accEnd q k v τ))

/-- The kernel's result. -/
def attnOut : FVec F S8192x128 .f32 := fun j =>
  outRows q k v ((j 0).val / 64) (ix2 (⟨(j 0).val % 64, Nat.mod_lt _ (by decide)⟩ : Fin 64) (j 1))

end Cert.Proof.Attn

end
-- ==== Proof.Slots.lean ====
/- Reading and writing the slots of the body's buffers, and rows of the sequence's arrays. -/
module

public import proofs.«01_k».proof.Proof.Values
public import Idealize.ShloMosaic.Lib.Memref

@[expose] public section

noncomputable section

namespace Cert.Proof.Attn

open Cert.KernelIdeal Cert.KernelIdeal.Gen
open Idealize.ShloMosaic Idealize.ShloMosaic.TcCoe Idealize.ShloMosaic.ValueIdx

variable {α : Type}

/-- Slot `p` of a window buffer, its halves, of a totals buffer, of a running buffer. -/
abbrev rW (p : Fin 3) : Rect S3x128x256 := Rect.unit (s := S3x128x256) ![p.val, 0, 0] S1x128x256.size (inbW p)
@[inherit_doc rW]
abbrev rH0 (p : Fin 3) : Rect S3x128x256 := Rect.unit (s := S3x128x256) ![p.val, 0, 0] S1x128x128.size (inbH0 p)
@[inherit_doc rW]
abbrev rH1 (p : Fin 3) : Rect S3x128x256 := Rect.unit (s := S3x128x256) ![p.val, 0, 128] S1x128x128.size (inbH1 p)
@[inherit_doc rW]
abbrev rT (p : Fin 3) : Rect S3x128x128 := Rect.unit (s := S3x128x128) ![p.val, 0, 0] S1x128x128.size (inbT p)
@[inherit_doc rW]
abbrev rS (p : Fin 24) : Rect S24x128x128 := Rect.unit (s := S24x128x128) ![p.val, 0, 0] S1x128x128.size (inbS p)

/-- A rectangle's contents in a buffer. -/
def get {s : Shape} (r : Rect s) (x : s.Idx → α) : r.shape.Idx → α := fun j => x (r.emb j)

theorem get_overlay {s : Shape} (r : Rect s) (x : s.Idx → α) (w : r.shape.Idx → α) : get r (r.overlay x w) = w := by
  funext j; exact Rect.overlay_emb r x w j

theorem get_overlay_ne {s : Shape} (r r' : Rect s) (x : s.Idx → α) (w : r'.shape.Idx → α) (h : ∀ j, r.emb j ∉ r'.set) :
    get r (r'.overlay x w) = get r x := by
  funext j; exact Rect.overlay_of_not_mem r' x w (h j)

theorem rW_ne {p p' : Fin 3} (h : p ≠ p') (x : S3x128x256.Idx → α) (w : (rW p').shape.Idx → α) :
    get (rW p) ((rW p').overlay x w) = get (rW p) x := by
  refine get_overlay_ne _ _ x w fun j hj => h (Fin.ext ?_)
  have h0 := (Rect.mem_set_unit.mp hj) 0
  have hj0 : (j 0).val < 1 := (j 0).isLt
  have e : (((rW p).emb j) 0).val = p.val + 1 * (j 0).val := rfl
  have h1 : p'.val ≤ (((rW p).emb j) 0).val := h0.1
  have h2 : (((rW p).emb j) 0).val < p'.val + 1 := h0.2
  omega

theorem rH0_ne {p p' : Fin 3} (h : p ≠ p') (x : S3x128x256.Idx → α) (w : (rH0 p').shape.Idx → α) :
    get (rW p) ((rH0 p').overlay x w) = get (rW p) x := by
  refine get_overlay_ne _ _ x w fun j hj => h (Fin.ext ?_)
  have h0 := (Rect.mem_set_unit.mp hj) 0
  have hj0 : (j 0).val < 1 := (j 0).isLt
  have e : (((rW p).emb j) 0).val = p.val + 1 * (j 0).val := rfl
  have h1 : p'.val ≤ (((rW p).emb j) 0).val := h0.1
  have h2 : (((rW p).emb j) 0).val < p'.val + 1 := h0.2
  omega

theorem rH1_ne {p p' : Fin 3} (h : p ≠ p') (x : S3x128x256.Idx → α) (w : (rH1 p').shape.Idx → α) :
    get (rW p) ((rH1 p').overlay x w) = get (rW p) x := by
  refine get_overlay_ne _ _ x w fun j hj => h (Fin.ext ?_)
  have h0 := (Rect.mem_set_unit.mp hj) 0
  have hj0 : (j 0).val < 1 := (j 0).isLt
  have e : (((rW p).emb j) 0).val = p.val + 1 * (j 0).val := rfl
  have h1 : p'.val ≤ (((rW p).emb j) 0).val := h0.1
  have h2 : (((rW p).emb j) 0).val < p'.val + 1 := h0.2
  omega

theorem rT_ne {p p' : Fin 3} (h : p ≠ p') (x : S3x128x128.Idx → α) (w : (rT p').shape.Idx → α) :
    get (rT p) ((rT p').overlay x w) = get (rT p) x := by
  refine get_overlay_ne _ _ x w fun j hj => h (Fin.ext ?_)
  have h0 := (Rect.mem_set_unit.mp hj) 0
  have hj0 : (j 0).val < 1 := (j 0).isLt
  have e : (((rT p).emb j) 0).val = p.val + 1 * (j 0).val := rfl
  have h1 : p'.val ≤ (((rT p).emb j) 0).val := h0.1
  have h2 : (((rT p).emb j) 0).val < p'.val + 1 := h0.2
  omega

theorem rS_ne {p p' : Fin 24} (h : p ≠ p') (x : S24x128x128.Idx → α) (w : (rS p').shape.Idx → α) :
    get (rS p) ((rS p').overlay x w) = get (rS p) x := by
  refine get_overlay_ne _ _ x w fun j hj => h (Fin.ext ?_)
  have h0 := (Rect.mem_set_unit.mp hj) 0
  have hj0 : (j 0).val < 1 := (j 0).isLt
  have e : (((rS p).emb j) 0).val = p.val + 1 * (j 0).val := rfl
  have h1 : p'.val ≤ (((rS p).emb j) 0).val := h0.1
  have h2 : (((rS p).emb j) 0).val < p'.val + 1 := h0.2
  omega

/-- A slot whose right half and then left half have been stored. -/
theorem get_halves (p : Fin 3) (x : S3x128x256.Idx → α) (l : (rH0 p).shape.Idx → α) (r : (rH1 p).shape.Idx → α) :
    get (rW p) ((rH0 p).overlay ((rH1 p).overlay x r) l) = besides l r := by
  funext j
  unfold besides get
  have j0 : (j 0).val < 1 := (j 0).isLt
  have j2 : (j 2).val < 256 := (j 2).isLt
  split
  · rename_i h
    have e : (rW p).emb j = (rH0 p).emb (ix3 (j 0) (j 1) (⟨(j 2).val, h⟩ : Fin 128)) := by
      funext a
      match a with
      | 0 => exact Fin.ext rfl
      | 1 => exact Fin.ext rfl
      | 2 => exact Fin.ext rfl
    rw [e]; exact Rect.overlay_emb _ _ _ _
  · rename_i h
    have e : (rW p).emb j = (rH1 p).emb (ix3 (j 0) (j 1) (⟨(j 2).val - 128, by omega⟩ : Fin 128)) := by
      funext a
      match a with
      | 0 => exact Fin.ext rfl
      | 1 => exact Fin.ext rfl
      | 2 =>
        refine Fin.ext ?_
        show 0 + 1 * (j 2).val = 128 + 1 * ((j 2).val - 128)
        omega
    rw [Rect.overlay_of_not_mem, e]
    · exact Rect.overlay_emb _ _ _ _
    · intro hm
      have h2 := (Rect.mem_set_unit.mp hm) 2
      have h3 : (((rW p).emb j) 2).val < 0 + 128 := h2.2
      have e3 : (((rW p).emb j) 2).val = 0 + 1 * (j 2).val := rfl
      omega

/-- Rows of the sequence's arrays, loaded. -/
theorem get_rows (n : Nat) (x : S8192x128.Idx → α) (o : Nat) (off : Fin 2 → Nat) (ho : off = ![o, 0])
    (h : ∀ a, off a + (⟨2, ![n, 128]⟩ : Shape).size a ≤ S8192x128.size a) :
    (fun j => x ((Rect.unit (s := S8192x128) off (⟨2, ![n, 128]⟩ : Shape).size h).emb j)) = rowsFrom n x o := by
  subst ho
  funext j
  unfold rowsFrom
  congr 1
  have hn : o + n ≤ 8192 := h 0
  have j0 : (j 0).val < n := (j 0).isLt
  have j1 : (j 1).val < 128 := (j 1).isLt
  funext a
  match a with
  | 0 =>
    refine Fin.ext ?_
    show o + 1 * (j 0).val = (o + (j 0).val) % 8192
    rw [Nat.mod_eq_of_lt (by omega)]; omega
  | 1 =>
    refine Fin.ext ?_
    show 0 + 1 * (j 1).val = (j 1).val % 128
    rw [Nat.mod_eq_of_lt (by omega)]; omega

/-- Sixty-four rows stored at block `τ`. -/
theorem put_rows (x : S8192x128.Idx → α) (y : S8192x128.Idx → α) (τ : Nat) (off : Fin 2 → Nat) (ho : off = ![64 * τ, 0])
    (h : Fits64 off) (w : S64x128.Idx → α)
    (hx : ∀ j : S8192x128.Idx, (j 0).val < 64 * τ → x j = y j)
    (hw : ∀ j : S8192x128.Idx, (j 0).val / 64 = τ → w (ix2 (⟨(j 0).val % 64, Nat.mod_lt _ (by decide)⟩ : Fin 64) (j 1)) = y j) :
    ∀ j : S8192x128.Idx, (j 0).val < 64 * (τ + 1) → (Rect.unit (s := S8192x128) off S64x128.size h).overlay x w j = y j := by
  subst ho
  intro j hj
  by_cases hl : (j 0).val < 64 * τ
  · rw [Rect.overlay_of_not_mem, hx j hl]
    intro hm
    have := ((Rect.mem_set_unit.mp hm) 0).1
    have : 64 * τ ≤ (j 0).val := this
    omega
  · have e : j = (Rect.unit (s := S8192x128) ![64 * τ, 0] S64x128.size h).emb (ix2 (⟨(j 0).val % 64, Nat.mod_lt _ (by decide)⟩ : Fin 64) (j 1)) := by
      funext a
      match a with
      | 0 =>
        refine Fin.ext ?_
        show (j 0).val = 64 * τ + 1 * ((j 0).val % 64)
        omega
      | 1 =>
        refine Fin.ext ?_
        show (j 1).val = 0 + 1 * (j 1).val
        omega
    rw [← hw j (by omega)]
    conv_lhs => rw [e]
    exact Rect.overlay_emb _ _ _ _

end Cert.Proof.Attn

end
-- ==== Proof.Match.lean ====
/- The printed body is the program of `Body.lean`, and each of its printed loops over older keys is one
   turn of `olderKeys`. -/
module

public import proofs.«01_k».proof.Proof.Body
public import Idealize.ShloMosaic.Lib.Pipeline.Regions

@[expose] public section

noncomputable section

namespace Cert.Proof.Attn

open Cert.KernelIdeal Cert.KernelIdeal.Gen
open Idealize.ShloMosaic Idealize.ShloMosaic.TcCoe
open Idealize.SL.Sem

variable {F : FTy → Type} [FloatOps F] [Named F]

/-- What the printed body carries from its sixth part to the next: the two pending least totals, a window of scores,
    its softplus and the mask's left side. -/
abbrev Carried (F : FTy → Type) : Type := Σ' (v714_0 : F .f32) (v714_1 : F .f32) (v731 : FVec F S128x256 .f32) (v743 : FVec F S128x256 .f32), IVec S128x128 32

/-- The printed text after the part that holds the main loop. -/
def afterLoop (B : Bufs) (i : grid0.Coords) : Carried F → P F PUnit := fun ⟨v714_0, v714_1, v731, v743, v745⟩ => do
  let v783 : FVec F S1x128x128 .f32 ← k0_part107 i B.q B.hq B.k B.hk B.v B.hv B.o B.ho B.tri B.htri B.z B.hz B.arg B.harg B.tot B.htot B.acc B.hacc B.car B.hcar v731 v743 v745
  let ⟨v786, v814, cst_433⟩ : Σ' (v786 : F .f32) (v814 : FVec F S128x256 .f32), F .f32 ← k0_part108 i B.q B.hq B.k B.hk B.v B.hv B.o B.ho B.tri B.htri B.z B.hz B.arg B.harg B.tot B.htot B.acc B.hacc B.car B.hcar lanes v714_0 v783
  let ⟨v838, v853, v857⟩ : Σ' (v838 : FVec F S128x128 .f32) (v853 : FVec F S128x128 .f32), FVec F S128x128 .f32 ← k0_part109 i B.q B.hq B.k B.hk B.v B.hv B.o B.ho B.tri B.htri B.z B.hz B.arg B.harg B.tot B.htot B.acc B.hacc B.car B.hcar relPos v814 cst_433
  let v869 : F .f32 ← k0_part110 i B.q B.hq B.k B.hk B.v B.hv B.o B.ho B.tri B.htri B.z B.hz B.arg B.harg B.tot B.htot B.acc B.hacc B.car B.hcar lanes v714_1 v838 v853 v857
  let ⟨v918, v919⟩ : Σ' (v918 : FVec F S128x128 .f32), Vec F S1x128x128 .f32 ← k0_part111 i B.q B.hq B.k B.hk B.v B.hv B.o B.ho B.tri B.htri B.z B.hz B.arg B.harg B.tot B.htot B.acc B.hacc B.car B.hcar lanes v786
  have v920 : FVec F S128x128 .f32 := shapeCast S128x128 v919 shapeCasts_S1x128x128_S128x128
  have v921 : FVec F S1x128x128 .f32 := shapeCast S1x128x128 v918 shapeCasts_S128x128_S1x128x128
  Prog.lift (.store B.car (Rect.unit (s := S24x128x128) ![0, 0, 0] S1x128x128.size inb_S24x128x128_S1x128x128_0_0_0) v921 Finset.univ (View.stores_vmem_bits_univ h_S1x128x128 rfl) (.inl rfl))
  let c7808_i32 : BitVec 32 := 7808#32
  let (v922_0, v922_1) : BitVec 32 × F .f32 ← Prog.lift (.call (32 : (Λ₀ F).Label) ⟨i, B.k, B.hk, B.v, B.hv, B.q, B.hq, lanes, B.tri, B.htri, B.car, B.hcar, B.acc, B.hacc, c7808_i32, v869⟩)
  let c0_496 : Index := 0#32
  let c0_497 : Index := 0#32
  let c0_498 : Index := 0#32
  let v923 : Vec F S1x128x128 .f32 ← Prog.lift (.load B.acc (Rect.unit (s := S24x128x128) ![0, 0, 0] S1x128x128.size inb_S24x128x128_S1x128x128_0_0_0).toLoadRect (View.loadsAt_vmem h_S1x128x128))
  have v924 : FVec F S128x128 .f32 := shapeCast S128x128 v923 shapeCasts_S1x128x128_S128x128
  let c64_i32_499 : BitVec 32 := 64#32
  have v925 : IVec S1x128 32 := broadcast S1x128 c64_i32_499
  have v926 : IVec S1x128 1 := cmpi .slt lanes v925
  have v927 : FVec F S64x128 .f32 := extractStridedSlice S64x128 ![0, 0] v924 slices_S128x128_o0_0_S64x128
  have v928 : FVec F S64x128 .f32 := extractStridedSlice S64x128 ![64, 0] v924 slices_S128x128_o64_0_S64x128
  have v929 : IVec S1x128 1 := shapeCast S1x128 v926 shapeCasts_S1x128_S1x128
  have v930 : IVec S64x128 1 := broadcastTo S64x128 v929 broadcasts_S1x128_S64x128
  have v931 : FVec F S64x128 .f32 := select v930 v927 v928
  let c8128 : Index := 8128#32
  let c0_500 : Index := 0#32
  let v932 : Vec F S64x128 .f32 ← Prog.lift (.load B.o (Rect.unit (s := S8192x128) ![8128, 0] S64x128.size inb_S8192x128_S64x128_8128_0).toLoadRect (View.loadsAt_vmem h_S64x128))
  Prog.lift (.store B.o (Rect.unit (s := S8192x128) ![8128, 0] S64x128.size inb_S8192x128_S64x128_8128_0) v931 Finset.univ (View.stores_vmem_bits_univ h_S64x128 rfl) (.inl rfl))
  pure ⟨⟩

/-- The rest of the printed part that holds the main loop. -/
def endOfPart (B : Bufs) (cs : F .f32 × F .f32) : P F (Carried F) := do
  stageOutput B ![7744, 0] inb_S8192x128_S256x128_7744_0 1 0
  let z : Vec F S1x128x256 .f32 ← Prog.lift (.load B.z (Rect.unit (s := S3x128x256) ![(0 : Fin 3).val, 0, 0] S1x128x256.size (inbW 0)).toLoadRect (View.loadsAt_vmem h_S1x128x256))
  pure ⟨cs.1, cs.2, unslotW z, softplus S128x256 (unslotW z), addi relPos (broadcast S128x128 128#32)⟩

theorem draining_eq (B : Bufs) (i : grid0.Coords) (cs : F .f32 × F .f32) :
    (endOfPart B cs >>= afterLoop B i) = draining B i cs := by
  chain_rfl

theorem part106_eq (B : Bufs) (i : grid0.Coords) (cs : F .f32 × F .f32) :
    k0_part106 (F := F) i B.q B.hq B.k B.hk B.v B.hv B.o B.ho B.tri B.htri B.z B.hz B.arg B.harg B.tot B.htot B.acc B.hacc B.car B.hcar lanes relPos cs.1 cs.2 0#32 5#32 =
      (Scf.Loop.for k0_t1_loop k0_t1_ok cs (trip B i) >>= endOfPart B) := by
  chain_rfl

theorem parts_eq (B : Bufs) (i : grid0.Coords) :
    cc0_attn (F := F) i B.q B.hq B.k B.hk B.v B.hv B.o B.ho B.tri B.htri B.z B.hz B.arg B.harg B.tot B.htot B.acc B.hacc B.car B.hcar =
      (filling B i >>= fun cs => k0_part106 (F := F) i B.q B.hq B.k B.hk B.v B.hv B.o B.ho B.tri B.htri B.z B.hz B.arg B.harg B.tot B.htot B.acc B.hacc B.car B.hcar lanes relPos cs.1 cs.2 0#32 5#32 >>= afterLoop B i) := by
  chain_rfl

/-- The printed body of the kernel, called with the ten buffers, is `body`. -/
theorem attn_eq (B : Bufs) (i : grid0.Coords) :
    cc0_attn (F := F) i B.q B.hq B.k B.hk B.v B.hv B.o B.ho B.tri B.htri B.z B.hz B.arg B.harg B.tot B.htot B.acc B.hacc B.car B.hcar = body B i := by
  refine (parts_eq B i).trans (congrArg (fun k => filling B i >>= k) (funext fun cs => ?_))
  refine (congrArg (fun p => p >>= afterLoop B i) (part106_eq B i cs)).trans ?_
  refine (bind_assoc _ _ _).trans ?_
  exact congrArg (fun k => Scf.Loop.for k0_t1_loop k0_t1_ok cs (trip B i) >>= k) (funext fun cs => draining_eq B i cs)

theorem while1_eq (B : Bufs) (i : grid0.Coords) (pos : BitVec 32) (c : F .f32) :
    cc0_while1 (F := F) i B.k B.hk B.v B.hv B.q B.hq lanes B.tri B.htri B.car B.hcar B.acc B.hacc pos c =
      olderKeys B (Old.rows (.fill 0)) (Old.rows_fits _) (Old.place (.fill 0)) (callOld B i (.fill 0)) pos c := by
  chain_rfl

theorem while2_eq (B : Bufs) (i : grid0.Coords) (pos : BitVec 32) (c : F .f32) :
    cc0_while2 (F := F) i B.k B.hk B.v B.hv B.q B.hq lanes B.tri B.htri B.car B.hcar B.acc B.hacc pos c =
      olderKeys B (Old.rows (.fill 1)) (Old.rows_fits _) (Old.place (.fill 1)) (callOld B i (.fill 1)) pos c := by
  chain_rfl

theorem while3_eq (B : Bufs) (i : grid0.Coords) (pos : BitVec 32) (c : F .f32) :
    cc0_while3 (F := F) i B.k B.hk B.v B.hv B.q B.hq lanes B.tri B.htri B.car B.hcar B.acc B.hacc pos c =
      olderKeys B (Old.rows (.fill 2)) (Old.rows_fits _) (Old.place (.fill 2)) (callOld B i (.fill 2)) pos c := by
  chain_rfl

theorem while4_eq (B : Bufs) (i : grid0.Coords) (pos : BitVec 32) (c : F .f32) :
    cc0_while4 (F := F) i B.k B.hk B.v B.hv B.q B.hq lanes B.tri B.htri B.car B.hcar B.acc B.hacc pos c =
      olderKeys B (Old.rows (.fill 3)) (Old.rows_fits _) (Old.place (.fill 3)) (callOld B i (.fill 3)) pos c := by
  chain_rfl

theorem while5_eq (B : Bufs) (i : grid0.Coords) (t : Fin k0_t1_loop.trips) (pos : BitVec 32) (c : F .f32) :
    cc0_while5 (F := F) i t B.k B.hk B.v B.hv B.q B.hq lanes B.tri B.htri B.car B.hcar B.acc B.hacc pos c =
      olderKeys B (Old.rows (.steady t 0)) (Old.rows_fits _) (Old.place (.steady t 0)) (callOld B i (.steady t 0)) pos c := by
  chain_rfl

theorem while6_eq (B : Bufs) (i : grid0.Coords) (t : Fin k0_t1_loop.trips) (pos : BitVec 32) (c : F .f32) :
    cc0_while6 (F := F) i t B.k B.hk B.v B.hv B.q B.hq lanes B.tri B.htri B.car B.hcar B.acc B.hacc pos c =
      olderKeys B (Old.rows (.steady t 1)) (Old.rows_fits _) (Old.place (.steady t 1)) (callOld B i (.steady t 1)) pos c := by
  chain_rfl

theorem while7_eq (B : Bufs) (i : grid0.Coords) (t : Fin k0_t1_loop.trips) (pos : BitVec 32) (c : F .f32) :
    cc0_while7 (F := F) i t B.k B.hk B.v B.hv B.q B.hq lanes B.tri B.htri B.car B.hcar B.acc B.hacc pos c =
      olderKeys B (Old.rows (.steady t 2)) (Old.rows_fits _) (Old.place (.steady t 2)) (callOld B i (.steady t 2)) pos c := by
  chain_rfl

theorem while8_eq (B : Bufs) (i : grid0.Coords) (t : Fin k0_t1_loop.trips) (pos : BitVec 32) (c : F .f32) :
    cc0_while8 (F := F) i t B.k B.hk B.v B.hv B.q B.hq lanes B.tri B.htri B.car B.hcar B.acc B.hacc pos c =
      olderKeys B (Old.rows (.steady t 3)) (Old.rows_fits _) (Old.place (.steady t 3)) (callOld B i (.steady t 3)) pos c := by
  chain_rfl

theorem while9_eq (B : Bufs) (i : grid0.Coords) (t : Fin k0_t1_loop.trips) (pos : BitVec 32) (c : F .f32) :
    cc0_while9 (F := F) i t B.k B.hk B.v B.hv B.q B.hq lanes B.tri B.htri B.car B.hcar B.acc B.hacc pos c =
      olderKeys B (Old.rows (.steady t 4)) (Old.rows_fits _) (Old.place (.steady t 4)) (callOld B i (.steady t 4)) pos c := by
  chain_rfl

theorem while10_eq (B : Bufs) (i : grid0.Coords) (t : Fin k0_t1_loop.trips) (pos : BitVec 32) (c : F .f32) :
    cc0_while10 (F := F) i t B.k B.hk B.v B.hv B.q B.hq lanes B.tri B.htri B.car B.hcar B.acc B.hacc pos c =
      olderKeys B (Old.rows (.steady t 5)) (Old.rows_fits _) (Old.place (.steady t 5)) (callOld B i (.steady t 5)) pos c := by
  chain_rfl

theorem while11_eq (B : Bufs) (i : grid0.Coords) (t : Fin k0_t1_loop.trips) (pos : BitVec 32) (c : F .f32) :
    cc0_while11 (F := F) i t B.k B.hk B.v B.hv B.q B.hq lanes B.tri B.htri B.car B.hcar B.acc B.hacc pos c =
      olderKeys B (Old.rows (.steady t 6)) (Old.rows_fits _) (Old.place (.steady t 6)) (callOld B i (.steady t 6)) pos c := by
  chain_rfl

theorem while12_eq (B : Bufs) (i : grid0.Coords) (t : Fin k0_t1_loop.trips) (pos : BitVec 32) (c : F .f32) :
    cc0_while12 (F := F) i t B.k B.hk B.v B.hv B.q B.hq lanes B.tri B.htri B.car B.hcar B.acc B.hacc pos c =
      olderKeys B (Old.rows (.steady t 7)) (Old.rows_fits _) (Old.place (.steady t 7)) (callOld B i (.steady t 7)) pos c := by
  chain_rfl

theorem while13_eq (B : Bufs) (i : grid0.Coords) (t : Fin k0_t1_loop.trips) (pos : BitVec 32) (c : F .f32) :
    cc0_while13 (F := F) i t B.k B.hk B.v B.hv B.q B.hq lanes B.tri B.htri B.car B.hcar B.acc B.hacc pos c =
      olderKeys B (Old.rows (.steady t 8)) (Old.rows_fits _) (Old.place (.steady t 8)) (callOld B i (.steady t 8)) pos c := by
  chain_rfl

theorem while14_eq (B : Bufs) (i : grid0.Coords) (t : Fin k0_t1_loop.trips) (pos : BitVec 32) (c : F .f32) :
    cc0_while14 (F := F) i t B.k B.hk B.v B.hv B.q B.hq lanes B.tri B.htri B.car B.hcar B.acc B.hacc pos c =
      olderKeys B (Old.rows (.steady t 9)) (Old.rows_fits _) (Old.place (.steady t 9)) (callOld B i (.steady t 9)) pos c := by
  chain_rfl

theorem while15_eq (B : Bufs) (i : grid0.Coords) (t : Fin k0_t1_loop.trips) (pos : BitVec 32) (c : F .f32) :
    cc0_while15 (F := F) i t B.k B.hk B.v B.hv B.q B.hq lanes B.tri B.htri B.car B.hcar B.acc B.hacc pos c =
      olderKeys B (Old.rows (.steady t 10)) (Old.rows_fits _) (Old.place (.steady t 10)) (callOld B i (.steady t 10)) pos c := by
  chain_rfl

theorem while16_eq (B : Bufs) (i : grid0.Coords) (t : Fin k0_t1_loop.trips) (pos : BitVec 32) (c : F .f32) :
    cc0_while16 (F := F) i t B.k B.hk B.v B.hv B.q B.hq lanes B.tri B.htri B.car B.hcar B.acc B.hacc pos c =
      olderKeys B (Old.rows (.steady t 11)) (Old.rows_fits _) (Old.place (.steady t 11)) (callOld B i (.steady t 11)) pos c := by
  chain_rfl

theorem while17_eq (B : Bufs) (i : grid0.Coords) (t : Fin k0_t1_loop.trips) (pos : BitVec 32) (c : F .f32) :
    cc0_while17 (F := F) i t B.k B.hk B.v B.hv B.q B.hq lanes B.tri B.htri B.car B.hcar B.acc B.hacc pos c =
      olderKeys B (Old.rows (.steady t 12)) (Old.rows_fits _) (Old.place (.steady t 12)) (callOld B i (.steady t 12)) pos c := by
  chain_rfl

theorem while18_eq (B : Bufs) (i : grid0.Coords) (t : Fin k0_t1_loop.trips) (pos : BitVec 32) (c : F .f32) :
    cc0_while18 (F := F) i t B.k B.hk B.v B.hv B.q B.hq lanes B.tri B.htri B.car B.hcar B.acc B.hacc pos c =
      olderKeys B (Old.rows (.steady t 13)) (Old.rows_fits _) (Old.place (.steady t 13)) (callOld B i (.steady t 13)) pos c := by
  chain_rfl

theorem while19_eq (B : Bufs) (i : grid0.Coords) (t : Fin k0_t1_loop.trips) (pos : BitVec 32) (c : F .f32) :
    cc0_while19 (F := F) i t B.k B.hk B.v B.hv B.q B.hq lanes B.tri B.htri B.car B.hcar B.acc B.hacc pos c =
      olderKeys B (Old.rows (.steady t 14)) (Old.rows_fits _) (Old.place (.steady t 14)) (callOld B i (.steady t 14)) pos c := by
  chain_rfl

theorem while20_eq (B : Bufs) (i : grid0.Coords) (t : Fin k0_t1_loop.trips) (pos : BitVec 32) (c : F .f32) :
    cc0_while20 (F := F) i t B.k B.hk B.v B.hv B.q B.hq lanes B.tri B.htri B.car B.hcar B.acc B.hacc pos c =
      olderKeys B (Old.rows (.steady t 15)) (Old.rows_fits _) (Old.place (.steady t 15)) (callOld B i (.steady t 15)) pos c := by
  chain_rfl

theorem while21_eq (B : Bufs) (i : grid0.Coords) (t : Fin k0_t1_loop.trips) (pos : BitVec 32) (c : F .f32) :
    cc0_while21 (F := F) i t B.k B.hk B.v B.hv B.q B.hq lanes B.tri B.htri B.car B.hcar B.acc B.hacc pos c =
      olderKeys B (Old.rows (.steady t 16)) (Old.rows_fits _) (Old.place (.steady t 16)) (callOld B i (.steady t 16)) pos c := by
  chain_rfl

theorem while22_eq (B : Bufs) (i : grid0.Coords) (t : Fin k0_t1_loop.trips) (pos : BitVec 32) (c : F .f32) :
    cc0_while22 (F := F) i t B.k B.hk B.v B.hv B.q B.hq lanes B.tri B.htri B.car B.hcar B.acc B.hacc pos c =
      olderKeys B (Old.rows (.steady t 17)) (Old.rows_fits _) (Old.place (.steady t 17)) (callOld B i (.steady t 17)) pos c := by
  chain_rfl

theorem while23_eq (B : Bufs) (i : grid0.Coords) (t : Fin k0_t1_loop.trips) (pos : BitVec 32) (c : F .f32) :
    cc0_while23 (F := F) i t B.k B.hk B.v B.hv B.q B.hq lanes B.tri B.htri B.car B.hcar B.acc B.hacc pos c =
      olderKeys B (Old.rows (.steady t 18)) (Old.rows_fits _) (Old.place (.steady t 18)) (callOld B i (.steady t 18)) pos c := by
  chain_rfl

theorem while24_eq (B : Bufs) (i : grid0.Coords) (t : Fin k0_t1_loop.trips) (pos : BitVec 32) (c : F .f32) :
    cc0_while24 (F := F) i t B.k B.hk B.v B.hv B.q B.hq lanes B.tri B.htri B.car B.hcar B.acc B.hacc pos c =
      olderKeys B (Old.rows (.steady t 19)) (Old.rows_fits _) (Old.place (.steady t 19)) (callOld B i (.steady t 19)) pos c := by
  chain_rfl

theorem while25_eq (B : Bufs) (i : grid0.Coords) (t : Fin k0_t1_loop.trips) (pos : BitVec 32) (c : F .f32) :
    cc0_while25 (F := F) i t B.k B.hk B.v B.hv B.q B.hq lanes B.tri B.htri B.car B.hcar B.acc B.hacc pos c =
      olderKeys B (Old.rows (.steady t 20)) (Old.rows_fits _) (Old.place (.steady t 20)) (callOld B i (.steady t 20)) pos c := by
  chain_rfl

theorem while26_eq (B : Bufs) (i : grid0.Coords) (t : Fin k0_t1_loop.trips) (pos : BitVec 32) (c : F .f32) :
    cc0_while26 (F := F) i t B.k B.hk B.v B.hv B.q B.hq lanes B.tri B.htri B.car B.hcar B.acc B.hacc pos c =
      olderKeys B (Old.rows (.steady t 21)) (Old.rows_fits _) (Old.place (.steady t 21)) (callOld B i (.steady t 21)) pos c := by
  chain_rfl

theorem while27_eq (B : Bufs) (i : grid0.Coords) (t : Fin k0_t1_loop.trips) (pos : BitVec 32) (c : F .f32) :
    cc0_while27 (F := F) i t B.k B.hk B.v B.hv B.q B.hq lanes B.tri B.htri B.car B.hcar B.acc B.hacc pos c =
      olderKeys B (Old.rows (.steady t 22)) (Old.rows_fits _) (Old.place (.steady t 22)) (callOld B i (.steady t 22)) pos c := by
  chain_rfl

theorem while28_eq (B : Bufs) (i : grid0.Coords) (t : Fin k0_t1_loop.trips) (pos : BitVec 32) (c : F .f32) :
    cc0_while28 (F := F) i t B.k B.hk B.v B.hv B.q B.hq lanes B.tri B.htri B.car B.hcar B.acc B.hacc pos c =
      olderKeys B (Old.rows (.steady t 23)) (Old.rows_fits _) (Old.place (.steady t 23)) (callOld B i (.steady t 23)) pos c := by
  chain_rfl

theorem while29_eq (B : Bufs) (i : grid0.Coords) (pos : BitVec 32) (c : F .f32) :
    cc0_while29 (F := F) i B.k B.hk B.v B.hv B.q B.hq lanes B.tri B.htri B.car B.hcar B.acc B.hacc pos c =
      olderKeys B (Old.rows (.tail 0)) (Old.rows_fits _) (Old.place (.tail 0)) (callOld B i (.tail 0)) pos c := by
  chain_rfl

theorem while30_eq (B : Bufs) (i : grid0.Coords) (pos : BitVec 32) (c : F .f32) :
    cc0_while30 (F := F) i B.k B.hk B.v B.hv B.q B.hq lanes B.tri B.htri B.car B.hcar B.acc B.hacc pos c =
      olderKeys B (Old.rows (.tail 1)) (Old.rows_fits _) (Old.place (.tail 1)) (callOld B i (.tail 1)) pos c := by
  chain_rfl

theorem while31_eq (B : Bufs) (i : grid0.Coords) (pos : BitVec 32) (c : F .f32) :
    cc0_while31 (F := F) i B.k B.hk B.v B.hv B.q B.hq lanes B.tri B.htri B.car B.hcar B.acc B.hacc pos c =
      olderKeys B (Old.rows (.tail 2)) (Old.rows_fits _) (Old.place (.tail 2)) (callOld B i (.tail 2)) pos c := by
  chain_rfl

theorem while32_eq (B : Bufs) (i : grid0.Coords) (pos : BitVec 32) (c : F .f32) :
    cc0_while32 (F := F) i B.k B.hk B.v B.hv B.q B.hq lanes B.tri B.htri B.car B.hcar B.acc B.hacc pos c =
      olderKeys B (Old.rows (.tail 3)) (Old.rows_fits _) (Old.place (.tail 3)) (callOld B i (.tail 3)) pos c := by
  chain_rfl

end Cert.Proof.Attn

end
-- ==== Proof.Exec.lean ====
/- What each stage of the attention kernel's body does to the contents of its buffers. -/
module

public import proofs.«01_k».proof.Proof.Run
public import proofs.«01_k».proof.Proof.Slots
public import proofs.«01_k».proof.Proof.Match

@[expose] public section

noncomputable section

namespace Cert.Proof.Attn

open Cert.KernelIdeal Cert.KernelIdeal.Gen
open Idealize.ShloMosaic Idealize.ShloMosaic.TcCoe Idealize.ShloMosaic.ValueIdx
open Idealize.SL.Sem

variable {F : FTy → Type} [FloatOps F] [Named F]

/-! ## Runs of one operation followed by the rest -/

theorem Runs.loadB {B : Bufs} {α : Type} {n : Nat} (x : Bn) (r : Rect x.sh) {hl : (B.mem x).view.LoadsAt r.toLoadRect}
    {k : (r.shape.Idx → Elt F x.el) → P F α} {s s' : St F} {a : α}
    (h : Runs B n (k (fun j => s x (r.emb j))) s a s') : Runs B n (Prog.lift (.load (B.mem x) r.toLoadRect hl) >>= k) s a s' := .load x r h

theorem Runs.storeB {B : Bufs} {α : Type} {n : Nat} (x : Bn) (r : Rect x.sh) {w : r.shape.Idx → Elt F x.el}
    {hx : ((B.mem x).access r).Stores Finset.univ} {hm : (Finset.univ : Finset r.shape.Idx) = Finset.univ ∨ ∀ a, r.stride a = 1}
    {k : PUnit → P F α} {s s' : St F} {a : α}
    (h : Runs B n (k ⟨⟩) (Function.update s x (r.overlay (s x) w)) a s') :
    Runs B n (Prog.lift (.store (B.mem x) r w Finset.univ hx hm) >>= k) s a s' := .store x r h

theorem Runs.storeL {B : Bufs} {n : Nat} (x : Bn) (r : Rect x.sh) {w : r.shape.Idx → Elt F x.el}
    {hx : ((B.mem x).access r).Stores Finset.univ} {hm : (Finset.univ : Finset r.shape.Idx) = Finset.univ ∨ ∀ a, r.stride a = 1} {s : St F} :
    Runs B n (Prog.lift (.store (B.mem x) r w Finset.univ hx hm)) s ⟨⟩ (Function.update s x (r.overlay (s x) w)) := .store x r (.ret _ _ _)

theorem Runs.retP {B : Bufs} {α : Type} (n : Nat) (a : α) (s : St F) : Runs B n (pure a) s a s := .ret _ _ _

theorem Runs.cast {B : Bufs} {α : Type} {n : Nat} {p : P F α} {s s' : St F} {a a' : α} (h : Runs B n p s a s') (e : a = a') : Runs B n p s a' s' := e ▸ h

variable (B : Bufs) (n : Nat) (q k v : FVec F S8192x128 .bf16)

/-- The whole triangle buffer is one rectangle. -/
theorem get_tri (x : S128x256.Idx → Elt F .bf16) :
    (fun j => x ((Rect.unit (s := S128x256) ![0, 0] S128x256.size inb_S128x256_S128x256_0_0).emb j)) = x := by
  funext j
  congr 1
  funext a
  match a with
  | 0 => exact Fin.ext (show 0 + 1 * (j 0).val = (j 0).val by omega)
  | 1 => exact Fin.ext (show 0 + 1 * (j 1).val = (j 1).val by omega)

/-- What holds of the buffers between two stages: the arrays and the triangle are there, the slots of the
    blocks from `zlo` to `zhi` hold their scores, those from `alo` to `ahi` their exponents and totals, the
    places `A` says hold the sums and carries of their blocks, and the result is right below block `o`. -/
structure Inv (zlo zhi alo ahi o : Nat) (A : Fin 24 → Nat → Prop) (s : St F) : Prop where
  hq : s .q = q
  hk : s .k = k
  hv : s .v = v
  ht : s .tri = triStored (F := F)
  hz : ∀ σ, zlo ≤ σ → σ < zhi → get (rW (turn σ)) (s .z) = zS q k σ
  ha : ∀ σ, alo ≤ σ → σ < ahi → get (rW (turn σ)) (s .arg) = argS q k σ ∧ get (rT (turn σ)) (s .tot) = totS q k σ
  hs : ∀ p σ, A p σ → get (rS p) (s .acc) = accS q k v σ ∧ get (rS p) (s .car) = carS q k σ
  ho : ∀ j : S8192x128.Idx, (j 0).val < 64 * o → s .o j = attnOut q k v j

variable {B n q k v} {zlo zhi alo ahi o : Nat} {A : Fin 24 → Nat → Prop} {s : St F}

theorem turn_ne {a b : Nat} (h : a < b) (h' : b < a + 3) : turn a ≠ turn b := by
  intro e
  have := congrArg Fin.val e
  simp only [turn] at this
  omega

theorem turn_eq {a b : Nat} (h : a % 3 = b % 3) : turn a = turn b := Fin.ext h

/-- Scores of the next block. -/
theorem Inv.scores (hI : Inv q k v zlo zhi alo ahi o A s) (zlo' : Nat) (hlo : zlo ≤ zlo') (h2 : zhi ≤ zlo' + 2)
    {ok : Fin 2 → Nat} {hok : Fits256 ok} {oq : Fin 2 → Nat} {hoq : Fits64 oq} {p : Fin 3}
    (ek : ok = ![64 * zhi - 192, 0]) (eq' : oq = ![64 * zhi, 0]) (ep : p = turn zhi) :
    ∃ s', Runs B n (stageScores B ok hok oq hoq p) s ⟨⟩ s' ∧ Inv q k v zlo' (zhi + 1) alo ahi o A s' := by
  subst ep
  refine ⟨_, Runs.loadB .k _ (Runs.loadB .q _ (Runs.loadB .z _ (Runs.storeL .z _))), ?_⟩
  have e1 := get_rows 256 (s .k) _ _ ek hok
  have e2 := get_rows 64 (s .q) _ _ eq' hoq
  rw [hI.hk] at e1
  rw [hI.hq] at e2
  constructor
  · rw [Function.update_of_ne (by decide)]; exact hI.hq
  · rw [Function.update_of_ne (by decide)]; exact hI.hk
  · rw [Function.update_of_ne (by decide)]; exact hI.hv
  · rw [Function.update_of_ne (by decide)]; exact hI.ht
  · intro σ h h'
    rw [Function.update_self]
    by_cases e : σ = zhi
    · subst e
      refine (get_overlay (rW (turn σ)) _ _).trans ?_
      rw [hI.hk, hI.hq]
      unfold zS
      exact congrArg₂ (fun a b => slotW (scoresVal lanes a b)) e2 e1
    · refine (rW_ne (turn_ne (by omega) (by omega)) _ _).trans (hI.hz σ (by omega) (by omega))
  · rw [Function.update_of_ne (by decide), Function.update_of_ne (by decide)]; exact hI.ha
  · rw [Function.update_of_ne (by decide), Function.update_of_ne (by decide)]; exact hI.hs
  · rw [Function.update_of_ne (by decide)]; exact hI.ho

/-- What the stage of the exponents does, from the scores `z` in its slot and the triangle `t`. -/
theorem runs_exponents (p : Fin 3) (m1 : IVec S128x128 1) (m0 : Option (IVec S128x128 1)) (z : Vec F S1x128x256 .f32) (t : Vec F S128x256 .bf16)
    (ez : (fun j => s .z ((rW p).emb j)) = z)
    (et : (fun j => s .tri ((Rect.unit (s := S128x256) ![0, 0] S128x256.size inb_S128x256_S128x256_0_0).emb j)) = t) :
    Runs B n (stageExponents B p m1 m0) s (leastOf (addf (tot1 (unslotW z) m1 t) (tot0 (unslotW z) m0 t)))
      (Function.update (Function.update s .arg ((rH0 p).overlay ((rH1 p).overlay (s .arg) (slot (exp1 (unslotW z) m1 t)))
        (slot (exp0 (unslotW z) m0 (tot1 (unslotW z) m1 t) t)))) .tot
        ((rT p).overlay (s .tot) (slot (addf (tot1 (unslotW z) m1 t) (tot0 (unslotW z) m0 t))))) := by
  subst ez et
  refine Runs.loadB .z _ (Runs.loadB .tri _ (Runs.loadB .arg _ (Runs.storeB .arg _ ?_)))
  refine Runs.loadB .tri _ (Runs.loadB .arg _ (Runs.storeB .arg _ (Runs.loadB .tot _ (Runs.storeB .tot _ ?_))))
  rw [Function.update_idem, Function.update_self, Function.update_of_ne (by decide : Bn.tri ≠ Bn.arg), Function.update_of_ne (by decide : Bn.tot ≠ Bn.arg)]
  exact .ret _ _ _

/-- Exponents and totals of the next block. -/
theorem Inv.exponents (hI : Inv q k v zlo zhi alo ahi o A s) (hz : zlo ≤ ahi) (hz' : ahi < zhi) (h2 : ahi ≤ alo + 2)
    {p : Fin 3} {m1 : IVec S128x128 1} {m0 : Option (IVec S128x128 1)} (ep : p = turn ahi) (e1 : m1 = mask1 ahi) (e0 : m0 = mask0 ahi) :
    ∃ s', Runs B n (stageExponents B p m1 m0) s (leastTot q k ahi) s' ∧ Inv q k v zlo zhi alo (ahi + 1) o A s' := by
  subst ep e1 e0
  have ez : (fun j => s .z ((rW (turn ahi)).emb j)) = zS q k ahi := hI.hz ahi hz hz'
  have et : (fun j => s .tri ((Rect.unit (s := S128x256) ![0, 0] S128x256.size inb_S128x256_S128x256_0_0).emb j)) = triStored (F := F) := by
    rw [get_tri]; exact hI.ht
  refine ⟨_, runs_exponents (turn ahi) (mask1 ahi) (mask0 ahi) _ _ ez et, ?_⟩
  constructor
  · rw [Function.update_of_ne (by decide), Function.update_of_ne (by decide)]; exact hI.hq
  · rw [Function.update_of_ne (by decide), Function.update_of_ne (by decide)]; exact hI.hk
  · rw [Function.update_of_ne (by decide), Function.update_of_ne (by decide)]; exact hI.hv
  · rw [Function.update_of_ne (by decide), Function.update_of_ne (by decide)]; exact hI.ht
  · rw [Function.update_of_ne (by decide), Function.update_of_ne (by decide)]; exact hI.hz
  · intro σ h h'
    rw [Function.update_of_ne (by decide), Function.update_self, Function.update_self]
    by_cases e : σ = ahi
    · subst e
      exact ⟨get_halves (turn σ) _ _ _, get_overlay (rT (turn σ)) _ _⟩
    · have hne : turn σ ≠ turn ahi := turn_ne (by omega) (by omega)
      have := hI.ha σ h (by omega)
      exact ⟨(rH0_ne hne _ _).trans ((rH1_ne hne _ _).trans this.1), (rT_ne hne _ _).trans this.2⟩
  · rw [Function.update_of_ne (by decide), Function.update_of_ne (by decide), Function.update_of_ne (by decide), Function.update_of_ne (by decide)]; exact hI.hs
  · rw [Function.update_of_ne (by decide), Function.update_of_ne (by decide)]; exact hI.ho

/-- Sums and carry of block `alo`, into place `p`. -/
theorem Inv.output (hI : Inv q k v zlo zhi alo ahi o A s) (ha : alo < ahi)
    {ov : Fin 2 → Nat} {hov : Fits256 ov} {w : Fin 3} {p : Fin 24} (ev : ov = ![64 * alo - 192, 0]) (ew : w = turn alo)
    (A' : Fin 24 → Nat → Prop) (hA : ∀ p' σ, A' p' σ → (p' = p ∧ σ = alo) ∨ (p' ≠ p ∧ A p' σ)) :
    ∃ s', Runs B n (stageOutput B ov hov w p) s ⟨⟩ s' ∧ Inv q k v zlo zhi (alo + 1) ahi o A' s' := by
  subst ew
  have e1 := get_rows 256 (s .v) _ _ ev hov
  rw [hI.hv] at e1
  obtain ⟨ea, et⟩ := hI.ha alo le_rfl ha
  refine ⟨_, Runs.loadB .v _ (Runs.loadB .arg _ (Runs.loadB .acc _ (Runs.storeB .acc _ (Runs.loadB .tot _ (Runs.loadB .car _ (Runs.storeL .car _)))))), ?_⟩
  have ea' : (fun j => s .arg ((rW (turn alo)).emb j)) = argS q k alo := ea
  have et' : (fun j => s .tot ((rT (turn alo)).emb j)) = totS q k alo := et
  constructor
  · rw [Function.update_of_ne (by decide), Function.update_of_ne (by decide)]; exact hI.hq
  · rw [Function.update_of_ne (by decide), Function.update_of_ne (by decide)]; exact hI.hk
  · rw [Function.update_of_ne (by decide), Function.update_of_ne (by decide)]; exact hI.hv
  · rw [Function.update_of_ne (by decide), Function.update_of_ne (by decide)]; exact hI.ht
  · rw [Function.update_of_ne (by decide), Function.update_of_ne (by decide)]; exact hI.hz
  · rw [Function.update_of_ne (by decide), Function.update_of_ne (by decide), Function.update_of_ne (by decide), Function.update_of_ne (by decide)]
    exact fun σ h h' => hI.ha σ (by omega) h'
  · intro p' σ h
    rw [Function.update_of_ne (by decide : Bn.acc ≠ Bn.car), Function.update_self, Function.update_self,
      Function.update_of_ne (by decide : Bn.tot ≠ Bn.acc), Function.update_of_ne (by decide : Bn.car ≠ Bn.acc)]
    rcases hA p' σ h with ⟨rfl, rfl⟩ | ⟨hne, h'⟩
    · constructor
      · refine (get_overlay (rS p') _ _).trans ?_
        rw [accS, hI.hv]
        exact congrArg₂ (fun a b => slot (outVal a b)) ea' e1
      · refine (get_overlay (rS p') _ _).trans ?_
        rw [carS, ← et']
    · have := hI.hs p' σ h'
      exact ⟨(rS_ne hne _ _).trans this.1, (rS_ne hne _ _).trans this.2⟩
  · rw [Function.update_of_ne (by decide), Function.update_of_ne (by decide)]; exact hI.ho

/-! ## The loop over older keys -/

variable {i : grid0.Coords}

theorem pos_gt : ∀ m : Fin 129, 0 < m.val → Scalar.cmpi .sgt (posLeft (64 * m.val)) 4294967168#32 = 1#1 := by decide +kernel
theorem pos_chk : ∀ m : Fin 129, k0_chk1 (posLeft (64 * m.val)) := by decide +kernel
theorem pos_off : ∀ m : Fin 129, k0_off1 (posLeft (64 * m.val)) = ![64 * m.val - 128, 0] := by decide +kernel
theorem pos_sub : ∀ m : Fin 127, Scalar.subi (posLeft (64 * (m.val + 2))) 128#32 = posLeft (64 * m.val) := by decide +kernel
theorem pos_end0 : Scalar.cmpi .sgt (posLeft (64 * 0)) 4294967168#32 = 0#1 := by decide +kernel
theorem pos_end1 : Scalar.cmpi .sgt (Scalar.subi (posLeft (64 * 1)) 128#32) 4294967168#32 = 0#1 := by decide +kernel
theorem andi_one : ∀ x : BitVec 1, Scalar.andi 1#1 x = x := by decide
theorem andi_zero : ∀ x : BitVec 1, ¬ Scalar.andi 0#1 x = 1#1 := by decide

/-- A call of a loop over older keys runs one turn of it. -/
theorem callOld_runs {m n : Nat} (hm : m < n) (w : Old) (pos : BitVec 32) (c : F .f32) {s s' : St F} {b : BitVec 32 × F .f32}
    (h : Runs B m (olderKeys B w.rows w.rows_fits w.place (callOld B i w) pos c) s b s') : Runs B n (callOld B i w pos c) s b s' := by
  match w, h with
  | .fill j, h =>
    match j, h with
    | 0, h => exact .call m hm ((congrArg (fun p => Runs B m p s b s') (while1_eq B i pos c)).mpr h) (.ret _ _ _)
    | 1, h => exact .call m hm ((congrArg (fun p => Runs B m p s b s') (while2_eq B i pos c)).mpr h) (.ret _ _ _)
    | 2, h => exact .call m hm ((congrArg (fun p => Runs B m p s b s') (while3_eq B i pos c)).mpr h) (.ret _ _ _)
    | 3, h => exact .call m hm ((congrArg (fun p => Runs B m p s b s') (while4_eq B i pos c)).mpr h) (.ret _ _ _)
  | .steady t u, h =>
    revert h
    refine every24 (p := fun u => Runs B m (olderKeys B (Old.steady t u).rows (Old.rows_fits _) (Old.steady t u).place (callOld B i (.steady t u)) pos c) s b s' → Runs B n (callOld B i (.steady t u) pos c) s b s')
      (fun h => .call m hm ((congrArg (fun p => Runs B m p s b s') (while5_eq B i t pos c)).mpr h) (.ret _ _ _))
      (fun h => .call m hm ((congrArg (fun p => Runs B m p s b s') (while6_eq B i t pos c)).mpr h) (.ret _ _ _))
      (fun h => .call m hm ((congrArg (fun p => Runs B m p s b s') (while7_eq B i t pos c)).mpr h) (.ret _ _ _))
      (fun h => .call m hm ((congrArg (fun p => Runs B m p s b s') (while8_eq B i t pos c)).mpr h) (.ret _ _ _))
      (fun h => .call m hm ((congrArg (fun p => Runs B m p s b s') (while9_eq B i t pos c)).mpr h) (.ret _ _ _))
      (fun h => .call m hm ((congrArg (fun p => Runs B m p s b s') (while10_eq B i t pos c)).mpr h) (.ret _ _ _))
      (fun h => .call m hm ((congrArg (fun p => Runs B m p s b s') (while11_eq B i t pos c)).mpr h) (.ret _ _ _))
      (fun h => .call m hm ((congrArg (fun p => Runs B m p s b s') (while12_eq B i t pos c)).mpr h) (.ret _ _ _))
      (fun h => .call m hm ((congrArg (fun p => Runs B m p s b s') (while13_eq B i t pos c)).mpr h) (.ret _ _ _))
      (fun h => .call m hm ((congrArg (fun p => Runs B m p s b s') (while14_eq B i t pos c)).mpr h) (.ret _ _ _))
      (fun h => .call m hm ((congrArg (fun p => Runs B m p s b s') (while15_eq B i t pos c)).mpr h) (.ret _ _ _))
      (fun h => .call m hm ((congrArg (fun p => Runs B m p s b s') (while16_eq B i t pos c)).mpr h) (.ret _ _ _))
      (fun h => .call m hm ((congrArg (fun p => Runs B m p s b s') (while17_eq B i t pos c)).mpr h) (.ret _ _ _))
      (fun h => .call m hm ((congrArg (fun p => Runs B m p s b s') (while18_eq B i t pos c)).mpr h) (.ret _ _ _))
      (fun h => .call m hm ((congrArg (fun p => Runs B m p s b s') (while19_eq B i t pos c)).mpr h) (.ret _ _ _))
      (fun h => .call m hm ((congrArg (fun p => Runs B m p s b s') (while20_eq B i t pos c)).mpr h) (.ret _ _ _))
      (fun h => .call m hm ((congrArg (fun p => Runs B m p s b s') (while21_eq B i t pos c)).mpr h) (.ret _ _ _))
      (fun h => .call m hm ((congrArg (fun p => Runs B m p s b s') (while22_eq B i t pos c)).mpr h) (.ret _ _ _))
      (fun h => .call m hm ((congrArg (fun p => Runs B m p s b s') (while23_eq B i t pos c)).mpr h) (.ret _ _ _))
      (fun h => .call m hm ((congrArg (fun p => Runs B m p s b s') (while24_eq B i t pos c)).mpr h) (.ret _ _ _))
      (fun h => .call m hm ((congrArg (fun p => Runs B m p s b s') (while25_eq B i t pos c)).mpr h) (.ret _ _ _))
      (fun h => .call m hm ((congrArg (fun p => Runs B m p s b s') (while26_eq B i t pos c)).mpr h) (.ret _ _ _))
      (fun h => .call m hm ((congrArg (fun p => Runs B m p s b s') (while27_eq B i t pos c)).mpr h) (.ret _ _ _))
      (fun h => .call m hm ((congrArg (fun p => Runs B m p s b s') (while28_eq B i t pos c)).mpr h) (.ret _ _ _)) u
  | .tail j, h =>
    match j, h with
    | 0, h => exact .call m hm ((congrArg (fun p => Runs B m p s b s') (while29_eq B i pos c)).mpr h) (.ret _ _ _)
    | 1, h => exact .call m hm ((congrArg (fun p => Runs B m p s b s') (while30_eq B i pos c)).mpr h) (.ret _ _ _)
    | 2, h => exact .call m hm ((congrArg (fun p => Runs B m p s b s') (while31_eq B i pos c)).mpr h) (.ret _ _ _)
    | 3, h => exact .call m hm ((congrArg (fun p => Runs B m p s b s') (while32_eq B i pos c)).mpr h) (.ret _ _ _)

/-- What the loop over older keys changes: the sums and the carry at its place only. -/
structure Only (p : Fin 24) (s s' : St F) : Prop where
  same : ∀ x, x ≠ Bn.acc → x ≠ Bn.car → s' x = s x
  acc : ∀ p', p' ≠ p → get (rS p') (s' .acc) = get (rS p') (s .acc)
  car : ∀ p', p' ≠ p → get (rS p') (s' .car) = get (rS p') (s .car)

theorem Only.rfl' {p : Fin 24} {s : St F} : Only p s s := ⟨fun _ _ _ => rfl, fun _ _ => rfl, fun _ _ => rfl⟩

theorem Only.trans {p : Fin 24} {s s' s'' : St F} (h : Only p s s') (h' : Only p s' s'') : Only p s s'' :=
  ⟨fun x a b => (h'.same x a b).trans (h.same x a b), fun p' a => (h'.acc p' a).trans (h.acc p' a), fun p' a => (h'.car p' a).trans (h.car p' a)⟩

/-- One turn of the loop over older keys that goes on. -/
theorem older_turn (hq : s .q = q) (hk : s .k = k) (hv : s .v = v) (ht : s .tri = triStored (F := F)) (τ m : Nat) (hm0 : 0 < m) (hm : m ≤ 128)
    {oq : Fin 2 → Nat} {hoq : Fits64 oq} {p : Fin 24} (eo : oq = ![64 * τ, 0]) (next : BitVec 32 → F .f32 → P F (BitVec 32 × F .f32)) (c : F .f32)
    (hc : goesOn c = true) :
    ∃ s₁, Only p s s₁ ∧ get (rS p) (s₁ .acc) = slot (nextAcc q k v τ (64 * m) (get (rS p) (s .car)) (get (rS p) (s .acc))) ∧
      get (rS p) (s₁ .car) = slot (nextCar q k τ (64 * m) (get (rS p) (s .car))) ∧
      ∀ b s', Runs B n (next (Scalar.subi (posLeft (64 * m)) 128#32) (leastOf (nextCar q k τ (64 * m) (get (rS p) (s .car))))) s₁ b s' →
        Runs B n (olderKeys B oq hoq p next (posLeft (64 * m)) c) s b s' := by
  have hch : k0_chk1 (posLeft (64 * m)) := pos_chk ⟨m, by omega⟩
  have hof : k0_off1 (posLeft (64 * m)) = ![64 * m - 128, 0] := pos_off ⟨m, by omega⟩
  have hgt : Scalar.cmpi .sgt (posLeft (64 * m)) 4294967168#32 = 1#1 := pos_gt ⟨m, by omega⟩ hm0
  have hif : Scalar.andi (Scalar.cmpi .sgt (posLeft (64 * m)) 4294967168#32) (Scalar.cmpf .ole c (Named.named κ "underflow" 0x43160A50#32)) = 1#1 := by
    rw [hgt, andi_one]; exact eq_of_beq hc
  have ek := get_rows 128 (s .k) _ _ hof (k0_off1_inb (posLeft (64 * m)) hch)
  have ev := get_rows 128 (s .v) _ _ hof (k0_off1_inb (posLeft (64 * m)) hch)
  have eq' := get_rows 64 (s .q) _ _ eo hoq
  have et := get_tri (s .tri)
  rw [hk] at ek
  rw [hv] at ev
  rw [hq] at eq'
  rw [ht] at et
  have ez : oldScores lanes (fun j => q ((Rect.unit (s := S8192x128) oq S64x128.size hoq).emb j))
      (fun j => k ((Rect.unit (s := S8192x128) (k0_off1 (posLeft (64 * m))) S128x128.size (k0_off1_inb (posLeft (64 * m)) hch)).emb j)) = oldZ q k τ (64 * m) :=
    congrArg₂ (oldScores lanes) eq' ek
  refine ⟨Function.update (Function.update s .acc ((rS p).overlay (s .acc) (slot (nextAcc q k v τ (64 * m) (get (rS p) (s .car)) (get (rS p) (s .acc))))))
    .car ((rS p).overlay (s .car) (slot (nextCar q k τ (64 * m) (get (rS p) (s .car))))), ⟨?_, ?_, ?_⟩, ?_, ?_, ?_⟩
  · intro x h h'
    rw [Function.update_of_ne h', Function.update_of_ne h]
  · intro p' h
    rw [Function.update_of_ne (by decide), Function.update_self]
    exact rS_ne h _ _
  · intro p' h
    rw [Function.update_self]
    exact rS_ne h _ _
  · rw [Function.update_of_ne (by decide), Function.update_self]
    exact get_overlay (rS p) _ _
  · rw [Function.update_self]
    exact get_overlay (rS p) _ _
  · intro b s' h
    unfold olderKeys
    rw [if_pos hif]
    refine .side hch (Runs.loadB .k _ (Runs.loadB .v _ (Runs.loadB .q _ (Runs.loadB .tri _ (Runs.loadB .car _ (Runs.loadB .acc _ (Runs.loadB .acc _
      (Runs.storeB .acc _ (Runs.loadB .car _ (Runs.storeB .car _ ?_))))))))))
    rw [Function.update_of_ne (by decide : Bn.car ≠ Bn.acc), hq, hk, hv, ht, et]
    unfold nextAcc nextCar at h
    rw [← ev, ← ez] at h
    exact h

/-- The loop over `64 * m` older keys. -/
theorem older_runs (w : Old) (τ : Nat) (eo : w.rows = ![64 * τ, 0]) (m : Nat) :
    ∀ (hm : m ≤ 128) (s : St F) (c : F .f32) (_ : s .q = q) (_ : s .k = k) (_ : s .v = v) (_ : s .tri = triStored (F := F)),
      ∃ b s', Runs B (m + 2) (callOld B i w (posLeft (64 * m)) c) s b s' ∧ Only w.place s s' ∧
        get (rS w.place) (s' .acc) = oldEnd q k v τ m c (get (rS w.place) (s .car)) (get (rS w.place) (s .acc)) := by
  have stop : ∀ (n : Nat) (s : St F) (c : F .f32) (pos : BitVec 32),
      ¬ Scalar.andi (Scalar.cmpi .sgt pos 4294967168#32) (Scalar.cmpf .ole c (Named.named κ "underflow" 0x43160A50#32)) = 1#1 →
      Runs B (n + 1) (callOld B i w pos c) s (pos, c) s := by
    intro n s c pos h
    refine callOld_runs (Nat.lt_succ_self n) w pos c ?_
    unfold olderKeys
    rw [if_neg h]
    exact .ret _ _ _
  induction m using Nat.strong_induction_on with
  | _ m ih =>
    intro hm s c hq hk hv ht
    match m, ih, hm with
    | 0, _, _ =>
      refine ⟨_, s, stop 1 s c _ ?_, .rfl', by rw [oldEnd]⟩
      rw [pos_end0]; exact andi_zero _
    | 1, _, hm =>
      by_cases hc : goesOn c = true
      · obtain ⟨s₁, h1, h2, h3, h4⟩ := older_turn (B := B) (n := 2) (hoq := w.rows_fits) (p := w.place) hq hk hv ht τ 1 (by omega) (by omega) eo (callOld B i w) c hc
        refine ⟨_, s₁, callOld_runs (Nat.lt_succ_self 2) w _ c (h4 _ _ (stop 1 s₁ _ _ ?_)), h1, ?_⟩
        · rw [pos_end1]; exact andi_zero _
        · rw [h2, oldEnd, hc]; rfl
      · refine ⟨_, s, stop 2 s c _ ?_, .rfl', ?_⟩
        · rw [pos_gt ⟨1, by omega⟩ Nat.one_pos, andi_one]
          intro h; exact hc (beq_iff_eq.mpr h)
        · rw [oldEnd, show goesOn c = false by simpa using hc]; rfl
    | m + 2, ih, hm =>
      by_cases hc : goesOn c = true
      · obtain ⟨s₁, h1, h2, h3, h4⟩ := older_turn (B := B) (n := m + 3) (hoq := w.rows_fits) (p := w.place) hq hk hv ht τ (m + 2) (by omega) (by omega) eo (callOld B i w) c hc
        rw [pos_sub ⟨m, by omega⟩] at h4
        obtain ⟨b, s', r1, r2, r3⟩ := ih m (by omega) (by omega) s₁ (leastOf (nextCar q k τ (64 * (m + 2)) (get (rS w.place) (s .car))))
          ((h1.same _ (by decide) (by decide)).trans hq) ((h1.same _ (by decide) (by decide)).trans hk)
          ((h1.same _ (by decide) (by decide)).trans hv) ((h1.same _ (by decide) (by decide)).trans ht)
        refine ⟨b, s', callOld_runs (Nat.lt_succ_self (m + 3)) w _ c (h4 _ _ (r1.mono (by omega))), h1.trans r2, ?_⟩
        rw [r3, h2, h3, oldEnd, hc]; rfl
      · refine ⟨_, s, stop (m + 3) s c _ ?_, .rfl', ?_⟩
        · rw [pos_gt ⟨m + 2, by omega⟩ (by show 0 < m + 2; omega), andi_one]
          intro h; exact hc (beq_iff_eq.mpr h)
        · rw [oldEnd, show goesOn c = false by simpa using hc]; rfl

/-- The end of block `o`. -/
theorem Inv.finish (hI : Inv q k v zlo zhi alo ahi o A s) (hn : 131 ≤ n) (w : Old) (hA : A w.place o) (ho : o < 128) (eo : w.rows = ![64 * o, 0])
    {oo : Fin 2 → Nat} {hoo : Fits64 oo} (eoo : oo = ![64 * o, 0]) {p : Fin 24} (hp : p = w.place) {pos : BitVec 32} (hpos : pos = posLeft (64 * (o - 3)))
    {c : F .f32} (hc : c = leastTot q k o)
    (A' : Fin 24 → Nat → Prop) (hA' : ∀ p' σ, A' p' σ → p' ≠ p ∧ A p' σ) :
    ∃ s', Runs B n (Attn.finish B oo hoo p (callOld B i w pos c)) s ⟨⟩ s' ∧ Inv q k v zlo zhi alo ahi (o + 1) A' s' := by
  rw [hp, hpos, hc]
  rw [hp] at hA'
  obtain ⟨b, s₁, r1, r2, r3⟩ := older_runs (B := B) (i := i) w o eo (o - 3) (by omega) s (leastTot q k o) hI.hq hI.hk hI.hv hI.ht
  obtain ⟨ea, ec⟩ := hI.hs _ _ hA
  rw [ea, ec] at r3
  have r3' : (fun j => s₁ .acc ((rS w.place).emb j)) = accEnd q k v o := r3
  refine ⟨_, (r1.mono (by omega)).bind (Runs.loadB .acc _ (Runs.loadB .o _ (Runs.storeL .o _))), ?_⟩
  rw [r3']
  constructor
  · rw [Function.update_of_ne (by decide), r2.same _ (by decide) (by decide)]; exact hI.hq
  · rw [Function.update_of_ne (by decide), r2.same _ (by decide) (by decide)]; exact hI.hk
  · rw [Function.update_of_ne (by decide), r2.same _ (by decide) (by decide)]; exact hI.hv
  · rw [Function.update_of_ne (by decide), r2.same _ (by decide) (by decide)]; exact hI.ht
  · rw [Function.update_of_ne (by decide), r2.same _ (by decide) (by decide)]; exact hI.hz
  · rw [Function.update_of_ne (by decide), Function.update_of_ne (by decide), r2.same _ (by decide) (by decide), r2.same _ (by decide) (by decide)]; exact hI.ha
  · intro p' σ h
    obtain ⟨h1, h2⟩ := hA' p' σ h
    rw [Function.update_of_ne (by decide), Function.update_of_ne (by decide), r2.acc p' h1, r2.car p' h1]; exact hI.hs p' σ h2
  · rw [Function.update_self]
    refine put_rows (s₁ .o) (attnOut q k v) o oo eoo hoo _ ?_ ?_
    · rw [r2.same _ (by decide) (by decide)]; exact hI.ho
    · intro j hj
      unfold attnOut outRows
      rw [hj]

end Cert.Proof.Attn

end
-- ==== Proof.Order.lean ====
/- The whole body of the attention kernel: its stages in order, from the arrays to the result. -/
module

public import proofs.«01_k».proof.Proof.Exec
public import Idealize.ShloMosaic.Lib.Scf

@[expose] public section

noncomputable section

namespace Cert.Proof.Attn

open Cert.KernelIdeal Cert.KernelIdeal.Gen
open Idealize.ShloMosaic Idealize.ShloMosaic.TcCoe Idealize.ShloMosaic.ValueIdx
open Idealize.SL.Sem

variable {F : FTy → Type} [FloatOps F] [Named F]
variable {B : Bufs} {n : Nat} {q k v : FVec F S8192x128 .bf16} {i : grid0.Coords}

/-- One program after another, each with what holds after it. -/
theorem bindE {α β : Type} {p : P F α} {g : α → P F β} {s : St F} {a : α} {I : St F → Prop} {R : β → St F → Prop}
    (h : ∃ s', Runs B n p s a s' ∧ I s') (h' : ∀ s', I s' → ∃ b s'', Runs B n (g a) s' b s'' ∧ R b s'') :
    ∃ b s'', Runs B n (p >>= g) s b s'' ∧ R b s'' := by
  obtain ⟨s₁, r, h1⟩ := h
  obtain ⟨b, s₂, r', h2⟩ := h' s₁ h1
  exact ⟨b, s₂, r.bind r', h2⟩

theorem mask1_lit {τ : Nat} {d : BitVec 32} (h : d = BitVec.ofNat 32 (min (64 * τ) 192)) : maskAt 128#32 d = mask1 τ := by
  subst h; rfl
theorem mask0_some {τ : Nat} {d : BitVec 32} (ht : τ < 2) (h : d = BitVec.ofNat 32 (64 * τ)) : some (maskAt 0#32 d) = mask0 τ := by
  subst h; unfold mask0; rw [if_pos ht]; rfl
theorem mask0_none {τ : Nat} (ht : 2 ≤ τ) : none = mask0 τ := by
  unfold mask0; rw [if_neg (by omega)]

/-- No place holds anything. -/
abbrev none24 : Fin 24 → Nat → Prop := fun _ _ => False
/-- The first place holds block `τ`. -/
abbrev one24 (τ : Nat) : Fin 24 → Nat → Prop := fun p σ => p = 0 ∧ σ = τ

variable {s : St F}

/-- The triangle is stored. -/
theorem putTri_runs (hq : s .q = q) (hk : s .k = k) (hv : s .v = v) :
    ∃ s', Runs B n (putTri B) s ⟨⟩ s' ∧ Inv q k v 0 0 0 0 0 none24 s' := by
  refine ⟨_, Runs.loadB .tri _ (Runs.storeL .tri _), ?_⟩
  constructor
  · rw [Function.update_of_ne (by decide)]; exact hq
  · rw [Function.update_of_ne (by decide)]; exact hk
  · rw [Function.update_of_ne (by decide)]; exact hv
  · rw [Function.update_self]
    exact (get_tri _).symm.trans (get_overlay (Rect.unit (s := S128x256) ![0, 0] S128x256.size inb_S128x256_S128x256_0_0) _ _)
  · intro σ h h'; omega
  · intro σ h h'; omega
  · intro p σ h; exact h.elim
  · intro j h; omega

/-- What holds of blocks `σ` to `σ + 3` before block `σ`'s output, in the middle of the sequence. -/
abbrev Mid (q k v : FVec F S8192x128 .bf16) (σ o : Nat) (A : Fin 24 → Nat → Prop) (s : St F) : Prop :=
  Inv q k v (σ + 1) (σ + 4) σ (σ + 2) o A s

/-- The blocks before the main loop. -/
theorem filling_runs (hn : 131 ≤ n) (hq : s .q = q) (hk : s .k = k) (hv : s .v = v) :
    ∃ c s', Runs B n (filling B i) s c s' ∧ c = (leastTot q k 4, leastTot q k 5) ∧ Mid q k v 4 4 none24 s' := by
  unfold filling
  refine bindE (putTri_runs hq hk hv) fun s i0 => ?_
  refine bindE (Inv.scores i0 0 (by decide) (by decide) rfl rfl rfl) fun s i1 => ?_
  refine bindE (Inv.scores i1 0 (by decide) (by decide) rfl rfl rfl) fun s i2 => ?_
  refine bindE (Inv.scores i2 0 (by decide) (by decide) rfl rfl rfl) fun s i3 => ?_
  refine bindE (Inv.exponents i3 (by decide) (by decide) (by decide) rfl (mask1_lit rfl) (mask0_some (by decide) rfl)) fun s i4 => ?_
  refine bindE (Inv.scores i4 1 (by decide) (by decide) rfl rfl rfl) fun s i5 => ?_
  refine bindE (Inv.exponents i5 (by decide) (by decide) (by decide) rfl (mask1_lit rfl) (mask0_some (by decide) rfl)) fun s i6 => ?_
  refine bindE (Inv.scores i6 2 (by decide) (by decide) rfl rfl rfl) fun s i7 => ?_
  refine bindE (Inv.exponents i7 (by decide) (by decide) (by decide) rfl (mask1_lit rfl) (mask0_none (by decide))) fun s i8 => ?_
  refine bindE (Inv.output i8 (by decide) rfl rfl (one24 0) (fun _ _ h => .inl h)) fun s i9 => ?_
  refine bindE (Inv.finish i9 hn (.fill 0) ⟨rfl, rfl⟩ (by decide) rfl rfl rfl (by decide) rfl none24 (fun _ _ h => h.elim)) fun s i10 => ?_
  refine bindE (Inv.scores i10 3 (by decide) (by decide) rfl rfl rfl) fun s i11 => ?_
  refine bindE (Inv.exponents i11 (by decide) (by decide) (by decide) rfl (mask1_lit rfl) (mask0_none (by decide))) fun s i12 => ?_
  refine bindE (Inv.output i12 (by decide) rfl rfl (one24 1) (fun _ _ h => .inl h)) fun s i13 => ?_
  refine bindE (Inv.finish i13 hn (.fill 1) ⟨rfl, rfl⟩ (by decide) rfl rfl rfl (by decide) rfl none24 (fun _ _ h => h.elim)) fun s i14 => ?_
  refine bindE (Inv.scores i14 4 (by decide) (by decide) rfl rfl rfl) fun s i15 => ?_
  refine bindE (Inv.exponents i15 (by decide) (by decide) (by decide) rfl (mask1_lit rfl) (mask0_none (by decide))) fun s i16 => ?_
  refine bindE (Inv.output i16 (by decide) rfl rfl (one24 2) (fun _ _ h => .inl h)) fun s i17 => ?_
  refine bindE (Inv.finish i17 hn (.fill 2) ⟨rfl, rfl⟩ (by decide) rfl rfl rfl (by decide) rfl none24 (fun _ _ h => h.elim)) fun s i18 => ?_
  refine bindE (Inv.scores i18 5 (by decide) (by decide) rfl rfl rfl) fun s i19 => ?_
  refine bindE (Inv.exponents i19 (by decide) (by decide) (by decide) rfl (mask1_lit rfl) (mask0_none (by decide))) fun s i20 => ?_
  refine bindE (Inv.output i20 (by decide) rfl rfl (one24 3) (fun _ _ h => .inl h)) fun s i21 => ?_
  refine bindE (Inv.finish i21 hn (.fill 3) ⟨rfl, rfl⟩ (by decide) rfl rfl rfl (by decide) rfl none24 (fun _ _ h => h.elim)) fun s i22 => ?_
  exact ⟨_, s, .ret _ _ _, rfl, i22⟩

/-! ## The main loop -/

theorem trips_eq : k0_t1_loop.trips = 5 := by decide +kernel

/-- The first block of a trip of the main loop. -/
abbrev first (t : Fin k0_t1_loop.trips) : Nat := 4 + 24 * t.val

/-- The places below `u` hold a trip's blocks; the places from `u` on do. -/
abbrev below (t : Fin k0_t1_loop.trips) (u : Nat) : Fin 24 → Nat → Prop := fun p σ => p.val < u ∧ σ = first t + p.val
@[inherit_doc below]
abbrev above (t : Fin k0_t1_loop.trips) (u : Nat) : Fin 24 → Nat → Prop := fun p σ => u ≤ p.val ∧ σ = first t + p.val

theorem rows_steady (t : Fin k0_t1_loop.trips) (u : Fin 24) : (Old.steady t u).rows = ![64 * (first t + u.val), 0] := by
  have e : ∀ a b : Nat, a = b → (![a, 0] : Fin 2 → Nat) = ![b, 0] := fun a b h => by rw [h]
  refine every24 (p := fun u => (Old.steady t u).rows = ![64 * (first t + u.val), 0])
    ((k0_off9_eq t).trans (e _ _ (by show _ = 64 * (4 + 24 * t.val + 0); omega)))
    ((k0_off12_eq t).trans (e _ _ (by show _ = 64 * (4 + 24 * t.val + 1); omega)))
    ((k0_off14_eq t).trans (e _ _ (by show _ = 64 * (4 + 24 * t.val + 2); omega)))
    ((k0_off16_eq t).trans (e _ _ (by show _ = 64 * (4 + 24 * t.val + 3); omega)))
    ((k0_off18_eq t).trans (e _ _ (by show _ = 64 * (4 + 24 * t.val + 4); omega)))
    ((k0_off20_eq t).trans (e _ _ (by show _ = 64 * (4 + 24 * t.val + 5); omega)))
    ((k0_off22_eq t).trans (e _ _ (by show _ = 64 * (4 + 24 * t.val + 6); omega)))
    ((k0_off24_eq t).trans (e _ _ (by show _ = 64 * (4 + 24 * t.val + 7); omega)))
    ((k0_off26_eq t).trans (e _ _ (by show _ = 64 * (4 + 24 * t.val + 8); omega)))
    ((k0_off28_eq t).trans (e _ _ (by show _ = 64 * (4 + 24 * t.val + 9); omega)))
    ((k0_off30_eq t).trans (e _ _ (by show _ = 64 * (4 + 24 * t.val + 10); omega)))
    ((k0_off32_eq t).trans (e _ _ (by show _ = 64 * (4 + 24 * t.val + 11); omega)))
    ((k0_off34_eq t).trans (e _ _ (by show _ = 64 * (4 + 24 * t.val + 12); omega)))
    ((k0_off36_eq t).trans (e _ _ (by show _ = 64 * (4 + 24 * t.val + 13); omega)))
    ((k0_off38_eq t).trans (e _ _ (by show _ = 64 * (4 + 24 * t.val + 14); omega)))
    ((k0_off40_eq t).trans (e _ _ (by show _ = 64 * (4 + 24 * t.val + 15); omega)))
    ((k0_off42_eq t).trans (e _ _ (by show _ = 64 * (4 + 24 * t.val + 16); omega)))
    ((k0_off44_eq t).trans (e _ _ (by show _ = 64 * (4 + 24 * t.val + 17); omega)))
    ((k0_off46_eq t).trans (e _ _ (by show _ = 64 * (4 + 24 * t.val + 18); omega)))
    ((k0_off48_eq t).trans (e _ _ (by show _ = 64 * (4 + 24 * t.val + 19); omega)))
    ((k0_off50_eq t).trans (e _ _ (by show _ = 64 * (4 + 24 * t.val + 20); omega)))
    ((k0_off52_eq t).trans (e _ _ (by show _ = 64 * (4 + 24 * t.val + 21); omega)))
    ((k0_off54_eq t).trans (e _ _ (by show _ = 64 * (4 + 24 * t.val + 22); omega)))
    ((k0_off56_eq t).trans (e _ _ (by show _ = 64 * (4 + 24 * t.val + 23); omega))) u

theorem posWord_eq : ∀ (t : Fin k0_t1_loop.trips) (u : Fin 24), posWord t u = posLeft (64 * (first t + u.val - 3)) := by decide +kernel

/-- One step of a trip. -/
theorem step_runs (t : Fin k0_t1_loop.trips) (u : Fin 24) (h : Mid q k v (first t + u.val) (first t) (below t u.val) s) :
    ∃ s', Runs B n (step B t u) s (leastTot q k (first t + u.val + 2)) s' ∧ Mid q k v (first t + (u.val + 1)) (first t) (below t (u.val + 1)) s' := by
  have e : ∀ a b : Nat, a = b → (![a, 0] : Fin 2 → Nat) = ![b, 0] := fun a b h => by rw [h]
  suffices hs : ∃ c s', Runs B n (step B t u) s c s' ∧ c = leastTot q k (first t + u.val + 2) ∧
      Mid q k v (first t + (u.val + 1)) (first t) (below t (u.val + 1)) s' by
    obtain ⟨c, s', r, hc, h⟩ := hs
    exact ⟨s', r.cast hc, h⟩
  unfold step
  refine bindE (Inv.output h (by omega) ((k0_off5_eq t u).trans (e _ _ (by simp only [first]; omega))) (turn_eq (by simp only [first]; omega)) (below t (u.val + 1))
    (fun p σ hp => ?_)) fun s i1 => ?_
  · rcases Nat.lt_or_ge p.val u.val with hl | hl
    · exact .inr ⟨fun e => by rw [e] at hl; omega, hl, hp.2⟩
    · have : p = u := Fin.ext (by have := hp.1; omega)
      exact .inl ⟨this, by rw [hp.2, this]⟩
  refine bindE (Inv.exponents i1 (by omega) (by omega) (by omega) (turn_eq (by simp only [first]; omega)) (mask1_lit ?_) (mask0_none (by omega))) fun s i2 => ?_
  · rw [Nat.min_eq_right (by simp only [first]; omega)]
  refine bindE (Inv.scores i2 (first t + u.val + 2) (by omega) (by omega) ((k0_off6_eq t u).trans (e _ _ (by simp only [first]; omega)))
    ((k0_off7_eq t u).trans (e _ _ (by simp only [first]; omega))) (turn_eq (by simp only [first]; omega))) fun s i3 => ?_
  exact ⟨_, s, .ret _ _ _, rfl, i3⟩

theorem all24_drop : ∀ u : Fin 24, all24.drop u.val = u :: all24.drop (u.val + 1) := by decide

/-- The steps of a trip from step `u` on. -/
theorem steps_runs (t : Fin k0_t1_loop.trips) (m : Nat) : ∀ (u : Nat), u + m = 24 → ∀ (cs : List (F .f32)) (s : St F),
    Mid q k v (first t + u) (first t) (below t u) s →
    ∃ s', Runs B n (steps B t (all24.drop u) cs) s (cs ++ (List.range' (first t + u + 2) m).map (leastTot q k)) s' ∧
      Mid q k v (first t + 24) (first t) (below t 24) s' := by
  induction m with
  | zero =>
    intro u hu cs s h
    obtain rfl : u = 24 := by omega
    exact ⟨s, by rw [List.range'_zero, List.map_nil, List.append_nil]; exact .ret _ _ _, h⟩
  | succ m ih =>
    intro u hu cs s h
    rw [all24_drop ⟨u, by omega⟩, steps]
    obtain ⟨s₁, r1, h1⟩ := step_runs (B := B) (n := n) t ⟨u, by omega⟩ h
    obtain ⟨s₂, r2, h2⟩ := ih (u + 1) (by omega) (cs ++ [leastTot q k (first t + u + 2)]) s₁ h1
    refine ⟨s₂, r1.bind (r2.cast ?_), h2⟩
    rw [List.range'_succ, List.map_cons, List.append_assoc, List.singleton_append]
    rfl

/-- The ends of a trip's blocks from block `u` on. -/
theorem finishes_runs (hn : 131 ≤ n) (t : Fin k0_t1_loop.trips) (m : Nat) : ∀ (u : Nat), u + m = 24 → ∀ (s : St F),
    Mid q k v (first t + 24) (first t + u) (above t u) s →
    ∃ s', Runs B n (finishes B i t (all24.drop u) ((List.range' (first t + u) (m + 2)).map (leastTot q k))) s ⟨⟩ s' ∧
      Mid q k v (first t + 24) (first t + 24) none24 s' := by
  have e : ∀ a b : Nat, a = b → (![a, 0] : Fin 2 → Nat) = ![b, 0] := fun a b h => by rw [h]
  induction m with
  | zero =>
    intro u hu s h
    obtain rfl : u = 24 := by omega
    refine ⟨s, .ret _ _ _, ⟨h.hq, h.hk, h.hv, h.ht, h.hz, h.ha, fun _ _ h => h.elim, h.ho⟩⟩
  | succ m ih =>
    intro u hu s h
    have ht : t.val < 5 := lt_of_lt_of_eq t.isLt trips_eq
    rw [all24_drop ⟨u, by omega⟩, List.range'_succ, List.map_cons, finishes]
    obtain ⟨s₁, r1, h1⟩ := Inv.finish (B := B) (i := i) (hoo := k0_off10_inb t ⟨u, by omega⟩) h hn (.steady t ⟨u, by omega⟩) ⟨le_rfl, rfl⟩ (by simp only [first]; omega)
      (rows_steady t ⟨u, by omega⟩) ((k0_off10_eq t ⟨u, by omega⟩).trans (e _ _ (by simp only [first]; omega))) (p := ⟨u, by omega⟩) rfl
      (posWord_eq t ⟨u, by omega⟩) rfl (above t (u + 1))
      (fun p σ hp => ⟨fun e => by have := hp.1; rw [e] at this; simp only at this; omega, by have := hp.1; omega, hp.2⟩)
    obtain ⟨s₂, r2, h2⟩ := ih (u + 1) (by omega) s₁ h1
    exact ⟨s₂, r1.bind r2, h2⟩

/-- The least totals that are pending after a trip. -/
theorem pending {β : Type} (f : Nat → β) (a m : Nat) (hm : m < 26) (x : β) : ((List.range' (a + 0) (24 + 2)).map f).getD m x = f (a + m) := by
  rw [List.getD_eq_getElem?_getD, List.getElem?_map, List.getElem?_range' (by omega)]
  simp

/-- One trip of the main loop. -/
theorem trip_runs (hn : 131 ≤ n) (t : Fin k0_t1_loop.trips) (h : Mid q k v (first t) (first t) none24 s) :
    ∃ s', Runs B n (trip B i t (leastTot q k (first t), leastTot q k (first t + 1))) s (leastTot q k (first t + 24), leastTot q k (first t + 25)) s' ∧
      Mid q k v (first t + 24) (first t + 24) none24 s' := by
  obtain ⟨s₁, r1, h1⟩ := steps_runs (B := B) (n := n) t 24 0 rfl [leastTot q k (first t), leastTot q k (first t + 1)] s
    ⟨h.hq, h.hk, h.hv, h.ht, h.hz, h.ha, fun p σ h => by have := h.1; omega, h.ho⟩
  obtain ⟨s₂, r2, h2⟩ := finishes_runs (B := B) (i := i) hn t 24 0 rfl s₁
    ⟨h1.hq, h1.hk, h1.hv, h1.ht, h1.hz, h1.ha, fun p σ h => h1.hs p σ ⟨p.isLt, h.2⟩, h1.ho⟩
  have e : [leastTot q k (first t), leastTot q k (first t + 1)] ++ (List.range' (first t + 0 + 2) 24).map (leastTot q k)
      = (List.range' (first t + 0) (24 + 2)).map (leastTot q k) := rfl
  unfold trip
  rw [e] at r1
  have r3 := Runs.retP (F := F) (B := B) n (((List.range' (first t + 0) (24 + 2)).map (leastTot q k)).getD 24 (leastTot q k (first t)),
    ((List.range' (first t + 0) (24 + 2)).map (leastTot q k)).getD 25 (leastTot q k (first t + 1))) s₂
  have r4 := r3.cast (congrArg₂ Prod.mk (pending (leastTot q k) (first t) 24 (by decide) _) (pending (leastTot q k) (first t) 25 (by decide) _))
  have r5 := Runs.bind (k := fun _ => pure (((List.range' (first t + 0) (24 + 2)).map (leastTot q k)).getD 24 (leastTot q k (first t)),
    ((List.range' (first t + 0) (24 + 2)).map (leastTot q k)).getD 25 (leastTot q k (first t + 1)))) r2 r4
  have r6 := Runs.bind (k := fun l => finishes B i t all24 l >>= fun _ => pure (l.getD 24 (leastTot q k (first t)), l.getD 25 (leastTot q k (first t + 1)))) r1 r5
  dsimp only
  refine ⟨s₂, ?_, h2⟩
  exact r6

/-- The main loop from trip `t` on. -/
theorem loop_runs (hn : 131 ≤ n) (m : Nat) : ∀ (t : Nat), t + m = 5 → ∀ (s : St F), Mid q k v (4 + 24 * t) (4 + 24 * t) none24 s →
    ∃ s', Runs B n (Scf.forFrom (trip B i) ((List.finRange k0_t1_loop.trips).drop t) (leastTot q k (4 + 24 * t), leastTot q k (5 + 24 * t))) s
      (leastTot q k 124, leastTot q k 125) s' ∧ Mid q k v 124 124 none24 s' := by
  induction m with
  | zero =>
    intro t ht s h
    obtain rfl : t = 5 := by omega
    rw [List.drop_of_length_le (by rw [List.length_finRange, trips_eq]), Scf.forFrom_nil]
    exact ⟨s, .ret _ _ _, h⟩
  | succ m ih =>
    intro t ht s h
    have hlt : t < k0_t1_loop.trips := by rw [trips_eq]; omega
    rw [List.drop_eq_getElem_cons (by simpa using hlt), List.getElem_finRange, Fin.cast_mk, Scf.forFrom_cons]
    obtain ⟨s₁, r1, h1⟩ := trip_runs (B := B) (i := i) hn ⟨t, hlt⟩ h
    obtain ⟨s₂, r2, h2⟩ := ih (t + 1) (by omega) s₁ h1
    have e : (5 + 24 * t) = 4 + 24 * t + 1 := by omega
    rw [e]
    have e' : (leastTot q k (4 + 24 * (t + 1)), leastTot q k (5 + 24 * (t + 1))) = (leastTot q k (first ⟨t, hlt⟩ + 24), leastTot q k (first ⟨t, hlt⟩ + 25)) := by
      rw [show 4 + 24 * (t + 1) = first ⟨t, hlt⟩ + 24 by simp only [first]; omega, show 5 + 24 * (t + 1) = first ⟨t, hlt⟩ + 25 by simp only [first]; omega]
    rw [e'] at r2
    exact ⟨s₂, r1.bind r2, h2⟩

/-- The blocks after the main loop. -/
theorem draining_runs (hn : 131 ≤ n) (i0 : Mid q k v 124 124 none24 s) :
    ∃ c s', Runs B n (draining B i (leastTot q k 124, leastTot q k 125)) s c s' ∧ ∃ zlo zhi alo ahi, Inv q k v zlo zhi alo ahi 128 none24 s' := by
  unfold draining
  dsimp only
  refine bindE (Inv.output i0 (by decide) rfl rfl (one24 124) (fun _ _ h => .inl h)) fun s i1 => ?_
  refine bindE (Inv.exponents i1 (by decide) (by decide) (by decide) rfl (mask1_lit rfl) (mask0_none (by decide))) fun s i2 => ?_
  refine bindE (Inv.finish i2 hn (.tail 0) ⟨rfl, rfl⟩ (by decide) rfl rfl rfl (by decide) rfl none24 (fun _ _ h => h.elim)) fun s i3 => ?_
  refine bindE (Inv.output i3 (by decide) rfl rfl (one24 125) (fun _ _ h => .inl h)) fun s i4 => ?_
  refine bindE (Inv.exponents i4 (by decide) (by decide) (by decide) rfl (mask1_lit rfl) (mask0_none (by decide))) fun s i5 => ?_
  refine bindE (Inv.finish i5 hn (.tail 1) ⟨rfl, rfl⟩ (by decide) rfl rfl rfl (by decide) rfl none24 (fun _ _ h => h.elim)) fun s i6 => ?_
  refine bindE (Inv.output i6 (by decide) rfl rfl (one24 126) (fun _ _ h => .inl h)) fun s i7 => ?_
  refine bindE (Inv.finish i7 hn (.tail 2) ⟨rfl, rfl⟩ (by decide) rfl rfl rfl (by decide) rfl none24 (fun _ _ h => h.elim)) fun s i8 => ?_
  refine bindE (Inv.output i8 (by decide) rfl rfl (one24 127) (fun _ _ h => .inl h)) fun s i9 => ?_
  obtain ⟨s', r, h⟩ := Inv.finish (B := B) (i := i) (n := n) (o := 127) (oo := ![8128, 0]) (hoo := inb_S8192x128_S64x128_8128_0) (p := 0) (pos := 7808#32) i9 hn (.tail 3) ⟨rfl, rfl⟩ (by decide) rfl rfl rfl (by decide) rfl none24 (fun _ _ h => h.elim)
  exact ⟨_, s', r, _, _, _, _, h⟩

/-- The whole body: the result is `attnOut` of the arrays, and the arrays are as before. -/
theorem body_runs (hn : 131 ≤ n) (s : St F) :
    ∃ s', Runs B n (body B i) s ⟨⟩ s' ∧ s' .q = s .q ∧ s' .k = s .k ∧ s' .v = s .v ∧ s' .o = attnOut (s .q) (s .k) (s .v) := by
  obtain ⟨c, s₁, r1, hc, h1⟩ := filling_runs (B := B) (i := i) (s := s) hn rfl rfl rfl
  obtain ⟨s₂, r2, h2⟩ := loop_runs (B := B) (i := i) hn 5 0 rfl s₁ h1
  obtain ⟨c, s₃, r3, _, _, _, _, h3⟩ := draining_runs (B := B) (i := i) hn h2
  refine ⟨s₃, (r1.cast hc).bind (Runs.bind (s₁ := s₂) (a := (leastTot (s .q) (s .k) 124, leastTot (s .q) (s .k) 125)) ?_ r3), h3.hq, h3.hk, h3.hv,
    funext fun j => h3.ho j (lt_of_lt_of_eq (j 0).isLt rfl)⟩
  show Runs B n (Scf.for k0_t1_loop.lb k0_t1_loop.ub k0_t1_loop.st k0_t1_ok _ (trip B i)) _ _ _
  rw [Scf.for_eq]
  exact r2

end Cert.Proof.Attn

end
-- ==== Proof.Launch.lean ====
/- The launch of the attention: the host's casts, then the body at each of the eight points, and what the
   result array and the arguments hold at the end. -/
module

public import proofs.«01_k».proof.Proof.Order
public import proofs.«01_k».proof.Proof.Match
public import proofs.«01_k».proof.Proof.Gen.KernelIdeal.Launch
public import proofs.«01_k».proof.Proof.Gen.KernelIdeal.Points
public import Idealize.ShloMosaic.Lib.Pipeline.Frame
public import Idealize.ShloMosaic.Lib.Pipeline.FrameBody
public import Idealize.ShloMosaic.Lib.Pipeline.Value
public import Idealize.ShloMosaic.Lib.ValueIdxCoords

@[expose] public section

noncomputable section

namespace Cert.Proof.Attn

open Cert.KernelIdeal Cert.KernelIdeal.Gen
open Idealize.ShloMosaic Idealize.ShloMosaic.ValueIdx
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- What core `c`'s buffers hold when the attention starts: the host's casts have run. -/
abbrev V (c : Dev nD) (b : Ref sig .tc) : Buf (Elt F) ((c : Thread nD τ).loc b) := StableHlo.after hostOps0 (fun b => m (c, b)) b

theorem casts_fresh : (hostOps0 : List (HloOp τ sig (Elt F))).Forall fun op => op.fresh = ∅ := by
  simp only [List.Forall]; repeat' constructor

set_option maxHeartbeats 4000000 in
/-- The program up to the attention. -/
theorem main_runs (𝒱₀ : Variants) :
    Pipeline.HMain (Ix := Unit) (Name := ℕ) (U := UR sig nD τ) (Lvl := ℕ) cfgs 0 defs₀ 𝒱₀ m (main (F := F)) (V m) :=
  Pipeline.hmain_prefix (Ix := Unit) (Name := ℕ) (U := UR sig nD τ) (Lvl := ℕ) cfgs 0 defs₀ 𝒱₀ m main hostOps0 hostOps0_sub casts_fresh main_chain

/-- An array's block at a point. -/
def iblk0 (c : Dev nD) (t : Fin (cfg0 (F := F)).N) : FVec F S8192x128 .bf16 :=
  (((cfg0 (F := F)).win 0).blk t).view.read (Elt F) (V m c main_v3)
def iblk1 (c : Dev nD) (t : Fin (cfg0 (F := F)).N) : FVec F S8192x128 .bf16 :=
  (((cfg0 (F := F)).win 1).blk t).view.read (Elt F) (V m c main_v5)
def iblk2 (c : Dev nD) (t : Fin (cfg0 (F := F)).N) : FVec F S8192x128 .bf16 :=
  (((cfg0 (F := F)).win 2).blk t).view.read (Elt F) (V m c main_v7)

/-- What the body is called with and what it leaves at each point. -/
def dats (_ : Fin 1) (c : Dev nD) : Dat τ (Elt F) Unit ℕ (UR sig nD τ) ℕ (cfg0 (F := F)) c where
  A w := V m c (Pipeline.arrRef spec0 w)
  after w t := match w with
    | ⟨0, _⟩ => iblk0 m c t
    | ⟨1, _⟩ => iblk1 m c t
    | ⟨2, _⟩ => iblk2 m c t
    | ⟨3, _⟩ => attnOut (iblk0 m c t) (iblk1 m c t) (iblk2 m c t)
  Φ _ := Pipeline.ΦA spec0 c
  q _ := fullShare
  owed _ := 0

theorem A_eq (c : Dev nD) (w : Fin (cfg0 (F := F)).W) : (dats m 0 c).A w = V m c (Pipeline.arrRef spec0 w) := by
  dsimp only [dats]

theorem after_0 (c : Dev nD) (t : Fin (cfg0 (F := F)).N) : (dats m 0 c).after 0 t = iblk0 m c t := rfl
theorem after_1 (c : Dev nD) (t : Fin (cfg0 (F := F)).N) : (dats m 0 c).after 1 t = iblk1 m c t := rfl
theorem after_2 (c : Dev nD) (t : Fin (cfg0 (F := F)).N) : (dats m 0 c).after 2 t = iblk2 m c t := rfl
theorem after_3 (c : Dev nD) (t : Fin (cfg0 (F := F)).N) :
    (dats m 0 c).after 3 t = attnOut (iblk0 m c t) (iblk1 m c t) (iblk2 m c t) := rfl

/-- A block that is fetched whole is what the buffer holds. -/
theorem fill_whole {c : Dev nD} (dat : Dat τ (Elt F) Unit ℕ (UR sig nD τ) ℕ (cfg0 (F := F)) c) (w : Fin (cfg0 (F := F)).W)
    (t : Fin (cfg0 (F := F)).N) (X : (((cfg0 (F := F)).win w).block.Idx → Elt F ((cfg0 (F := F)).win w).elt))
    (hc : ∀ a, ((cfg0 (F := F)).win w).clip ((cfg0 (F := F)).grid.coords t) a = none)
    (hX : dat.blockOf w t = ((cfg0 (F := F)).win w).cut ((cfg0 (F := F)).grid.coords t) X) (d) : dat.fetched w t d = X := by
  unfold Dat.fetched
  rw [Pipeline.fill_of_clip_none w _ hc d X, hX, Window.fill_cut]

theorem before_0 (c : Dev nD) (t : Fin (cfg0 (F := F)).N) (d) : (dats m 0 c).before 0 t d = iblk0 m c t := by
  rw [Dat.before_fetched _ 0 t (fetch0_0 t)]
  exact fill_whole _ 0 t _ (fun _ => rfl) rfl d
theorem before_1 (c : Dev nD) (t : Fin (cfg0 (F := F)).N) (d) : (dats m 0 c).before 1 t d = iblk1 m c t := by
  rw [Dat.before_fetched _ 1 t (fetch0_1 t)]
  exact fill_whole _ 1 t _ (fun _ => rfl) rfl d
theorem before_2 (c : Dev nD) (t : Fin (cfg0 (F := F)).N) (d) : (dats m 0 c).before 2 t d = iblk2 m c t := by
  rw [Dat.before_fetched _ 2 t (fetch0_2 t)]
  exact fill_whole _ 2 t _ (fun _ => rfl) rfl d

/-- The ten buffers at a point. -/
def bufsAt (t : Fin (cfg0 (F := F)).N) : Bufs where
  q := win0_0.stage ((cfg0 (F := F)).slots t 0)
  hq := hstage0_0 (((cfg0 (F := F)).slots t 0).cast nbuf0_0)
  k := win0_1.stage ((cfg0 (F := F)).slots t 1)
  hk := hstage0_1 (((cfg0 (F := F)).slots t 1).cast nbuf0_1)
  v := win0_2.stage ((cfg0 (F := F)).slots t 2)
  hv := hstage0_2 (((cfg0 (F := F)).slots t 2).cast nbuf0_2)
  o := win0_3.stage ((cfg0 (F := F)).slots t 3)
  ho := hstage0_3 (((cfg0 (F := F)).slots t 3).cast nbuf0_3)
  tri := Memref.whole cc0_scratch0
  htri := Memref.isWhole_whole _
  z := Memref.whole cc0_scratch1
  hz := Memref.isWhole_whole _
  arg := Memref.whole cc0_scratch2
  harg := Memref.isWhole_whole _
  tot := Memref.whole cc0_scratch3
  htot := Memref.isWhole_whole _
  acc := Memref.whole cc0_scratch4
  hacc := Memref.isWhole_whole _
  car := Memref.whole cc0_scratch5
  hcar := Memref.isWhole_whole _

theorem body_at (t : Fin (cfg0 (F := F)).N) : bodyAt0 (F := F) t = body (bufsAt t) (grid0.coords t) :=
  attn_eq (bufsAt t) (grid0.coords t)

/-- The contents of the ten buffers, one by one. -/
def stOf (q k v : FVec F S8192x128 .bf16) (o : FVec F S8192x128 .f32) (tri : FVec F S128x256 .bf16) (z arg : FVec F S3x128x256 .f32)
    (tot : FVec F S3x128x128 .f32) (acc car : FVec F S24x128x128 .f32) : St F
  | .q => q | .k => k | .v => v | .o => o | .tri => tri | .z => z | .arg => arg | .tot => tot | .acc => acc | .car => car

theorem held_eq (B : Bufs) (d : Dev nD) (s : St F) : (held B d s : sProp 𝕄) =
    iprop(owns (d : Thread nD τ) B.q fullShare (s .q) ∗ owns (d : Thread nD τ) B.k fullShare (s .k)
      ∗ owns (d : Thread nD τ) B.v fullShare (s .v) ∗ owns (d : Thread nD τ) B.o fullShare (s .o)
      ∗ owns (d : Thread nD τ) B.tri fullShare (s .tri) ∗ owns (d : Thread nD τ) B.z fullShare (s .z)
      ∗ owns (d : Thread nD τ) B.arg fullShare (s .arg) ∗ owns (d : Thread nD τ) B.tot fullShare (s .tot)
      ∗ owns (d : Thread nD τ) B.acc fullShare (s .acc) ∗ owns (d : Thread nD τ) B.car fullShare (s .car)) :=
  bigSep_univ_eq_bigSepL [Bn.q, Bn.k, Bn.v, Bn.o, Bn.tri, Bn.z, Bn.arg, Bn.tot, Bn.acc, Bn.car] (by decide) (by decide) _

theorem owns_whole_intro (d : Dev nD) (b : Ref sig .tc) (f : Buf (Elt F) ((d : Thread nD τ).loc b)) :
    (((d : Thread nD τ).loc b) ↦{fullShare} f : sProp 𝕄) ⊢ owns (d : Thread nD τ) (Memref.whole b) fullShare f := by
  exact Entails.of_eq (owns_whole (d : Thread nD τ) b fullShare f).symm

theorem owns_whole_elim (d : Dev nD) (b : Ref sig .tc) (f : Buf (Elt F) ((d : Thread nD τ).loc b)) :
    (owns (d : Thread nD τ) (Memref.whole b) fullShare f : sProp 𝕄) ⊢ iprop(∃ f, ((d : Thread nD τ).loc b) ↦{fullShare} f) := by
  rw [owns_whole]
  iintro H
  iexists f
  iexact H

/-- What the body finds at a point, and what it leaves. -/
def bodyPre (c : Dev nD) (t : Fin (cfg0 (F := F)).N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))
def bodyPost (c : Dev nD) (t : Fin (cfg0 (F := F)).N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t))

/-- The body at a point does what `body_runs` says. -/
theorem sound_body (c : Dev nD) (t : Fin (cfg0 (F := F)).N) :
    bodyPre m c t ⊢ wp frame (wpE (defs₀ (F := F)) Variants.nat c none) Set.univ (bodyAt0 t) (fun _ => bodyPost m c t) := by
  rw [body_at]
  unfold bodyPre bodyPost
  simp only [before_0, before_1, before_2]
  rw [show (dats m 0 c).Φ t.succ = Pipeline.ΦA spec0 c from rfl, show (dats m 0 c).Φ t.castSucc = Pipeline.ΦA spec0 c from rfl,
    show (dats m 0 c).owesAt () t.succ = (dats m 0 c).owesAt () t.castSucc from rfl, after_0, after_1, after_2, after_3]
  unfold Pipeline.ΦA
  rw [scopedRest0_eq]
  iintro ⟨⟨⟨⟨%f0, S0⟩, ⟨%f1, S1⟩, ⟨%f2, S2⟩, ⟨%f3, S3⟩, ⟨%f4, S4⟩, ⟨%f5, S5⟩⟩, Hg⟩, Ho, ⟨%d0, H0⟩, ⟨%d1, H1⟩, ⟨%d2, H2⟩, ⟨%d3, H3⟩⟩
  obtain ⟨s', hr, hq, hk, hv, ho⟩ := body_runs (B := bufsAt t) (n := 131) (i := grid0.coords t) le_rfl
    (stOf (iblk0 m c t) (iblk1 m c t) (iblk2 m c t) ((dats m 0 c).before 3 t d3) f0 f1 f2 f3 f4 f5)
  iapply (hr.sound c none .empty _ (fun u hu => by cases hu))
  rw [held_eq, held_eq, hq, hk, hv, ho]
  isplitl [S0 S1 S2 S3 S4 S5 H0 H1 H2 H3]
  · isplitl [H0]; · iexact H0
    isplitl [H1]; · iexact H1
    isplitl [H2]; · iexact H2
    isplitl [H3]; · iexact H3
    isplitl [S0]; · iapply (owns_whole_intro c cc0_scratch0 f0); iexact S0
    isplitl [S1]; · iapply (owns_whole_intro c cc0_scratch1 f1); iexact S1
    isplitl [S2]; · iapply (owns_whole_intro c cc0_scratch2 f2); iexact S2
    isplitl [S3]; · iapply (owns_whole_intro c cc0_scratch3 f3); iexact S3
    isplitl [S4]; · iapply (owns_whole_intro c cc0_scratch4 f4); iexact S4
    iapply (owns_whole_intro c cc0_scratch5 f5); iexact S5
  iintro ⟨H0, H1, H2, H3, S0, S1, S2, S3, S4, S5⟩
  isplitl [S0 S1 S2 S3 S4 S5 Hg]
  · isplitr [Hg]
    · isplitl [S0]; · iapply (owns_whole_elim c cc0_scratch0 _); iexact S0
      isplitl [S1]; · iapply (owns_whole_elim c cc0_scratch1 _); iexact S1
      isplitl [S2]; · iapply (owns_whole_elim c cc0_scratch2 _); iexact S2
      isplitl [S3]; · iapply (owns_whole_elim c cc0_scratch3 _); iexact S3
      isplitl [S4]; · iapply (owns_whole_elim c cc0_scratch4 _); iexact S4
      iapply (owns_whole_elim c cc0_scratch5 _); iexact S5
    · iexact Hg
  isplitl [Ho]; · iexact Ho
  isplitl [H0]; · iexact H0
  isplitl [H1]; · iexact H1
  isplitl [H2]; · iexact H2
  iexact H3

theorem defs₀_row (t : Fin (cfg0 (F := F)).N) :
    defs₀ (F := F) .tc cfg0.body ((cfg0 (F := F)).bodyArgs t ((cfg0 (F := F)).slots t)) = bodyAt0 t := by
  unfold defs₀; rw [Defs.onTc_tc]

theorem body_obligation (c : Dev nD) :
    BodyObligation (dats (F := F) m 0 c) (defs₀ (F := F)) Variants.nat () Set.univ := fun t => by
  rw [bigSep_W0, bigSep_W0, defs₀_row]
  exact triple_restated (sound_body m c t) rfl .rfl fun _ => .rfl

set_option backward.isDefEq.respectTransparency.types false in
/-- Every run ends, its arrays as the points leave them, everything else as the points found it, and no semaphore counted. -/
theorem run_main : θ_run defs (onTc (τ := τ) (main (F := F))) (s₀ m ρ)
    (fun r => Pipeline.FramePost cfgs (dats m) 0 (V m) r ∧ r.2.sem = fun _ => 0) :=
  Pipeline.θ_run_frame (Q' := _) cfgs (dats m) (0 : Fin 1) launch0 defs₀ Variants.nat m ρ main
    (hbody := fun c => (body_obligation m c).loose) (hshare := fun c => (dats m 0 c).share_full fun _ => rfl)
    (howed := fun _ _ => rfl) (V := V m) (hmain := main_runs m Variants.nat) (hA := A_eq m) (hΦ := fun _ _ => rfl)

theorem V_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.reshape_writes, StableHlo.nullary_writes, StableHlo.unary_writes, StableHlo.binary_writes, Finset.mem_singleton]
    repeat' apply And.intro
    all_goals exact StableHlo.devRef_ne_of_ne (by decide)))
theorem V_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.reshape_writes, StableHlo.nullary_writes, StableHlo.unary_writes, StableHlo.binary_writes, Finset.mem_singleton]
    repeat' apply And.intro
    all_goals exact StableHlo.devRef_ne_of_ne (by decide)))
theorem V_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.reshape_writes, StableHlo.nullary_writes, StableHlo.unary_writes, StableHlo.binary_writes, Finset.mem_singleton]
    repeat' apply And.intro
    all_goals exact StableHlo.devRef_ne_of_ne (by decide)))

/-- A block of 8192 rows and 128 columns of an array. -/
def blockOf {α : Type} (A : S16384x512.Idx → α) (b : Fin 2) (h : Fin 4) : S8192x128.Idx → α := fun j =>
  A (ix2 ⟨b.val * 8192 + (j 0).val, by have := b.isLt; have : (j 0).val < 8192 := (j 0).isLt; omega⟩
    ⟨h.val * 128 + (j 1).val, by have := h.isLt; have : (j 1).val < 128 := (j 1).isLt; omega⟩)

/-- The attention of an array of queries, one of keys and one of values, block by block. -/
def attnAll (q k v : FVec F S16384x512 .bf16) : FVec F S16384x512 .f32 := fun j =>
  let b : Fin 2 := ⟨(j 0).val / 8192, by have : (j 0).val < 16384 := (j 0).isLt; omega⟩
  let h : Fin 4 := ⟨(j 1).val / 128, by have : (j 1).val < 512 := (j 1).isLt; omega⟩
  attnOut (blockOf q b h) (blockOf k b h) (blockOf v b h)
    (ix2 ⟨(j 0).val % 8192, Nat.mod_lt _ (by decide)⟩ ⟨(j 1).val % 128, Nat.mod_lt _ (by decide)⟩)

/-- A point's coordinates. -/
def pb (t : Fin (cfg0 (F := F)).N) : Fin 2 := grid0.coords t 0
def ph (t : Fin (cfg0 (F := F)).N) : Fin 4 := grid0.coords t 1

theorem tr_eq (t : Fin (cfg0 (F := F)).N) (f : Fin 2 → Nat) (hf : f = ![(BitVec.ofNat 32 (grid0.coords t 0).val).toNat, (BitVec.ofNat 32 (grid0.coords t 1).val).toNat]) :
    f 0 = (pb t).val ∧ f 1 = (ph t).val := by
  have h0 : (grid0.coords t 0).val < 2 := (grid0.coords t 0).isLt
  have h1 : (grid0.coords t 1).val < 4 := (grid0.coords t 1).isLt
  subst hf
  constructor
  · show (BitVec.ofNat 32 (grid0.coords t 0).val).toNat = (grid0.coords t 0).val
    rw [BitVec.toNat_ofNat]; omega
  · show (BitVec.ofNat 32 (grid0.coords t 1).val).toNat = (grid0.coords t 1).val
    rw [BitVec.toNat_ofNat]; omega

theorem iblk0_eq (c : Dev nD) (t : Fin (cfg0 (F := F)).N) : iblk0 m c t = blockOf (V m c main_v3) (pb t) (ph t) := by
  obtain ⟨e0, e1⟩ := tr_eq t (cc0_transform_0 (grid0.coords t)) rfl
  funext j
  refine congrArg (V m c main_v3) (funext fun a => Fin.ext ?_)
  match a with
  | ⟨0, _⟩ =>
    show cc0_transform_0 (grid0.coords t) 0 * 8192 + 1 * (j 0).val = _
    rw [e0, Nat.one_mul]
  | ⟨1, _⟩ =>
    show cc0_transform_0 (grid0.coords t) 1 * 128 + 1 * (j 1).val = _
    rw [e1, Nat.one_mul]

theorem iblk1_eq (c : Dev nD) (t : Fin (cfg0 (F := F)).N) : iblk1 m c t = blockOf (V m c main_v5) (pb t) (ph t) := by
  obtain ⟨e0, e1⟩ := tr_eq t (cc0_transform_1 (grid0.coords t)) rfl
  funext j
  refine congrArg (V m c main_v5) (funext fun a => Fin.ext ?_)
  match a with
  | ⟨0, _⟩ =>
    show cc0_transform_1 (grid0.coords t) 0 * 8192 + 1 * (j 0).val = _
    rw [e0, Nat.one_mul]
  | ⟨1, _⟩ =>
    show cc0_transform_1 (grid0.coords t) 1 * 128 + 1 * (j 1).val = _
    rw [e1, Nat.one_mul]

theorem iblk2_eq (c : Dev nD) (t : Fin (cfg0 (F := F)).N) : iblk2 m c t = blockOf (V m c main_v7) (pb t) (ph t) := by
  obtain ⟨e0, e1⟩ := tr_eq t (cc0_transform_2 (grid0.coords t)) rfl
  funext j
  refine congrArg (V m c main_v7) (funext fun a => Fin.ext ?_)
  match a with
  | ⟨0, _⟩ =>
    show cc0_transform_2 (grid0.coords t) 0 * 8192 + 1 * (j 0).val = _
    rw [e0, Nat.one_mul]
  | ⟨1, _⟩ =>
    show cc0_transform_2 (grid0.coords t) 1 * 128 + 1 * (j 1).val = _
    rw [e1, Nat.one_mul]

theorem attnAll_block (q k v : FVec F S16384x512 .bf16) (b : Fin 2) (h : Fin 4) :
    blockOf (attnAll q k v) b h = attnOut (blockOf q b h) (blockOf k b h) (blockOf v b h) := by
  funext j
  have h0 : (j 0).val < 8192 := (j 0).isLt
  have h1 : (j 1).val < 128 := (j 1).isLt
  have eb : (⟨(b.val * 8192 + (j 0).val) / 8192, by have := b.isLt; omega⟩ : Fin 2) = b := Fin.ext (by show _ / _ = _; omega)
  have eh : (⟨(h.val * 128 + (j 1).val) / 128, by have := h.isLt; omega⟩ : Fin 4) = h := Fin.ext (by show _ / _ = _; omega)
  unfold blockOf attnAll
  dsimp only [ix2_0, ix2_1]
  rw [eb, eh]
  refine congrArg _ (funext fun a => Fin.ext ?_)
  match a with
  | ⟨0, _⟩ => show (b.val * 8192 + (j 0).val) % 8192 = (j 0).val; omega
  | ⟨1, _⟩ => show (h.val * 128 + (j 1).val) % 128 = (j 1).val; omega

theorem flushed_eq (c : Dev nD) (t : Fin (cfg0 (F := F)).N) :
    (dats m 0 c).flushed 3 t
      = (((cfg0 (F := F)).win 3).blk t).view.read (Elt F) (attnAll (V m c main_v3) (V m c main_v5) (V m c main_v7)) := by
  have e : (dats m 0 c).after 3 t = blockOf (attnAll (V m c main_v3) (V m c main_v5) (V m c main_v7)) (pb t) (ph t) := by
    rw [after_3, attnAll_block, iblk0_eq, iblk1_eq, iblk2_eq]
  obtain ⟨e0, e1⟩ := tr_eq t (cc0_transform_3 (grid0.coords t)) rfl
  show ((cfg0 (F := F)).win 3).cut (grid0.coords t) ((dats m 0 c).after 3 t) = _
  rw [e]
  generalize attnAll (V m c main_v3) (V m c main_v5) (V m c main_v7) = G
  funext j
  refine congrArg G (funext fun a => Fin.ext ?_)
  match a with
  | ⟨0, _⟩ =>
    show _ = cc0_transform_3 (grid0.coords t) 0 * 8192 + 1 * ((show S8192x128.Idx from j) 0).val
    rw [e0, Nat.one_mul]
  | ⟨1, _⟩ =>
    show _ = cc0_transform_3 (grid0.coords t) 1 * 128 + 1 * ((show S8192x128.Idx from j) 1).val
    rw [e1, Nat.one_mul]

theorem exists_point (b : Fin 2) (h : Fin 4) : ∃ t : Fin grid0.N, grid0.coords t 0 = b ∧ grid0.coords t 1 = h := by
  have key : ∀ (b : Fin 2) (h : Fin 4), (grid0.coords ⟨4 * b.val + h.val, by rw [N_0]; omega⟩ 0).val = b.val
      ∧ (grid0.coords ⟨4 * b.val + h.val, by rw [N_0]; omega⟩ 1).val = h.val := by decide +kernel
  exact ⟨⟨4 * b.val + h.val, by rw [N_0]; omega⟩, Fin.ext (key b h).1, Fin.ext (key b h).2⟩

theorem apart : ∀ w : Fin 4, (spec0 w).arr.view.ref ≠ main_arg0 ∧ (spec0 w).arr.view.ref ≠ main_arg1 ∧ (spec0 w).arr.view.ref ≠ main_arg2 := by
  decide

/-- The eight blocks cover the array. -/
theorem cover (i : S16384x512.Idx) : ∃ t : Fin (cfg0 (F := F)).N, ((cfg0 (F := F)).win 3).flush t = true ∧ i ∈ (((cfg0 (F := F)).win 3).blk t).view.set := by
  have h0 : (i 0).val < 16384 := (i 0).isLt
  have h1 : (i 1).val < 512 := (i 1).isLt
  obtain ⟨t, hb, hh⟩ := exists_point ⟨(i 0).val / 8192, by omega⟩ ⟨(i 1).val / 128, by omega⟩
  refine ⟨t, flush0_3 t, ?_⟩
  obtain ⟨e0, e1⟩ := tr_eq (F := F) t (cc0_transform_3 (grid0.coords t)) rfl
  have e0 : cc0_transform_3 (grid0.coords t) 0 = (i 0).val / 8192 := e0.trans (congrArg Fin.val hb)
  have e1 : cc0_transform_3 (grid0.coords t) 1 = (i 1).val / 128 := e1.trans (congrArg Fin.val hh)
  show i ∈ ((View.whole main_v8).slice (win0_3.rect t)).set
  rw [View.set_slice_whole, Rect.mem_set_unit]
  intro a
  match a with
  | ⟨0, _⟩ =>
    show cc0_transform_3 (grid0.coords t) 0 * 8192 ≤ (i 0).val ∧ (i 0).val < cc0_transform_3 (grid0.coords t) 0 * 8192 + 8192
    rw [e0]; omega
  | ⟨1, _⟩ =>
    show cc0_transform_3 (grid0.coords t) 1 * 128 ≤ (i 1).val ∧ (i 1).val < cc0_transform_3 (grid0.coords t) 1 * 128 + 128
    rw [e1]; omega

theorem final_o (c : Dev nD) :
    (dats m 0 c).arrAt 3 (cfg0 (F := F)).N = attnAll (V m c main_v3) (V m c main_v5) (V m c main_v7) :=
  (dats m 0 c).arrAt_eq_of_cover 3 _ (fun t _ => flushed_eq m c t) cover

/-- Every run ends with the result array at the attention of the cast arguments, the arguments unchanged and no semaphore counted. -/
theorem run_all : θ_run defs (onTc (τ := τ) (main (F := F))) ⟨m, fun _ => 0, ρ⟩ (fun r => (∀ c : Dev nD,
      r.2.mem ((c : Thread nD τ).loc main_v8) = attnAll (V m c main_v3) (V m c main_v5) (V m c main_v7)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)) ∧ r.2.sem = fun _ => 0) :=
  (θ_run defs _ _).mono (fun _ h => ⟨fun c => ⟨((h.1 c).1 3).trans (final_o m c),
      ((h.1 c).2 main_arg0 (Pipeline.mem_restRefs_of main_arg0 (by decide) (fun w => (apart w).1))).trans (V_arg0 m c),
      ((h.1 c).2 main_arg1 (Pipeline.mem_restRefs_of main_arg1 (by decide) (fun w => (apart w).2.1))).trans (V_arg1 m c),
      ((h.1 c).2 main_arg2 (Pipeline.mem_restRefs_of main_arg2 (by decide) (fun w => (apart w).2.2))).trans (V_arg2 m c)⟩, h.2⟩)
    (run_main m ρ)

end Cert.Proof.Attn

end
-- ==== Proof.KValues.lean ====
/- What the attention kernel's body computes, block of queries by block of queries: the functions of the
   query, key and value arrays that its buffers hold when a block is worked on, and its result.
   (Of the program with its own constants.) -/
module

public import proofs.«01_k».proof.Proof.KStages
public import Idealize.ShloMosaic.Lib.ValueLayout

@[expose] public section

noncomputable section

namespace Cert.Proof.AttnK

open Cert.Kernel Cert.Kernel.Gen
open Idealize.ShloMosaic Idealize.ShloMosaic.TcCoe Idealize.ShloMosaic.ValueIdx

variable {F : FTy → Type} [FloatOps F]

/-- An index of the sequence's arrays (taken modulo their sizes). -/
def seqAt (a b : Nat) : S8192x128.Idx := ix2 (⟨a % 8192, Nat.mod_lt _ (by decide)⟩ : Fin 8192) (⟨b % 128, Nat.mod_lt _ (by decide)⟩ : Fin 128)

/-- `n` rows from row `o` on. -/
def rowsFrom {α : Type} (n : Nat) (x : S8192x128.Idx → α) (o : Nat) : (⟨2, ![n, 128]⟩ : Shape).Idx → α :=
  fun j => x (seqAt (o + (j 0).val) (j 1).val)

/-- The two halves of a slot side by side. -/
def besides {α : Type} (l r : S1x128x128.Idx → α) : S1x128x256.Idx → α := fun j =>
  if h : (j 2).val < 128 then l (ix3 (j 0) (j 1) (⟨(j 2).val, h⟩ : Fin 128))
  else r (ix3 (j 0) (j 1) (⟨(j 2).val - 128, by have := (j 2).isLt; simp only [Matrix.cons_val] at this; omega⟩ : Fin 128))

/-- The triangle as the body stores it. -/
def triStored : FVec F S128x256 .bf16 := shapeCast S128x256 (triVal (F := F)) shapeCasts_S128x256_S128x256

variable (q k v : FVec F S8192x128 .bf16) (τ : Nat)

/-- The scores of block `τ`. -/
def zS : FVec F S1x128x256 .f32 := slotW (scoresVal lanes (rowsFrom 64 q (64 * τ)) (rowsFrom 256 k (64 * τ - 192)))

/-- The mask of the right half of block `τ`'s window, and of the left half (only the first two blocks have one). -/
def mask1 : IVec S128x128 1 := validAt relPos 128#32 (BitVec.ofNat 32 (min (64 * τ) 192))
@[inherit_doc mask1]
def mask0 : Option (IVec S128x128 1) := if τ < 2 then some (validAt relPos 0#32 (BitVec.ofNat 32 (64 * τ))) else none

/-- The totals of block `τ`'s window: its right half, and all of it. -/
def rightTot : FVec F S128x128 .f32 := tot1 (unslotW (zS q k τ)) (mask1 τ) triStored
@[inherit_doc rightTot]
def winTot : FVec F S128x128 .f32 := addf (rightTot q k τ) (tot0 (unslotW (zS q k τ)) (mask0 τ) triStored)

/-- The exponents of block `τ`'s window. -/
def argS : FVec F S1x128x256 .f32 :=
  besides (slot (exp0 (unslotW (zS q k τ)) (mask0 τ) (rightTot q k τ) triStored)) (slot (exp1 (unslotW (zS q k τ)) (mask1 τ) triStored))

/-- The stored totals of block `τ`. -/
def totS : FVec F S1x128x128 .f32 := slot (winTot q k τ)

/-- The least total of block `τ`. -/
def leastTot : F .f32 := leastOf (winTot q k τ)

/-- The sums of block `τ` over its window. -/
def accS : FVec F S1x128x128 .f32 := slot (outVal (argS q k τ) (rowsFrom 256 v (64 * τ - 192)))

/-- The totals of block `τ` as the carry starts. -/
def carS : FVec F S1x128x128 .f32 := slot (unslot (totS q k τ))

/-- The position word when `n` older keys are left. -/
def posLeft (n : Nat) : BitVec 32 := Scalar.subi (BitVec.ofNat 32 n) 128#32

/-- The scores of block `τ` against the last 128 of `n` older keys. -/
def oldZ (n : Nat) : FVec F S128x128 .f32 := oldScores lanes (rowsFrom 64 q (64 * τ)) (rowsFrom 128 k (n - 128))

/-- The carry and the sums after the last 128 of `n` older keys. -/
def nextCar (n : Nat) (car : FVec F S1x128x128 .f32) : FVec F S128x128 .f32 :=
  addf (unslot car) (half1 (e := .f32) (oldSuffix (oldZ q k τ n) (posLeft n) triStored))
@[inherit_doc nextCar]
def nextAcc (n : Nat) (car acc : FVec F S1x128x128 .f32) : FVec F S128x128 .f32 :=
  oldAcc (unslot acc) (oldWeights (oldZ q k τ n) (posLeft n) triStored (unslot car)) (rowsFrom 128 v (n - 128))

/-- Whether the loop over older keys goes on at least carry `c`. -/
def goesOn (c : F .f32) : Bool := Scalar.cmpf .ole c (Scalar.ofBits .f32 0x43160A50#32) == 1#1

/-- The sums after the loop over `64 * m` older keys. -/
def oldEnd : Nat → F .f32 → FVec F S1x128x128 .f32 → FVec F S1x128x128 .f32 → FVec F S1x128x128 .f32
  | 0, _, _, acc => acc
  | 1, c, car, acc => bif goesOn c then slot (nextAcc q k v τ 64 car acc) else acc
  | m + 2, c, car, acc => bif goesOn c then
      oldEnd m (leastOf (nextCar q k τ (64 * (m + 2)) car)) (slot (nextCar q k τ (64 * (m + 2)) car)) (slot (nextAcc q k v τ (64 * (m + 2)) car acc))
    else acc

/-- The sums of block `τ` over every key before its queries. -/
def accEnd : FVec F S1x128x128 .f32 := oldEnd q k v τ (τ - 3) (leastTot q k τ) (carS q k τ) (accS q k v τ)

/-- The result's rows of block `τ`. -/
def outRows : FVec F S64x128 .f32 := rowsOut lanes (unslot (accEnd q k v τ))

/-- The kernel's result. -/
def attnOut : FVec F S8192x128 .f32 := fun j =>
  outRows q k v ((j 0).val / 64) (ix2 (⟨(j 0).val % 64, Nat.mod_lt _ (by decide)⟩ : Fin 64) (j 1))

end Cert.Proof.AttnK

end
-- ==== Proof.Sums.lean ====
/- Sums over the extended reals that the attention's weights are made of: the softplus to the base two and
   to the base e, sums over stretches of keys, and the change of base. -/
module

public import Idealize.ShloMosaic.PureOps.Ideal

@[expose] public section

noncomputable section

namespace Cert.Proof.Sums

open Idealize.ShloMosaic Finset

/-- One over the logarithm of two. -/
abbrev L : EReal := (((Real.log 2)⁻¹ : ℝ) : EReal)

/-- The softplus to the base two, as the kernel writes it. -/
def sp2 (z : EReal) : EReal := max z 0 + Ideal.log (1 + Ideal.exp2 (0 - max z (-z))) * L

/-- The softplus to the base e, as the plain mathematics writes it. -/
def sp (x : EReal) : EReal := max x 0 + Ideal.log1p (Ideal.exp (-(max x (-x))))

theorem L_pos : (0 : ℝ) < (Real.log 2)⁻¹ := inv_pos.mpr (Real.log_pos (by norm_num))
theorem L_nonneg : (0 : EReal) ≤ L := EReal.coe_nonneg.mpr L_pos.le
theorem L_ne_top : L ≠ ⊤ := EReal.coe_ne_top _

theorem exp2_L (x : EReal) : Ideal.exp2 (L * x) = Ideal.exp x := by
  induction x with
  | bot => rw [EReal.coe_mul_bot_of_pos L_pos]; rfl
  | top => rw [EReal.coe_mul_top_of_pos L_pos]; rfl
  | coe r =>
    rw [← EReal.coe_mul]
    change ((Real.rpow 2 ((Real.log 2)⁻¹ * r) : ℝ) : EReal) = ((Real.exp r : ℝ) : EReal)
    congr 1
    change (2 : ℝ) ^ ((Real.log 2)⁻¹ * r) = _
    rw [Real.rpow_def_of_pos (by norm_num)]
    congr 1
    have : Real.log 2 ≠ 0 := (Real.log_pos (by norm_num)).ne'
    field_simp

theorem log_one : Ideal.log 1 = 0 := by
  change Ideal.log ((1 : ℝ) : EReal) = 0
  change (if (1 : ℝ) ≤ 0 then ⊥ else ((Real.log 1 : ℝ) : EReal)) = 0
  rw [if_neg (by norm_num), Real.log_one]; rfl

theorem mul_add_L (x y : EReal) : L * (x + y) = L * x + L * y :=
  EReal.left_distrib_of_nonneg_of_ne_top L_nonneg L_ne_top x y

theorem mul_sub_L (x y : EReal) : L * (x - y) = L * x - L * y := by
  rw [sub_eq_add_neg, mul_add_L, mul_neg, ← sub_eq_add_neg]

theorem mul_max_L (x : EReal) : max (L * x) 0 = L * max x 0 := by
  rcases le_total x 0 with h | h
  · rw [max_eq_right h, mul_zero, max_eq_right (EReal.mul_nonpos_iff.mpr (Or.inl ⟨L_nonneg, h⟩))]
  · rw [max_eq_left h, max_eq_left (mul_nonneg L_nonneg h)]

theorem mul_abs_L (x : EReal) : max (L * x) (-(L * x)) = L * max x (-x) := by
  rw [← mul_neg]
  rcases le_total x (-x) with h | h
  · rw [max_eq_right h, max_eq_right (mul_le_mul_of_nonneg_left h L_nonneg)]
  · rw [max_eq_left h, max_eq_left (mul_le_mul_of_nonneg_left h L_nonneg)]

/-- The softplus to the base two of a score to the base two is that of the plain score, to the base two. -/
theorem sp2_L (x : EReal) : sp2 (L * x) = L * sp x := by
  rw [sp2, sp, mul_max_L, mul_abs_L, zero_sub, ← mul_neg, exp2_L, mul_add_L, Ideal.log1p, mul_comm _ L]

theorem exp_nonneg (x : EReal) : 0 ≤ Ideal.exp x := by
  induction x with
  | bot => exact le_refl _
  | top => exact le_top
  | coe r => exact EReal.coe_nonneg.mpr (Real.exp_pos r).le

theorem log_nonneg {x : EReal} (h : 1 ≤ x) : 0 ≤ Ideal.log x := by
  induction x with
  | bot => exact absurd (lt_of_lt_of_le EReal.bot_lt_zero (zero_le_one.trans h)) (lt_irrefl _)
  | top => exact le_top
  | coe r =>
    have h1 : (1 : ℝ) ≤ r := by exact_mod_cast h
    change (0 : EReal) ≤ if r ≤ 0 then ⊥ else ((Real.log r : ℝ) : EReal)
    rw [if_neg (by linarith)]
    exact EReal.coe_nonneg.mpr (Real.log_nonneg h1)

theorem sp_nonneg (x : EReal) : 0 ≤ sp x :=
  add_nonneg (le_max_right _ _) (log_nonneg (le_add_of_nonneg_right (exp_nonneg _)))

theorem exp2_nonneg (x : EReal) : 0 ≤ Ideal.exp2 x := by
  induction x with
  | bot => exact le_refl _
  | top => exact le_top
  | coe r => exact EReal.coe_nonneg.mpr (Real.rpow_nonneg (by norm_num) r)

theorem sp2_nonneg (x : EReal) : 0 ≤ sp2 x :=
  add_nonneg (le_max_right _ _) (mul_nonneg (log_nonneg (le_add_of_nonneg_right (exp2_nonneg _))) L_nonneg)

theorem sub_sub_nonneg (x : EReal) {a b : EReal} (ha : 0 ≤ a) (hb : 0 ≤ b) : x - a - b = x - (a + b) := by
  have ha' : a ≠ ⊥ := (lt_of_lt_of_le EReal.bot_lt_zero ha).ne'
  have hb' : b ≠ ⊥ := (lt_of_lt_of_le EReal.bot_lt_zero hb).ne'
  rw [sub_eq_add_neg, sub_eq_add_neg, sub_eq_add_neg, EReal.neg_add (Or.inl ha') (Or.inr hb'), sub_eq_add_neg, add_assoc]

/-! ## Sums over keys -/

/-- The sum of the softplus over the keys from `n` to `t`. -/
def carry (z : ℕ → EReal) (n t : ℕ) : EReal := ∑ j ∈ Ico n t, sp2 (z j)

/-- The weight of key `s` for a query at `t`. -/
def wt (z : ℕ → EReal) (t s : ℕ) : EReal := Ideal.exp2 (z s - sp2 (z s) - carry z (s + 1) t)

/-- The weighted sum of the values from key `n` to `m`. -/
def part (z v : ℕ → EReal) (t n m : ℕ) : EReal := ∑ s ∈ Ico n m, wt z t s * v s

theorem carry_nonneg (z : ℕ → EReal) (n t : ℕ) : 0 ≤ carry z n t := Finset.sum_nonneg fun _ _ => sp2_nonneg _

theorem carry_append (z : ℕ → EReal) {n m t : ℕ} (h : n ≤ m) (h' : m ≤ t) : carry z n m + carry z m t = carry z n t :=
  Finset.sum_Ico_consecutive _ h h'

theorem part_append (z v : ℕ → EReal) (T : ℕ) {n m t : ℕ} (h : n ≤ m) (h' : m ≤ t) :
    part z v T n m + part z v T m t = part z v T n t :=
  Finset.sum_Ico_consecutive _ h h'

theorem carry_empty (z : ℕ → EReal) {n t : ℕ} (h : t ≤ n) : carry z n t = 0 := by
  rw [carry, Ico_eq_empty_of_le h, sum_empty]

/-- A sum over a block of `N` keys from `B` on, those before `T` only. -/
theorem sum_block (f : ℕ → EReal) (N B T : ℕ) :
    (∑ c : Fin N, if B + c.val < T then f (B + c.val) else 0) = ∑ j ∈ Ico B (min T (B + N)), f j := by
  rw [Fin.sum_univ_eq_sum_range (fun c => if B + c < T then f (B + c) else 0) N, ← Finset.sum_filter]
  refine Finset.sum_bij (fun c _ => B + c) ?_ ?_ ?_ ?_
  · intro c h; simp only [mem_filter, mem_range] at h; simp only [mem_Ico]; omega
  · intro a _ b _ h; exact Nat.add_left_cancel h
  · intro b h; simp only [mem_Ico] at h
    exact ⟨b - B, by simp only [mem_filter, mem_range]; omega, by omega⟩
  · intro _ _; rfl

/-- The part of it after column `c`, as the product with the triangle gives it. -/
theorem sum_tri (f : ℕ → EReal) (N B T : ℕ) (c : ℕ) :
    (∑ r : Fin N, (if B + r.val < T then f (B + r.val) else 0) * (if c < r.val then 1 else 0)) = ∑ j ∈ Ico (B + c + 1) (min T (B + N)), f j := by
  have e : ∀ r : Fin N, (if B + r.val < T then f (B + r.val) else 0) * (if c < r.val then 1 else 0)
      = if B + r.val < T ∧ c < r.val then f (B + r.val) else 0 := by
    intro r
    by_cases h1 : B + r.val < T <;> by_cases h2 : c < r.val <;> simp [h1, h2]
  rw [Finset.sum_congr rfl fun r _ => e r, Fin.sum_univ_eq_sum_range (fun r => if B + r < T ∧ c < r then f (B + r) else 0) N, ← Finset.sum_filter]
  refine Finset.sum_bij (fun c _ => B + c) ?_ ?_ ?_ ?_
  · intro c h; simp only [mem_filter, mem_range] at h; simp only [mem_Ico]; omega
  · intro a _ b _ h; exact Nat.add_left_cancel h
  · intro b h; simp only [mem_Ico] at h
    exact ⟨b - B, by simp only [mem_filter, mem_range]; omega, by omega⟩
  · intro _ _; rfl

/-- An exponent inside a block is the weight, when the carry is that of the keys after the block. -/
theorem weight_block (z : ℕ → EReal) {s m t : ℕ} (h : s + 1 ≤ m) (h' : m ≤ t) :
    Ideal.exp2 (z s - sp2 (z s) - carry z (s + 1) m - carry z m t) = wt z t s := by
  rw [sub_sub_nonneg _ (carry_nonneg ..) (carry_nonneg ..), carry_append z h h', wt]

/-- The weighted sum over a block. -/
theorem part_block (z v : ℕ → EReal) (t N B T : ℕ) :
    (∑ c : Fin N, (if B + c.val < T then wt z t (B + c.val) else 0) * v (B + c.val)) = part z v t B (min T (B + N)) := by
  have e : ∀ c : Fin N, (if B + c.val < T then wt z t (B + c.val) else 0) * v (B + c.val)
      = if B + c.val < T then wt z t (B + c.val) * v (B + c.val) else 0 := by
    intro c
    by_cases h : B + c.val < T <;> simp [h]
  rw [Finset.sum_congr rfl fun c _ => e c]
  exact sum_block (fun s => wt z t s * v s) N B T

/-! ## The change of base -/

theorem mul_sum_L {ι : Type} (S : Finset ι) (f : ι → EReal) : L * ∑ j ∈ S, f j = ∑ j ∈ S, L * f j := by
  classical
  induction S using Finset.induction_on with
  | empty => simp
  | insert a S h ih => rw [sum_insert h, sum_insert h, mul_add_L, ih]

/-- A weight to the base e. -/
def wtE (x : ℕ → EReal) (t s : ℕ) : EReal := Ideal.exp (x s - sp (x s) - ∑ j ∈ Ico (s + 1) t, sp (x j))

theorem wt_L (x : ℕ → EReal) (t s : ℕ) : wt (fun j => L * x j) t s = wtE x t s := by
  rw [wt, wtE, carry, Finset.sum_congr rfl fun j _ => sp2_L (x j), ← mul_sum_L, sp2_L, ← mul_sub_L, ← mul_sub_L, exp2_L]

/-- The weight as the plain mathematics has it: the sum of the logarithms from key `s` on, less the first of them. -/
theorem wtE_ref (x : ℕ → EReal) {t s : ℕ} (h : s < t) :
    Ideal.exp ((x s + -sp (x s)) + ((∑ j ∈ Ico s t, -sp (x j)) - -sp (x s))) = wtE x t s := by
  rw [wtE]
  congr 1
  have hn : (∑ j ∈ Ico (s + 1) t, -sp (x j)) = -∑ j ∈ Ico (s + 1) t, sp (x j) := by
    induction (Ico (s + 1) t) using Finset.induction_on with
    | empty => simp
    | insert a S h ih =>
      rw [sum_insert h, sum_insert h, ih, EReal.neg_add, sub_eq_add_neg]
      · exact Or.inl (lt_of_lt_of_le EReal.bot_lt_zero (sp_nonneg _)).ne'
      · exact Or.inr (lt_of_lt_of_le EReal.bot_lt_zero (Finset.sum_nonneg fun _ _ => sp_nonneg _)).ne'
  rw [Finset.sum_eq_sum_Ico_succ_bot h, hn, sub_eq_add_neg, sub_eq_add_neg, sub_eq_add_neg, neg_neg]
  generalize (∑ j ∈ Ico (s + 1) t, sp (x j)) = S
  have ha := sp_nonneg (x s)
  generalize sp (x s) = a at ha ⊢
  induction a with
  | bot => exact absurd ha (by simp)
  | top => simp
  | coe r =>
    have e : -(r : EReal) + -S + (r : EReal) = -S := by
      rw [add_right_comm, ← EReal.coe_neg, ← EReal.coe_add, neg_add_cancel, EReal.coe_zero, zero_add]
    rw [e]

end Cert.Proof.Sums

end
-- ==== Proof.Reads.lean ====
/- The vectors of the attention's body, element by element, over the extended reals. -/
module

public import proofs.«01_k».proof.Proof.Values
public import proofs.«01_k».proof.Proof.Sums
public import Idealize.ShloMosaic.Lib.Pointwise
public import Idealize.ShloMosaic.Lib.WordCmp

@[expose] public section

set_option maxRecDepth 16384

noncomputable section

namespace Cert.Proof.Attn

open Cert.KernelIdeal Cert.KernelIdeal.Gen
open Idealize.ShloMosaic Idealize.ShloMosaic.TcCoe
open Cert.Proof.Sums Idealize.ShloMosaic.WordCmp

theorem sel {α : Type} (p : Prop) [Decidable p] (a b : α) :
    Scalar.select (BitVec.ofBool (decide p)) a b = if p then a else b := by
  by_cases h : p <;> simp [Scalar.select, h]

theorem and_of (p q : Prop) [Decidable p] [Decidable q] :
    IntOp.andi (BitVec.ofBool (decide p)) (BitVec.ofBool (decide q)) = BitVec.ofBool (decide (p ∧ q)) := by
  by_cases h : p <;> by_cases h' : q <;> simp [IntOp.andi, h, h']

theorem log2e : (Named.named (F := Ideal) κ "log2_e" (φ := .f32) 0x3FB8AA3B#32 : EReal) = L := by
  simp [Named.named, κ]

theorem maskedv : (Named.named (F := Ideal) κ "masked" (φ := .f32) 0xF149F2CA#32 : EReal) = ⊥ := by
  simp [Named.named, κ]

/-- The triangle: one where the row comes after the column, one in the right half. -/
theorem tri_left (r c : Fin 128) (c' : Fin 256) (hc : c'.val = c.val) :
    triStored (F := Ideal) (ix2 r c') = if c.val < r.val then 1 else 0 := by
  pointwise [triStored, triVal]
  rw [cmpi_sge_ofNat (by omega) (by omega), cmpi_sgt_ofNat (by omega) (by omega), sel, sel, if_neg (by omega), hc]

theorem tri_right (r : Fin 128) (c' : Fin 256) (hc : 128 ≤ c'.val) :
    triStored (F := Ideal) (ix2 r c') = 1 := by
  pointwise [triStored, triVal]
  rw [cmpi_sge_ofNat (by omega) (by omega), sel, if_pos (by omega)]

/-- Which keys of a half window lie before the query of row `r`. -/
theorem valid_at (r c : Fin 128) (b d : ℕ) (hb : b ≤ 128) (hd : d ≤ 192) :
    validAt relPos (BitVec.ofNat 32 b) (BitVec.ofNat 32 d) (ix2 r c) = BitVec.ofBool (decide (c.val + b < d + r.val % 64)) := by
  have e : relPos (ix2 r c) = BitVec.ofNat 32 c.val - BitVec.ofNat 32 (r.val % 64) := by
    pointwise [relPos]
    split
    · rw [Nat.mod_eq_of_lt ‹_›]; rfl
    · rw [show r.val - 64 = r.val % 64 by omega]; rfl
  pointwise [validAt]
  rw [e, cmpi_slt_eq]
  congr 1
  refine decide_eq_decide.mpr ?_
  have h1 := c.isLt
  have h2 : r.val % 64 < 64 := Nat.mod_lt _ (by decide)
  generalize r.val % 64 = ρ at h2 ⊢
  change (BitVec.ofNat 32 c.val - BitVec.ofNat 32 ρ + BitVec.ofNat 32 b).toInt < _ ↔ _
  have ti : ∀ a : ℕ, a < 1000 → (BitVec.ofNat 32 a).toInt = (a : Int) := by
    intro a h
    rw [BitVec.toInt_eq_toNat_cond, BitVec.toNat_ofNat]
    norm_num
    omega
  rw [BitVec.toInt_add, BitVec.toInt_sub, ti _ (by omega), ti _ (by omega), ti _ (by omega), ti _ (by omega), Int.bmod_def, Int.bmod_def]
  norm_num
  omega

theorem sp_at (s : Shape) (z : FVec Ideal s .f32) (j : s.Idx) : softplus s z j = sp2 (z j) := by
  have e := log2e
  change max (z j) (Ideal.ofBits .f32 0x00000000#32) + Ideal.log (Ideal.ofBits .f32 0x3F800000#32
    + Ideal.exp2 (Ideal.ofBits .f32 0x00000000#32 - max (z j) (-(z j)))) * Named.named (F := Ideal) κ "log2_e" (φ := .f32) 0x3FB8AA3B#32 = _
  rw [e, Ideal.ofBits_zero_f32, Ideal.ofBits_one_f32, sp2]

theorem half0_at (x : FVec Ideal S128x256 .f32) (r c : Fin 128) :
    half0 (F := Ideal) (e := .f32) x (ix2 r c) = x (ix2 r ⟨c.val, by omega⟩) := by
  pointwise [half0]

theorem half1_at (x : FVec Ideal S128x256 .f32) (r c : Fin 128) :
    half1 (F := Ideal) (e := .f32) x (ix2 r c) = x (ix2 r ⟨128 + c.val, by omega⟩) := by
  pointwise [half1]

theorem suffix_at (nl : FVec Ideal S128x128 .f32) (t : FVec Ideal S128x256 .bf16) (r : Fin 128) (c : Fin 256) :
    suffix (F := Ideal) nl t (ix2 r c) = ∑ x : Fin 128, nl (ix2 r x) * t (ix2 x c) := by
  pointwise [suffix]

/-- The suffix sums of a block of keys from `B` on, those before `T` counted. -/
theorem suffix_left (z : ℕ → EReal) (B T : ℕ) (nl : FVec Ideal S128x128 .f32) (r : Fin 128)
    (h : ∀ x : Fin 128, nl (ix2 r x) = if B + x.val < T then sp2 (z (B + x.val)) else 0) (c : Fin 128) :
    half0 (F := Ideal) (e := .f32) (suffix (F := Ideal) nl (triStored (F := Ideal))) (ix2 r c) = carry z (B + c.val + 1) (min T (B + 128)) := by
  rw [half0_at, suffix_at, carry, ← sum_tri (fun j => sp2 (z j)) 128 B T c.val]
  exact Finset.sum_congr rfl fun x _ => by rw [h, tri_left x c _ rfl]

/-- Their totals. -/
theorem suffix_right (z : ℕ → EReal) (B T : ℕ) (nl : FVec Ideal S128x128 .f32) (r : Fin 128)
    (h : ∀ x : Fin 128, nl (ix2 r x) = if B + x.val < T then sp2 (z (B + x.val)) else 0) (c : Fin 128) :
    half1 (F := Ideal) (e := .f32) (suffix (F := Ideal) nl (triStored (F := Ideal))) (ix2 r c) = carry z B (min T (B + 128)) := by
  rw [half1_at, suffix_at, carry, ← sum_block (fun j => sp2 (z j)) 128 B T]
  exact Finset.sum_congr rfl fun x _ => by rw [h, tri_right x _ (by simp), mul_one]

variable (q k v : FVec Ideal S8192x128 .bf16) (τ : ℕ)

/-- The query row of row `r` of a block, the other head's lanes zero. -/
def qRow (r : Fin 128) (d : Fin 128) : EReal :=
  if d.val / 64 = r.val / 64 then q (seqAt (64 * τ + r.val % 64) d.val) else 0

/-- The plain scores of row `r` of block `τ`. -/
def score (r : Fin 128) (s : ℕ) : EReal := ∑ d : Fin 128, qRow q τ r d * k (seqAt s d.val)

/-- The scores to the base two. -/
def score2 (r : Fin 128) (s : ℕ) : EReal := L * score q k τ r s

theorem stack_at (x : FVec Ideal S64x128 .bf16) (r d : Fin 128) :
    stackRows lanes x (ix2 r d) = if d.val / 64 = r.val / 64 then x (ix2 ⟨r.val % 64, Nat.mod_lt _ (by decide)⟩ d) else 0 := by
  pointwise [stackRows, headRows, lanes]
  rw [cmpi_sge_ofNat (by omega) (by omega), cmpi_sge_ofNat (by omega) (by omega), cmpi_slt_ofNat (by omega) (by omega),
    cmpi_slt_ofNat (by omega) (by omega), and_of, and_of]
  have := r.isLt
  have := d.isLt
  split
  · have e : (⟨r.val % 64, Nat.mod_lt _ (by decide)⟩ : Fin 64) = ⟨r.val, by assumption⟩ := Fin.ext (Nat.mod_eq_of_lt ‹_›)
    rw [e]
    exact (sel _ _ _).trans (if_congr (by omega) rfl rfl)
  · have e : (⟨r.val % 64, Nat.mod_lt _ (by decide)⟩ : Fin 64) = ⟨r.val - 64, by omega⟩ := Fin.ext (show r.val % 64 = r.val - 64 by omega)
    rw [e]
    exact (sel _ _ _).trans (if_congr (by omega) rfl rfl)

theorem scores_at (x : FVec Ideal S64x128 .bf16) (y : FVec Ideal S256x128 .bf16) (r : Fin 128) (c : Fin 256) :
    scoresVal (F := Ideal) lanes x y (ix2 r c) = L * ∑ d : Fin 128, stackRows lanes x (ix2 r d) * y (ix2 c d) := by
  have e := log2e
  have e' : (shapeCast S64x128 x shapeCasts_S64x128_S64x128 : FVec Ideal S64x128 .bf16) = x := by
    funext j; idx_vars j; pointwise
  rw [scoresVal, e']
  pointwise
  rw [e]

theorem oldScores_at (x : FVec Ideal S64x128 .bf16) (y : FVec Ideal S128x128 .bf16) (r : Fin 128) (c : Fin 128) :
    oldScores (F := Ideal) lanes x y (ix2 r c) = L * ∑ d : Fin 128, stackRows lanes x (ix2 r d) * y (ix2 c d) := by
  have e := log2e
  have e' : (shapeCast S64x128 x shapeCasts_S64x128_S64x128 : FVec Ideal S64x128 .bf16) = x := by
    funext j; idx_vars j; pointwise
  rw [oldScores, e']
  pointwise
  rw [e]

theorem zS_at (r : Fin 128) (c : Fin 256) : unslotW (F := Ideal) (zS (F := Ideal) q k τ) (ix2 r c) = score2 q k τ r (64 * τ - 192 + c.val) := by
  have e : unslotW (F := Ideal) (zS (F := Ideal) q k τ) (ix2 r c) = scoresVal (F := Ideal) lanes (rowsFrom 64 q (64 * τ)) (rowsFrom 256 k (64 * τ - 192)) (ix2 r c) := by
    pointwise [unslotW, zS, slotW]
  rw [e, scores_at, score2, score]
  congr 1
  refine Finset.sum_congr rfl fun d _ => ?_
  rw [stack_at]
  rfl

theorem oldZ_at (n : ℕ) (r : Fin 128) (c : Fin 128) : oldZ (F := Ideal) q k τ n (ix2 r c) = score2 q k τ r (n - 128 + c.val) := by
  rw [oldZ, oldScores_at, score2, score]
  congr 1
  refine Finset.sum_congr rfl fun d _ => ?_
  rw [stack_at]
  rfl

theorem out_at (a : FVec Ideal S1x128x256 .f32) (y : FVec Ideal S256x128 .bf16) (r : Fin 128) (c : Fin 128) :
    outVal (F := Ideal) a y (ix2 r c) = ∑ x : Fin 256, Ideal.exp2 (a (ix3 0 r x)) * y (ix2 x c) := by
  pointwise [outVal, unslotW]
  rfl

theorem rowsOut_at (a : FVec Ideal S128x128 .f32) (r : Fin 64) (c : Fin 128) :
    rowsOut lanes a (ix2 r c) = a (ix2 ⟨c.val / 64 * 64 + r.val, by omega⟩ c) := by
  pointwise [rowsOut, lanes]
  rw [cmpi_slt_ofNat (by omega) (by omega), sel]
  have := c.isLt
  split
  · exact congrArg a (congrArg (fun x => ix2 x c) (Fin.ext (show r.val = c.val / 64 * 64 + r.val by omega)))
  · exact congrArg a (congrArg (fun x => ix2 x c) (Fin.ext (show 64 + r.val = c.val / 64 * 64 + r.val by omega)))

end Cert.Proof.Attn

end
-- ==== Proof.Window.lean ====
/- What the attention's body computes, over the extended reals: the weighted sum of the values of all keys
   before the query, each weighed by its score and by the softplus of the scores between it and the query. -/
module

public import proofs.«01_k».proof.Proof.Reads

@[expose] public section

set_option maxRecDepth 16384

noncomputable section

namespace Cert.Proof.Attn

open Cert.KernelIdeal Cert.KernelIdeal.Gen
open Idealize.ShloMosaic Idealize.ShloMosaic.TcCoe
open Cert.Proof.Sums Idealize.ShloMosaic.WordCmp

variable (q k v : FVec Ideal S8192x128 .bf16) (τ : ℕ) (r c : Fin 128)

/-- The place of the query of row `r` of block `τ`. -/
abbrev at' : ℕ := 64 * τ + r.val % 64

/-- The values in lane `c`. -/
def lane (s : ℕ) : EReal := v (seqAt s c.val)

theorem mask1_at : mask1 τ (ix2 r c) = BitVec.ofBool (decide (64 * τ - 192 + 128 + c.val < at' τ r)) := by
  rw [mask1, valid_at r c 128 _ (by omega) (by omega)]
  congr 1
  exact decide_eq_decide.mpr (by dsimp only [at']; omega)

theorem orZero_at (m : IVec S128x128 1) (x : FVec Ideal S128x128 .f32) (p : Prop) [Decidable p] (h : m (ix2 r c) = BitVec.ofBool (decide p)) :
    orZero (F := Ideal) m x (ix2 r c) = if p then x (ix2 r c) else 0 := by
  change Scalar.select (m (ix2 r c)) (x (ix2 r c)) (Ideal.ofBits .f32 0x00000000#32) = _
  rw [h, Ideal.ofBits_zero_f32]
  exact sel _ _ _

theorem orMasked_at (m : IVec S128x128 1) (x : FVec Ideal S128x128 .f32) (p : Prop) [Decidable p] (h : m (ix2 r c) = BitVec.ofBool (decide p)) :
    orMasked (F := Ideal) m x (ix2 r c) = if p then x (ix2 r c) else (⊥ : EReal) := by
  have e := maskedv
  change Scalar.select (m (ix2 r c)) (x (ix2 r c)) (Named.named (F := Ideal) κ "masked" (φ := .f32) 0xF149F2CA#32) = _
  rw [h, e]
  exact sel _ _ _

theorem left_at (d : ℕ) (h : τ < 2) :
    validAt relPos 0#32 (BitVec.ofNat 32 (64 * τ)) (ix2 r c) = BitVec.ofBool (decide (64 * τ - 192 + c.val < at' τ r)) := by
  rw [valid_at r c 0 _ (by omega) (by omega)]
  congr 1
  exact decide_eq_decide.mpr (by dsimp only [at']; omega)

theorem zeroed_at (x : FVec Ideal S128x128 .f32) :
    zeroed (F := Ideal) (mask0 τ) x (ix2 r c) = if 64 * τ - 192 + c.val < at' τ r then x (ix2 r c) else 0 := by
  rw [mask0]
  by_cases h : τ < 2
  · rw [if_pos h]
    exact orZero_at r c _ x _ (left_at τ r c 0 h)
  · rw [if_neg h, if_pos (by dsimp only [at']; have := c.isLt; omega)]
    rfl

theorem masked_at (x : FVec Ideal S128x128 .f32) :
    masked (F := Ideal) (mask0 τ) x (ix2 r c) = if 64 * τ - 192 + c.val < at' τ r then x (ix2 r c) else (⊥ : EReal) := by
  rw [mask0]
  by_cases h : τ < 2
  · rw [if_pos h]
    exact orMasked_at r c _ x _ (left_at τ r c 0 h)
  · rw [if_neg h, if_pos (by dsimp only [at']; have := c.isLt; omega)]
    rfl

/-! ## The window -/

theorem nl1_at : orZero (F := Ideal) (mask1 τ) (half1 (F := Ideal) (e := .f32) (softplus S128x256 (unslotW (F := Ideal) (zS (F := Ideal) q k τ)))) (ix2 r c)
    = if 64 * τ - 192 + 128 + c.val < at' τ r then sp2 (score2 q k τ r (64 * τ - 192 + 128 + c.val)) else 0 := by
  rw [orZero_at r c _ _ _ (mask1_at τ r c), half1_at, sp_at, zS_at, ← Nat.add_assoc]

theorem nl0_at : zeroed (F := Ideal) (mask0 τ) (half0 (F := Ideal) (e := .f32) (softplus S128x256 (unslotW (F := Ideal) (zS (F := Ideal) q k τ)))) (ix2 r c)
    = if 64 * τ - 192 + c.val < at' τ r then sp2 (score2 q k τ r (64 * τ - 192 + c.val)) else 0 := by
  rw [zeroed_at, half0_at, sp_at, zS_at]

theorem at_le : at' τ r ≤ 64 * τ - 192 + 128 + 128 := by dsimp only [at']; omega

theorem rightTot_at : rightTot (F := Ideal) q k τ (ix2 r c) = carry (score2 q k τ r) (64 * τ - 192 + 128) (at' τ r) := by
  rw [rightTot, tot1, suffix_right (score2 q k τ r) _ _ _ r (fun x => nl1_at q k τ r x) c, min_eq_left (at_le τ r)]

theorem leftTot_at : tot0 (F := Ideal) (unslotW (F := Ideal) (zS (F := Ideal) q k τ)) (mask0 τ) (triStored (F := Ideal)) (ix2 r c)
    = carry (score2 q k τ r) (64 * τ - 192) (min (at' τ r) (64 * τ - 192 + 128)) := by
  rw [tot0, suffix_right (score2 q k τ r) _ _ _ r (fun x => nl0_at q k τ r x) c]

/-- The keys from `n` to `t`, where `n` may lie after `t`. -/
theorem carry_min (z : ℕ → EReal) (n t : ℕ) : carry z n t = carry z (min t n) t := by
  rcases le_total t n with h | h
  · rw [min_eq_left h, carry_empty z h, carry_empty z le_rfl]
  · rw [min_eq_right h]

theorem winTot_at : winTot (F := Ideal) q k τ (ix2 r c) = carry (score2 q k τ r) (64 * τ - 192) (at' τ r) := by
  have e : winTot (F := Ideal) q k τ (ix2 r c) = (rightTot (F := Ideal) q k τ (ix2 r c) : EReal)
      + tot0 (F := Ideal) (unslotW (F := Ideal) (zS (F := Ideal) q k τ)) (mask0 τ) (triStored (F := Ideal)) (ix2 r c) := rfl
  rw [e, rightTot_at, leftTot_at, carry_min _ (64 * τ - 192 + 128), add_comm, carry_append]
  · dsimp only [at']; omega
  · exact min_le_left _ _

/-- The exponentials of the right half of the window. -/
theorem exp1_at : Ideal.exp2 (exp1 (F := Ideal) (unslotW (F := Ideal) (zS (F := Ideal) q k τ)) (mask1 τ) (triStored (F := Ideal)) (ix2 r c))
    = if 64 * τ - 192 + 128 + c.val < at' τ r then wt (score2 q k τ r) (at' τ r) (64 * τ - 192 + 128 + c.val) else 0 := by
  rw [exp1, orMasked_at r c _ _ _ (mask1_at τ r c)]
  split
  · rename_i h
    change Ideal.exp2 ((half1 (F := Ideal) (e := .f32) _ (ix2 r c) : EReal) - half1 (F := Ideal) (e := .f32) _ (ix2 r c) - half0 (F := Ideal) (e := .f32) _ (ix2 r c)) = _
    rw [suffix_left (score2 q k τ r) _ _ _ r (fun x => nl1_at q k τ r x) c, half1_at, half1_at, sp_at, zS_at, ← Nat.add_assoc, min_eq_left (at_le τ r), wt]
  · rfl

/-- The exponentials of the left half. -/
theorem exp0_at : Ideal.exp2 (exp0 (F := Ideal) (unslotW (F := Ideal) (zS (F := Ideal) q k τ)) (mask0 τ) (rightTot (F := Ideal) q k τ) (triStored (F := Ideal)) (ix2 r c))
    = if 64 * τ - 192 + c.val < at' τ r then wt (score2 q k τ r) (at' τ r) (64 * τ - 192 + c.val) else 0 := by
  rw [exp0, masked_at]
  split
  · rename_i h
    change Ideal.exp2 ((half0 (F := Ideal) (e := .f32) _ (ix2 r c) : EReal) - half0 (F := Ideal) (e := .f32) _ (ix2 r c)
      - half0 (F := Ideal) (e := .f32) _ (ix2 r c) - rightTot (F := Ideal) q k τ (ix2 r c)) = _
    rw [suffix_left (score2 q k τ r) _ _ _ r (fun x => nl0_at q k τ r x) c, half0_at, half0_at, sp_at, zS_at, rightTot_at,
      carry_min _ (64 * τ - 192 + 128)]
    refine weight_block (score2 q k τ r) (s := 64 * τ - 192 + c.val) ?_ ?_
    · have := c.isLt
      rw [le_min_iff]
      exact ⟨h, by omega⟩
    · exact min_le_left _ _
  · rfl

theorem arg_at (x : Fin 256) : Ideal.exp2 (argS (F := Ideal) q k τ (ix3 0 r x))
    = if 64 * τ - 192 + x.val < at' τ r then wt (score2 q k τ r) (at' τ r) (64 * τ - 192 + x.val) else 0 := by
  have hs : ∀ (y : FVec Ideal S128x128 .f32) (c : Fin 128), slot (F := Ideal) y (ix3 0 r c) = y (ix2 r c) := by
    intro y c; pointwise [slot]
  by_cases h : x.val < 128
  · have e1 : argS (F := Ideal) q k τ (ix3 0 r x) = exp0 (F := Ideal) (unslotW (F := Ideal) (zS (F := Ideal) q k τ)) (mask0 τ)
        (rightTot (F := Ideal) q k τ) (triStored (F := Ideal)) (ix2 r ⟨x.val, h⟩) := (dif_pos h).trans (hs _ ⟨x.val, h⟩)
    exact (congrArg Ideal.exp2 e1).trans (exp0_at q k τ r ⟨x.val, h⟩)
  · have hx := x.isLt
    have e1 : argS (F := Ideal) q k τ (ix3 0 r x) = exp1 (F := Ideal) (unslotW (F := Ideal) (zS (F := Ideal) q k τ)) (mask1 τ)
        (triStored (F := Ideal)) (ix2 r ⟨x.val - 128, by omega⟩) := (dif_neg h).trans (hs _ ⟨x.val - 128, by omega⟩)
    have e := (congrArg Ideal.exp2 e1).trans (exp1_at q k τ r ⟨x.val - 128, by omega⟩)
    have e2 : 64 * τ - 192 + 128 + (x.val - 128) = 64 * τ - 192 + x.val := by omega
    dsimp only at e
    rw [e2] at e
    exact e

theorem unslot_slot (y : FVec Ideal S128x128 .f32) : unslot (F := Ideal) (slot (F := Ideal) y) = y := by
  funext j; idx_vars j; pointwise [unslot, slot]

/-- The sums over the window. -/
theorem accS_at : unslot (F := Ideal) (accS (F := Ideal) q k v τ) (ix2 r c)
    = part (score2 q k τ r) (lane v c) (at' τ r) (64 * τ - 192) (at' τ r) := by
  rw [accS, unslot_slot, out_at]
  refine (Finset.sum_congr rfl fun x _ => congrArg₂ (· * ·) (arg_at q k τ r x) (rfl : _ = lane v c (64 * τ - 192 + x.val))).trans ?_
  rw [part_block (score2 q k τ r) (lane v c) (at' τ r) 256, min_eq_left]
  dsimp only [at']; omega

theorem carS_at : unslot (F := Ideal) (carS (F := Ideal) q k τ) (ix2 r c) = carry (score2 q k τ r) (64 * τ - 192) (at' τ r) := by
  rw [carS, totS, unslot_slot, unslot_slot, winTot_at]

/-! ## The older keys -/

theorem fresh_at (n : ℕ) (h : 64 ∣ n) (h0 : 0 < n) (h1 : n ≤ 8192) :
    freshAt (posLeft n) (ix2 r c) = BitVec.ofBool (decide (n - 128 + c.val < n)) := by
  have e : Scalar.subi (Scalar.addi (posLeft n) 128#32) (Scalar.maxsi (posLeft n) 0#32) = BitVec.ofNat 32 (min n 128) := by
    obtain ⟨m, rfl⟩ := h
    have hm : m < 129 := by omega
    clear h1
    revert h0
    revert m
    decide
  pointwise [freshAt]
  rw [e, cmpi_slt_ofNat (by have := c.isLt; omega) (by omega)]
  congr 1
  exact decide_eq_decide.mpr (by have := c.isLt; omega)

variable (n : ℕ) (h : 64 ∣ n) (h0 : 0 < n) (h1 : n ≤ 8192) (hn : n ≤ at' τ r)
include h h0 h1

theorem oldNl_at : orZero (F := Ideal) (freshAt (posLeft n)) (softplus S128x128 (oldZ (F := Ideal) q k τ n)) (ix2 r c)
    = if n - 128 + c.val < n then sp2 (score2 q k τ r (n - 128 + c.val)) else 0 := by
  rw [orZero_at r c _ _ _ (fresh_at r c n h h0 h1), sp_at, oldZ_at]

theorem older_min : min n (n - 128 + 128) = n := by omega

include hn

theorem nextCar_at (car : FVec Ideal S1x128x128 .f32) (hc : unslot (F := Ideal) car (ix2 r c) = carry (score2 q k τ r) n (at' τ r)) :
    nextCar (F := Ideal) q k τ n car (ix2 r c) = carry (score2 q k τ r) (n - 128) (at' τ r) := by
  have e : nextCar (F := Ideal) q k τ n car (ix2 r c) = (unslot (F := Ideal) car (ix2 r c) : EReal)
      + half1 (F := Ideal) (e := .f32) (oldSuffix (oldZ (F := Ideal) q k τ n) (posLeft n) (triStored (F := Ideal))) (ix2 r c) := rfl
  rw [e, hc, oldSuffix, suffix_right (score2 q k τ r) _ _ _ r (fun x => oldNl_at q k τ r x n h h0 h1) c, older_min n h h0 h1, add_comm,
    carry_append _ (by omega) hn]

theorem oldWeights_at (car : FVec Ideal S128x128 .f32) (hc : car (ix2 r c) = carry (score2 q k τ r) n (at' τ r)) :
    oldWeights (F := Ideal) (oldZ (F := Ideal) q k τ n) (posLeft n) (triStored (F := Ideal)) car (ix2 r c)
      = if n - 128 + c.val < n then wt (score2 q k τ r) (at' τ r) (n - 128 + c.val) else 0 := by
  rw [oldWeights, orZero_at r c _ _ _ (fresh_at r c n h h0 h1)]
  split
  · rename_i hlt
    change Ideal.exp2 ((oldZ (F := Ideal) q k τ n (ix2 r c) : EReal) - softplus S128x128 (oldZ (F := Ideal) q k τ n) (ix2 r c)
      - half0 (F := Ideal) (e := .f32) (oldSuffix (oldZ (F := Ideal) q k τ n) (posLeft n) (triStored (F := Ideal))) (ix2 r c) - car (ix2 r c)) = _
    rw [hc, oldSuffix, suffix_left (score2 q k τ r) _ _ _ r (fun x => oldNl_at q k τ r x n h h0 h1) c, older_min n h h0 h1, sp_at, oldZ_at,
      weight_block _ (by omega) hn]
  · rfl

theorem nextAcc_at (car acc : FVec Ideal S1x128x128 .f32) (hc : ∀ x, unslot (F := Ideal) car (ix2 r x) = carry (score2 q k τ r) n (at' τ r))
    (ha : unslot (F := Ideal) acc (ix2 r c) = part (score2 q k τ r) (lane v c) (at' τ r) n (at' τ r)) :
    nextAcc (F := Ideal) q k v τ n car acc (ix2 r c) = part (score2 q k τ r) (lane v c) (at' τ r) (n - 128) (at' τ r) := by
  have e : ∀ (a w : FVec Ideal S128x128 .f32) (y : FVec Ideal S128x128 .bf16), oldAcc (F := Ideal) a w y (ix2 r c)
      = (a (ix2 r c) : EReal) + ∑ x : Fin 128, w (ix2 r x) * y (ix2 x c) := by
    intro a w y; pointwise [oldAcc]
  rw [nextAcc, e, ha]
  refine (congrArg (_ + ·) (Finset.sum_congr rfl fun x _ => congrArg₂ (· * ·) (oldWeights_at q k τ r x n h h0 h1 hn _ (hc x))
    (rfl : _ = lane v c (n - 128 + x.val)))).trans ?_
  rw [part_block (score2 q k τ r) (lane v c) (at' τ r) 128, older_min n h h0 h1, add_comm, part_append _ _ _ (by omega) hn]

omit h h0 h1 hn

theorem goes (x : Ideal .f32) : goesOn (F := Ideal) x = true := by
  have e : (Named.named (F := Ideal) κ "underflow" (φ := .f32) 0x43160A50#32 : EReal) = ⊤ := by simp [Named.named, κ]
  change (Ideal.cmp .ole x (Named.named (F := Ideal) κ "underflow" (φ := .f32) 0x43160A50#32) == 1#1) = true
  rw [e]
  simp [Ideal.cmp]

/-- The loop over older keys comes to the sum over all keys before the query. -/
theorem oldEnd_at : ∀ (m : ℕ) (x : Ideal .f32) (car acc : FVec Ideal S1x128x128 .f32), 64 * m ≤ 8192 → 64 * m ≤ at' τ r →
    (∀ c, unslot (F := Ideal) car (ix2 r c) = carry (score2 q k τ r) (64 * m) (at' τ r)) →
    (∀ c, unslot (F := Ideal) acc (ix2 r c) = part (score2 q k τ r) (lane v c) (at' τ r) (64 * m) (at' τ r)) →
    ∀ c, unslot (F := Ideal) (oldEnd (F := Ideal) q k v τ m x car acc) (ix2 r c) = part (score2 q k τ r) (lane v c) (at' τ r) 0 (at' τ r)
  | 0, x, car, acc, _, _, _, ha, c => ha c
  | 1, x, car, acc, h1, hn, hc, ha, c => by
    rw [oldEnd, goes, cond_true, unslot_slot]
    exact nextAcc_at q k v τ r c 64 (by decide) (by decide) h1 hn car acc hc (ha c)
  | m + 2, x, car, acc, h1, hn, hc, ha, c => by
    have e : 64 * (m + 2) - 128 = 64 * m := by omega
    rw [oldEnd, goes, cond_true]
    refine oldEnd_at m _ _ _ (by omega) (by omega) (fun c => ?_) (fun c => ?_) c
    · rw [unslot_slot, ← e]
      exact nextCar_at q k τ r c _ (Nat.dvd_mul_right _ _) (by omega) h1 hn car (hc c)
    · rw [unslot_slot, ← e]
      exact nextAcc_at q k v τ r c _ (Nat.dvd_mul_right _ _) (by omega) h1 hn car acc hc (ha c)

theorem accEnd_at (hτ : τ < 128) : unslot (F := Ideal) (accEnd (F := Ideal) q k v τ) (ix2 r c) = part (score2 q k τ r) (lane v c) (at' τ r) 0 (at' τ r) := by
  have e : 64 * (τ - 3) = 64 * τ - 192 := by omega
  rw [accEnd]
  refine oldEnd_at q k v τ r (τ - 3) _ _ _ (by omega) (by dsimp only [at']; omega) (fun c => ?_) (fun c => ?_) c
  · rw [e, carS_at]
  · rw [e, accS_at]

/-- The kernel's result at a query and a lane. -/
theorem attnOut_at (i : Fin 8192) (c : Fin 128) (ρ : Fin 128) (hρ : ρ.val = c.val / 64 * 64 + i.val % 64) :
    attnOut (F := Ideal) q k v (ix2 i c) = part (score2 q k (i.val / 64) ρ) (lane v c) i.val 0 i.val := by
  have e : attnOut (F := Ideal) q k v (ix2 i c) = rowsOut lanes (unslot (F := Ideal) (accEnd (F := Ideal) q k v (i.val / 64)))
      (ix2 (⟨i.val % 64, Nat.mod_lt _ (by decide)⟩ : Fin 64) c) := rfl
  have hi := i.isLt
  have ha : at' (i.val / 64) ρ = i.val := by dsimp only [at']; omega
  rw [e, rowsOut_at, show (⟨c.val / 64 * 64 + i.val % 64, by have := c.isLt; omega⟩ : Fin 128) = ρ from Fin.ext hρ.symm,
    accEnd_at q k v _ _ _ (by omega), ha]

end Cert.Proof.Attn

end
-- ==== Proof.RefVal.lean ====
/- What the plain mathematics computes, written as the weighted sum that the kernel's result is compared with. -/
module

public import proofs.«01_k».proof.Proof.Ref
public import proofs.«01_k».proof.Proof.Sums
public import Idealize.ShloMosaic.Lib.Pointwise
public import Idealize.ShloMosaic.Lib.WordCmp
public import Idealize.ShloMosaic.Lib.IdealHost

@[expose] public section

set_option maxRecDepth 16384

noncomputable section

namespace Cert.Proof.Ref

open Idealize.ShloMosaic Cert.ReferenceIdeal Cert.ReferenceIdeal.Gen Cert.ReferenceIdeal.Read
open Cert.Proof.Sums Idealize.ShloMosaic.WordCmp Finset

/-- An argument array. -/
abbrev Arg : Type := (⟨3, ![2, 8192, 512]⟩ : Shape).Idx → EReal

/-- An index of an argument (taken modulo its sizes). -/
def at3 (a b c : ℕ) : (⟨3, ![2, 8192, 512]⟩ : Shape).Idx :=
  ix3 (⟨a % 2, Nat.mod_lt _ (by decide)⟩ : Fin 2) (⟨b % 8192, Nat.mod_lt _ (by decide)⟩ : Fin 8192) (⟨c % 512, Nat.mod_lt _ (by decide)⟩ : Fin 512)

/-- One eighth. -/
def eighth : EReal := ((1 / 8 : ℝ) : EReal)

theorem eighth_bits : Ideal.ofBits .f32 0x3E000000#32 = eighth := by
  rw [eighth]
  simp [Ideal.ofBits, Ideal.ieee, -EReal.coe_mul]; norm_num

theorem eighth_nonneg : 0 ≤ eighth := EReal.coe_nonneg.mpr (by norm_num)

/-- The score of key `s` for the query at `t`, in batch `b` and head `h`. -/
def X (x0 x1 : Arg) (b h t s : ℕ) : EReal := (∑ e : Fin 64, x0 (at3 b t (64 * h + e.val)) * x1 (at3 b s (64 * h + e.val))) * eighth

/-- The result in batch `b`, at query `t`, in column `c`. -/
def res (x0 x1 x2 : Arg) (b t c : ℕ) : EReal := ∑ s ∈ Ico 0 t, wtE (X x0 x1 b (c / 64) t) t s * x2 (at3 b s c)

theorem foldl_sum {ι : Type} (l : List ι) (g : ι → EReal) (v : EReal) : l.foldl (fun r i => r + g i) v = v + (l.map g).sum := by
  induction l generalizing v with
  | nil => simp
  | cons a l ih => rw [List.foldl_cons, ih, List.map_cons, List.sum_cons, add_assoc]

/-- The sums from a key on to the last. -/
theorem cum_at (y : S2x8x8192x8192.Idx → EReal) (f : ℕ → EReal) (i : S2x8x8192x8192.Idx)
    (hf : ∀ s : Fin 8192, y (ix4 (i 0) (i 1) (i 2) s) = f s.val) :
    Ideal.hostReduceWindowAdd (s := S2x8x8192x8192) ![1, 1, 1, 8192] ![1, 1, 1, 1] ![0, 0, 0, 0] ![0, 0, 0, 8191]
      reduceWindows_S2x8x8192x8192_S2x8x8192x8192_w1s1p0_0_w1s1p0_0_w1s1p0_0_w8192s1p0_8191 y 0 i = ∑ j ∈ Ico (i 3).val 8192, f j := by
  have hi : (i 3).val < 8192 := (i 3).isLt
  have h := sum_block f 8192 (i 3).val 8192
  rw [show min 8192 ((i 3).val + 8192) = 8192 by omega] at h
  rw [← h]
  unfold Ideal.hostReduceWindowAdd Host.reduceWindow
  dsimp only
  rw [foldl_sum, zero_add, ← Fin.sum_univ_def]
  refine (Fintype.sum_equiv (Shape.rowMajor ⟨4, ![1, 1, 1, 8192]⟩).symm _
    (fun w => if (i 3).val + (w 3).val < 8192 then f ((i 3).val + (w 3).val) else 0) fun n => ?_).trans ?_
  · obtain ⟨w, hw⟩ : ∃ w, w = (Shape.rowMajor ⟨4, ![1, 1, 1, 8192]⟩).symm n := ⟨_, rfl⟩
    simp only [← hw]
    have h0 : (w 0).val = 0 := Nat.lt_one_iff.mp (w 0).isLt
    have h1 : (w 1).val = 0 := Nat.lt_one_iff.mp (w 1).isLt
    have h2 : (w 2).val = 0 := Nat.lt_one_iff.mp (w 2).isLt
    have i0 : (i 0).val < 2 := (i 0).isLt
    have i1 : (i 1).val < 8 := (i 1).isLt
    have i2 : (i 2).val < 8192 := (i 2).isLt
    by_cases hl : (i 3).val + (w 3).val < 8192
    · rw [if_pos hl, dif_pos ?_]
      · rw [← hf ⟨(i 3).val + (w 3).val, hl⟩]
        congr 1
        funext a
        refine Fin.ext ?_
        match a with
        | ⟨0, _⟩ => show (i 0).val * 1 + (w 0).val - 0 = (i 0).val; omega
        | ⟨1, _⟩ => show (i 1).val * 1 + (w 1).val - 0 = (i 1).val; omega
        | ⟨2, _⟩ => show (i 2).val * 1 + (w 2).val - 0 = (i 2).val; omega
        | ⟨3, _⟩ => show (i 3).val * 1 + (w 3).val - 0 = (i 3).val + (w 3).val; omega
      · intro a
        match a with
        | ⟨0, _⟩ => show 0 ≤ (i 0).val * 1 + (w 0).val ∧ (i 0).val * 1 + (w 0).val - 0 < 2; omega
        | ⟨1, _⟩ => show 0 ≤ (i 1).val * 1 + (w 1).val ∧ (i 1).val * 1 + (w 1).val - 0 < 8; omega
        | ⟨2, _⟩ => show 0 ≤ (i 2).val * 1 + (w 2).val ∧ (i 2).val * 1 + (w 2).val - 0 < 8192; omega
        | ⟨3, _⟩ => show 0 ≤ (i 3).val * 1 + (w 3).val ∧ (i 3).val * 1 + (w 3).val - 0 < 8192; omega
    · rw [if_neg hl, dif_neg ?_]
      intro hh
      have h3 : 0 ≤ (i 3).val * 1 + (w 3).val ∧ (i 3).val * 1 + (w 3).val - 0 < 8192 := hh 3
      omega
  · refine Fintype.sum_equiv ⟨fun w => (w 3 : Fin 8192), fun x => ix4 (0 : Fin 1) (0 : Fin 1) (0 : Fin 1) x, fun w => ?_, fun x => rfl⟩ _ _ fun w => rfl
    funext a
    match a with
    | ⟨0, _⟩ => exact (Subsingleton.elim (α := Fin 1) _ _)
    | ⟨1, _⟩ => exact (Subsingleton.elim (α := Fin 1) _ _)
    | ⟨2, _⟩ => exact (Subsingleton.elim (α := Fin 1) _ _)
    | ⟨3, _⟩ => rfl

variable (x0 x1 x2 : Arg)

theorem heads (x : Arg) (i : S2x8x8192x64.Idx) :
    x (idx_main_v0 (idx_main_v1 i)) = x (at3 (i 0).val (i 2).val (64 * (i 1).val + (i 3).val)) := by
  have h0 : (i 0).val < 2 := (i 0).isLt
  have h1 : (i 1).val < 8 := (i 1).isLt
  have h2 : (i 2).val < 8192 := (i 2).isLt
  have h3 : (i 3).val < 64 := (i 3).isLt
  refine congrArg x (funext fun a => Fin.ext ?_)
  match a with
  | ⟨0, _⟩ => show ((((i 0).val * 8192 + (i 2).val) * 8 + (i 1).val) * 64 + (i 3).val) / 4194304 = (i 0).val % 2; omega
  | ⟨1, _⟩ => show ((((i 0).val * 8192 + (i 2).val) * 8 + (i 1).val) * 64 + (i 3).val) / 512 % 8192 = (i 2).val % 8192; omega
  | ⟨2, _⟩ => show ((((i 0).val * 8192 + (i 2).val) * 8 + (i 1).val) * 64 + (i 3).val) % 512 = (64 * (i 1).val + (i 3).val) % 512; omega

/-- The scores. -/
theorem v14_at (i : S2x8x8192x8192.Idx) : val_main_v14 (F := Ideal) x0 x1 i = X x0 x1 (i 0).val (i 1).val (i 2).val (i 3).val := by
  rw [val_main_v14_apply, val_main_v12_apply, val_main_v13_apply, val_main_cst_apply]
  change _ * Ideal.ofBits .f32 0x3E000000#32 = _
  rw [eighth_bits, X]
  congr 1
  refine Finset.sum_congr rfl fun e _ => congrArg₂ (· * ·) ?_ ?_
  · exact (val_main_v1_apply (F := Ideal) x0 _).trans ((val_main_v0_apply (F := Ideal) x0 _).trans (heads x0 _))
  · exact (val_main_v3_apply (F := Ideal) x1 _).trans ((val_main_v2_apply (F := Ideal) x1 _).trans (heads x1 _))

/-- The logarithms of one less the gates. -/
theorem v16_at (i : S2x8x8192x8192.Idx) : val_main_v16 (F := Ideal) x0 x1 i = -sp (X x0 x1 (i 0).val (i 1).val (i 2).val (i 3).val) := by
  have e : val_main_v16 (F := Ideal) x0 x1 i = -(Scalar.select (Ideal.cmp .une (-(-(val_main_v14 (F := Ideal) x0 x1 i : EReal)) - Ideal.ofBits .f32 0x00000000#32) (-(-(val_main_v14 (F := Ideal) x0 x1 i : EReal)) - Ideal.ofBits .f32 0x00000000#32))
      (-(-(val_main_v14 (F := Ideal) x0 x1 i : EReal)) + Ideal.ofBits .f32 0x00000000#32)
      (max (-(-(val_main_v14 (F := Ideal) x0 x1 i : EReal))) (Ideal.ofBits .f32 0x00000000#32)
        + Ideal.log1p (Ideal.exp (-(max (-(-(val_main_v14 (F := Ideal) x0 x1 i : EReal)) - Ideal.ofBits .f32 0x00000000#32) (-(-(-(val_main_v14 (F := Ideal) x0 x1 i : EReal)) - Ideal.ofBits .f32 0x00000000#32))))))) := rfl
  rw [e, v14_at, Ideal.ofBits_zero_f32, neg_neg, sub_zero, sp]
  simp [Ideal.cmp, Scalar.select]

/-- Whether the key lies before the query. -/
theorem v11_at (j : S8192x8192.Idx) : val_main_v11 (F := Ideal) j = BitVec.ofBool (decide ((j 1).val < (j 0).val)) := by
  have h0 : (j 0).val < 8192 := (j 0).isLt
  have h1 : (j 1).val < 8192 := (j 1).isLt
  rw [val_main_v11_apply, val_main_v9_apply, val_main_v10_apply, val_main_v7_apply, val_main_v8_apply]
  change IntOp.cmpi .slt (BitVec.ofNat 32 (j 1).val) (BitVec.ofNat 32 (j 0).val) = _
  rw [cmpi_slt_ofNat (by omega) (by omega)]

theorem sel {α : Type} (p : Prop) [Decidable p] (a b : α) :
    Scalar.select (BitVec.ofBool (decide p)) a b = if p then a else b := by
  by_cases h : p <;> simp [Scalar.select, h]

theorem v18_at (i : S2x8x8192x8192.Idx) : val_main_v18 (F := Ideal) x0 x1 i
    = if (i 3).val < (i 2).val then -sp (X x0 x1 (i 0).val (i 1).val (i 2).val (i 3).val) else 0 := by
  rw [val_main_v18_apply, val_main_call1_v1_apply, v11_at, v16_at]
  have e : (val_main_call1_v2 (F := Ideal) i : EReal) = 0 := by
    rw [val_main_call1_v2_apply]
    exact Ideal.ofBits_zero_f32
  rw [e]
  exact sel _ _ _

theorem v19_at (i : S2x8x8192x8192.Idx) : val_main_v19 (F := Ideal) x0 x1 i
    = ∑ j ∈ Ico (i 3).val 8192, if j < (i 2).val then -sp (X x0 x1 (i 0).val (i 1).val (i 2).val j) else 0 := by
  have e : val_main_call2_v0 (F := Ideal) (Shape.Idx.first h_S_) = (0 : EReal) := by
    rw [val_main_call2_v0_apply]
    exact Ideal.ofBits_zero_f32
  unfold val_main_v19 Host.reduceWindowAdd
  rw [e]
  exact cum_at (val_main_v18 (F := Ideal) x0 x1) _ i fun s => v18_at x0 x1 _

/-- The sum over the keys before the query. -/
theorem cum_before (f : ℕ → EReal) {s t : ℕ} (ht : t ≤ 8192) : (∑ j ∈ Ico s 8192, if j < t then f j else 0) = ∑ j ∈ Ico s t, f j := by
  rw [← Finset.sum_filter]
  congr 1
  ext j
  simp only [mem_filter, mem_Ico]
  omega

/-- The weights. -/
theorem v23_at (i : S2x8x8192x8192.Idx) : val_main_v23 (F := Ideal) x0 x1 i
    = if (i 3).val < (i 2).val then wtE (X x0 x1 (i 0).val (i 1).val (i 2).val) (i 2).val (i 3).val else 0 := by
  rw [val_main_v23_apply, val_main_call3_v1_apply, v11_at]
  have e : (val_main_call3_v2 (F := Ideal) i : EReal) = 0 := by
    rw [val_main_call3_v2_apply]
    exact Ideal.ofBits_zero_f32
  rw [e]
  refine (sel _ _ _).trans ?_
  change (if (i 3).val < (i 2).val then _ else _) = _
  by_cases h : (i 3).val < (i 2).val
  · rw [if_pos h, if_pos h]
    have e2 : val_main_v22 (F := Ideal) x0 x1 i = Ideal.exp (((val_main_v14 (F := Ideal) x0 x1 i : EReal) + val_main_v16 (F := Ideal) x0 x1 i)
        + (val_main_v19 (F := Ideal) x0 x1 i - val_main_v18 (F := Ideal) x0 x1 i)) := rfl
    rw [e2, v14_at, v16_at, v19_at, v18_at, if_pos h, cum_before _ (show (i 2).val ≤ 8192 from (i 2).isLt.le)]
    exact wtE_ref (X x0 x1 (i 0).val (i 1).val (i 2).val) h
  · rw [if_neg h, if_neg h]

theorem v24_at (i : S2x8x8192x64.Idx) : val_main_v24 (F := Ideal) x0 x1 x2 i
    = res x0 x1 x2 (i 0).val (i 2).val (64 * (i 1).val + (i 3).val) := by
  have h3 : (i 3).val < 64 := (i 3).isLt
  have h2 : (i 2).val < 8192 := (i 2).isLt
  rw [val_main_v24_apply, res, show (64 * (i 1).val + (i 3).val) / 64 = (i 1).val by omega]
  have hs := sum_block (fun s => wtE (X x0 x1 (i 0).val (i 1).val (i 2).val) (i 2).val s * x2 (at3 (i 0).val s (64 * (i 1).val + (i 3).val))) 8192 0 (i 2).val
  rw [show min (i 2).val (0 + 8192) = (i 2).val by omega] at hs
  rw [← hs]
  refine Finset.sum_congr rfl fun s _ => ?_
  rw [v23_at, zero_add]
  have e : val_main_v5 (F := Ideal) x2 (ridx_main_v24 i s) = x2 (at3 (i 0).val s.val (64 * (i 1).val + (i 3).val)) :=
    (val_main_v5_apply (F := Ideal) x2 _).trans ((val_main_v4_apply (F := Ideal) x2 _).trans (heads x2 _))
  rw [e]
  change (if s.val < (i 2).val then _ else _) * _ = _
  by_cases h : s.val < (i 2).val
  · rw [if_pos h, if_pos h]
  · rw [if_neg h, if_neg h, zero_mul]

/-- The result of the plain mathematics. -/
theorem result_at (j : S16384x512.Idx) : val_main_v26 (F := Ideal) x0 x1 x2 j
    = res x0 x1 x2 ((j 0).val / 8192) ((j 0).val % 8192) (j 1).val := by
  have h0 : (j 0).val < 16384 := (j 0).isLt
  have h1 : (j 1).val < 512 := (j 1).isLt
  rw [val_main_v26_apply, val_main_v25_apply, v24_at]
  change res x0 x1 x2 (((j 0).val * 512 + (j 1).val) / 4194304) (((j 0).val * 512 + (j 1).val) / 512 % 8192)
    (64 * (((j 0).val * 512 + (j 1).val) / 64 % 8) + ((j 0).val * 512 + (j 1).val) % 64) = _
  congr 1 <;> omega

end Cert.Proof.Ref

end
-- ==== Proof.Ends.lean ====
/- The kernel's result and the plain mathematics' are the same weighted sum. -/
module

public import proofs.«01_k».proof.Defs
public import proofs.«01_k».proof.Proof.Launch
public import proofs.«01_k».proof.Proof.Window
public import proofs.«01_k».proof.Proof.RefVal
public import Idealize.ShloMosaic.Lib.Pointwise

@[expose] public section

set_option maxRecDepth 16384

noncomputable section

namespace Cert.Proof.Attn

open Cert.KernelIdeal Cert.KernelIdeal.Gen
open Idealize.ShloMosaic Idealize.ShloMosaic.TcCoe Idealize.SL.Sem
open Cert.Proof.Sums Cert.Proof.Ref Finset

/-- Of a row's 128 lanes only the 64 of its own head count. -/
theorem pick (f : ℕ → EReal) (p : ℕ) (hp : p < 2) :
    (∑ d : Fin 128, if d.val / 64 = p then f d.val else 0) = ∑ e : Fin 64, f (64 * p + e.val) := by
  have h := Fin.sum_univ_add (a := 64) (b := 64) (fun d : Fin (64 + 64) => if d.val / 64 = p then f d.val else 0)
  refine h.trans ?_
  simp only [Fin.val_castAdd, Fin.val_natAdd]
  obtain rfl | rfl : p = 0 ∨ p = 1 := by omega
  · rw [Finset.sum_congr rfl fun (e : Fin 64) _ => if_pos (show e.val / 64 = 0 by omega),
      Finset.sum_congr (s₁ := univ) (f := fun e : Fin 64 => if (64 + e.val) / 64 = 0 then f (64 + e.val) else 0) rfl fun (e : Fin 64) _ => if_neg (show ¬(64 + e.val) / 64 = 0 by omega),
      Finset.sum_const_zero, add_zero]
    exact Finset.sum_congr rfl fun e _ => by rw [Nat.mul_zero, Nat.zero_add]
  · rw [Finset.sum_congr rfl fun (e : Fin 64) _ => if_neg (show ¬e.val / 64 = 1 by omega),
      Finset.sum_congr (s₁ := univ) (f := fun e : Fin 64 => if (64 + e.val) / 64 = 1 then f (64 + e.val) else 0) rfl fun (e : Fin 64) _ => if_pos (show (64 + e.val) / 64 = 1 by omega),
      Finset.sum_const_zero, zero_add]

/-- Scaling the queries scales the scores. -/
theorem scaled (f g : Fin 64 → EReal) : (∑ e, f e * eighth * g e) = (∑ e, f e * g e) * eighth := by
  have h : ∀ S : Finset (Fin 64), (∑ e ∈ S, f e * eighth * g e) = (∑ e ∈ S, f e * g e) * eighth := by
    intro S
    induction S using Finset.cons_induction with
    | empty => simp
    | cons a S ha ih =>
      rw [Finset.sum_cons, Finset.sum_cons, ih, EReal.right_distrib_of_nonneg_of_ne_top eighth_nonneg (EReal.coe_ne_top _),
        mul_right_comm]
  exact h _

section
variable {x0 x1 x2 : Arg} {q k v : FVec Ideal S16384x512 .bf16}
  (hq : ∀ (r : Fin 16384) (c : Fin 512), q (ix2 r c) = x0 (at3 (r.val / 8192) (r.val % 8192) c.val) * eighth)
  (hk : ∀ (r : Fin 16384) (c : Fin 512), k (ix2 r c) = x1 (at3 (r.val / 8192) (r.val % 8192) c.val))
  (hv : ∀ (r : Fin 16384) (c : Fin 512), v (ix2 r c) = x2 (at3 (r.val / 8192) (r.val % 8192) c.val))

theorem block_at {x : Arg} {a : FVec Ideal S16384x512 .bf16} (y : EReal)
    (ha : ∀ (r : Fin 16384) (c : Fin 512), a (ix2 r c) = x (at3 (r.val / 8192) (r.val % 8192) c.val) * y) (b : Fin 2) (h : Fin 4) (s d : ℕ) (hd : d < 128) :
    blockOf a b h (seqAt s d) = x (at3 b.val s (128 * h.val + d)) * y := by
  have hb := b.isLt
  have hh := h.isLt
  have hm : s % 8192 < 8192 := Nat.mod_lt _ (by decide)
  refine (ha ⟨b.val * 8192 + s % 8192, by omega⟩ ⟨h.val * 128 + d % 128, by omega⟩).trans ?_
  congr 2
  refine funext fun i => Fin.ext ?_
  match i with
  | ⟨0, _⟩ => show (b.val * 8192 + s % 8192) / 8192 % 2 = b.val % 2; omega
  | ⟨1, _⟩ => show (b.val * 8192 + s % 8192) % 8192 % 8192 = s % 8192; omega
  | ⟨2, _⟩ => show (h.val * 128 + d % 128) % 512 = (128 * h.val + d) % 512; omega

include hq hk in
/-- The scores of a block are the plain scores of its head. -/
theorem score_at (b : Fin 2) (h : Fin 4) (t c s : ℕ) (ht : t < 8192) (hc : c < 128) (ρ : Fin 128) (hρ : ρ.val = c / 64 * 64 + t % 64) :
    score (blockOf q b h) (blockOf k b h) (t / 64) ρ s = X x0 x1 b.val ((128 * h.val + c) / 64) t s := by
  rw [score, X, ← scaled]
  refine (Finset.sum_congr rfl fun d _ => ?_).trans
    ((pick (fun d => x0 (at3 b.val t (128 * h.val + d)) * eighth * x1 (at3 b.val s (128 * h.val + d))) (c / 64) (by omega)).trans ?_)
  · have hd := d.isLt
    rw [block_at 1 (fun r c => (hk r c).trans (mul_one _).symm) _ _ _ _ hd, mul_one, qRow, show ρ.val / 64 = c / 64 by omega,
      show 64 * (t / 64) + ρ.val % 64 = t by omega]
    by_cases hh : d.val / 64 = c / 64
    · rw [if_pos hh, if_pos hh, block_at eighth hq _ _ _ _ hd]
    · rw [if_neg hh, if_neg hh, zero_mul]
  · refine Finset.sum_congr rfl fun e _ => ?_
    have he := e.isLt
    rw [show 128 * h.val + (64 * (c / 64) + e.val) = 64 * ((128 * h.val + c) / 64) + e.val by omega]

include hq hk hv in
/-- The attention of one block of queries, keys and values. -/
theorem attn_block (b : Fin 2) (h : Fin 4) (t : Fin 8192) (c : Fin 128) :
    attnOut (F := Ideal) (blockOf q b h) (blockOf k b h) (blockOf v b h) (ix2 t c) = res x0 x1 x2 b.val t.val (128 * h.val + c.val) := by
  have ht := t.isLt
  have hc := c.isLt
  refine (attnOut_at _ _ _ t c ⟨c.val / 64 * 64 + t.val % 64, by omega⟩ rfl).trans ?_
  rw [part, res]
  refine Finset.sum_congr rfl fun s _ => congrArg₂ (· * ·) ?_ ?_
  · rw [← wt_L]
    refine congrArg (fun z => wt z t.val s) (funext fun s => ?_)
    rw [score2, score_at hq hk b h t.val c.val s ht hc _ rfl]
  · rw [lane, block_at 1 (fun r c => (hv r c).trans (mul_one _).symm) _ _ _ _ hc, mul_one]

include hq hk hv in
/-- The attention of the kernel's casts is the plain weighted sum. -/
theorem attnAll_at (j : S16384x512.Idx) : attnAll (F := Ideal) q k v j = res x0 x1 x2 ((j 0).val / 8192) ((j 0).val % 8192) (j 1).val := by
  have h0 : (j 0).val < 16384 := (j 0).isLt
  have h1 : (j 1).val < 512 := (j 1).isLt
  refine (attn_block hq hk hv ⟨(j 0).val / 8192, by omega⟩ ⟨(j 1).val / 128, by omega⟩ ⟨(j 0).val % 8192, by omega⟩ ⟨(j 1).val % 128, by omega⟩).trans ?_
  exact congrArg (res x0 x1 x2 ((j 0).val / 8192) ((j 0).val % 8192)) (show 128 * ((j 1).val / 128) + (j 1).val % 128 = (j 1).val by omega)
end

variable (m : (ℓ : Loc nD τ sig) → Buf (Elt Ideal) ℓ) (c : Dev nD)

theorem rows (x : Arg) (r : Fin 16384) (d : Fin 512) :
    shapeCast S16384x512 x shapeCasts_S2x8192x512_S16384x512 (ix2 r d) = x (at3 (r.val / 8192) (r.val % 8192) d.val) := by
  have h0 := r.isLt
  have h1 := d.isLt
  refine shapeCast_apply x shapeCasts_S2x8192x512_S16384x512 (ix2 r d) (at3 (r.val / 8192) (r.val % 8192) d.val) ?_
  rw [Shape.rowMajor_val_three, Shape.rowMajor_val_two]
  show ((r.val / 8192 % 2) * 8192 + r.val % 8192 % 8192) * 512 + d.val % 512 = r.val * 512 + d.val
  omega

theorem V_q : V m c main_v3 = truncf (F := Ideal) .bf16 (mulf (shapeCast S16384x512 (m ((c : Thread nD τ).loc main_arg0)) shapeCasts_S2x8192x512_S16384x512)
    (fun _ => Ideal.ofBits .f32 0x3E000000#32)) bitsLt_bf16_f32 := by
  unfold V hostOps0
  after_results
  rfl
theorem V_k : V m c main_v5 = truncf (F := Ideal) .bf16 (shapeCast S16384x512 (m ((c : Thread nD τ).loc main_arg1)) shapeCasts_S2x8192x512_S16384x512) bitsLt_bf16_f32 := by
  unfold V hostOps0
  after_results
  rfl
theorem V_v : V m c main_v7 = truncf (F := Ideal) .bf16 (shapeCast S16384x512 (m ((c : Thread nD τ).loc main_arg2)) shapeCasts_S2x8192x512_S16384x512) bitsLt_bf16_f32 := by
  unfold V hostOps0
  after_results
  rfl

/-- What the kernel leaves in its result. -/
theorem kernel_result : attnAll (F := Ideal) (V m c main_v3) (V m c main_v5) (V m c main_v7)
    = fun j => res (m ((c : Thread nD τ).loc main_arg0)) (m ((c : Thread nD τ).loc main_arg1)) (m ((c : Thread nD τ).loc main_arg2))
      ((j 0).val / 8192) ((j 0).val % 8192) (j 1).val := by
  funext j
  refine attnAll_at (fun r d => ?_) (fun r d => ?_) (fun r d => ?_) j
  · rw [V_q]
    exact congrArg₂ (· * ·) (rows _ r d) eighth_bits
  · rw [V_k]
    exact rows _ r d
  · rw [V_v]
    exact rows _ r d

end Cert.Proof.Attn

namespace Cert.Proof

open Idealize.ShloMosaic Idealize.SL.Sem

/-- From the same arguments the kernel and the plain mathematics end with the same result, and keep their arguments. -/
theorem same_result : Cert.algebraic_KernelIdeal_ReferenceIdeal (hKernelIdeal := Cert.KernelIdeal.Gen.facts) (hReferenceIdeal := Cert.ReferenceIdeal.Gen.facts) := by
  intro m g m' g' _ hargs
  refine ⟨fun c => Attn.attnAll (F := Ideal) (Attn.V m c Cert.KernelIdeal.main_v3) (Attn.V m c Cert.KernelIdeal.main_v5) (Attn.V m c Cert.KernelIdeal.main_v7), ?_, ?_⟩
  · exact (θ_run (Cert.KernelIdeal.defs (F := Ideal)) _ _).mono (fun _ h c => h.1 c) (Attn.run_all (F := Ideal) m g)
  · refine (θ_run (Cert.ReferenceIdeal.defs (F := Ideal)) _ _).mono (fun r h c => ?_) (Cert.ReferenceIdeal.Value.run (F := Ideal) m' g')
    refine ⟨(h c).1.trans ?_, (h c).2⟩
    refine (Cert.ReferenceIdeal.Read.val_main_v26_eq (F := Ideal) m' c).trans ?_
    refine Eq.trans ?_ (Attn.kernel_result m c).symm
    funext j
    obtain ⟨e0, e1, e2⟩ := hargs c
    refine (Ref.result_at _ _ _ j).trans ?_
    rw [← e0, ← e1, ← e2]

end Cert.Proof

end
-- ==== Proof.Proj.lean ====
/- What one grid point of the input projection leaves in its buffers. -/
module

public import proofs.«01_k».proof.Defs
public import proofs.«01_k».proof.Proof.Gen.Kernel2Ideal
public import proofs.«01_k».proof.Proof.Gen.Kernel2Ideal.Value
public import Idealize.ShloMosaic.Lib.Tactic
public import Idealize.ShloMosaic.Lib.Pipeline.ValueKit

@[expose] public section

set_option maxRecDepth 16384

noncomputable section

namespace Cert.Proof.Proj

open Cert.Kernel2Ideal Cert.Kernel2Ideal.Gen
open Idealize.ShloMosaic Idealize.ShloMosaic.TcCoe Idealize.SL.Sem

variable {F : FTy → Type} [FloatOps F]

theorem origin : (![0, 0] : Fin 2 → Nat) = fun _ => 0 := funext fun a => by fin_cases a <;> rfl

/-- The weights, every entry narrowed. -/
abbrev narrow (w : Vec F S1024x2560 .f32) : Vec F S1024x2560 .bf16 := truncf .bf16 w bitsLt_bf16_f32

/-- The 512 columns of the narrowed weights from column `o` on. -/
abbrev cols (o : Nat) (h : ∀ a, (![0, o] : Fin 2 → Nat) a + S1024x512.size a ≤ S1024x2560.size a)
    (w : Vec F S1024x2560 .bf16) : Vec F S1024x512 .bf16 :=
  View.ld w (Rect.unit (s := S1024x2560) ![0, o] S1024x512.size h)

section Point

variable (c : Dev nD) (i : grid0.Coords) (a1 : Memref sig .tc .vmem S1024x1024 .f32) (h1 : a1.IsWhole)
  (a2 : Memref sig .tc .vmem S1x1024 .f32) (h2 : a2.IsWhole) (a3 : Memref sig .tc .vmem S1024x2560 .f32) (h3 : a3.IsWhole)
  (a4 : Memref sig .tc .vmem S1024x512 .bf16) (h4 : a4.IsWhole) (a5 : Memref sig .tc .vmem S1024x512 .bf16) (h5 : a5.IsWhole)
  (a6 : Memref sig .tc .vmem S1024x512 .bf16) (h6 : a6.IsWhole) (a7 : Memref sig .tc .vmem S1024x512 .f32) (h7 : a7.IsWhole)
  (a8 : Memref sig .tc .vmem S1024x512 .f32) (h8 : a8.IsWhole) (a9 : Memref sig .tc .vmem S1024x2560 .bf16) (h9 : a9.IsWhole)
  (x : Vec F S1024x1024 .f32) (g : Vec F S1x1024 .f32) (w : Vec F S1024x2560 .f32) (s : Vec F S1024x2560 .bf16)

/-- The narrowed weights, written column block by column block, are all of them. -/
theorem scratch_A (hc : cond0_0 i) : sout0_A_0 c i a1 h1 a2 h2 a3 h3 a4 h4 a5 h5 a6 h6 a7 h7 a8 h8 a9 h9 hc x g w = narrow w := by
  have hs := scover0_A_0 c i a1 h1 a2 h2 a3 h3 a4 h4 a5 h5 a6 h6 a7 h7 a8 h8 a9 h9 hc x g w
  unfold sout0_A_0
  rw [View.read_writes_eq_canon _ _ _ hs]
  funext y
  refine View.canon_eq_of_allAt _ _ _ (hs y) ?_
  unfold kernelRun0_A
  dsimp only
  sl_unfold_words
  simp only [View.readAt_eq_ld, h3.read_unread]
  refine View.allAt_cons_unit _ _ _ _ _ (fun j hj => ?_) (View.allAt_cons_unit _ _ _ _ _ (fun j hj => ?_)
    (View.allAt_cons_unit _ _ _ _ _ (fun j hj => ?_) (View.allAt_cons_unit _ _ _ _ _ (fun j hj => ?_)
    (View.allAt_cons_unit _ _ _ _ _ (fun j hj => ?_) (View.allAt_nil _ _)))))
  all_goals
    first | unfold k0_pay7 | unfold k0_pay6 | unfold k0_pay5 | unfold k0_pay4 | unfold k0_pay3
    simp only [shapeCast_self]
    simp only [narrow, truncf]
    congr 1
    exact View.ld_unit_apply_of w _ _ _ j y hj

/-- A later point leaves them as they were. -/
theorem scratch_B (hc : ¬cond0_0 i) : sout0_B_0 c i a1 h1 a2 h2 a3 h3 a4 h4 a5 h5 a6 h6 a7 h7 a8 h8 a9 h9 hc x g w s = s := rfl

set_option maxHeartbeats 1000000 in
/-- At the first point each result is its columns of the weights that the point has just narrowed. -/
theorem outs_A (hc : cond0_0 i) :
      out0_A_3 c i a1 h1 a2 h2 a3 h3 a4 h4 a5 h5 a6 h6 a7 h7 a8 h8 a9 h9 hc x g w = k0_pay9 x g (cols 0 inb_S1024x2560_S1024x512_0_0 (narrow w))
      ∧ out0_A_4 c i a1 h1 a2 h2 a3 h3 a4 h4 a5 h5 a6 h6 a7 h7 a8 h8 a9 h9 hc x g w = k0_pay10 x g (cols 512 inb_S1024x2560_S1024x512_0_512 (narrow w))
      ∧ out0_A_5 c i a1 h1 a2 h2 a3 h3 a4 h4 a5 h5 a6 h6 a7 h7 a8 h8 a9 h9 hc x g w = k0_pay11 x g (cols 1024 inb_S1024x2560_S1024x512_0_1024 (narrow w))
      ∧ out0_A_6 c i a1 h1 a2 h2 a3 h3 a4 h4 a5 h5 a6 h6 a7 h7 a8 h8 a9 h9 hc x g w = k0_pay1 (k0_pay8 x g) (cols 1536 inb_S1024x2560_S1024x512_0_1536 (narrow w))
      ∧ out0_A_7 c i a1 h1 a2 h2 a3 h3 a4 h4 a5 h5 a6 h6 a7 h7 a8 h8 a9 h9 hc x g w = k0_pay2 (k0_pay8 x g) (cols 2048 inb_S1024x2560_S1024x512_0_2048 (narrow w)) := by
  rw [← scratch_A c i a1 h1 a2 h2 a3 h3 a4 h4 a5 h5 a6 h6 a7 h7 a8 h8 a9 h9 x g w hc]
  have hs := scover0_A_0 c i a1 h1 a2 h2 a3 h3 a4 h4 a5 h5 a6 h6 a7 h7 a8 h8 a9 h9 hc x g w
  unfold out0_A_3 out0_A_4 out0_A_5 out0_A_6 out0_A_7 sout0_A_0
  rw [View.read_writes_eq_canon VS0_0 _ _ hs]
  refine ⟨(View.read_writes_eq_canon _ _ _ (cover0_A_3 c i a1 h1 a2 h2 a3 h3 a4 h4 a5 h5 a6 h6 a7 h7 a8 h8 a9 h9 hc x g w)).trans ?_,
    (View.read_writes_eq_canon _ _ _ (cover0_A_4 c i a1 h1 a2 h2 a3 h3 a4 h4 a5 h5 a6 h6 a7 h7 a8 h8 a9 h9 hc x g w)).trans ?_,
    (View.read_writes_eq_canon _ _ _ (cover0_A_5 c i a1 h1 a2 h2 a3 h3 a4 h4 a5 h5 a6 h6 a7 h7 a8 h8 a9 h9 hc x g w)).trans ?_,
    (View.read_writes_eq_canon _ _ _ (cover0_A_6 c i a1 h1 a2 h2 a3 h3 a4 h4 a5 h5 a6 h6 a7 h7 a8 h8 a9 h9 hc x g w)).trans ?_,
    (View.read_writes_eq_canon _ _ _ (cover0_A_7 c i a1 h1 a2 h2 a3 h3 a4 h4 a5 h5 a6 h6 a7 h7 a8 h8 a9 h9 hc x g w)).trans ?_⟩
  all_goals
    revert hs
    unfold kernelRun0_A
    dsimp only
    sl_unfold_words
    rw [View.canon_unit_zero origin]
    simp only [View.readAt_eq_ld, h1.read_unread, h2.read_unread, h3.read_unread, View.ld_unit_zero (S := S1024x1024) origin, View.ld_unit_zero (S := S1x1024) origin]
    exact fun hs => congrArg _ (View.readCov_eq_canon_ld _ _ _ hs)

/-- At a later point the columns are those of the scratch. -/
theorem outs_B (hc : ¬cond0_0 i) :
      out0_B_3 c i a1 h1 a2 h2 a3 h3 a4 h4 a5 h5 a6 h6 a7 h7 a8 h8 a9 h9 hc x g w s = k0_pay9 x g (cols 0 inb_S1024x2560_S1024x512_0_0 s)
      ∧ out0_B_4 c i a1 h1 a2 h2 a3 h3 a4 h4 a5 h5 a6 h6 a7 h7 a8 h8 a9 h9 hc x g w s = k0_pay10 x g (cols 512 inb_S1024x2560_S1024x512_0_512 s)
      ∧ out0_B_5 c i a1 h1 a2 h2 a3 h3 a4 h4 a5 h5 a6 h6 a7 h7 a8 h8 a9 h9 hc x g w s = k0_pay11 x g (cols 1024 inb_S1024x2560_S1024x512_0_1024 s)
      ∧ out0_B_6 c i a1 h1 a2 h2 a3 h3 a4 h4 a5 h5 a6 h6 a7 h7 a8 h8 a9 h9 hc x g w s = k0_pay1 (k0_pay8 x g) (cols 1536 inb_S1024x2560_S1024x512_0_1536 s)
      ∧ out0_B_7 c i a1 h1 a2 h2 a3 h3 a4 h4 a5 h5 a6 h6 a7 h7 a8 h8 a9 h9 hc x g w s = k0_pay2 (k0_pay8 x g) (cols 2048 inb_S1024x2560_S1024x512_0_2048 s) := by
  unfold out0_B_3 out0_B_4 out0_B_5 out0_B_6 out0_B_7
  refine ⟨(View.read_writes_eq_canon _ _ _ (cover0_B_3 c i a1 h1 a2 h2 a3 h3 a4 h4 a5 h5 a6 h6 a7 h7 a8 h8 a9 h9 hc x g w s)).trans ?_,
    (View.read_writes_eq_canon _ _ _ (cover0_B_4 c i a1 h1 a2 h2 a3 h3 a4 h4 a5 h5 a6 h6 a7 h7 a8 h8 a9 h9 hc x g w s)).trans ?_,
    (View.read_writes_eq_canon _ _ _ (cover0_B_5 c i a1 h1 a2 h2 a3 h3 a4 h4 a5 h5 a6 h6 a7 h7 a8 h8 a9 h9 hc x g w s)).trans ?_,
    (View.read_writes_eq_canon _ _ _ (cover0_B_6 c i a1 h1 a2 h2 a3 h3 a4 h4 a5 h5 a6 h6 a7 h7 a8 h8 a9 h9 hc x g w s)).trans ?_,
    (View.read_writes_eq_canon _ _ _ (cover0_B_7 c i a1 h1 a2 h2 a3 h3 a4 h4 a5 h5 a6 h6 a7 h7 a8 h8 a9 h9 hc x g w s)).trans ?_⟩
  all_goals
    unfold kernelRun0_B
    dsimp only
    sl_unfold_words
    rw [View.canon_unit_zero origin]
    simp only [View.readAt_eq_ld, h1.read_unread, h2.read_unread, h9.read_unread, View.ld_unit_zero (S := S1024x1024) origin, View.ld_unit_zero (S := S1x1024) origin]

end Point

variable (m : (ℓ : Loc nD τ sig) → Buf (Elt F) ℓ)

/-- The scratch after any point: the weights the first point read, narrowed. -/
theorem scratch (c : Dev nD) : ∀ (n : ℕ) (h : n < cfg0.N),
    (outsAt0 m c n h).2.2.2.2.2 = narrow (iblk m c 2 ⟨0, lt_of_le_of_lt (Nat.zero_le n) h⟩)
  | 0, h => by
    rw [outsAt0_A m c ⟨0, h⟩ rfl]
    dsimp only
    rw [scratch_A]
  | n + 1, h => by
    have hN : cfg0.N = 16 := N_0
    have hB : ¬(⟨n + 1, h⟩ : Fin cfg0.N).val % 16 = 0 := by dsimp only; omega
    rw [outsAt0_B m c ⟨n + 1, h⟩ hB]
    dsimp only
    rw [scratch_B]
    exact scratch c n _

/-- The columns a point multiplies by. -/
abbrev wcols (c : Dev nD) (o : Nat) (ho : ∀ a, (![0, o] : Fin 2 → Nat) a + S1024x512.size a ≤ S1024x2560.size a) (n : ℕ)
    (h : n < cfg0.N) : Vec F S1024x512 .bf16 :=
  cols o ho (narrow (iblk m c 2 ⟨0, lt_of_le_of_lt (Nat.zero_le n) h⟩))

/-- What any point leaves in its five blocks. -/
theorem left (c : Dev nD) (n : ℕ) (h : n < cfg0.N) :
      (outsAt0 m c n h).1 = k0_pay9 (iblk m c 0 ⟨n, h⟩) (iblk m c 1 ⟨n, h⟩) (wcols m c 0 inb_S1024x2560_S1024x512_0_0 n h)
      ∧ (outsAt0 m c n h).2.1 = k0_pay10 (iblk m c 0 ⟨n, h⟩) (iblk m c 1 ⟨n, h⟩) (wcols m c 512 inb_S1024x2560_S1024x512_0_512 n h)
      ∧ (outsAt0 m c n h).2.2.1 = k0_pay11 (iblk m c 0 ⟨n, h⟩) (iblk m c 1 ⟨n, h⟩) (wcols m c 1024 inb_S1024x2560_S1024x512_0_1024 n h)
      ∧ (outsAt0 m c n h).2.2.2.1 = k0_pay1 (k0_pay8 (iblk m c 0 ⟨n, h⟩) (iblk m c 1 ⟨n, h⟩)) (wcols m c 1536 inb_S1024x2560_S1024x512_0_1536 n h)
      ∧ (outsAt0 m c n h).2.2.2.2.1 = k0_pay2 (k0_pay8 (iblk m c 0 ⟨n, h⟩) (iblk m c 1 ⟨n, h⟩)) (wcols m c 2048 inb_S1024x2560_S1024x512_0_2048 n h) := by
  by_cases h0 : n % 16 = 0
  · obtain rfl : n = 0 := by have hN : cfg0.N = 16 := N_0; omega
    rw [outsAt0_A m c ⟨0, h⟩ h0]
    dsimp only
    exact outs_A c (grid0.coords ⟨0, h⟩) (ms0_0 _) (hs0_0 _) (ms0_1 _) (hs0_1 _) (ms0_2 _) (hs0_2 _) (ms0_3 _) (hs0_3 _) (ms0_4 _) (hs0_4 _) (ms0_5 _) (hs0_5 _) (ms0_6 _) (hs0_6 _) (ms0_7 _) (hs0_7 _) scM0_0 (Memref.isWhole_whole _) (iblk m c 0 ⟨0, h⟩) (iblk m c 1 ⟨0, h⟩) (iblk m c 2 ⟨0, h⟩) _
  · rw [outsAt0_B m c ⟨n, h⟩ h0]
    dsimp only
    rw [scratch]
    exact outs_B c (grid0.coords ⟨n, h⟩) (ms0_0 _) (hs0_0 _) (ms0_1 _) (hs0_1 _) (ms0_2 _) (hs0_2 _) (ms0_3 _) (hs0_3 _) (ms0_4 _) (hs0_4 _) (ms0_5 _) (hs0_5 _) (ms0_6 _) (hs0_6 _) (ms0_7 _) (hs0_7 _) scM0_0 (Memref.isWhole_whole _) (iblk m c 0 ⟨n, h⟩) (iblk m c 1 ⟨n, h⟩) (iblk m c 2 ⟨n, h⟩) _ _

end Cert.Proof.Proj
-- ==== Proof.ProjVal.lean ====
/- The input projection's five results, entry by entry, over the extended reals. -/
module

public import proofs.«01_k».proof.Defs
public import proofs.«01_k».proof.Proof.Proj
public import proofs.«01_k».proof.Proof.Gen.Reference2Ideal
public import proofs.«01_k».proof.Proof.Gen.Reference2Ideal.Run
public import proofs.«01_k».proof.Proof.Gen.Reference2Ideal.Read
public import Idealize.ShloMosaic.Lib.Pointwise
public import Idealize.ShloMosaic.Lib.Quiescent

@[expose] public section

set_option maxRecDepth 16384

noncomputable section

namespace Cert.Proof.Proj

open Cert.Kernel2Ideal Cert.Kernel2Ideal.Gen
open Idealize.ShloMosaic Idealize.ShloMosaic.TcCoe Idealize.SL.Sem

/-! ## The mathematics of one entry -/

/-- Entry `(b, t, k)` of the input. -/
def xv (x : S2x8192x1024.Idx → EReal) (b t k : ℕ) : EReal :=
  x (ix3 ⟨b % 2, Nat.mod_lt _ (by decide)⟩ ⟨t % 8192, Nat.mod_lt _ (by decide)⟩ ⟨k % 1024, Nat.mod_lt _ (by decide)⟩)

/-- One over the root of a token's mean square. -/
def rootInv (x : S2x8192x1024.Idx → EReal) (b t : ℕ) : EReal :=
  Ideal.rsqrt (Ideal.div (∑ k : Fin 1024, xv x b t k.val * xv x b t k.val) (Ideal.ofBits .f32 0x44800000#32)
    + Ideal.ofBits .f32 0x358637BD#32)

/-- Entry `k` of a normed token. -/
def normed (x : S2x8192x1024.Idx → EReal) (g : S1024.Idx → EReal) (b t : ℕ) (k : Fin 1024) : EReal :=
  xv x b t k.val * rootInv x b t * g (ix1 k)

/-- Entry `o` of a token's projection. -/
def entry (x : S2x8192x1024.Idx → EReal) (g : S1024.Idx → EReal) (w : S1024x2560.Idx → EReal) (b t o : ℕ) : EReal :=
  ∑ k : Fin 1024, normed x g b t k * w (ix2 k ⟨o % 2560, Nat.mod_lt _ (by decide)⟩)

/-! ## One grid point's arithmetic -/

theorem norm_at (x : Vec Ideal S1024x1024 .f32) (g : Vec Ideal S1x1024 .f32) (r k : Fin 1024) :
    k0_pay8 (F := Ideal) x g (ix2 r k) = x (ix2 r k) * Ideal.rsqrt (Ideal.div (∑ e, x (ix2 r e) * x (ix2 r e))
      (Ideal.ofBits .f32 0x44800000#32) + Ideal.ofBits .f32 0x358637BD#32) * g (ix2 0 k) := by
  pointwise [k0_pay8]

theorem xl_at (u : Vec Ideal S1024x1024 .bf16) (w : Vec Ideal S1024x512 .bf16) (r : Fin 1024) (o : Fin 512) :
    k0_pay1 (F := Ideal) u w (ix2 r o) = ∑ k : Fin 1024, u (ix2 r k) * w (ix2 k o) := by
  pointwise [k0_pay1]

theorem gl_at (u : Vec Ideal S1024x1024 .bf16) (w : Vec Ideal S1024x512 .bf16) (r : Fin 1024) (o : Fin 512) :
    k0_pay2 (F := Ideal) u w (ix2 r o) = ∑ k : Fin 1024, u (ix2 r k) * w (ix2 k o) := by
  pointwise [k0_pay2]

theorem k_at (x : Vec Ideal S1024x1024 .f32) (g : Vec Ideal S1x1024 .f32) (w : Vec Ideal S1024x512 .bf16) (r : Fin 1024) (o : Fin 512) :
    k0_pay10 (F := Ideal) x g w (ix2 r o) = ∑ k : Fin 1024, k0_pay8 (F := Ideal) x g (ix2 r k) * w (ix2 k o) := by
  unfold k0_pay10
  obtain ⟨u, hu⟩ : ∃ u, u = k0_pay8 (F := Ideal) x g := ⟨_, rfl⟩
  simp only [← hu]
  pointwise []

theorem v_at (x : Vec Ideal S1024x1024 .f32) (g : Vec Ideal S1x1024 .f32) (w : Vec Ideal S1024x512 .bf16) (r : Fin 1024) (o : Fin 512) :
    k0_pay11 (F := Ideal) x g w (ix2 r o) = ∑ k : Fin 1024, k0_pay8 (F := Ideal) x g (ix2 r k) * w (ix2 k o) := by
  unfold k0_pay11
  obtain ⟨u, hu⟩ : ∃ u, u = k0_pay8 (F := Ideal) x g := ⟨_, rfl⟩
  simp only [← hu]
  pointwise []

theorem q_at (x : Vec Ideal S1024x1024 .f32) (g : Vec Ideal S1x1024 .f32) (w : Vec Ideal S1024x512 .bf16) (r : Fin 1024) (o : Fin 512) :
    k0_pay9 (F := Ideal) x g w (ix2 r o)
      = (∑ k : Fin 1024, k0_pay8 (F := Ideal) x g (ix2 r k) * w (ix2 k o)) * Ideal.ofBits .f32 0x3E000000#32 := by
  unfold k0_pay9
  obtain ⟨u, hu⟩ : ∃ u, u = k0_pay8 (F := Ideal) x g := ⟨_, rfl⟩
  simp only [← hu]
  pointwise []

/-! ## The blocks a grid point reads -/

variable (m : (ℓ : Loc nD τ sig) → Buf (Elt Ideal) ℓ) (c : Dev nD)

abbrev argX : S2x8192x1024.Idx → EReal := m ((c : Thread nD τ).loc main_arg0)
abbrev argG : S1024.Idx → EReal := m ((c : Thread nD τ).loc main_arg1)
abbrev argW : S1024x2560.Idx → EReal := m ((c : Thread nD τ).loc main_arg2)

theorem V_x : V m c main_v0 = shapeCast S16384x1024 (argX m c) shapeCasts_S2x8192x1024_S16384x1024 := by
  unfold V hostOps0
  after_results
  rfl
theorem V_g : V m c main_v1 = shapeCast S1x1024 (argG m c) shapeCasts_S1024_S1x1024 := by
  unfold V hostOps0
  after_results
  rfl
theorem V_w : V m c main_arg2 = argW m c := by
  unfold V hostOps0
  after_results

theorem idx_x : ∀ t : Fin cfg0.N, win0_0.index t 0 = t.val ∧ win0_0.index t 1 = 0 := by decide +kernel
theorem idx_g : ∀ t : Fin cfg0.N, win0_1.index t 0 = 0 ∧ win0_1.index t 1 = 0 := by decide +kernel
theorem idx_w : ∀ t : Fin cfg0.N, win0_2.index t 0 = 0 ∧ win0_2.index t 1 = 0 := by decide +kernel

theorem flat_at (x : S2x8192x1024.Idx → EReal) (i : S16384x1024.Idx) :
    shapeCast S16384x1024 x shapeCasts_S2x8192x1024_S16384x1024 i = xv x ((i 0).val / 8192) ((i 0).val % 8192) (i 1).val := by
  have h0 : (i 0).val < 16384 := (i 0).isLt
  have h1 : (i 1).val < 1024 := (i 1).isLt
  unfold xv
  refine shapeCast_apply x shapeCasts_S2x8192x1024_S16384x1024 i _ ?_
  rw [Shape.rowMajor_val_three, Shape.rowMajor_val_two]
  show ((i 0).val / 8192 % 2 * 8192 + (i 0).val % 8192 % 8192) * 1024 + (i 1).val % 1024 = (i 0).val * 1024 + (i 1).val
  omega

theorem gflat_at (g : S1024.Idx → EReal) (i : S1x1024.Idx) :
    shapeCast S1x1024 g shapeCasts_S1024_S1x1024 i = g (ix1 (i 1)) := by
  have h0 : (i 0).val < 1 := (i 0).isLt
  refine shapeCast_apply g shapeCasts_S1024_S1x1024 i _ ?_
  rw [Shape.rowMajor_val_one, Shape.rowMajor_val_two]
  show (i 1).val = (i 0).val * 1024 + (i 1).val
  omega

theorem x_at (t : Fin cfg0.N) (r k : Fin 1024) :
    iblk m c 0 t (ix2 r k) = xv (argX m c) ((1024 * t.val + r.val) / 8192) ((1024 * t.val + r.val) % 8192) k.val := by
  obtain ⟨e0, e1⟩ := idx_x t
  unfold iblk
  rw [View.read_apply]
  show V m c main_v0 _ = _
  rw [V_x]
  have a0 : ((((cfg0.win 0).blk t).view.emb (ix2 r k)) 0).val = 1024 * t.val + r.val := by
    show win0_0.index t 0 * 1024 + 1 * r.val = _
    rw [e0]; omega
  have a1 : ((((cfg0.win 0).blk t).view.emb (ix2 r k)) 1).val = k.val := by
    show win0_0.index t 1 * 1024 + 1 * k.val = _
    rw [e1]; omega
  refine (flat_at _ _).trans ?_
  rw [a0, a1]

theorem g_at (t : Fin cfg0.N) (k : Fin 1024) : iblk m c 1 t (ix2 0 k) = argG m c (ix1 k) := by
  obtain ⟨e0, e1⟩ := idx_g t
  unfold iblk
  rw [View.read_apply]
  show V m c main_v1 _ = _
  rw [V_g]
  refine (gflat_at _ _).trans ?_
  congr 2
  apply Fin.ext
  show win0_1.index t 1 * 1024 + 1 * k.val = _
  rw [e1]; omega

theorem w_at (t : Fin cfg0.N) (i : S1024x2560.Idx) : iblk m c 2 t i = argW m c i := by
  obtain ⟨e0, e1⟩ := idx_w t
  unfold iblk
  rw [View.read_apply]
  show V m c main_arg2 _ = _
  rw [V_w]
  congr 1
  funext a
  apply Fin.ext
  match a with
  | ⟨0, _⟩ => show win0_2.index t 0 * 1024 + 1 * (i 0).val = (i 0).val; rw [e0]; omega
  | ⟨1, _⟩ => show win0_2.index t 1 * 2560 + 1 * (i 1).val = (i 1).val; rw [e1]; omega

theorem wcols_at (o : Nat) (ho : ∀ a, (![0, o] : Fin 2 → Nat) a + S1024x512.size a ≤ S1024x2560.size a) (hb : o + 512 ≤ 2560)
    (n : ℕ) (h : n < cfg0.N) (k : Fin 1024) (j : Fin 512) :
    wcols m c o ho n h (ix2 k j) = argW m c (ix2 k ⟨(o + j.val) % 2560, Nat.mod_lt _ (by decide)⟩) := by
  have hj := j.isLt
  refine (View.ld_unit_apply_of (e := .bf16) _ _ _ ho (ix2 k j) (ix2 k ⟨(o + j.val) % 2560, Nat.mod_lt _ (by decide)⟩) fun a => ?_).trans ?_
  · match a with
    | ⟨0, _⟩ => show k.val = 0 + k.val; omega
    | ⟨1, _⟩ => show (o + j.val) % 2560 = o + j.val; omega
  · have e := w_at m c ⟨0, lt_of_le_of_lt (Nat.zero_le n) h⟩ (ix2 k ⟨(o + j.val) % 2560, Nat.mod_lt _ (by decide)⟩)
    pointwise [narrow]
    exact e

theorem normed_at (t : Fin cfg0.N) (r k : Fin 1024) :
    k0_pay8 (F := Ideal) (iblk m c 0 t) (iblk m c 1 t) (ix2 r k)
      = normed (argX m c) (argG m c) ((1024 * t.val + r.val) / 8192) ((1024 * t.val + r.val) % 8192) k := by
  refine (norm_at _ _ r k).trans ?_
  simp only [x_at, g_at]
  rfl

/-- The sum a grid point forms for one entry of its block. -/
theorem sum_at (o : Nat) (ho : ∀ a, (![0, o] : Fin 2 → Nat) a + S1024x512.size a ≤ S1024x2560.size a) (hb : o + 512 ≤ 2560)
    (n : ℕ) (h : n < cfg0.N) (r : Fin 1024) (j : Fin 512) :
    (∑ k : Fin 1024, k0_pay8 (F := Ideal) (iblk m c 0 ⟨n, h⟩) (iblk m c 1 ⟨n, h⟩) (ix2 r k) * wcols m c o ho n h (ix2 k j))
      = entry (argX m c) (argG m c) (argW m c) ((1024 * n + r.val) / 8192) ((1024 * n + r.val) % 8192) (o + j.val) :=
  Finset.sum_congr rfl fun k _ => by rw [normed_at, wcols_at m c o ho hb]

/-! ## The whole results -/

theorem idx_out : ∀ t : Fin cfg0.N, win0_3.index t = ![t.val, 0] ∧ win0_4.index t = ![t.val, 0] ∧ win0_5.index t = ![t.val, 0]
    ∧ win0_6.index t = ![t.val, 0] ∧ win0_7.index t = ![t.val, 0] := by decide +kernel

/-- A block row's place in the whole array, read off any function of batch, token and column. -/
theorem place (f : ℕ → ℕ → ℕ → EReal) (o : ℕ) (t : Fin cfg0.N) (y : S1024x512.Idx) (i : S16384x512.Idx)
    (h0 : (i 0).val = t.val * 1024 + (y 0).val) (h1 : (i 1).val = (y 1).val) :
    f ((1024 * t.val + (y 0).val) / 8192) ((1024 * t.val + (y 0).val) % 8192) (o + (y 1).val)
      = f ((i 0).val / 8192) ((i 0).val % 8192) (o + (i 1).val) := by
  rw [h0, h1, Nat.mul_comm]

theorem whole_q : (dats m 0 c).arrAt 3 cfg0.N = fun i : S16384x512.Idx =>
    entry (argX m c) (argG m c) (argW m c) ((i 0).val / 8192) ((i 0).val % 8192) (0 + (i 1).val) * Ideal.ofBits .f32 0x3E000000#32 := by
  refine (dats m 0 c).arrAt_eq_of_covers 3 _ (by decide +kernel) fun t hf y => ?_
  rw [after0_3, (left m c t.val t.isLt).1]
  refine (congrArg _ (eq_ix2 (n0 := 1024) (n1 := 512) y)).trans ((q_at _ _ _ _ _).trans ?_)
  refine congrArg (· * _) ((sum_at m c 0 _ (by decide) t.val t.isLt (y 0) (y 1)).trans (place (entry (argX m c) (argG m c) (argW m c)) 0 t y _ ?_ ?_))
  · blk_simp [idx_out]
  · blk_simp [idx_out]

theorem whole_k : (dats m 0 c).arrAt 4 cfg0.N = fun i : S16384x512.Idx =>
    entry (argX m c) (argG m c) (argW m c) ((i 0).val / 8192) ((i 0).val % 8192) (512 + (i 1).val) := by
  refine (dats m 0 c).arrAt_eq_of_covers 4 _ (by decide +kernel) fun t hf y => ?_
  rw [after0_4, (left m c t.val t.isLt).2.1]
  refine (congrArg _ (eq_ix2 (n0 := 1024) (n1 := 512) y)).trans ((k_at _ _ _ _ _).trans ?_)
  refine ((sum_at m c 512 _ (by decide) t.val t.isLt (y 0) (y 1)).trans (place (entry (argX m c) (argG m c) (argW m c)) 512 t y _ ?_ ?_))
  · blk_simp [idx_out]
  · blk_simp [idx_out]

theorem whole_v : (dats m 0 c).arrAt 5 cfg0.N = fun i : S16384x512.Idx =>
    entry (argX m c) (argG m c) (argW m c) ((i 0).val / 8192) ((i 0).val % 8192) (1024 + (i 1).val) := by
  refine (dats m 0 c).arrAt_eq_of_covers 5 _ (by decide +kernel) fun t hf y => ?_
  rw [after0_5, (left m c t.val t.isLt).2.2.1]
  refine (congrArg _ (eq_ix2 (n0 := 1024) (n1 := 512) y)).trans ((v_at _ _ _ _ _).trans ?_)
  refine ((sum_at m c 1024 _ (by decide) t.val t.isLt (y 0) (y 1)).trans (place (entry (argX m c) (argG m c) (argW m c)) 1024 t y _ ?_ ?_))
  · blk_simp [idx_out]
  · blk_simp [idx_out]

theorem whole_xl : (dats m 0 c).arrAt 6 cfg0.N = fun i : S16384x512.Idx =>
    entry (argX m c) (argG m c) (argW m c) ((i 0).val / 8192) ((i 0).val % 8192) (1536 + (i 1).val) := by
  refine (dats m 0 c).arrAt_eq_of_covers 6 _ (by decide +kernel) fun t hf y => ?_
  rw [after0_6, (left m c t.val t.isLt).2.2.2.1]
  refine (congrArg _ (eq_ix2 (n0 := 1024) (n1 := 512) y)).trans ((xl_at _ _ _ _).trans ?_)
  refine ((sum_at m c 1536 _ (by decide) t.val t.isLt (y 0) (y 1)).trans (place (entry (argX m c) (argG m c) (argW m c)) 1536 t y _ ?_ ?_))
  · blk_simp [idx_out]
  · blk_simp [idx_out]

theorem whole_gl : (dats m 0 c).arrAt 7 cfg0.N = fun i : S16384x512.Idx =>
    entry (argX m c) (argG m c) (argW m c) ((i 0).val / 8192) ((i 0).val % 8192) (2048 + (i 1).val) := by
  refine (dats m 0 c).arrAt_eq_of_covers 7 _ (by decide +kernel) fun t hf y => ?_
  rw [after0_7, (left m c t.val t.isLt).2.2.2.2]
  refine (congrArg _ (eq_ix2 (n0 := 1024) (n1 := 512) y)).trans ((gl_at _ _ _ _).trans ?_)
  refine ((sum_at m c 2048 _ (by decide) t.val t.isLt (y 0) (y 1)).trans (place (entry (argX m c) (argG m c) (argW m c)) 2048 t y _ ?_ ?_))
  · blk_simp [idx_out]
  · blk_simp [idx_out]

end Cert.Proof.Proj

end
-- ==== Proof.ProjRef.lean ====
/- The plain mathematics of the input projection, entry by entry, and the comparison of the two programs. -/
module

public import proofs.«01_k».proof.Defs
public import proofs.«01_k».proof.Proof.ProjVal
public import proofs.«01_k».proof.Proof.Gen.Reference2Ideal
public import proofs.«01_k».proof.Proof.Gen.Reference2Ideal.Run
public import proofs.«01_k».proof.Proof.Gen.Reference2Ideal.Read
public import Idealize.ShloMosaic.Lib.Quiescent

@[expose] public section

set_option maxRecDepth 16384

noncomputable section

namespace Cert.Proof.ProjRef

open Cert.Reference2Ideal Cert.Reference2Ideal.Gen Cert.Reference2Ideal.Read
open Idealize.ShloMosaic Idealize.ShloMosaic.TcCoe Idealize.SL.Sem
open Cert.Proof.Proj (xv rootInv normed entry)

variable {F : FTy → Type} [FloatOps F]

/-- The program keeps its arguments and ends with all counters at zero. -/
theorem keeps (m : (ℓ : Loc nD τ sig) → Buf (Elt F) ℓ) (ρ : Dev nD → PrngReg) :
    θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run (defs (F := F)) _ _).mono (fun r h => ⟨fun c => (h c).2.2.2.2.2, sem_eq_zero_of_no_sems (by decide) r.2⟩)
    (Cert.Reference2Ideal.Value.run m ρ)

variable (x : S2x8192x1024.Idx → EReal) (g : S1024.Idx → EReal) (w : S1024x2560.Idx → EReal)

theorem in_at (i : S2x8192x1024.Idx) : x i = xv x (i 0).val (i 1).val (i 2).val := by
  have h0 : (i 0).val < 2 := (i 0).isLt
  have h1 : (i 1).val < 8192 := (i 1).isLt
  have h2 : (i 2).val < 1024 := (i 2).isLt
  unfold xv
  congr 1
  funext a
  apply Fin.ext
  match a with
  | ⟨0, _⟩ => exact (Nat.mod_eq_of_lt h0).symm
  | ⟨1, _⟩ => exact (Nat.mod_eq_of_lt h1).symm
  | ⟨2, _⟩ => exact (Nat.mod_eq_of_lt h2).symm

theorem root_at (i : S2x8192x1.Idx) : val_main_v7 (F := Ideal) x i = rootInv x (i 0).val (i 1).val := by
  rw [val_main_v7_apply (F := Ideal), val_main_v6_apply (F := Ideal), val_main_v4_apply (F := Ideal), val_main_v2_apply (F := Ideal), val_main_v1_apply,
    val_main_v3_apply (F := Ideal), val_main_v5_apply (F := Ideal)]
  unfold rootInv
  have e : ∀ k : Fin 1024, val_main_v0 (F := Ideal) x (idx_main_v1 (idx_main_v2 i) k)
      = xv x (i 0).val (i 1).val k.val * xv x (i 0).val (i 1).val k.val := fun k => by
    rw [val_main_v0_apply (F := Ideal)]
    exact congrArg₂ (· * ·) (in_at x _) (in_at x _)
  simp only [e]
  have z : val_main_cst (F := Ideal) (Shape.Idx.first h_S_) = 0 := Ideal.ofBits_zero_f32
  rw [z, zero_add]
  rfl

theorem normed_at (i : S2x8192x1024.Idx) : val_main_v12 (F := Ideal) x g i = normed x g (i 0).val (i 1).val (i 2) := by
  rw [val_main_v12_apply (F := Ideal), val_main_v9_apply (F := Ideal), val_main_v8_apply (F := Ideal), val_main_v11_apply (F := Ideal),
    val_main_v10_apply (F := Ideal), root_at]
  unfold normed
  refine congrArg₂ (· * ·) (congrArg₂ (· * ·) (in_at x i) rfl) (congrArg g ?_)
  funext a
  match a with
  | ⟨0, _⟩ => rfl

theorem row_at (i : S16384x2560.Idx) :
    val_main_v14 (F := Ideal) x g w i = entry x g w ((i 0).val / 8192) ((i 0).val % 8192) (i 1).val := by
  have h0 : (i 0).val < 16384 := (i 0).isLt
  have h1 : (i 1).val < 2560 := (i 1).isLt
  rw [val_main_v14_apply (F := Ideal), val_main_v13_apply]
  unfold entry
  have e0 : ((idx_main_v14 i) 0).val = (i 0).val / 8192 := by
    show ((i 0).val * 2560 + (i 1).val) / 20971520 = _
    omega
  have e1 : ((idx_main_v14 i) 1).val = (i 0).val % 8192 := by
    show ((i 0).val * 2560 + (i 1).val) / 2560 % 8192 = _
    omega
  have e2 : ((idx_main_v14 i) 2).val = (i 1).val := by
    show ((i 0).val * 2560 + (i 1).val) % 2560 = _
    omega
  refine Finset.sum_congr rfl fun k _ => congrArg₂ (· * ·) ?_ (congrArg w ?_)
  · rw [normed_at]
    show normed x g ((idx_main_v14 i) 0).val ((idx_main_v14 i) 1).val k = _
    rw [e0, e1]
  · funext a
    apply Fin.ext
    match a with
    | ⟨0, _⟩ => rfl
    | ⟨1, _⟩ =>
      show ((idx_main_v14 i) 2).val = (i 1).val % 2560
      rw [e2, Nat.mod_eq_of_lt h1]

theorem slice_q (i : S16384x512.Idx) : val_main_v15 (F := Ideal) x g w i = entry x g w ((i 0).val / 8192) ((i 0).val % 8192) (0 + (i 1).val) := by
  rw [val_main_v15_apply (F := Ideal), row_at]
  refine congrArg₂ (entry x g w _) ?_ ?_
  · exact congrArg (· % 8192) (show ((idx_main_v15 i) 0).val = (i 0).val by rfl)
  · show ((idx_main_v15 i) 1).val = 0 + (i 1).val
    exact (Nat.zero_add _).symm

theorem result_q (i : S16384x512.Idx) : val_main_v22 (F := Ideal) x g w i = entry x g w ((i 0).val / 8192) ((i 0).val % 8192) (0 + (i 1).val) * Ideal.ofBits .f32 0x3E000000#32 :=
  congrArg (· * Ideal.ofBits .f32 0x3E000000#32) (slice_q x g w i)

theorem slice_k (i : S16384x512.Idx) : val_main_v16 (F := Ideal) x g w i = entry x g w ((i 0).val / 8192) ((i 0).val % 8192) (512 + (i 1).val) := by
  rw [val_main_v16_apply (F := Ideal), row_at]

theorem result_k (i : S16384x512.Idx) : val_main_v23 (F := Ideal) x g w i = entry x g w ((i 0).val / 8192) ((i 0).val % 8192) (512 + (i 1).val) :=
  slice_k x g w i

theorem slice_v (i : S16384x512.Idx) : val_main_v17 (F := Ideal) x g w i = entry x g w ((i 0).val / 8192) ((i 0).val % 8192) (1024 + (i 1).val) := by
  rw [val_main_v17_apply (F := Ideal), row_at]

theorem result_v (i : S16384x512.Idx) : val_main_v24 (F := Ideal) x g w i = entry x g w ((i 0).val / 8192) ((i 0).val % 8192) (1024 + (i 1).val) :=
  slice_v x g w i

theorem slice_xl (i : S16384x512.Idx) : val_main_v18 (F := Ideal) x g w i = entry x g w ((i 0).val / 8192) ((i 0).val % 8192) (1536 + (i 1).val) := by
  rw [val_main_v18_apply (F := Ideal), row_at]

theorem slice_gl (i : S16384x512.Idx) : val_main_v19 (F := Ideal) x g w i = entry x g w ((i 0).val / 8192) ((i 0).val % 8192) (2048 + (i 1).val) := by
  rw [val_main_v19_apply (F := Ideal), row_at]

end Cert.Proof.ProjRef

namespace Cert.Proof

open Idealize.ShloMosaic Idealize.ShloMosaic.TcCoe Idealize.SL.Sem

/-- From the same arguments the input projection and its plain mathematics end with the same five results, and keep their arguments. -/
theorem same_projection : Cert.algebraic_Kernel2Ideal_Reference2Ideal (hKernel2Ideal := Cert.Kernel2Ideal.Gen.facts) (hReference2Ideal := Cert.Reference2Ideal.Gen.facts) := by
  intro m g m' g' _ hargs
  refine ⟨fun c => (Cert.Kernel2Ideal.Gen.dats m 0 c).arrAt 3 Cert.Kernel2Ideal.cfg0.N,
    fun c => (Cert.Kernel2Ideal.Gen.dats m 0 c).arrAt 4 Cert.Kernel2Ideal.cfg0.N,
    fun c => (Cert.Kernel2Ideal.Gen.dats m 0 c).arrAt 5 Cert.Kernel2Ideal.cfg0.N,
    fun c => (Cert.Kernel2Ideal.Gen.dats m 0 c).arrAt 6 Cert.Kernel2Ideal.cfg0.N,
    fun c => (Cert.Kernel2Ideal.Gen.dats m 0 c).arrAt 7 Cert.Kernel2Ideal.cfg0.N, Cert.Kernel2Ideal.Value.run_blocks m g, ?_⟩
  refine (θ_run (Cert.Reference2Ideal.defs (F := Ideal)) _ _).mono (fun r h c => ?_) (Cert.Reference2Ideal.Value.run (F := Ideal) m' g')
  obtain ⟨hq, hk, hv, hxl, hgl, hkept⟩ := h c
  obtain ⟨e0, e1, e2⟩ := hargs c
  refine ⟨hq.trans ?_, hk.trans ?_, hv.trans ?_, hxl.trans ?_, hgl.trans ?_, hkept⟩
  · refine (Cert.Reference2Ideal.Read.val_main_v22_eq (F := Ideal) _ _ _).trans (Eq.trans (funext fun i => ?_) (Proj.whole_q m c).symm)
    refine (ProjRef.result_q _ _ _ i).trans ?_
    rw [e0, e1, e2]
  · refine (Cert.Reference2Ideal.Read.val_main_v23_eq (F := Ideal) _ _ _).trans (Eq.trans (funext fun i => ?_) (Proj.whole_k m c).symm)
    refine (ProjRef.result_k _ _ _ i).trans ?_
    rw [e0, e1, e2]
  · refine (Cert.Reference2Ideal.Read.val_main_v24_eq (F := Ideal) _ _ _).trans (Eq.trans (funext fun i => ?_) (Proj.whole_v m c).symm)
    refine (ProjRef.result_v _ _ _ i).trans ?_
    rw [e0, e1, e2]
  · refine (Cert.Reference2Ideal.Read.val_main_v18_eq (F := Ideal) _ _ _).trans (Eq.trans (funext fun i => ?_) (Proj.whole_xl m c).symm)
    refine (ProjRef.slice_xl _ _ _ i).trans ?_
    rw [e0, e1, e2]
  · refine (Cert.Reference2Ideal.Read.val_main_v19_eq (F := Ideal) _ _ _).trans (Eq.trans (funext fun i => ?_) (Proj.whole_gl m c).symm)
    refine (ProjRef.slice_gl _ _ _ i).trans ?_
    rw [e0, e1, e2]

end Cert.Proof

end
-- ==== Proof.Mix.lean ====
/- What one grid point of the output projection leaves in its two row blocks. -/
module

public import proofs.«01_k».proof.Defs
public import proofs.«01_k».proof.Proof.Gen.Kernel3Ideal
public import proofs.«01_k».proof.Proof.Gen.Kernel3Ideal.Value
public import Idealize.ShloMosaic.Lib.Tactic
public import Idealize.ShloMosaic.Lib.Pipeline.ValueKit

@[expose] public section

set_option maxRecDepth 16384

noncomputable section

namespace Cert.Proof.Mix

open Cert.Kernel3Ideal Cert.Kernel3Ideal.Gen
open Idealize.ShloMosaic Idealize.ShloMosaic.TcCoe Idealize.SL.Sem

variable {F : FTy → Type} [FloatOps F]

theorem origin : (![0, 0] : Fin 2 → Nat) = fun _ => 0 := funext fun a => by fin_cases a <;> rfl

/-- The 512 rows of the narrowed weights from row `o` on. -/
abbrev rows (o : Nat) (h : ∀ a, (![o, 0] : Fin 2 → Nat) a + S512x1024.size a ≤ S1024x1024.size a)
    (w : Vec F S1024x1024 .bf16) : Vec F S512x1024 .bf16 :=
  View.ld w (Rect.unit (s := S1024x1024) ![o, 0] S512x1024.size h)

/-- A read of a buffer just stored whole reads the payload. -/
theorem read_stored {S : Shape} {e : EltTy} {κ : Kind} {sp : Space} (v : View sig κ sp S e) {off : Fin S.rank → Nat} (h : off = fun _ => 0)
    (inb : ∀ a, off a + S.size a ≤ S.size a) (x : S.Idx → Elt F e) (r : Rect S) :
    v.readCov [(⟨Rect.unit off S.size inb, x⟩ : View.Piece (Elt F) S e)] r.toLoadRect = View.ld x r := by
  rw [View.readCov_eq_canon_ld _ _ _ fun y => ⟨_, List.mem_singleton_self _, View.mem_set_unit_zero h inb y⟩, View.canon_unit_zero h]

variable (m : (ℓ : Loc nD τ sig) → Buf (Elt F) ℓ) (c : Dev nD)

theorem start : 0 < cfg0.N := by have hN : cfg0.N = 17 := N_0; omega

/-- The weights the first point read, every entry narrowed. -/
abbrev weights : Vec F S1024x1024 .bf16 := k0_pay5 (iblk m c 8 ⟨0, start⟩)

/-- A point's block of the first result. -/
abbrev hidden (t : Fin cfg0.N) : Vec F S1024x1024 .f32 :=
  k0_pay13 (k0_pay9 (iblk m c 0 t) (iblk m c 6 t)) (k0_pay10 (iblk m c 1 t) (iblk m c 2 t) (iblk m c 3 t) (iblk m c 4 t))
    (k0_pay11 (iblk m c 7 t)) (k0_pay12 (iblk m c 1 t) (iblk m c 2 t) (iblk m c 3 t) (iblk m c 4 t)) (iblk m c 5 t)
    (rows 0 inb_S1024x1024_S512x1024_0_0 (weights m c)) (rows 512 inb_S1024x1024_S512x1024_512_0 (weights m c))

/-- The scratch after any point: the weights the first point read, narrowed. -/
theorem scratch : ∀ (n : ℕ) (h : n < cfg0.N), (outsAt0 m c n h).2.2.2.2.2.2.2 = weights m c
  | 0, h => by
    rw [outsAt0_A m c ⟨0, h⟩ rfl rfl]
    dsimp only
    unfold sout0_A_2
    rw [View.read_writes_eq_canon]
    swap
    · exact fun _ => scover0_A_2 ..
    unfold kernelRun0_A
    dsimp only
    sl_unfold_words
    rw [View.canon_unit_zero origin]
    simp only [View.readAt_eq_ld, (hs0_8 ⟨0, h⟩).read_unread, View.ld_unit_zero (S := S1024x1024) origin]
  | n + 1, h => by
    have hN : cfg0.N = 17 := N_0
    have hB : ¬(⟨n + 1, h⟩ : Fin cfg0.N).val % 17 = 0 := by dsimp only; omega
    rw [outsAt0_B m c ⟨n + 1, h⟩ hB hB]
    dsimp only
    unfold sout0_B_2
    exact scratch n _

/-- What a point leaves in its block of the first result. -/
theorem left_hidden (t : Fin cfg0.N) : (outsAt0 m c t.val t.isLt).1 = hidden m c t := by
  by_cases h0 : t.val % 17 = 0
  · have ht : t = ⟨0, start⟩ := Fin.ext (by have hN : cfg0.N = 17 := N_0; have := t.isLt; show t.val = 0; omega)
    subst ht
    rw [outsAt0_A m c ⟨0, start⟩ h0 h0]
    dsimp only
    unfold out0_A_12
    rw [View.read_writes_eq_canon]
    swap
    · exact fun _ => cover0_A_12 ..
    unfold kernelRun0_A
    dsimp only
    sl_unfold_words
    rw [View.canon_unit_zero origin]
    simp only [View.readAt_eq_ld, (hs0_0 ⟨0, start⟩).read_unread, (hs0_1 ⟨0, start⟩).read_unread, (hs0_2 ⟨0, start⟩).read_unread,
      (hs0_3 ⟨0, start⟩).read_unread, (hs0_4 ⟨0, start⟩).read_unread, (hs0_5 ⟨0, start⟩).read_unread, (hs0_6 ⟨0, start⟩).read_unread,
      (hs0_7 ⟨0, start⟩).read_unread, (hs0_8 ⟨0, start⟩).read_unread, View.ld_unit_zero (S := S1024x1024) origin,
      View.ld_unit_zero (S := S1024x512) origin, View.ld_unit_zero (S := S1024x128) origin, View.ld_unit_zero (S := S1x512) origin]
    rw [read_stored _ origin, read_stored _ origin]
  · rw [outsAt0_B m c t h0 h0]
    dsimp only
    unfold out0_B_12
    rw [View.read_writes_eq_canon]
    swap
    · exact fun _ => cover0_B_12 ..
    unfold kernelRun0_B
    dsimp only
    sl_unfold_words
    rw [View.canon_unit_zero origin]
    simp only [View.readAt_eq_ld, (hs0_0 t).read_unread, (hs0_1 t).read_unread, (hs0_2 t).read_unread, (hs0_3 t).read_unread,
      (hs0_4 t).read_unread, (hs0_5 t).read_unread, (hs0_6 t).read_unread, (hs0_7 t).read_unread,
      (Memref.isWhole_whole _ : scM0_2.IsWhole).read_unread, View.ld_unit_zero (S := S1024x1024) origin,
      View.ld_unit_zero (S := S1024x512) origin, View.ld_unit_zero (S := S1024x128) origin, View.ld_unit_zero (S := S1x512) origin, scratch]

/-- What a point leaves in its block of the second result. -/
theorem left_normed (t : Fin cfg0.N) : (outsAt0 m c t.val t.isLt).2.1 = k0_pay3 (hidden m c t) (iblk m c 9 t) := by
  by_cases h0 : t.val % 17 = 0
  · have ht : t = ⟨0, start⟩ := Fin.ext (by have hN : cfg0.N = 17 := N_0; have := t.isLt; show t.val = 0; omega)
    subst ht
    rw [outsAt0_A m c ⟨0, start⟩ h0 h0]
    dsimp only
    unfold out0_A_13
    rw [View.read_writes_eq_canon]
    swap
    · exact fun _ => cover0_A_13 ..
    unfold kernelRun0_A
    dsimp only
    sl_unfold_words
    rw [View.canon_unit_zero origin]
    simp only [View.readAt_eq_ld, (hs0_0 ⟨0, start⟩).read_unread, (hs0_1 ⟨0, start⟩).read_unread, (hs0_2 ⟨0, start⟩).read_unread,
      (hs0_3 ⟨0, start⟩).read_unread, (hs0_4 ⟨0, start⟩).read_unread, (hs0_5 ⟨0, start⟩).read_unread, (hs0_6 ⟨0, start⟩).read_unread,
      (hs0_7 ⟨0, start⟩).read_unread, (hs0_8 ⟨0, start⟩).read_unread, (hs0_9 ⟨0, start⟩).read_unread, View.ld_unit_zero (S := S1024x1024) origin,
      View.ld_unit_zero (S := S1024x512) origin, View.ld_unit_zero (S := S1024x128) origin, View.ld_unit_zero (S := S1x512) origin, View.ld_unit_zero (S := S1x1024) origin]
    rw [View.readCov_unit_zero _ origin, read_stored _ origin, read_stored _ origin]
  · rw [outsAt0_B m c t h0 h0]
    dsimp only
    unfold out0_B_13
    rw [View.read_writes_eq_canon]
    swap
    · exact fun _ => cover0_B_13 ..
    unfold kernelRun0_B
    dsimp only
    sl_unfold_words
    rw [View.canon_unit_zero origin]
    simp only [View.readAt_eq_ld, (hs0_0 t).read_unread, (hs0_1 t).read_unread, (hs0_2 t).read_unread, (hs0_3 t).read_unread,
      (hs0_4 t).read_unread, (hs0_5 t).read_unread, (hs0_6 t).read_unread, (hs0_7 t).read_unread, (hs0_9 t).read_unread,
      (Memref.isWhole_whole _ : scM0_2.IsWhole).read_unread, View.ld_unit_zero (S := S1024x1024) origin,
      View.ld_unit_zero (S := S1024x512) origin, View.ld_unit_zero (S := S1024x128) origin, View.ld_unit_zero (S := S1x512) origin, View.ld_unit_zero (S := S1x1024) origin, View.readCov_unit_zero (S := S1024x1024) _ origin, scratch]

end Cert.Proof.Mix
-- ==== Proof.MixRef.lean ====
/- The plain mathematics of the output projection, entry by entry. -/
module

public import proofs.«01_k».proof.Defs
public import proofs.«01_k».proof.Proof.Gen.Reference3Ideal
public import proofs.«01_k».proof.Proof.Gen.Reference3Ideal.Run
public import proofs.«01_k».proof.Proof.Gen.Reference3Ideal.Read
public import Idealize.ShloMosaic.Lib.Pointwise
public import Idealize.ShloMosaic.Lib.Quiescent

@[expose] public section

set_option maxRecDepth 16384

noncomputable section

namespace Cert.Proof.Mix

open Cert.Reference3Ideal Cert.Reference3Ideal.Gen Cert.Reference3Ideal.Read
open Idealize.ShloMosaic Idealize.ShloMosaic.TcCoe Idealize.SL.Sem

/-! ## The mathematics of one entry -/

/-- Entry `(b, t, k)` of a branch. -/
def bv (a : S2x8192x512.Idx → EReal) (b t k : ℕ) : EReal :=
  a (ix3 ⟨b % 2, Nat.mod_lt _ (by decide)⟩ ⟨t % 8192, Nat.mod_lt _ (by decide)⟩ ⟨k % 512, Nat.mod_lt _ (by decide)⟩)

/-- Entry `(b, t, k)` of the layer's input. -/
def xv (x : S2x8192x1024.Idx → EReal) (b t k : ℕ) : EReal :=
  x (ix3 ⟨b % 2, Nat.mod_lt _ (by decide)⟩ ⟨t % 8192, Nat.mod_lt _ (by decide)⟩ ⟨k % 1024, Nat.mod_lt _ (by decide)⟩)

/-- One over the root of a mean square, of the sum of squares and the number of squares. -/
def rootInv (s n : EReal) : EReal := Ideal.rsqrt (Ideal.div s n + Ideal.ofBits .f32 0x358637BD#32)

/-- Entry `k` of a branch's normed token. -/
def branch (a : S2x8192x512.Idx → EReal) (g : S512.Idx → EReal) (b t : ℕ) (k : Fin 512) : EReal :=
  bv a b t k.val * rootInv (∑ e : Fin 512, bv a b t e.val * bv a b t e.val) (Ideal.ofBits .f32 0x44000000#32) * g (ix1 k)

variable (a r : S2x8192x512.Idx → EReal) (x : S2x8192x1024.Idx → EReal) (ga gr : S512.Idx → EReal)
  (w : S1024x1024.Idx → EReal) (g : S1024.Idx → EReal)

/-- Entry `o` of a token after the output projection: the first 512 rows of the weights meet the first branch, the last
    512 rows the second. -/
def hid (b t : ℕ) (o : Fin 1024) : EReal :=
  xv x b t o.val + (∑ k : Fin 512, branch a ga b t k * w (ix2 ⟨k.val, by omega⟩ o))
    + ∑ k : Fin 512, branch r gr b t k * w (ix2 ⟨512 + k.val, by omega⟩ o)

/-- The same token normed. -/
def out (b t : ℕ) (o : Fin 1024) : EReal :=
  hid a r x ga gr w b t o
    * rootInv (∑ e : Fin 1024, hid a r x ga gr w b t e * hid a r x ga gr w b t e) (Ideal.ofBits .f32 0x44800000#32) * g (ix1 o)

/-! ## The program's own terms -/

theorem branch_in (i : S2x8192x512.Idx) : a i = bv a (i 0).val (i 1).val (i 2).val := by
  have h0 : (i 0).val < 2 := (i 0).isLt
  have h1 : (i 1).val < 8192 := (i 1).isLt
  have h2 : (i 2).val < 512 := (i 2).isLt
  unfold bv
  congr 1
  funext d
  apply Fin.ext
  match d with
  | ⟨0, _⟩ => exact (Nat.mod_eq_of_lt h0).symm
  | ⟨1, _⟩ => exact (Nat.mod_eq_of_lt h1).symm
  | ⟨2, _⟩ => exact (Nat.mod_eq_of_lt h2).symm

theorem whole_in (i : S2x8192x1024.Idx) : x i = xv x (i 0).val (i 1).val (i 2).val := by
  have h0 : (i 0).val < 2 := (i 0).isLt
  have h1 : (i 1).val < 8192 := (i 1).isLt
  have h2 : (i 2).val < 1024 := (i 2).isLt
  unfold xv
  congr 1
  funext d
  apply Fin.ext
  match d with
  | ⟨0, _⟩ => exact (Nat.mod_eq_of_lt h0).symm
  | ⟨1, _⟩ => exact (Nat.mod_eq_of_lt h1).symm
  | ⟨2, _⟩ => exact (Nat.mod_eq_of_lt h2).symm

theorem zero_first : val_main_cst (F := Ideal) (Shape.Idx.first h_S_) = 0 := Ideal.ofBits_zero_f32

theorem branch_root (i : S2x8192x1.Idx) : val_main_v7 (F := Ideal) a i
    = rootInv (∑ e : Fin 512, bv a (i 0).val (i 1).val e.val * bv a (i 0).val (i 1).val e.val) (Ideal.ofBits .f32 0x44000000#32) := by
  rw [val_main_v7_apply (F := Ideal), val_main_v6_apply (F := Ideal), val_main_v4_apply (F := Ideal), val_main_v2_apply (F := Ideal),
    val_main_v1_apply, val_main_v3_apply (F := Ideal), val_main_v5_apply (F := Ideal)]
  have e : ∀ k : Fin 512, val_main_v0 (F := Ideal) a (idx_main_v1 (idx_main_v2 i) k)
      = bv a (i 0).val (i 1).val k.val * bv a (i 0).val (i 1).val k.val := fun k => by
    rw [val_main_v0_apply (F := Ideal)]
    exact congrArg₂ (· * ·) (branch_in a _) (branch_in a _)
  simp only [e]
  rw [zero_first, zero_add]
  rfl

theorem branch_at (i : S2x8192x512.Idx) : val_main_v12 (F := Ideal) a ga i = branch a ga (i 0).val (i 1).val (i 2) := by
  rw [val_main_v12_apply (F := Ideal), val_main_v9_apply (F := Ideal), val_main_v8_apply (F := Ideal), val_main_v11_apply (F := Ideal),
    val_main_v10_apply (F := Ideal), branch_root]
  unfold branch
  refine congrArg₂ (· * ·) (congrArg₂ (· * ·) (branch_in a i) rfl) (congrArg ga ?_)
  funext d
  match d with
  | ⟨0, _⟩ => rfl

/-- The second branch is normed by the same words. -/
theorem second_branch : val_main_v25 (F := Ideal) r gr = val_main_v12 (F := Ideal) r gr := rfl

theorem joined_left (i : S2x8192x1024.Idx) (k : Fin 512) :
    val_main_v26 (F := Ideal) a r ga gr (lidx_main_v27 i ⟨k.val, by omega⟩) = branch a ga (i 0).val (i 1).val k := by
  unfold val_main_v26
  refine Eq.trans (concatenate_pair_apply_left (t := S2x8192x1024) (s₁ := S2x8192x512) (s₂ := S2x8192x512) _ _ _ _ _ rfl (ix3 (i 0) (i 1) k) fun d => ?_) (branch_at a ga _)
  match d with
  | ⟨0, _⟩ => rfl
  | ⟨1, _⟩ => rfl
  | ⟨2, _⟩ => rfl

theorem joined_right (i : S2x8192x1024.Idx) (k : Fin 512) :
    val_main_v26 (F := Ideal) a r ga gr (lidx_main_v27 i ⟨512 + k.val, by omega⟩) = branch r gr (i 0).val (i 1).val k := by
  unfold val_main_v26
  rw [second_branch]
  refine Eq.trans (concatenate_pair_apply_right (t := S2x8192x1024) (s₁ := S2x8192x512) (s₂ := S2x8192x512) _ _ _ _ _ rfl rfl (ix3 (i 0) (i 1) k)
    (fun d hd => ?_) ?_) (branch_at r gr _)
  · match d with
    | ⟨0, _⟩ => rfl
    | ⟨1, _⟩ => rfl
    | ⟨2, _⟩ => exact absurd rfl hd
  · show k.val + 512 = 512 + k.val
    omega

/-- The sum over all 1024 rows is the two sums over 512. -/
theorem hid_at (i : S2x8192x1024.Idx) : val_main_v28 (F := Ideal) a r x ga gr w i = hid a r x ga gr w (i 0).val (i 1).val (i 2) := by
  rw [val_main_v28_apply (F := Ideal), val_main_v27_apply]
  unfold hid
  rw [add_assoc]
  refine congrArg₂ (· + ·) (whole_in x i) ((Fin.sum_univ_add (a := 512) (b := 512) _).trans (congrArg₂ (· + ·) ?_ ?_))
  · refine Finset.sum_congr rfl fun k _ => congrArg₂ (· * ·) (joined_left a r ga gr i k) (congrArg w ?_)
    funext d
    match d with
    | ⟨0, _⟩ => rfl
    | ⟨1, _⟩ => rfl
  · refine Finset.sum_congr rfl fun k _ => congrArg₂ (· * ·) (joined_right a r ga gr i k) (congrArg w ?_)
    funext d
    match d with
    | ⟨0, _⟩ => rfl
    | ⟨1, _⟩ => rfl

theorem out_root (i : S2x8192x1.Idx) : val_main_v36 (F := Ideal) a r x ga gr w i
    = rootInv (∑ e : Fin 1024, hid a r x ga gr w (i 0).val (i 1).val e * hid a r x ga gr w (i 0).val (i 1).val e)
      (Ideal.ofBits .f32 0x44800000#32) := by
  rw [val_main_v36_apply (F := Ideal), val_main_v35_apply (F := Ideal), val_main_v33_apply (F := Ideal), val_main_v31_apply (F := Ideal),
    val_main_v30_apply, val_main_v32_apply (F := Ideal), val_main_v34_apply (F := Ideal)]
  have e : ∀ k : Fin 1024, val_main_v29 (F := Ideal) a r x ga gr w (idx_main_v30 (idx_main_v31 i) k)
      = hid a r x ga gr w (i 0).val (i 1).val k * hid a r x ga gr w (i 0).val (i 1).val k := fun k => by
    rw [val_main_v29_apply (F := Ideal), hid_at]
    rfl
  simp only [e]
  have z : val_main_cst_5 (F := Ideal) (Shape.Idx.first h_S_) = 0 := Ideal.ofBits_zero_f32
  rw [z, zero_add]
  rfl

theorem out_at (i : S2x8192x1024.Idx) : val_main_v41 (F := Ideal) a r x ga gr w g i = out a r x ga gr w g (i 0).val (i 1).val (i 2) := by
  rw [val_main_v41_apply (F := Ideal), val_main_v38_apply (F := Ideal), val_main_v37_apply (F := Ideal), val_main_v40_apply (F := Ideal),
    val_main_v39_apply (F := Ideal), out_root, hid_at]
  unfold out
  refine congrArg₂ (· * ·) (congrArg₂ (· * ·) rfl rfl) (congrArg g ?_)
  funext d
  match d with
  | ⟨0, _⟩ => rfl

/-- The batches laid end to end. -/
theorem flat (f : ℕ → ℕ → Fin 1024 → EReal) (i : S16384x1024.Idx) (j : S2x8192x1024.Idx)
    (h0 : (j 0).val = ((i 0).val * 1024 + (i 1).val) / 8388608) (h1 : (j 1).val = ((i 0).val * 1024 + (i 1).val) / 1024 % 8192)
    (h2 : (j 2).val = ((i 0).val * 1024 + (i 1).val) % 1024) :
    f (j 0).val (j 1).val (j 2) = f ((i 0).val / 8192) ((i 0).val % 8192) (i 1) := by
  have i0 : (i 0).val < 16384 := (i 0).isLt
  have i1 : (i 1).val < 1024 := (i 1).isLt
  have e0 : (j 0).val = (i 0).val / 8192 := by omega
  have e1 : (j 1).val = (i 0).val % 8192 := by omega
  have e2 : j 2 = i 1 := Fin.ext (by omega)
  rw [e0, e1, e2]

/-- The first result. -/
theorem hidden_at (i : S16384x1024.Idx) : val_main_v42 (F := Ideal) a r x ga gr w i
    = hid a r x ga gr w ((i 0).val / 8192) ((i 0).val % 8192) (i 1) := by
  rw [val_main_v42_apply (F := Ideal), hid_at]
  exact flat (hid a r x ga gr w) i _ rfl rfl rfl

/-- The second result. -/
theorem normed_at (i : S16384x1024.Idx) : val_main_v44 (F := Ideal) a r x ga gr w g i
    = out a r x ga gr w g ((i 0).val / 8192) ((i 0).val % 8192) (i 1) := by
  rw [val_main_v44_apply (F := Ideal)]
  refine Eq.trans ?_ (flat (out a r x ga gr w g) i (idx_main_v43 i) rfl rfl rfl)
  exact (val_main_v43_apply (F := Ideal) a r x ga gr w g i).trans (out_at a r x ga gr w g _)

/-- The program keeps its arguments and ends with all counters at zero. -/
theorem ref_keeps {F : FTy → Type} [FloatOps F] (m : (ℓ : Loc nD τ sig) → Buf (Elt F) ℓ) (ρ : Dev nD → PrngReg) :
    θ_run (defs (F := F)) (onTc (τ := τ) (main (F := F))) ⟨m, fun _ => 0, ρ⟩ (fun s => (∀ c : Dev nD,
      s.2.mem ((c.tc : Thread nD τ).loc main_arg0) = m ((c.tc : Thread nD τ).loc main_arg0)
      ∧ s.2.mem ((c.tc : Thread nD τ).loc main_arg1) = m ((c.tc : Thread nD τ).loc main_arg1)
      ∧ s.2.mem ((c.tc : Thread nD τ).loc main_arg2) = m ((c.tc : Thread nD τ).loc main_arg2)
      ∧ s.2.mem ((c.tc : Thread nD τ).loc main_arg3) = m ((c.tc : Thread nD τ).loc main_arg3)
      ∧ s.2.mem ((c.tc : Thread nD τ).loc main_arg4) = m ((c.tc : Thread nD τ).loc main_arg4)
      ∧ s.2.mem ((c.tc : Thread nD τ).loc main_arg5) = m ((c.tc : Thread nD τ).loc main_arg5)
      ∧ s.2.mem ((c.tc : Thread nD τ).loc main_arg6) = m ((c.tc : Thread nD τ).loc main_arg6)
      ∧ s.2.mem ((c.tc : Thread nD τ).loc main_arg7) = m ((c.tc : Thread nD τ).loc main_arg7)
      ∧ s.2.mem ((c.tc : Thread nD τ).loc main_arg8) = m ((c.tc : Thread nD τ).loc main_arg8)
      ∧ s.2.mem ((c.tc : Thread nD τ).loc main_arg9) = m ((c.tc : Thread nD τ).loc main_arg9)
      ∧ s.2.mem ((c.tc : Thread nD τ).loc main_arg10) = m ((c.tc : Thread nD τ).loc main_arg10))
      ∧ s.2.sem = fun _ => 0) :=
  (θ_run (defs (F := F)) _ _).mono (fun s h => ⟨fun c => (h c).2.2, sem_eq_zero_of_no_sems (by decide) s.2⟩)
    (Cert.Reference3Ideal.Value.run m ρ)

end Cert.Proof.Mix

end
-- ==== Proof.MixVal.lean ====
/- The output projection's two results, entry by entry, over the extended reals. -/
module

public import proofs.«01_k».proof.Defs
public import proofs.«01_k».proof.Proof.Mix
public import proofs.«01_k».proof.Proof.MixRef
public import Idealize.ShloMosaic.Lib.Pointwise

@[expose] public section

set_option maxRecDepth 16384

noncomputable section

namespace Cert.Proof.Mix

open Cert.Kernel3Ideal Cert.Kernel3Ideal.Gen
open Idealize.ShloMosaic Idealize.ShloMosaic.TcCoe Idealize.SL.Sem

/-! ## One grid point's arithmetic -/

theorem first_pay (y : Vec Ideal S1024x512 .f32) (g : Vec Ideal S1x512 .f32) (r : Fin 1024) (k : Fin 512) :
    k0_pay9 (F := Ideal) y g (ix2 r k) = y (ix2 r k)
      * rootInv (∑ e, y (ix2 r e) * y (ix2 r e)) (Ideal.ofBits .f32 0x44000000#32) * g (ix2 0 k) := by
  pointwise [k0_pay9, rootInv]

/-- Four slabs side by side: if each holds its 128 columns of `f`, together they hold the 512. -/
theorem slabs_pay (y1 y2 y3 y4 : Vec Ideal S1024x128 .f32) (r : Fin 1024) (f : ℕ → EReal)
    (h1 : ∀ q : Fin 128, y1 (ix2 r q) = f (0 + q.val)) (h2 : ∀ q : Fin 128, y2 (ix2 r q) = f (128 + q.val))
    (h3 : ∀ q : Fin 128, y3 (ix2 r q) = f (256 + q.val)) (h4 : ∀ q : Fin 128, y4 (ix2 r q) = f (384 + q.val)) (k : Fin 512) :
    k0_pay10 (F := Ideal) y1 y2 y3 y4 (ix2 r k) = f k.val := by
  pointwise [k0_pay10]
  split
  · exact (h1 _).trans (congrArg f (by dsimp only; omega))
  · split
    · exact (h2 _).trans (congrArg f (by dsimp only; omega))
    · split
      · exact (h3 _).trans (congrArg f (by dsimp only; omega))
      · exact (h4 _).trans (congrArg f (by dsimp only; omega))

theorem square_pay (y1 y2 y3 y4 : Vec Ideal S1024x128 .f32) (i : S1024x512.Idx) :
    k0_pay12 (F := Ideal) y1 y2 y3 y4 i = k0_pay10 (F := Ideal) y1 y2 y3 y4 i * k0_pay10 (F := Ideal) y1 y2 y3 y4 i := rfl

theorem gain_pay (g : Vec Ideal S1x512 .f32) : k0_pay11 (F := Ideal) g = g := by
  unfold k0_pay11
  exact shapeCast_self _ _

theorem hidden_pay (u : Vec Ideal S1024x512 .bf16) (v : Vec Ideal S1024x512 .f32) (g : Vec Ideal S1x512 .f32) (q : Vec Ideal S1024x512 .f32)
    (x : Vec Ideal S1024x1024 .f32) (w1 w2 : Vec Ideal S512x1024 .bf16) (r o : Fin 1024) :
    k0_pay13 (F := Ideal) u v g q x w1 w2 (ix2 r o) = x (ix2 r o) + (∑ k : Fin 512, u (ix2 r k) * w1 (ix2 k o))
      + ∑ k : Fin 512, (v (ix2 r k) * rootInv (∑ e, q (ix2 r e)) (Ideal.ofBits .f32 0x44000000#32) * g (ix2 0 k)) * w2 (ix2 k o) := by
  pointwise [k0_pay13, rootInv]

theorem normed_pay (h : Vec Ideal S1024x1024 .f32) (g : Vec Ideal S1x1024 .f32) (r o : Fin 1024) :
    k0_pay3 (F := Ideal) h g (ix2 r o) = h (ix2 r o)
      * rootInv (∑ e, h (ix2 r e) * h (ix2 r e)) (Ideal.ofBits .f32 0x44800000#32) * g (ix2 0 o) := by
  pointwise [k0_pay3, k0_pay2, rootInv]

theorem weights_pay (w : Vec Ideal S1024x1024 .f32) (i : S1024x1024.Idx) : k0_pay5 (F := Ideal) w i = w i := by
  unfold k0_pay5
  exact congrFun (shapeCast_self _ _) i

/-! ## The blocks a grid point reads -/

variable (m : (ℓ : Loc nD τ sig) → Buf (Elt Ideal) ℓ) (c : Dev nD)

abbrev arg0 : S2x8192x512.Idx → EReal := m ((c : Thread nD τ).loc main_arg0)
abbrev arg1 : S2x8192x512.Idx → EReal := m ((c : Thread nD τ).loc main_arg1)
abbrev arg2 : S2x8192x1024.Idx → EReal := m ((c : Thread nD τ).loc main_arg2)
abbrev arg3 : S512.Idx → EReal := m ((c : Thread nD τ).loc main_arg3)
abbrev arg4 : S512.Idx → EReal := m ((c : Thread nD τ).loc main_arg4)
abbrev arg5 : S1024x1024.Idx → EReal := m ((c : Thread nD τ).loc main_arg5)
abbrev arg6 : S1024.Idx → EReal := m ((c : Thread nD τ).loc main_arg6)

theorem V_0 : V m c main_v19 = shapeCast S16384x512 (arg0 m c) shapeCasts_S2x8192x512_S16384x512 := by
  unfold V hostOps0
  after_results
  rfl
theorem V_1 : V m c main_v1 = extractStridedSlice S16384x128 ![0, 0]
    (shapeCast S16384x512 (arg1 m c) shapeCasts_S2x8192x512_S16384x512) slices_S16384x512_S16384x128_0_0 := by
  unfold V hostOps0
  after_results
  rfl
theorem V_2 : V m c main_v2 = extractStridedSlice S16384x128 ![0, 128]
    (shapeCast S16384x512 (arg1 m c) shapeCasts_S2x8192x512_S16384x512) slices_S16384x512_S16384x128_0_128 := by
  unfold V hostOps0
  after_results
  rfl
theorem V_3 : V m c main_v3 = extractStridedSlice S16384x128 ![0, 256]
    (shapeCast S16384x512 (arg1 m c) shapeCasts_S2x8192x512_S16384x512) slices_S16384x512_S16384x128_0_256 := by
  unfold V hostOps0
  after_results
  rfl
theorem V_4 : V m c main_v4 = extractStridedSlice S16384x128 ![0, 384]
    (shapeCast S16384x512 (arg1 m c) shapeCasts_S2x8192x512_S16384x512) slices_S16384x512_S16384x128_0_384 := by
  unfold V hostOps0
  after_results
  rfl
theorem V_5 : V m c main_v20 = shapeCast S16384x1024 (arg2 m c) shapeCasts_S2x8192x1024_S16384x1024 := by
  unfold V hostOps0
  after_results
  rfl
theorem V_6 : V m c main_v21 = shapeCast S1x512 (arg3 m c) shapeCasts_S512_S1x512 := by
  unfold V hostOps0
  after_results
  rfl
theorem V_7 : V m c main_v22 = shapeCast S1x512 (arg4 m c) shapeCasts_S512_S1x512 := by
  unfold V hostOps0
  after_results
  rfl
theorem V_8 : V m c main_arg5 = arg5 m c := by
  unfold V hostOps0
  after_results
theorem V_9 : V m c main_v23 = shapeCast S1x1024 (arg6 m c) shapeCasts_S1024_S1x1024 := by
  unfold V hostOps0
  after_results
  rfl

/-- The row of the whole array that row `r` of a point's blocks is: the last two points take the same rows. -/
abbrev row (t : Fin cfg0.N) (r : Fin 1024) : ℕ := 1024 * min t.val 15 + r.val

theorem idx_0 : ∀ t : Fin cfg0.N, win0_0.index t = ![min t.val 15, 0] := by decide +kernel
theorem idx_1 : ∀ t : Fin cfg0.N, win0_1.index t = ![min t.val 15, 0] := by decide +kernel
theorem idx_2 : ∀ t : Fin cfg0.N, win0_2.index t = ![min t.val 15, 0] := by decide +kernel
theorem idx_3 : ∀ t : Fin cfg0.N, win0_3.index t = ![min t.val 15, 0] := by decide +kernel
theorem idx_4 : ∀ t : Fin cfg0.N, win0_4.index t = ![min t.val 15, 0] := by decide +kernel
theorem idx_5 : ∀ t : Fin cfg0.N, win0_5.index t = ![min t.val 15, 0] := by decide +kernel
theorem idx_6 : ∀ t : Fin cfg0.N, win0_6.index t = ![0, 0] := by decide +kernel
theorem idx_7 : ∀ t : Fin cfg0.N, win0_7.index t = ![0, 0] := by decide +kernel
theorem idx_8 : ∀ t : Fin cfg0.N, win0_8.index t = ![0, 0] := by decide +kernel
theorem idx_9 : ∀ t : Fin cfg0.N, win0_9.index t = ![0, 0] := by decide +kernel
theorem idx_12 : ∀ t : Fin cfg0.N, win0_12.index t = ![min t.val 15, 0] := by decide +kernel
theorem idx_13 : ∀ t : Fin cfg0.N, win0_13.index t = ![min t.val 15, 0] := by decide +kernel

/-- A branch with its batches laid end to end. -/
theorem flat_branch (a : S2x8192x512.Idx → EReal) (i : S16384x512.Idx) (p k : ℕ) (h0 : (i 0).val = p) (h1 : (i 1).val = k) :
    shapeCast S16384x512 a shapeCasts_S2x8192x512_S16384x512 i = bv a (p / 8192) (p % 8192) k := by
  subst h0 h1
  have i0 : (i 0).val < 16384 := (i 0).isLt
  have i1 : (i 1).val < 512 := (i 1).isLt
  unfold bv
  refine shapeCast_apply a shapeCasts_S2x8192x512_S16384x512 i _ ?_
  rw [Shape.rowMajor_val_three, Shape.rowMajor_val_two]
  show ((i 0).val / 8192 % 2 * 8192 + (i 0).val % 8192 % 8192) * 512 + (i 1).val % 512 = (i 0).val * 512 + (i 1).val
  omega

/-- The layer's input with its batches laid end to end. -/
theorem flat_whole (x : S2x8192x1024.Idx → EReal) (i : S16384x1024.Idx) (p k : ℕ) (h0 : (i 0).val = p) (h1 : (i 1).val = k) :
    shapeCast S16384x1024 x shapeCasts_S2x8192x1024_S16384x1024 i = xv x (p / 8192) (p % 8192) k := by
  subst h0 h1
  have i0 : (i 0).val < 16384 := (i 0).isLt
  have i1 : (i 1).val < 1024 := (i 1).isLt
  unfold xv
  refine shapeCast_apply x shapeCasts_S2x8192x1024_S16384x1024 i _ ?_
  rw [Shape.rowMajor_val_three, Shape.rowMajor_val_two]
  show ((i 0).val / 8192 % 2 * 8192 + (i 0).val % 8192 % 8192) * 1024 + (i 1).val % 1024 = (i 0).val * 1024 + (i 1).val
  omega

/-- 128 columns of the second branch from column `o` on. -/
theorem flat_slab (a : S2x8192x512.Idx → EReal) (o : ℕ) (hs : S16384x512.Slices ![0, o] S16384x128) (i : S16384x128.Idx) (p k : ℕ)
    (h0 : (i 0).val = p) (h1 : (i 1).val = k) :
    extractStridedSlice S16384x128 ![0, o] (shapeCast S16384x512 a shapeCasts_S2x8192x512_S16384x512) hs i
      = bv a (p / 8192) (p % 8192) (o + k) := by
  unfold extractStridedSlice
  exact flat_branch a _ p (o + k) ((Nat.zero_add _).trans h0) (congrArg (o + ·) h1)

theorem gain_512 (g : S512.Idx → EReal) (i : S1x512.Idx) (k : Fin 512) (h : (i 1).val = k.val) :
    shapeCast S1x512 g shapeCasts_S512_S1x512 i = g (ix1 k) := by
  have h0 : (i 0).val < 1 := (i 0).isLt
  refine shapeCast_apply g shapeCasts_S512_S1x512 i _ ?_
  rw [Shape.rowMajor_val_one, Shape.rowMajor_val_two]
  show k.val = (i 0).val * 512 + (i 1).val
  omega

theorem gain_1024 (g : S1024.Idx → EReal) (i : S1x1024.Idx) (k : Fin 1024) (h : (i 1).val = k.val) :
    shapeCast S1x1024 g shapeCasts_S1024_S1x1024 i = g (ix1 k) := by
  have h0 : (i 0).val < 1 := (i 0).isLt
  refine shapeCast_apply g shapeCasts_S1024_S1x1024 i _ ?_
  rw [Shape.rowMajor_val_one, Shape.rowMajor_val_two]
  show k.val = (i 0).val * 1024 + (i 1).val
  omega

theorem block_0 (t : Fin cfg0.N) (r : Fin 1024) (k : Fin 512) :
    iblk m c 0 t (ix2 r k) = bv (arg0 m c) (row t r / 8192) (row t r % 8192) k.val := by
  blk_simp [iblk]
  rw [V_0]
  exact flat_branch _ _ _ _ (by blk_simp [idx_0, row]; omega) (by blk_simp [idx_0])

theorem block_1 (t : Fin cfg0.N) (r : Fin 1024) (k : Fin 128) :
    iblk m c 1 t (ix2 r k) = bv (arg1 m c) (row t r / 8192) (row t r % 8192) (0 + k.val) := by
  unfold iblk
  rw [View.read_apply]
  show V m c main_v1 _ = _
  rw [V_1]
  exact flat_slab (arg1 m c) 0 _ _ (row t r) k.val (by blk_simp [idx_1, row]; omega) (by blk_simp [idx_1])

theorem block_2 (t : Fin cfg0.N) (r : Fin 1024) (k : Fin 128) :
    iblk m c 2 t (ix2 r k) = bv (arg1 m c) (row t r / 8192) (row t r % 8192) (128 + k.val) := by
  blk_simp [iblk]
  rw [V_2]
  exact flat_slab (arg1 m c) 128 _ _ (row t r) k.val (by blk_simp [idx_2, row]; omega) (by blk_simp [idx_2])

theorem block_3 (t : Fin cfg0.N) (r : Fin 1024) (k : Fin 128) :
    iblk m c 3 t (ix2 r k) = bv (arg1 m c) (row t r / 8192) (row t r % 8192) (256 + k.val) := by
  blk_simp [iblk]
  rw [V_3]
  exact flat_slab (arg1 m c) 256 _ _ (row t r) k.val (by blk_simp [idx_3, row]; omega) (by blk_simp [idx_3])

theorem block_4 (t : Fin cfg0.N) (r : Fin 1024) (k : Fin 128) :
    iblk m c 4 t (ix2 r k) = bv (arg1 m c) (row t r / 8192) (row t r % 8192) (384 + k.val) := by
  blk_simp [iblk]
  rw [V_4]
  exact flat_slab (arg1 m c) 384 _ _ (row t r) k.val (by blk_simp [idx_4, row]; omega) (by blk_simp [idx_4])

theorem block_5 (t : Fin cfg0.N) (r o : Fin 1024) :
    iblk m c 5 t (ix2 r o) = xv (arg2 m c) (row t r / 8192) (row t r % 8192) o.val := by
  blk_simp [iblk]
  rw [V_5]
  exact flat_whole _ _ _ _ (by blk_simp [idx_5, row]; omega) (by blk_simp [idx_5])

theorem block_6 (t : Fin cfg0.N) (k : Fin 512) : iblk m c 6 t (ix2 0 k) = arg3 m c (ix1 k) := by
  blk_simp [iblk]
  rw [V_6]
  exact gain_512 _ _ _ (by blk_simp [idx_6])

theorem block_7 (t : Fin cfg0.N) (k : Fin 512) : iblk m c 7 t (ix2 0 k) = arg4 m c (ix1 k) := by
  blk_simp [iblk]
  rw [V_7]
  exact gain_512 _ _ _ (by blk_simp [idx_7])

theorem block_8 (t : Fin cfg0.N) (i : S1024x1024.Idx) : iblk m c 8 t i = arg5 m c i := by
  blk_simp [iblk]
  rw [V_8]
  refine congrArg (arg5 m c) ?_
  blk_ext [idx_8]

theorem block_9 (t : Fin cfg0.N) (o : Fin 1024) : iblk m c 9 t (ix2 0 o) = arg6 m c (ix1 o) := by
  blk_simp [iblk]
  rw [V_9]
  exact gain_1024 _ _ _ (by blk_simp [idx_9])

/-- The rows of the weights from row `o` on. -/
theorem rows_at (o : ℕ) (h : ∀ a, (![o, 0] : Fin 2 → Nat) a + S512x1024.size a ≤ S1024x1024.size a) (k : Fin 512) (q p : Fin 1024)
    (hp : p.val = o + k.val) : rows o h (weights (F := Ideal) m c) (ix2 k q) = arg5 m c (ix2 p q) := by
  refine (View.ld_unit_apply_of (e := .bf16) (weights (F := Ideal) m c) _ _ h (ix2 k q) (ix2 p q) fun a => ?_).trans ((weights_pay _ _).trans (block_8 m c _ _))
  match a with
  | ⟨0, _⟩ => exact hp
  | ⟨1, _⟩ => exact (Nat.zero_add _).symm

/-! ## One grid point's blocks of the two results -/

/-- The second branch as the point joins it. -/
theorem joined (t : Fin cfg0.N) (r : Fin 1024) (k : Fin 512) :
    k0_pay10 (F := Ideal) (iblk m c 1 t) (iblk m c 2 t) (iblk m c 3 t) (iblk m c 4 t) (ix2 r k)
      = bv (arg1 m c) (row t r / 8192) (row t r % 8192) k.val :=
  slabs_pay _ _ _ _ r (bv (arg1 m c) (row t r / 8192) (row t r % 8192)) (block_1 m c t r) (block_2 m c t r) (block_3 m c t r)
    (block_4 m c t r) k

theorem hidden_entry (t : Fin cfg0.N) (r o : Fin 1024) : hidden (F := Ideal) m c t (ix2 r o)
    = hid (arg0 m c) (arg1 m c) (arg2 m c) (arg3 m c) (arg4 m c) (arg5 m c) (row t r / 8192) (row t r % 8192) o := by
  refine (hidden_pay _ _ _ _ _ _ _ r o).trans ?_
  unfold hid branch
  refine congrArg₂ (· + ·) (congrArg₂ (· + ·) (block_5 m c t r o) (Finset.sum_congr rfl fun k _ => ?_)) (Finset.sum_congr rfl fun k _ => ?_)
  · rw [first_pay, rows_at m c 0 _ k o ⟨k.val, by omega⟩ (Nat.zero_add _).symm]
    simp only [block_0, block_6]
  · rw [rows_at m c 512 _ k o ⟨512 + k.val, by omega⟩ rfl, gain_pay]
    simp only [square_pay, joined, block_7]

theorem normed_entry (t : Fin cfg0.N) (r o : Fin 1024) : k0_pay3 (hidden (F := Ideal) m c t) (iblk m c 9 t) (ix2 r o)
    = out (arg0 m c) (arg1 m c) (arg2 m c) (arg3 m c) (arg4 m c) (arg5 m c) (arg6 m c) (row t r / 8192) (row t r % 8192) o := by
  refine (normed_pay _ _ r o).trans ?_
  unfold out
  rw [block_9]
  simp only [hidden_entry]

/-! ## The two whole results -/

/-- A block row's place in the whole array, read off any function of batch, token and column. -/
theorem place (f : ℕ → ℕ → Fin 1024 → EReal) (t : Fin cfg0.N) (y : S1024x1024.Idx) (p : ℕ) (q : Fin 1024)
    (h0 : p = row t (y 0)) (h1 : q.val = (y 1).val) :
    f (row t (y 0) / 8192) (row t (y 0) % 8192) (y 1) = f (p / 8192) (p % 8192) q := by
  subst h0
  exact congrArg _ (Fin.ext h1.symm)

theorem whole_hidden : (dats m 0 c).arrAt 12 cfg0.N = fun i : S16384x1024.Idx =>
    hid (arg0 m c) (arg1 m c) (arg2 m c) (arg3 m c) (arg4 m c) (arg5 m c) ((i 0).val / 8192) ((i 0).val % 8192) (i 1) := by
  refine (dats m 0 c).arrAt_eq_of_covers 12 _ (by decide +kernel) fun t hf y => ?_
  rw [after0_12, left_hidden]
  refine ((congrArg (hidden m c t) (eq_ix2 (n0 := 1024) (n1 := 1024) y)).trans (hidden_entry m c t (y 0) (y 1))).trans ?_
  exact place (hid (arg0 m c) (arg1 m c) (arg2 m c) (arg3 m c) (arg4 m c) (arg5 m c)) t y _ _
    (by blk_simp [idx_12, row]; omega) (by blk_simp [idx_12])

theorem whole_normed : (dats m 0 c).arrAt 13 cfg0.N = fun i : S16384x1024.Idx =>
    out (arg0 m c) (arg1 m c) (arg2 m c) (arg3 m c) (arg4 m c) (arg5 m c) (arg6 m c) ((i 0).val / 8192) ((i 0).val % 8192) (i 1) := by
  refine (dats m 0 c).arrAt_eq_of_covers 13 _ (by decide +kernel) fun t hf y => ?_
  rw [after0_13, left_normed]
  refine ((congrArg (k0_pay3 (hidden m c t) (iblk m c 9 t)) (eq_ix2 (n0 := 1024) (n1 := 1024) y)).trans
    (normed_entry m c t (y 0) (y 1))).trans ?_
  exact place (out (arg0 m c) (arg1 m c) (arg2 m c) (arg3 m c) (arg4 m c) (arg5 m c) (arg6 m c)) t y _ _
    (by blk_simp [idx_13, row]; omega) (by blk_simp [idx_13])

end Cert.Proof.Mix

namespace Cert.Proof

open Idealize.ShloMosaic Idealize.ShloMosaic.TcCoe Idealize.SL.Sem

/-- From the same arguments the output projection and its plain mathematics end with the same two results, and keep their arguments. -/
theorem same_mix : Cert.algebraic_Kernel3Ideal_Reference3Ideal (hKernel3Ideal := Cert.Kernel3Ideal.Gen.facts) (hReference3Ideal := Cert.Reference3Ideal.Gen.facts) := by
  intro m g m' g' _ hargs
  refine ⟨fun c => (Cert.Kernel3Ideal.Gen.dats m 0 c).arrAt 12 Cert.Kernel3Ideal.cfg0.N,
    fun c => (Cert.Kernel3Ideal.Gen.dats m 0 c).arrAt 13 Cert.Kernel3Ideal.cfg0.N, ?_, ?_⟩
  · refine (θ_run (Cert.Kernel3Ideal.defs (F := Ideal)) _ _).mono (fun r h c => ?_) (Cert.Kernel3Ideal.Value.run_blocks (F := Ideal) m g)
    obtain ⟨hh, hu, -, -, -, hkept⟩ := h c
    exact ⟨hh, hu, hkept⟩
  · refine (θ_run (Cert.Reference3Ideal.defs (F := Ideal)) _ _).mono (fun r h c => ?_) (Cert.Reference3Ideal.Value.run (F := Ideal) m' g')
    obtain ⟨hh, hu, hkept⟩ := h c
    obtain ⟨e0, e1, e2, e3, e4, e5, e6, -⟩ := hargs c
    refine ⟨hh.trans ?_, hu.trans ?_, hkept⟩
    · refine (Cert.Reference3Ideal.Read.val_main_v42_eq (F := Ideal) _ _ _ _ _ _).trans (Eq.trans (funext fun i => ?_) (Mix.whole_hidden m c).symm)
      refine (Mix.hidden_at _ _ _ _ _ _ i).trans ?_
      rw [e0, e1, e2, e3, e4, e5]
    · refine (Cert.Reference3Ideal.Read.val_main_v44_eq (F := Ideal) m' c).trans (Eq.trans (funext fun i => ?_) (Mix.whole_normed m c).symm)
      refine (Mix.normed_at _ _ _ _ _ _ _ i).trans ?_
      rw [e0, e1, e2, e3, e4, e5, e6]

end Cert.Proof

end
-- ==== Proof.lean ====
/- The claims, put together. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Ref
public import proofs.«01_k».proof.Proof.Launch
public import proofs.«01_k».proof.Proof.KLaunch
public import proofs.«01_k».proof.Proof.Ends
public import proofs.«01_k».proof.Proof.Gen.Kernel2
public import proofs.«01_k».proof.Proof.Gen.Kernel2Ideal
public import proofs.«01_k».proof.Proof.Gen.Kernel2Ideal.Value
public import proofs.«01_k».proof.Proof.Gen.Reference2Ideal
public import proofs.«01_k».proof.Proof.Gen.Reference2Ideal.Run
public import proofs.«01_k».proof.Proof.Gen.Reference2Ideal.Read
public import proofs.«01_k».proof.Proof.ProjRef
public import proofs.«01_k».proof.Proof.Gen.Kernel3
public import proofs.«01_k».proof.Proof.Gen.Kernel3Ideal
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.MixVal

@[expose] public section

noncomputable section

namespace Cert.Proof

open Idealize.ShloMosaic Idealize.SL.Sem

/-- The kernel with its own constants runs, keeps its arguments and ends with all counters at zero. -/
theorem frame_kernel : Cert.quiescent_Kernel (hKernel := Cert.Kernel.Gen.facts) := fun m g _ =>
  (θ_run (Cert.Kernel.defs (F := Bits)) _ _).mono (fun _ h => ⟨fun c => (h.1 c).2, h.2⟩)
    (Cert.Proof.AttnK.run_all (F := Bits) m g)

/-- The same of the kernel whose constants are named. -/
theorem frame_ideal : Cert.quiescent_KernelIdeal (hKernelIdeal := Cert.KernelIdeal.Gen.facts) := fun m g _ =>
  (θ_run (Cert.KernelIdeal.defs (F := Ideal)) _ _).mono (fun _ h => ⟨fun c => (h.1 c).2, h.2⟩)
    (Cert.Proof.Attn.run_all (F := Ideal) m g)

/-- The same of the plain mathematics. -/
theorem frame_reference : Cert.quiescent_ReferenceIdeal (hReferenceIdeal := Cert.ReferenceIdeal.Gen.facts) :=
  fun m g _ => Cert.Proof.Ref.keeps (F := Ideal) m g

/-- The three named constants stand for the values they are given. -/
theorem names : Cert.preserves_Kernel_KernelIdeal :=
  ⟨IdealRules.named_const.statement _ _ _ _ _ rfl, IdealRules.named_const.statement _ _ _ _ _ rfl,
    IdealRules.named_const.statement _ _ _ _ _ rfl⟩

/-- The two programs of the input projection have the same kernel body. -/
theorem same_bodies : Cert.Kernel2.defs₀ (F := Bits) = Cert.Kernel2Ideal.defs₀ (F := Bits) :=
  congrArg Defs.onTc (funext fun l => funext fun a => match l, a with
    | ⟨0, _⟩, (_, _) => rfl
    | ⟨_ + 1, h⟩, _ => absurd h (Nat.not_lt.2 (Nat.le_add_left _ _)))

/-- And so the same tables of bodies. -/
theorem same_tables : Cert.Kernel2.defs (F := Bits) = Cert.Kernel2Ideal.defs (F := Bits) :=
  congrArg (Pipeline.defs Cert.Kernel2Ideal.pcfgs) same_bodies

/-- The input projection runs, keeps its arguments and ends with all counters at zero. -/
theorem frame_projection : Cert.quiescent_Kernel2 (hKernel2 := Cert.Kernel2.Gen.facts) := fun m g _ => by
  rw [same_tables]
  exact Cert.Kernel2Ideal.Gen.frame (F := Bits) m g

/-- The same over the extended reals. -/
theorem frame_projection_ideal : Cert.quiescent_Kernel2Ideal (hKernel2Ideal := Cert.Kernel2Ideal.Gen.facts) := fun m g _ =>
  Cert.Kernel2Ideal.Gen.frame (F := Ideal) m g

/-- The same of its plain mathematics. -/
theorem frame_projection_reference : Cert.quiescent_Reference2Ideal (hReference2Ideal := Cert.Reference2Ideal.Gen.facts) :=
  fun m g _ => ProjRef.keeps (F := Ideal) m g

/-- No constant of the input projection is named, so there is nothing to show. -/
theorem projection_same_text : Cert.preserves_Kernel2_Kernel2Ideal := trivial

set_option maxHeartbeats 40000000 in
/-- The two programs of the output projection have the same kernel body. -/
theorem mix_bodies : Cert.Kernel3.defs₀ (F := Bits) = Cert.Kernel3Ideal.defs₀ (F := Bits) :=
  congrArg Defs.onTc (funext fun l => funext fun a => match l, a with
    | ⟨0, _⟩, (_, _) => rfl
    | ⟨_ + 1, h⟩, _ => absurd h (Nat.not_lt.2 (Nat.le_add_left _ _)))

/-- And so the same tables of bodies. -/
theorem mix_tables : Cert.Kernel3.defs (F := Bits) = Cert.Kernel3Ideal.defs (F := Bits) :=
  congrArg (Pipeline.defs Cert.Kernel3Ideal.pcfgs) mix_bodies

set_option maxHeartbeats 40000000 in
/-- The output projection runs, keeps its arguments and ends with all counters at zero. -/
theorem frame_mix : Cert.quiescent_Kernel3 (hKernel3 := Cert.Kernel3.Gen.facts) := fun m g _ => by
  rw [mix_tables]
  exact Cert.Kernel3Ideal.Gen.frame (F := Bits) m g

/-- The same over the extended reals. -/
theorem frame_mix_ideal : Cert.quiescent_Kernel3Ideal (hKernel3Ideal := Cert.Kernel3Ideal.Gen.facts) := fun m g _ =>
  Cert.Kernel3Ideal.Gen.frame (F := Ideal) m g

/-- The same of its plain mathematics. -/
theorem frame_mix_reference : Cert.quiescent_Reference3Ideal (hReference3Ideal := Cert.Reference3Ideal.Gen.facts) :=
  fun m g _ => Mix.ref_keeps (F := Ideal) m g

/-- No constant of the output projection is named, so there is nothing to show. -/
theorem mix_same_text : Cert.preserves_Kernel3_Kernel3Ideal := trivial

theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    frame_kernel, frame_ideal, frame_reference, frame_projection, frame_projection_ideal, frame_projection_reference,
    frame_mix, frame_mix_ideal, frame_mix_reference,
    names, same_result, projection_same_text, same_projection, mix_same_text, same_mix⟩

end Cert.Proof

end
